-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_mixer_finite [hPre_mixer_finite : Cert.Pre_mixer_finite.Facts] (m : (ℓ : Loc Cert.MixerIdeal.nD Cert.MixerIdeal.τ Cert.MixerIdeal.sig) → Buf (Elt Ideal) ℓ) : Prop :=
  ∀ c : Dev Cert.MixerIdeal.nD,
    (Cert.Pre_mixer_finite.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_mixer_finite [hPre_mixer_finite : Cert.Pre_mixer_finite.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_mixer_finite.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2))) = (fun _ => 1#1)

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attention_finite [hPre_attention_finite : Cert.Pre_attention_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_attention_finite [hPre_attention_finite : Cert.Pre_attention_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_attention_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsIdeal_norms_finite [hPre_norms_finite : Cert.Pre_norms_finite.Facts] (m : (ℓ : Loc Cert.NormsIdeal.nD Cert.NormsIdeal.τ Cert.NormsIdeal.sig) → Buf (Elt Ideal) ℓ) : Prop :=
  ∀ c : Dev Cert.NormsIdeal.nD,
    (Cert.Pre_norms_finite.fn (F := Ideal) (m ((c.tc : Thread Cert.NormsIdeal.nD Cert.NormsIdeal.τ).loc Cert.NormsIdeal.main_arg0)) (m ((c.tc : Thread Cert.NormsIdeal.nD Cert.NormsIdeal.τ).loc Cert.NormsIdeal.main_arg1)) (m ((c.tc : Thread Cert.NormsIdeal.nD Cert.NormsIdeal.τ).loc Cert.NormsIdeal.main_arg2)) (m ((c.tc : Thread Cert.NormsIdeal.nD Cert.NormsIdeal.τ).loc Cert.NormsIdeal.main_arg3)) (m ((c.tc : Thread Cert.NormsIdeal.nD Cert.NormsIdeal.τ).loc Cert.NormsIdeal.main_arg4)) (m ((c.tc : Thread Cert.NormsIdeal.nD Cert.NormsIdeal.τ).loc Cert.NormsIdeal.main_arg5)) (m ((c.tc : Thread Cert.NormsIdeal.nD Cert.NormsIdeal.τ).loc Cert.NormsIdeal.main_arg6)) (m ((c.tc : Thread Cert.NormsIdeal.nD Cert.NormsIdeal.τ).loc Cert.NormsIdeal.main_arg7))) = (fun _ => 1#1)

def Pre_NormsRefIdeal (m : (ℓ : Loc Cert.NormsRefIdeal.nD Cert.NormsRefIdeal.τ Cert.NormsRefIdeal.sig) → Buf (Elt Ideal) ℓ) : Prop :=
  True

def Pre_NormsRefIdeal_norms_finite [hPre_norms_finite : Cert.Pre_norms_finite.Facts] (m : (ℓ : Loc Cert.NormsRefIdeal.nD Cert.NormsRefIdeal.τ Cert.NormsRefIdeal.sig) → Buf (Elt Ideal) ℓ) : Prop :=
  ∀ c : Dev Cert.NormsRefIdeal.nD,
    (Cert.Pre_norms_finite.fn (F := Ideal) (m ((c.tc : Thread Cert.NormsRefIdeal.nD Cert.NormsRefIdeal.τ).loc Cert.NormsRefIdeal.main_arg0)) (m ((c.tc : Thread Cert.NormsRefIdeal.nD Cert.NormsRefIdeal.τ).loc Cert.NormsRefIdeal.main_arg1)) (m ((c.tc : Thread Cert.NormsRefIdeal.nD Cert.NormsRefIdeal.τ).loc Cert.NormsRefIdeal.main_arg2)) (m ((c.tc : Thread Cert.NormsRefIdeal.nD Cert.NormsRefIdeal.τ).loc Cert.NormsRefIdeal.main_arg3)) (m ((c.tc : Thread Cert.NormsRefIdeal.nD Cert.NormsRefIdeal.τ).loc Cert.NormsRefIdeal.main_arg4)) (m ((c.tc : Thread Cert.NormsRefIdeal.nD Cert.NormsRefIdeal.τ).loc Cert.NormsRefIdeal.main_arg5)) (m ((c.tc : Thread Cert.NormsRefIdeal.nD Cert.NormsRefIdeal.τ).loc Cert.NormsRefIdeal.main_arg6)) (m ((c.tc : Thread Cert.NormsRefIdeal.nD Cert.NormsRefIdeal.τ).loc Cert.NormsRefIdeal.main_arg7))) = (fun _ => 1#1)

def Pre_Weight (m : (ℓ : Loc Cert.Weight.nD Cert.Weight.τ Cert.Weight.sig) → Buf (Elt Bits) ℓ) : Prop :=
  True

def Pre_WeightIdeal (m : (ℓ : Loc Cert.WeightIdeal.nD Cert.WeightIdeal.τ Cert.WeightIdeal.sig) → Buf (Elt Ideal) ℓ) : Prop :=
  True

def Pre_WeightRefIdeal (m : (ℓ : Loc Cert.WeightRefIdeal.nD Cert.WeightRefIdeal.τ Cert.WeightRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_MixerForward (m : (ℓ : Loc Cert.MixerForward.nD Cert.MixerForward.τ Cert.MixerForward.sig) → Buf (Elt Bits) ℓ) : Prop :=
  True

def Pre_MixerForwardIdeal (m : (ℓ : Loc Cert.MixerForwardIdeal.nD Cert.MixerForwardIdeal.τ Cert.MixerForwardIdeal.sig) → Buf (Elt Ideal) ℓ) : Prop :=
  True

def Pre_MixerForwardRefIdeal (m : (ℓ : Loc Cert.MixerForwardRefIdeal.nD Cert.MixerForwardRefIdeal.τ Cert.MixerForwardRefIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsRefIdeal (m : (ℓ : Loc Cert.ProjectionsRefIdeal.nD Cert.ProjectionsRefIdeal.τ Cert.ProjectionsRefIdeal.sig) → Buf (Elt Ideal) ℓ) : Prop :=
  True

def Pre_AttentionForward (m : (ℓ : Loc Cert.AttentionForward.nD Cert.AttentionForward.τ Cert.AttentionForward.sig) → Buf (Elt Bits) ℓ) : Prop :=
  True

def Pre_AttentionForwardIdeal (m : (ℓ : Loc Cert.AttentionForwardIdeal.nD Cert.AttentionForwardIdeal.τ Cert.AttentionForwardIdeal.sig) → Buf (Elt Ideal) ℓ) : Prop :=
  True

def Pre_AttentionForwardIdeal_attention_forward_finite [hPre_attention_forward_finite : Cert.Pre_attention_forward_finite.Facts] (m : (ℓ : Loc Cert.AttentionForwardIdeal.nD Cert.AttentionForwardIdeal.τ Cert.AttentionForwardIdeal.sig) → Buf (Elt Ideal) ℓ) : Prop :=
  ∀ c : Dev Cert.AttentionForwardIdeal.nD,
    (Cert.Pre_attention_forward_finite.fn (F := Ideal) (m ((c.tc : Thread Cert.AttentionForwardIdeal.nD Cert.AttentionForwardIdeal.τ).loc Cert.AttentionForwardIdeal.main_arg0)) (m ((c.tc : Thread Cert.AttentionForwardIdeal.nD Cert.AttentionForwardIdeal.τ).loc Cert.AttentionForwardIdeal.main_arg1)) (m ((c.tc : Thread Cert.AttentionForwardIdeal.nD Cert.AttentionForwardIdeal.τ).loc Cert.AttentionForwardIdeal.main_arg2))) = (fun _ => 1#1)

def Pre_AttentionForwardRefIdeal (m : (ℓ : Loc Cert.AttentionForwardRefIdeal.nD Cert.AttentionForwardRefIdeal.τ Cert.AttentionForwardRefIdeal.sig) → Buf (Elt Ideal) ℓ) : Prop :=
  True

def Pre_AttentionForwardRefIdeal_attention_forward_finite [hPre_attention_forward_finite : Cert.Pre_attention_forward_finite.Facts] (m : (ℓ : Loc Cert.AttentionForwardRefIdeal.nD Cert.AttentionForwardRefIdeal.τ Cert.AttentionForwardRefIdeal.sig) → Buf (Elt Ideal) ℓ) : Prop :=
  ∀ c : Dev Cert.AttentionForwardRefIdeal.nD,
    (Cert.Pre_attention_forward_finite.fn (F := Ideal) (m ((c.tc : Thread Cert.AttentionForwardRefIdeal.nD Cert.AttentionForwardRefIdeal.τ).loc Cert.AttentionForwardRefIdeal.main_arg0)) (m ((c.tc : Thread Cert.AttentionForwardRefIdeal.nD Cert.AttentionForwardRefIdeal.τ).loc Cert.AttentionForwardRefIdeal.main_arg1)) (m ((c.tc : Thread Cert.AttentionForwardRefIdeal.nD Cert.AttentionForwardRefIdeal.τ).loc Cert.AttentionForwardRefIdeal.main_arg2))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ r.2.sem = fun _ => 0)

def quiescent_MixerIdeal_pre_mixer_finite [hMixerIdeal : Cert.MixerIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_mixer_finite m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2))
      ∧ r.2.sem = fun _ => 0)

def quiescent_MixerRefIdeal_pre_mixer_finite [hMixerRefIdeal : Cert.MixerRefIdeal.Facts] [hPre_mixer_finite : Cert.Pre_mixer_finite.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_mixer_finite m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionIdeal_pre_attention_finite [hAttentionIdeal : Cert.AttentionIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_AttentionRefIdeal_pre_attention_finite [hAttentionRefIdeal : Cert.AttentionRefIdeal.Facts] [hPre_attention_finite : Cert.Pre_attention_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_attention_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4)
      ∧ r.2.mem ((c.tc : Thread Cert.Norms.nD Cert.Norms.τ).loc Cert.Norms.main_arg5) = m ((c.tc : Thread Cert.Norms.nD Cert.Norms.τ).loc Cert.Norms.main_arg5)
      ∧ r.2.mem ((c.tc : Thread Cert.Norms.nD Cert.Norms.τ).loc Cert.Norms.main_arg6) = m ((c.tc : Thread Cert.Norms.nD Cert.Norms.τ).loc Cert.Norms.main_arg6)
      ∧ r.2.mem ((c.tc : Thread Cert.Norms.nD Cert.Norms.τ).loc Cert.Norms.main_arg7) = m ((c.tc : Thread Cert.Norms.nD Cert.Norms.τ).loc Cert.Norms.main_arg7))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
      ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6)
      ∧ r.2.mem ((c.tc : Thread Cert.NormsIdeal.nD Cert.NormsIdeal.τ).loc Cert.NormsIdeal.main_arg7) = m ((c.tc : Thread Cert.NormsIdeal.nD Cert.NormsIdeal.τ).loc Cert.NormsIdeal.main_arg7))
      ∧ r.2.sem = fun _ => 0)

def quiescent_NormsIdeal_pre_norms_finite [hNormsIdeal : Cert.NormsIdeal.Facts] [hPre_norms_finite : Cert.Pre_norms_finite.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal_norms_finite m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
      ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6)
      ∧ r.2.mem ((c.tc : Thread Cert.NormsIdeal.nD Cert.NormsIdeal.τ).loc Cert.NormsIdeal.main_arg7) = m ((c.tc : Thread Cert.NormsIdeal.nD Cert.NormsIdeal.τ).loc Cert.NormsIdeal.main_arg7))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4)
      ∧ r.2.mem ((c.tc : Thread Cert.NormsRefIdeal.nD Cert.NormsRefIdeal.τ).loc Cert.NormsRefIdeal.main_arg5) = m ((c.tc : Thread Cert.NormsRefIdeal.nD Cert.NormsRefIdeal.τ).loc Cert.NormsRefIdeal.main_arg5)
      ∧ r.2.mem ((c.tc : Thread Cert.NormsRefIdeal.nD Cert.NormsRefIdeal.τ).loc Cert.NormsRefIdeal.main_arg6) = m ((c.tc : Thread Cert.NormsRefIdeal.nD Cert.NormsRefIdeal.τ).loc Cert.NormsRefIdeal.main_arg6)
      ∧ r.2.mem ((c.tc : Thread Cert.NormsRefIdeal.nD Cert.NormsRefIdeal.τ).loc Cert.NormsRefIdeal.main_arg7) = m ((c.tc : Thread Cert.NormsRefIdeal.nD Cert.NormsRefIdeal.τ).loc Cert.NormsRefIdeal.main_arg7))
      ∧ r.2.sem = fun _ => 0)

def quiescent_NormsRefIdeal_pre_norms_finite [hNormsRefIdeal : Cert.NormsRefIdeal.Facts] [hPre_norms_finite : Cert.Pre_norms_finite.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal_norms_finite m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4)
      ∧ r.2.mem ((c.tc : Thread Cert.NormsRefIdeal.nD Cert.NormsRefIdeal.τ).loc Cert.NormsRefIdeal.main_arg5) = m ((c.tc : Thread Cert.NormsRefIdeal.nD Cert.NormsRefIdeal.τ).loc Cert.NormsRefIdeal.main_arg5)
      ∧ r.2.mem ((c.tc : Thread Cert.NormsRefIdeal.nD Cert.NormsRefIdeal.τ).loc Cert.NormsRefIdeal.main_arg6) = m ((c.tc : Thread Cert.NormsRefIdeal.nD Cert.NormsRefIdeal.τ).loc Cert.NormsRefIdeal.main_arg6)
      ∧ r.2.mem ((c.tc : Thread Cert.NormsRefIdeal.nD Cert.NormsRefIdeal.τ).loc Cert.NormsRefIdeal.main_arg7) = m ((c.tc : Thread Cert.NormsRefIdeal.nD Cert.NormsRefIdeal.τ).loc Cert.NormsRefIdeal.main_arg7))
      ∧ r.2.sem = fun _ => 0)

def quiescent_Weight [hWeight : Cert.Weight.Facts] : Prop :=
  ∀ (m : (ℓ : Loc Cert.Weight.nD Cert.Weight.τ Cert.Weight.sig) → Buf (Elt Bits) ℓ) (g : Dev Cert.Weight.nD → PrngReg), Pre_Weight m →
    θ_run (Cert.Weight.defs (F := Bits)) (onTc (τ := Cert.Weight.τ) (Cert.Weight.main (F := Bits))) ⟨m, fun _ => 0, g⟩ (fun r => (∀ c : Dev Cert.Weight.nD,
      r.2.mem ((c.tc : Thread Cert.Weight.nD Cert.Weight.τ).loc Cert.Weight.main_arg0) = m ((c.tc : Thread Cert.Weight.nD Cert.Weight.τ).loc Cert.Weight.main_arg0)
      ∧ r.2.mem ((c.tc : Thread Cert.Weight.nD Cert.Weight.τ).loc Cert.Weight.main_arg1) = m ((c.tc : Thread Cert.Weight.nD Cert.Weight.τ).loc Cert.Weight.main_arg1)
      ∧ r.2.mem ((c.tc : Thread Cert.Weight.nD Cert.Weight.τ).loc Cert.Weight.main_arg2) = m ((c.tc : Thread Cert.Weight.nD Cert.Weight.τ).loc Cert.Weight.main_arg2))
      ∧ r.2.sem = fun _ => 0)

def quiescent_WeightIdeal [hWeightIdeal : Cert.WeightIdeal.Facts] : Prop :=
  ∀ (m : (ℓ : Loc Cert.WeightIdeal.nD Cert.WeightIdeal.τ Cert.WeightIdeal.sig) → Buf (Elt Ideal) ℓ) (g : Dev Cert.WeightIdeal.nD → PrngReg), Pre_WeightIdeal m →
    θ_run (Cert.WeightIdeal.defs (F := Ideal)) (onTc (τ := Cert.WeightIdeal.τ) (Cert.WeightIdeal.main (F := Ideal))) ⟨m, fun _ => 0, g⟩ (fun r => (∀ c : Dev Cert.WeightIdeal.nD,
      r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
      ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
      ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ r.2.sem = fun _ => 0)

def quiescent_WeightRefIdeal [hWeightRefIdeal : Cert.WeightRefIdeal.Facts] : Prop :=
  ∀ (m : (ℓ : Loc Cert.WeightRefIdeal.nD Cert.WeightRefIdeal.τ Cert.WeightRefIdeal.sig) → Buf (Elt Ideal) ℓ) (g : Dev Cert.WeightRefIdeal.nD → PrngReg), Pre_WeightRefIdeal m →
    θ_run (Cert.WeightRefIdeal.defs (F := Ideal)) (onTc (τ := Cert.WeightRefIdeal.τ) (Cert.WeightRefIdeal.main (F := Ideal))) ⟨m, fun _ => 0, g⟩ (fun r => (∀ c : Dev Cert.WeightRefIdeal.nD,
      r.2.mem ((c.tc : Thread Cert.WeightRefIdeal.nD Cert.WeightRefIdeal.τ).loc Cert.WeightRefIdeal.main_arg0) = m ((c.tc : Thread Cert.WeightRefIdeal.nD Cert.WeightRefIdeal.τ).loc Cert.WeightRefIdeal.main_arg0)
      ∧ r.2.mem ((c.tc : Thread Cert.WeightRefIdeal.nD Cert.WeightRefIdeal.τ).loc Cert.WeightRefIdeal.main_arg1) = m ((c.tc : Thread Cert.WeightRefIdeal.nD Cert.WeightRefIdeal.τ).loc Cert.WeightRefIdeal.main_arg1)
      ∧ r.2.mem ((c.tc : Thread Cert.WeightRefIdeal.nD Cert.WeightRefIdeal.τ).loc Cert.WeightRefIdeal.main_arg2) = m ((c.tc : Thread Cert.WeightRefIdeal.nD Cert.WeightRefIdeal.τ).loc Cert.WeightRefIdeal.main_arg2))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1)
      ∧ r.2.mem ((c.tc : Thread Cert.FirstNorm.nD Cert.FirstNorm.τ).loc Cert.FirstNorm.main_arg2) = m ((c.tc : Thread Cert.FirstNorm.nD Cert.FirstNorm.τ).loc Cert.FirstNorm.main_arg2)
      ∧ r.2.mem ((c.tc : Thread Cert.FirstNorm.nD Cert.FirstNorm.τ).loc Cert.FirstNorm.main_arg3) = m ((c.tc : Thread Cert.FirstNorm.nD Cert.FirstNorm.τ).loc Cert.FirstNorm.main_arg3)
      ∧ r.2.mem ((c.tc : Thread Cert.FirstNorm.nD Cert.FirstNorm.τ).loc Cert.FirstNorm.main_arg4) = m ((c.tc : Thread Cert.FirstNorm.nD Cert.FirstNorm.τ).loc Cert.FirstNorm.main_arg4))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
      ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
      ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3)
      ∧ r.2.mem ((c.tc : Thread Cert.FirstNormIdeal.nD Cert.FirstNormIdeal.τ).loc Cert.FirstNormIdeal.main_arg4) = m ((c.tc : Thread Cert.FirstNormIdeal.nD Cert.FirstNormIdeal.τ).loc Cert.FirstNormIdeal.main_arg4))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1)
      ∧ r.2.mem ((c.tc : Thread Cert.FirstNormRefIdeal.nD Cert.FirstNormRefIdeal.τ).loc Cert.FirstNormRefIdeal.main_arg2) = m ((c.tc : Thread Cert.FirstNormRefIdeal.nD Cert.FirstNormRefIdeal.τ).loc Cert.FirstNormRefIdeal.main_arg2)
      ∧ r.2.mem ((c.tc : Thread Cert.FirstNormRefIdeal.nD Cert.FirstNormRefIdeal.τ).loc Cert.FirstNormRefIdeal.main_arg3) = m ((c.tc : Thread Cert.FirstNormRefIdeal.nD Cert.FirstNormRefIdeal.τ).loc Cert.FirstNormRefIdeal.main_arg3)
      ∧ r.2.mem ((c.tc : Thread Cert.FirstNormRefIdeal.nD Cert.FirstNormRefIdeal.τ).loc Cert.FirstNormRefIdeal.main_arg4) = m ((c.tc : Thread Cert.FirstNormRefIdeal.nD Cert.FirstNormRefIdeal.τ).loc Cert.FirstNormRefIdeal.main_arg4))
      ∧ r.2.sem = fun _ => 0)

def quiescent_MixerForward [hMixerForward : Cert.MixerForward.Facts] : Prop :=
  ∀ (m : (ℓ : Loc Cert.MixerForward.nD Cert.MixerForward.τ Cert.MixerForward.sig) → Buf (Elt Bits) ℓ) (g : Dev Cert.MixerForward.nD → PrngReg), Pre_MixerForward m →
    θ_run (Cert.MixerForward.defs (F := Bits)) (onTc (τ := Cert.MixerForward.τ) (Cert.MixerForward.main (F := Bits))) ⟨m, fun _ => 0, g⟩ (fun r => (∀ c : Dev Cert.MixerForward.nD,
      r.2.mem ((c.tc : Thread Cert.MixerForward.nD Cert.MixerForward.τ).loc Cert.MixerForward.main_arg0) = m ((c.tc : Thread Cert.MixerForward.nD Cert.MixerForward.τ).loc Cert.MixerForward.main_arg0)
      ∧ r.2.mem ((c.tc : Thread Cert.MixerForward.nD Cert.MixerForward.τ).loc Cert.MixerForward.main_arg1) = m ((c.tc : Thread Cert.MixerForward.nD Cert.MixerForward.τ).loc Cert.MixerForward.main_arg1))
      ∧ r.2.sem = fun _ => 0)

def quiescent_MixerForwardIdeal [hMixerForwardIdeal : Cert.MixerForwardIdeal.Facts] : Prop :=
  ∀ (m : (ℓ : Loc Cert.MixerForwardIdeal.nD Cert.MixerForwardIdeal.τ Cert.MixerForwardIdeal.sig) → Buf (Elt Ideal) ℓ) (g : Dev Cert.MixerForwardIdeal.nD → PrngReg), Pre_MixerForwardIdeal m →
    θ_run (Cert.MixerForwardIdeal.defs (F := Ideal)) (onTc (τ := Cert.MixerForwardIdeal.τ) (Cert.MixerForwardIdeal.main (F := Ideal))) ⟨m, fun _ => 0, g⟩ (fun r => (∀ c : Dev Cert.MixerForwardIdeal.nD,
      r.2.mem ((c.tc : Thread Cert.MixerForwardIdeal.nD Cert.MixerForwardIdeal.τ).loc Cert.MixerForwardIdeal.main_arg0) = m ((c.tc : Thread Cert.MixerForwardIdeal.nD Cert.MixerForwardIdeal.τ).loc Cert.MixerForwardIdeal.main_arg0)
      ∧ r.2.mem ((c.tc : Thread Cert.MixerForwardIdeal.nD Cert.MixerForwardIdeal.τ).loc Cert.MixerForwardIdeal.main_arg1) = m ((c.tc : Thread Cert.MixerForwardIdeal.nD Cert.MixerForwardIdeal.τ).loc Cert.MixerForwardIdeal.main_arg1))
      ∧ r.2.sem = fun _ => 0)

def quiescent_MixerForwardRefIdeal [hMixerForwardRefIdeal : Cert.MixerForwardRefIdeal.Facts] : Prop :=
  ∀ (m : (ℓ : Loc Cert.MixerForwardRefIdeal.nD Cert.MixerForwardRefIdeal.τ Cert.MixerForwardRefIdeal.sig) → Buf (Elt Ideal) ℓ) (g : Dev Cert.MixerForwardRefIdeal.nD → PrngReg), Pre_MixerForwardRefIdeal m →
    θ_run (Cert.MixerForwardRefIdeal.defs (F := Ideal)) (onTc (τ := Cert.MixerForwardRefIdeal.τ) (Cert.MixerForwardRefIdeal.main (F := Ideal))) ⟨m, fun _ => 0, g⟩ (fun r => (∀ c : Dev Cert.MixerForwardRefIdeal.nD,
      r.2.mem ((c.tc : Thread Cert.MixerForwardRefIdeal.nD Cert.MixerForwardRefIdeal.τ).loc Cert.MixerForwardRefIdeal.main_arg0) = m ((c.tc : Thread Cert.MixerForwardRefIdeal.nD Cert.MixerForwardRefIdeal.τ).loc Cert.MixerForwardRefIdeal.main_arg0)
      ∧ r.2.mem ((c.tc : Thread Cert.MixerForwardRefIdeal.nD Cert.MixerForwardRefIdeal.τ).loc Cert.MixerForwardRefIdeal.main_arg1) = m ((c.tc : Thread Cert.MixerForwardRefIdeal.nD Cert.MixerForwardRefIdeal.τ).loc Cert.MixerForwardRefIdeal.main_arg1))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4))
      ∧ r.2.sem = fun _ => 0)

def quiescent_ProjectionsRefIdeal [hProjectionsRefIdeal : Cert.ProjectionsRefIdeal.Facts] : Prop :=
  ∀ (m : (ℓ : Loc Cert.ProjectionsRefIdeal.nD Cert.ProjectionsRefIdeal.τ Cert.ProjectionsRefIdeal.sig) → Buf (Elt Ideal) ℓ) (g : Dev Cert.ProjectionsRefIdeal.nD → PrngReg), Pre_ProjectionsRefIdeal m →
    θ_run (Cert.ProjectionsRefIdeal.defs (F := Ideal)) (onTc (τ := Cert.ProjectionsRefIdeal.τ) (Cert.ProjectionsRefIdeal.main (F := Ideal))) ⟨m, fun _ => 0, g⟩ (fun r => (∀ c : Dev Cert.ProjectionsRefIdeal.nD,
      r.2.mem ((c.tc : Thread Cert.ProjectionsRefIdeal.nD Cert.ProjectionsRefIdeal.τ).loc Cert.ProjectionsRefIdeal.main_arg0) = m ((c.tc : Thread Cert.ProjectionsRefIdeal.nD Cert.ProjectionsRefIdeal.τ).loc Cert.ProjectionsRefIdeal.main_arg0)
      ∧ r.2.mem ((c.tc : Thread Cert.ProjectionsRefIdeal.nD Cert.ProjectionsRefIdeal.τ).loc Cert.ProjectionsRefIdeal.main_arg1) = m ((c.tc : Thread Cert.ProjectionsRefIdeal.nD Cert.ProjectionsRefIdeal.τ).loc Cert.ProjectionsRefIdeal.main_arg1)
      ∧ r.2.mem ((c.tc : Thread Cert.ProjectionsRefIdeal.nD Cert.ProjectionsRefIdeal.τ).loc Cert.ProjectionsRefIdeal.main_arg2) = m ((c.tc : Thread Cert.ProjectionsRefIdeal.nD Cert.ProjectionsRefIdeal.τ).loc Cert.ProjectionsRefIdeal.main_arg2)
      ∧ r.2.mem ((c.tc : Thread Cert.ProjectionsRefIdeal.nD Cert.ProjectionsRefIdeal.τ).loc Cert.ProjectionsRefIdeal.main_arg3) = m ((c.tc : Thread Cert.ProjectionsRefIdeal.nD Cert.ProjectionsRefIdeal.τ).loc Cert.ProjectionsRefIdeal.main_arg3)
      ∧ r.2.mem ((c.tc : Thread Cert.ProjectionsRefIdeal.nD Cert.ProjectionsRefIdeal.τ).loc Cert.ProjectionsRefIdeal.main_arg4) = m ((c.tc : Thread Cert.ProjectionsRefIdeal.nD Cert.ProjectionsRefIdeal.τ).loc Cert.ProjectionsRefIdeal.main_arg4))
      ∧ r.2.sem = fun _ => 0)

def quiescent_AttentionForward [hAttentionForward : Cert.AttentionForward.Facts] : Prop :=
  ∀ (m : (ℓ : Loc Cert.AttentionForward.nD Cert.AttentionForward.τ Cert.AttentionForward.sig) → Buf (Elt Bits) ℓ) (g : Dev Cert.AttentionForward.nD → PrngReg), Pre_AttentionForward m →
    θ_run (Cert.AttentionForward.defs (F := Bits)) (onTc (τ := Cert.AttentionForward.τ) (Cert.AttentionForward.main (F := Bits))) ⟨m, fun _ => 0, g⟩ (fun r => (∀ c : Dev Cert.AttentionForward.nD,
      r.2.mem ((c.tc : Thread Cert.AttentionForward.nD Cert.AttentionForward.τ).loc Cert.AttentionForward.main_arg0) = m ((c.tc : Thread Cert.AttentionForward.nD Cert.AttentionForward.τ).loc Cert.AttentionForward.main_arg0)
      ∧ r.2.mem ((c.tc : Thread Cert.AttentionForward.nD Cert.AttentionForward.τ).loc Cert.AttentionForward.main_arg1) = m ((c.tc : Thread Cert.AttentionForward.nD Cert.AttentionForward.τ).loc Cert.AttentionForward.main_arg1)
      ∧ r.2.mem ((c.tc : Thread Cert.AttentionForward.nD Cert.AttentionForward.τ).loc Cert.AttentionForward.main_arg2) = m ((c.tc : Thread Cert.AttentionForward.nD Cert.AttentionForward.τ).loc Cert.AttentionForward.main_arg2))
      ∧ r.2.sem = fun _ => 0)

def quiescent_AttentionForwardIdeal [hAttentionForwardIdeal : Cert.AttentionForwardIdeal.Facts] : Prop :=
  ∀ (m : (ℓ : Loc Cert.AttentionForwardIdeal.nD Cert.AttentionForwardIdeal.τ Cert.AttentionForwardIdeal.sig) → Buf (Elt Ideal) ℓ) (g : Dev Cert.AttentionForwardIdeal.nD → PrngReg), Pre_AttentionForwardIdeal m →
    θ_run (Cert.AttentionForwardIdeal.defs (F := Ideal)) (onTc (τ := Cert.AttentionForwardIdeal.τ) (Cert.AttentionForwardIdeal.main (F := Ideal))) ⟨m, fun _ => 0, g⟩ (fun r => (∀ c : Dev Cert.AttentionForwardIdeal.nD,
      r.2.mem ((c.tc : Thread Cert.AttentionForwardIdeal.nD Cert.AttentionForwardIdeal.τ).loc Cert.AttentionForwardIdeal.main_arg0) = m ((c.tc : Thread Cert.AttentionForwardIdeal.nD Cert.AttentionForwardIdeal.τ).loc Cert.AttentionForwardIdeal.main_arg0)
      ∧ r.2.mem ((c.tc : Thread Cert.AttentionForwardIdeal.nD Cert.AttentionForwardIdeal.τ).loc Cert.AttentionForwardIdeal.main_arg1) = m ((c.tc : Thread Cert.AttentionForwardIdeal.nD Cert.AttentionForwardIdeal.τ).loc Cert.AttentionForwardIdeal.main_arg1)
      ∧ r.2.mem ((c.tc : Thread Cert.AttentionForwardIdeal.nD Cert.AttentionForwardIdeal.τ).loc Cert.AttentionForwardIdeal.main_arg2) = m ((c.tc : Thread Cert.AttentionForwardIdeal.nD Cert.AttentionForwardIdeal.τ).loc Cert.AttentionForwardIdeal.main_arg2))
      ∧ r.2.sem = fun _ => 0)

def quiescent_AttentionForwardIdeal_pre_attention_forward_finite [hAttentionForwardIdeal : Cert.AttentionForwardIdeal.Facts] [hPre_attention_forward_finite : Cert.Pre_attention_forward_finite.Facts] : Prop :=
  ∀ (m : (ℓ : Loc Cert.AttentionForwardIdeal.nD Cert.AttentionForwardIdeal.τ Cert.AttentionForwardIdeal.sig) → Buf (Elt Ideal) ℓ) (g : Dev Cert.AttentionForwardIdeal.nD → PrngReg), Pre_AttentionForwardIdeal_attention_forward_finite m →
    θ_run (Cert.AttentionForwardIdeal.defs (F := Ideal)) (onTc (τ := Cert.AttentionForwardIdeal.τ) (Cert.AttentionForwardIdeal.main (F := Ideal))) ⟨m, fun _ => 0, g⟩ (fun r => (∀ c : Dev Cert.AttentionForwardIdeal.nD,
      r.2.mem ((c.tc : Thread Cert.AttentionForwardIdeal.nD Cert.AttentionForwardIdeal.τ).loc Cert.AttentionForwardIdeal.main_arg0) = m ((c.tc : Thread Cert.AttentionForwardIdeal.nD Cert.AttentionForwardIdeal.τ).loc Cert.AttentionForwardIdeal.main_arg0)
      ∧ r.2.mem ((c.tc : Thread Cert.AttentionForwardIdeal.nD Cert.AttentionForwardIdeal.τ).loc Cert.AttentionForwardIdeal.main_arg1) = m ((c.tc : Thread Cert.AttentionForwardIdeal.nD Cert.AttentionForwardIdeal.τ).loc Cert.AttentionForwardIdeal.main_arg1)
      ∧ r.2.mem ((c.tc : Thread Cert.AttentionForwardIdeal.nD Cert.AttentionForwardIdeal.τ).loc Cert.AttentionForwardIdeal.main_arg2) = m ((c.tc : Thread Cert.AttentionForwardIdeal.nD Cert.AttentionForwardIdeal.τ).loc Cert.AttentionForwardIdeal.main_arg2))
      ∧ r.2.sem = fun _ => 0)

def quiescent_AttentionForwardRefIdeal [hAttentionForwardRefIdeal : Cert.AttentionForwardRefIdeal.Facts] : Prop :=
  ∀ (m : (ℓ : Loc Cert.AttentionForwardRefIdeal.nD Cert.AttentionForwardRefIdeal.τ Cert.AttentionForwardRefIdeal.sig) → Buf (Elt Ideal) ℓ) (g : Dev Cert.AttentionForwardRefIdeal.nD → PrngReg), Pre_AttentionForwardRefIdeal m →
    θ_run (Cert.AttentionForwardRefIdeal.defs (F := Ideal)) (onTc (τ := Cert.AttentionForwardRefIdeal.τ) (Cert.AttentionForwardRefIdeal.main (F := Ideal))) ⟨m, fun _ => 0, g⟩ (fun r => (∀ c : Dev Cert.AttentionForwardRefIdeal.nD,
      r.2.mem ((c.tc : Thread Cert.AttentionForwardRefIdeal.nD Cert.AttentionForwardRefIdeal.τ).loc Cert.AttentionForwardRefIdeal.main_arg0) = m ((c.tc : Thread Cert.AttentionForwardRefIdeal.nD Cert.AttentionForwardRefIdeal.τ).loc Cert.AttentionForwardRefIdeal.main_arg0)
      ∧ r.2.mem ((c.tc : Thread Cert.AttentionForwardRefIdeal.nD Cert.AttentionForwardRefIdeal.τ).loc Cert.AttentionForwardRefIdeal.main_arg1) = m ((c.tc : Thread Cert.AttentionForwardRefIdeal.nD Cert.AttentionForwardRefIdeal.τ).loc Cert.AttentionForwardRefIdeal.main_arg1)
      ∧ r.2.mem ((c.tc : Thread Cert.AttentionForwardRefIdeal.nD Cert.AttentionForwardRefIdeal.τ).loc Cert.AttentionForwardRefIdeal.main_arg2) = m ((c.tc : Thread Cert.AttentionForwardRefIdeal.nD Cert.AttentionForwardRefIdeal.τ).loc Cert.AttentionForwardRefIdeal.main_arg2))
      ∧ r.2.sem = fun _ => 0)

def quiescent_AttentionForwardRefIdeal_pre_attention_forward_finite [hAttentionForwardRefIdeal : Cert.AttentionForwardRefIdeal.Facts] [hPre_attention_forward_finite : Cert.Pre_attention_forward_finite.Facts] : Prop :=
  ∀ (m : (ℓ : Loc Cert.AttentionForwardRefIdeal.nD Cert.AttentionForwardRefIdeal.τ Cert.AttentionForwardRefIdeal.sig) → Buf (Elt Ideal) ℓ) (g : Dev Cert.AttentionForwardRefIdeal.nD → PrngReg), Pre_AttentionForwardRefIdeal_attention_forward_finite m →
    θ_run (Cert.AttentionForwardRefIdeal.defs (F := Ideal)) (onTc (τ := Cert.AttentionForwardRefIdeal.τ) (Cert.AttentionForwardRefIdeal.main (F := Ideal))) ⟨m, fun _ => 0, g⟩ (fun r => (∀ c : Dev Cert.AttentionForwardRefIdeal.nD,
      r.2.mem ((c.tc : Thread Cert.AttentionForwardRefIdeal.nD Cert.AttentionForwardRefIdeal.τ).loc Cert.AttentionForwardRefIdeal.main_arg0) = m ((c.tc : Thread Cert.AttentionForwardRefIdeal.nD Cert.AttentionForwardRefIdeal.τ).loc Cert.AttentionForwardRefIdeal.main_arg0)
      ∧ r.2.mem ((c.tc : Thread Cert.AttentionForwardRefIdeal.nD Cert.AttentionForwardRefIdeal.τ).loc Cert.AttentionForwardRefIdeal.main_arg1) = m ((c.tc : Thread Cert.AttentionForwardRefIdeal.nD Cert.AttentionForwardRefIdeal.τ).loc Cert.AttentionForwardRefIdeal.main_arg1)
      ∧ r.2.mem ((c.tc : Thread Cert.AttentionForwardRefIdeal.nD Cert.AttentionForwardRefIdeal.τ).loc Cert.AttentionForwardRefIdeal.main_arg2) = m ((c.tc : Thread Cert.AttentionForwardRefIdeal.nD Cert.AttentionForwardRefIdeal.τ).loc Cert.AttentionForwardRefIdeal.main_arg2))
      ∧ r.2.sem = fun _ => 0)

def preserves_Mixer_MixerIdeal : Prop :=
  True

def algebraic_MixerIdeal_MixerRefIdeal_pre_mixer_finite [hMixerIdeal : Cert.MixerIdeal.Facts] [hMixerRefIdeal : Cert.MixerRefIdeal.Facts] [hPre_mixer_finite : Cert.Pre_mixer_finite.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_mixer_finite m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)) →
    ∃ (v0 : (c : Dev Cert.MixerIdeal.nD) → Buf (Elt Ideal) ((c.tc : Thread Cert.MixerIdeal.nD Cert.MixerIdeal.τ).loc Cert.MixerIdeal.main_v0_0)) (v1 : (c : Dev Cert.MixerIdeal.nD) → Buf (Elt Ideal) ((c.tc : Thread Cert.MixerIdeal.nD Cert.MixerIdeal.τ).loc Cert.MixerIdeal.main_v0_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v0_0) = v0 c
          ∧ r.2.mem ((c.tc : Thread Cert.MixerIdeal.nD Cert.MixerIdeal.τ).loc Cert.MixerIdeal.main_v0_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v61) = v0 c
          ∧ r.2.mem ((c.tc : Thread Cert.MixerRefIdeal.nD Cert.MixerRefIdeal.τ).loc Cert.MixerRefIdeal.main_v62) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2))

def preserves_Attention_AttentionIdeal : Prop :=
  True

def algebraic_AttentionIdeal_AttentionRefIdeal_pre_attention_finite [hAttentionIdeal : Cert.AttentionIdeal.Facts] [hAttentionRefIdeal : Cert.AttentionRefIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_attention_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v42_0)) (v1 : (c : Dev Cert.AttentionIdeal.nD) → Buf (Elt Ideal) ((c.tc : Thread Cert.AttentionIdeal.nD Cert.AttentionIdeal.τ).loc Cert.AttentionIdeal.main_v42_1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v42_0) = v0 c
          ∧ r.2.mem ((c.tc : Thread Cert.AttentionIdeal.nD Cert.AttentionIdeal.τ).loc Cert.AttentionIdeal.main_v42_1) = v1 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v56) = v0 c
          ∧ r.2.mem ((c.tc : Thread Cert.AttentionRefIdeal.nD Cert.AttentionRefIdeal.τ).loc Cert.AttentionRefIdeal.main_v53) = v1 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2))

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v59) = v0 c
          ∧ r.2.mem ((c.tc : Thread Cert.LossRefIdeal.nD Cert.LossRefIdeal.τ).loc Cert.LossRefIdeal.main_v58) = v1 c
          ∧ r.2.mem ((c.tc : Thread Cert.LossRefIdeal.nD Cert.LossRefIdeal.τ).loc Cert.LossRefIdeal.main_v31) = v2 c
          ∧ r.2.mem ((c.tc : Thread Cert.LossRefIdeal.nD Cert.LossRefIdeal.τ).loc Cert.LossRefIdeal.main_v42) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Norms_NormsIdeal : Prop :=
  True

def algebraic_NormsIdeal_NormsRefIdeal_pre_norms_finite [hNormsIdeal : Cert.NormsIdeal.Facts] [hNormsRefIdeal : Cert.NormsRefIdeal.Facts] [hPre_norms_finite : Cert.Pre_norms_finite.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal_norms_finite m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)
      ∧ m' ((c.tc : Thread Cert.NormsRefIdeal.nD Cert.NormsRefIdeal.τ).loc Cert.NormsRefIdeal.main_arg4) = m ((c.tc : Thread Cert.NormsIdeal.nD Cert.NormsIdeal.τ).loc Cert.NormsIdeal.main_arg4)
      ∧ m' ((c.tc : Thread Cert.NormsRefIdeal.nD Cert.NormsRefIdeal.τ).loc Cert.NormsRefIdeal.main_arg5) = m ((c.tc : Thread Cert.NormsIdeal.nD Cert.NormsIdeal.τ).loc Cert.NormsIdeal.main_arg5)
      ∧ m' ((c.tc : Thread Cert.NormsRefIdeal.nD Cert.NormsRefIdeal.τ).loc Cert.NormsRefIdeal.main_arg6) = m ((c.tc : Thread Cert.NormsIdeal.nD Cert.NormsIdeal.τ).loc Cert.NormsIdeal.main_arg6)
      ∧ m' ((c.tc : Thread Cert.NormsRefIdeal.nD Cert.NormsRefIdeal.τ).loc Cert.NormsRefIdeal.main_arg7) = m ((c.tc : Thread Cert.NormsIdeal.nD Cert.NormsIdeal.τ).loc Cert.NormsIdeal.main_arg7)) →
    ∃ (v0 : (c : Dev Cert.NormsIdeal.nD) → Buf (Elt Ideal) ((c.tc : Thread Cert.NormsIdeal.nD Cert.NormsIdeal.τ).loc Cert.NormsIdeal.main_v0_0)) (v1 : (c : Dev Cert.NormsIdeal.nD) → Buf (Elt Ideal) ((c.tc : Thread Cert.NormsIdeal.nD Cert.NormsIdeal.τ).loc Cert.NormsIdeal.main_v0_1)) (v2 : (c : Dev Cert.NormsIdeal.nD) → Buf (Elt Ideal) ((c.tc : Thread Cert.NormsIdeal.nD Cert.NormsIdeal.τ).loc Cert.NormsIdeal.main_v0_2)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v0_0) = v0 c
          ∧ r.2.mem ((c.tc : Thread Cert.NormsIdeal.nD Cert.NormsIdeal.τ).loc Cert.NormsIdeal.main_v0_1) = v1 c
          ∧ r.2.mem ((c.tc : Thread Cert.NormsIdeal.nD Cert.NormsIdeal.τ).loc Cert.NormsIdeal.main_v0_2) = v2 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
          ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
          ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6)
          ∧ r.2.mem ((c.tc : Thread Cert.NormsIdeal.nD Cert.NormsIdeal.τ).loc Cert.NormsIdeal.main_arg7) = m ((c.tc : Thread Cert.NormsIdeal.nD Cert.NormsIdeal.τ).loc Cert.NormsIdeal.main_arg7))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v76) = v0 c
          ∧ r.2.mem ((c.tc : Thread Cert.NormsRefIdeal.nD Cert.NormsRefIdeal.τ).loc Cert.NormsRefIdeal.main_v59) = v1 c
          ∧ r.2.mem ((c.tc : Thread Cert.NormsRefIdeal.nD Cert.NormsRefIdeal.τ).loc Cert.NormsRefIdeal.main_v38) = v2 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3)
          ∧ r.2.mem ((c.tc : Thread Cert.NormsRefIdeal.nD Cert.NormsRefIdeal.τ).loc Cert.NormsRefIdeal.main_arg4) = m' ((c.tc : Thread Cert.NormsRefIdeal.nD Cert.NormsRefIdeal.τ).loc Cert.NormsRefIdeal.main_arg4)
          ∧ r.2.mem ((c.tc : Thread Cert.NormsRefIdeal.nD Cert.NormsRefIdeal.τ).loc Cert.NormsRefIdeal.main_arg5) = m' ((c.tc : Thread Cert.NormsRefIdeal.nD Cert.NormsRefIdeal.τ).loc Cert.NormsRefIdeal.main_arg5)
          ∧ r.2.mem ((c.tc : Thread Cert.NormsRefIdeal.nD Cert.NormsRefIdeal.τ).loc Cert.NormsRefIdeal.main_arg6) = m' ((c.tc : Thread Cert.NormsRefIdeal.nD Cert.NormsRefIdeal.τ).loc Cert.NormsRefIdeal.main_arg6)
          ∧ r.2.mem ((c.tc : Thread Cert.NormsRefIdeal.nD Cert.NormsRefIdeal.τ).loc Cert.NormsRefIdeal.main_arg7) = m' ((c.tc : Thread Cert.NormsRefIdeal.nD Cert.NormsRefIdeal.τ).loc Cert.NormsRefIdeal.main_arg7))

def preserves_Weight_WeightIdeal : Prop :=
  True

def algebraic_WeightIdeal_WeightRefIdeal [hWeightIdeal : Cert.WeightIdeal.Facts] [hWeightRefIdeal : Cert.WeightRefIdeal.Facts] : Prop :=
  ∀ (m : (ℓ : Loc Cert.WeightIdeal.nD Cert.WeightIdeal.τ Cert.WeightIdeal.sig) → Buf (Elt Ideal) ℓ) (g : Dev Cert.WeightIdeal.nD → PrngReg)
    (m' : (ℓ : Loc Cert.WeightRefIdeal.nD Cert.WeightRefIdeal.τ Cert.WeightRefIdeal.sig) → Buf (Elt Ideal) ℓ) (g' : Dev Cert.WeightRefIdeal.nD → PrngReg), Pre_WeightIdeal m →
    (∀ c : Dev Cert.WeightIdeal.nD,
      m' ((c.tc : Thread Cert.WeightRefIdeal.nD Cert.WeightRefIdeal.τ).loc Cert.WeightRefIdeal.main_arg0) = m ((c.tc : Thread Cert.WeightIdeal.nD Cert.WeightIdeal.τ).loc Cert.WeightIdeal.main_arg0)
      ∧ m' ((c.tc : Thread Cert.WeightRefIdeal.nD Cert.WeightRefIdeal.τ).loc Cert.WeightRefIdeal.main_arg1) = m ((c.tc : Thread Cert.WeightIdeal.nD Cert.WeightIdeal.τ).loc Cert.WeightIdeal.main_arg1)
      ∧ m' ((c.tc : Thread Cert.WeightRefIdeal.nD Cert.WeightRefIdeal.τ).loc Cert.WeightRefIdeal.main_arg2) = m ((c.tc : Thread Cert.WeightIdeal.nD Cert.WeightIdeal.τ).loc Cert.WeightIdeal.main_arg2)) →
    ∃ (v0 : (c : Dev Cert.WeightIdeal.nD) → Buf (Elt Ideal) ((c.tc : Thread Cert.WeightIdeal.nD Cert.WeightIdeal.τ).loc Cert.WeightIdeal.main_v0)),
      θ_run (Cert.WeightIdeal.defs (F := Ideal)) (onTc (τ := Cert.WeightIdeal.τ) (Cert.WeightIdeal.main (F := Ideal))) ⟨m, fun _ => 0, g⟩ (fun r => ∀ c : Dev Cert.WeightIdeal.nD,
          r.2.mem ((c.tc : Thread Cert.WeightIdeal.nD Cert.WeightIdeal.τ).loc Cert.WeightIdeal.main_v0) = v0 c
          ∧ r.2.mem ((c.tc : Thread Cert.WeightIdeal.nD Cert.WeightIdeal.τ).loc Cert.WeightIdeal.main_arg0) = m ((c.tc : Thread Cert.WeightIdeal.nD Cert.WeightIdeal.τ).loc Cert.WeightIdeal.main_arg0)
          ∧ r.2.mem ((c.tc : Thread Cert.WeightIdeal.nD Cert.WeightIdeal.τ).loc Cert.WeightIdeal.main_arg1) = m ((c.tc : Thread Cert.WeightIdeal.nD Cert.WeightIdeal.τ).loc Cert.WeightIdeal.main_arg1)
          ∧ r.2.mem ((c.tc : Thread Cert.WeightIdeal.nD Cert.WeightIdeal.τ).loc Cert.WeightIdeal.main_arg2) = m ((c.tc : Thread Cert.WeightIdeal.nD Cert.WeightIdeal.τ).loc Cert.WeightIdeal.main_arg2))
      ∧ θ_run (Cert.WeightRefIdeal.defs (F := Ideal)) (onTc (τ := Cert.WeightRefIdeal.τ) (Cert.WeightRefIdeal.main (F := Ideal))) ⟨m', fun _ => 0, g'⟩ (fun r => ∀ c : Dev Cert.WeightRefIdeal.nD,
          r.2.mem ((c.tc : Thread Cert.WeightRefIdeal.nD Cert.WeightRefIdeal.τ).loc Cert.WeightRefIdeal.main_v19) = v0 c
          ∧ r.2.mem ((c.tc : Thread Cert.WeightRefIdeal.nD Cert.WeightRefIdeal.τ).loc Cert.WeightRefIdeal.main_arg0) = m' ((c.tc : Thread Cert.WeightRefIdeal.nD Cert.WeightRefIdeal.τ).loc Cert.WeightRefIdeal.main_arg0)
          ∧ r.2.mem ((c.tc : Thread Cert.WeightRefIdeal.nD Cert.WeightRefIdeal.τ).loc Cert.WeightRefIdeal.main_arg1) = m' ((c.tc : Thread Cert.WeightRefIdeal.nD Cert.WeightRefIdeal.τ).loc Cert.WeightRefIdeal.main_arg1)
          ∧ r.2.mem ((c.tc : Thread Cert.WeightRefIdeal.nD Cert.WeightRefIdeal.τ).loc Cert.WeightRefIdeal.main_arg2) = m' ((c.tc : Thread Cert.WeightRefIdeal.nD Cert.WeightRefIdeal.τ).loc Cert.WeightRefIdeal.main_arg2))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)
      ∧ m' ((c.tc : Thread Cert.FirstNormRefIdeal.nD Cert.FirstNormRefIdeal.τ).loc Cert.FirstNormRefIdeal.main_arg2) = m ((c.tc : Thread Cert.FirstNormIdeal.nD Cert.FirstNormIdeal.τ).loc Cert.FirstNormIdeal.main_arg2)
      ∧ m' ((c.tc : Thread Cert.FirstNormRefIdeal.nD Cert.FirstNormRefIdeal.τ).loc Cert.FirstNormRefIdeal.main_arg3) = m ((c.tc : Thread Cert.FirstNormIdeal.nD Cert.FirstNormIdeal.τ).loc Cert.FirstNormIdeal.main_arg3)
      ∧ m' ((c.tc : Thread Cert.FirstNormRefIdeal.nD Cert.FirstNormRefIdeal.τ).loc Cert.FirstNormRefIdeal.main_arg4) = m ((c.tc : Thread Cert.FirstNormIdeal.nD Cert.FirstNormIdeal.τ).loc Cert.FirstNormIdeal.main_arg4)) →
    ∃ (v0 : (c : Dev Cert.FirstNormIdeal.nD) → Buf (Elt Ideal) ((c.tc : Thread Cert.FirstNormIdeal.nD Cert.FirstNormIdeal.τ).loc Cert.FirstNormIdeal.main_v0_0)) (v1 : (c : Dev Cert.FirstNormIdeal.nD) → Buf (Elt Ideal) ((c.tc : Thread Cert.FirstNormIdeal.nD Cert.FirstNormIdeal.τ).loc Cert.FirstNormIdeal.main_v0_1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0_0) = v0 c
          ∧ r.2.mem ((c.tc : Thread Cert.FirstNormIdeal.nD Cert.FirstNormIdeal.τ).loc Cert.FirstNormIdeal.main_v0_1) = v1 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1)
          ∧ r.2.mem ((c.tc : Thread Cert.FirstNormIdeal.nD Cert.FirstNormIdeal.τ).loc Cert.FirstNormIdeal.main_arg2) = m ((c.tc : Thread Cert.FirstNormIdeal.nD Cert.FirstNormIdeal.τ).loc Cert.FirstNormIdeal.main_arg2)
          ∧ r.2.mem ((c.tc : Thread Cert.FirstNormIdeal.nD Cert.FirstNormIdeal.τ).loc Cert.FirstNormIdeal.main_arg3) = m ((c.tc : Thread Cert.FirstNormIdeal.nD Cert.FirstNormIdeal.τ).loc Cert.FirstNormIdeal.main_arg3)
          ∧ r.2.mem ((c.tc : Thread Cert.FirstNormIdeal.nD Cert.FirstNormIdeal.τ).loc Cert.FirstNormIdeal.main_arg4) = m ((c.tc : Thread Cert.FirstNormIdeal.nD Cert.FirstNormIdeal.τ).loc Cert.FirstNormIdeal.main_arg4))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v38) = v0 c
          ∧ r.2.mem ((c.tc : Thread Cert.FirstNormRefIdeal.nD Cert.FirstNormRefIdeal.τ).loc Cert.FirstNormRefIdeal.main_v21) = v1 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1)
          ∧ r.2.mem ((c.tc : Thread Cert.FirstNormRefIdeal.nD Cert.FirstNormRefIdeal.τ).loc Cert.FirstNormRefIdeal.main_arg2) = m' ((c.tc : Thread Cert.FirstNormRefIdeal.nD Cert.FirstNormRefIdeal.τ).loc Cert.FirstNormRefIdeal.main_arg2)
          ∧ r.2.mem ((c.tc : Thread Cert.FirstNormRefIdeal.nD Cert.FirstNormRefIdeal.τ).loc Cert.FirstNormRefIdeal.main_arg3) = m' ((c.tc : Thread Cert.FirstNormRefIdeal.nD Cert.FirstNormRefIdeal.τ).loc Cert.FirstNormRefIdeal.main_arg3)
          ∧ r.2.mem ((c.tc : Thread Cert.FirstNormRefIdeal.nD Cert.FirstNormRefIdeal.τ).loc Cert.FirstNormRefIdeal.main_arg4) = m' ((c.tc : Thread Cert.FirstNormRefIdeal.nD Cert.FirstNormRefIdeal.τ).loc Cert.FirstNormRefIdeal.main_arg4))

def preserves_MixerForward_MixerForwardIdeal : Prop :=
  True

def algebraic_MixerForwardIdeal_MixerForwardRefIdeal [hMixerForwardIdeal : Cert.MixerForwardIdeal.Facts] [hMixerForwardRefIdeal : Cert.MixerForwardRefIdeal.Facts] : Prop :=
  ∀ (m : (ℓ : Loc Cert.MixerForwardIdeal.nD Cert.MixerForwardIdeal.τ Cert.MixerForwardIdeal.sig) → Buf (Elt Ideal) ℓ) (g : Dev Cert.MixerForwardIdeal.nD → PrngReg)
    (m' : (ℓ : Loc Cert.MixerForwardRefIdeal.nD Cert.MixerForwardRefIdeal.τ Cert.MixerForwardRefIdeal.sig) → Buf (Elt Ideal) ℓ) (g' : Dev Cert.MixerForwardRefIdeal.nD → PrngReg), Pre_MixerForwardIdeal m →
    (∀ c : Dev Cert.MixerForwardIdeal.nD,
      m' ((c.tc : Thread Cert.MixerForwardRefIdeal.nD Cert.MixerForwardRefIdeal.τ).loc Cert.MixerForwardRefIdeal.main_arg0) = m ((c.tc : Thread Cert.MixerForwardIdeal.nD Cert.MixerForwardIdeal.τ).loc Cert.MixerForwardIdeal.main_arg0)
      ∧ m' ((c.tc : Thread Cert.MixerForwardRefIdeal.nD Cert.MixerForwardRefIdeal.τ).loc Cert.MixerForwardRefIdeal.main_arg1) = m ((c.tc : Thread Cert.MixerForwardIdeal.nD Cert.MixerForwardIdeal.τ).loc Cert.MixerForwardIdeal.main_arg1)) →
    ∃ (v0 : (c : Dev Cert.MixerForwardIdeal.nD) → Buf (Elt Ideal) ((c.tc : Thread Cert.MixerForwardIdeal.nD Cert.MixerForwardIdeal.τ).loc Cert.MixerForwardIdeal.main_v0)),
      θ_run (Cert.MixerForwardIdeal.defs (F := Ideal)) (onTc (τ := Cert.MixerForwardIdeal.τ) (Cert.MixerForwardIdeal.main (F := Ideal))) ⟨m, fun _ => 0, g⟩ (fun r => ∀ c : Dev Cert.MixerForwardIdeal.nD,
          r.2.mem ((c.tc : Thread Cert.MixerForwardIdeal.nD Cert.MixerForwardIdeal.τ).loc Cert.MixerForwardIdeal.main_v0) = v0 c
          ∧ r.2.mem ((c.tc : Thread Cert.MixerForwardIdeal.nD Cert.MixerForwardIdeal.τ).loc Cert.MixerForwardIdeal.main_arg0) = m ((c.tc : Thread Cert.MixerForwardIdeal.nD Cert.MixerForwardIdeal.τ).loc Cert.MixerForwardIdeal.main_arg0)
          ∧ r.2.mem ((c.tc : Thread Cert.MixerForwardIdeal.nD Cert.MixerForwardIdeal.τ).loc Cert.MixerForwardIdeal.main_arg1) = m ((c.tc : Thread Cert.MixerForwardIdeal.nD Cert.MixerForwardIdeal.τ).loc Cert.MixerForwardIdeal.main_arg1))
      ∧ θ_run (Cert.MixerForwardRefIdeal.defs (F := Ideal)) (onTc (τ := Cert.MixerForwardRefIdeal.τ) (Cert.MixerForwardRefIdeal.main (F := Ideal))) ⟨m', fun _ => 0, g'⟩ (fun r => ∀ c : Dev Cert.MixerForwardRefIdeal.nD,
          r.2.mem ((c.tc : Thread Cert.MixerForwardRefIdeal.nD Cert.MixerForwardRefIdeal.τ).loc Cert.MixerForwardRefIdeal.main_v25) = v0 c
          ∧ r.2.mem ((c.tc : Thread Cert.MixerForwardRefIdeal.nD Cert.MixerForwardRefIdeal.τ).loc Cert.MixerForwardRefIdeal.main_arg0) = m' ((c.tc : Thread Cert.MixerForwardRefIdeal.nD Cert.MixerForwardRefIdeal.τ).loc Cert.MixerForwardRefIdeal.main_arg0)
          ∧ r.2.mem ((c.tc : Thread Cert.MixerForwardRefIdeal.nD Cert.MixerForwardRefIdeal.τ).loc Cert.MixerForwardRefIdeal.main_arg1) = m' ((c.tc : Thread Cert.MixerForwardRefIdeal.nD Cert.MixerForwardRefIdeal.τ).loc Cert.MixerForwardRefIdeal.main_arg1))

def preserves_Projections_ProjectionsIdeal : Prop :=
  True

def algebraic_ProjectionsIdeal_ProjectionsRefIdeal [hProjectionsIdeal : Cert.ProjectionsIdeal.Facts] [hProjectionsRefIdeal : Cert.ProjectionsRefIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsRefIdeal.nD Cert.ProjectionsRefIdeal.τ Cert.ProjectionsRefIdeal.sig) → Buf (Elt Ideal) ℓ) (g' : Dev Cert.ProjectionsRefIdeal.nD → PrngReg), Pre_ProjectionsIdeal m →
    (∀ c : Dev Cert.ProjectionsIdeal.nD,
      m' ((c.tc : Thread Cert.ProjectionsRefIdeal.nD Cert.ProjectionsRefIdeal.τ).loc Cert.ProjectionsRefIdeal.main_arg0) = m ((c.tc : Thread Cert.ProjectionsIdeal.nD Cert.ProjectionsIdeal.τ).loc Cert.ProjectionsIdeal.main_arg0)
      ∧ m' ((c.tc : Thread Cert.ProjectionsRefIdeal.nD Cert.ProjectionsRefIdeal.τ).loc Cert.ProjectionsRefIdeal.main_arg1) = m ((c.tc : Thread Cert.ProjectionsIdeal.nD Cert.ProjectionsIdeal.τ).loc Cert.ProjectionsIdeal.main_arg1)
      ∧ m' ((c.tc : Thread Cert.ProjectionsRefIdeal.nD Cert.ProjectionsRefIdeal.τ).loc Cert.ProjectionsRefIdeal.main_arg2) = m ((c.tc : Thread Cert.ProjectionsIdeal.nD Cert.ProjectionsIdeal.τ).loc Cert.ProjectionsIdeal.main_arg2)
      ∧ m' ((c.tc : Thread Cert.ProjectionsRefIdeal.nD Cert.ProjectionsRefIdeal.τ).loc Cert.ProjectionsRefIdeal.main_arg3) = m ((c.tc : Thread Cert.ProjectionsIdeal.nD Cert.ProjectionsIdeal.τ).loc Cert.ProjectionsIdeal.main_arg3)
      ∧ m' ((c.tc : Thread Cert.ProjectionsRefIdeal.nD Cert.ProjectionsRefIdeal.τ).loc Cert.ProjectionsRefIdeal.main_arg4) = m ((c.tc : Thread Cert.ProjectionsIdeal.nD Cert.ProjectionsIdeal.τ).loc Cert.ProjectionsIdeal.main_arg4)) →
    ∃ (v0 : (c : Dev Cert.ProjectionsIdeal.nD) → Buf (Elt Ideal) ((c.tc : Thread Cert.ProjectionsIdeal.nD Cert.ProjectionsIdeal.τ).loc Cert.ProjectionsIdeal.main_v0_0)) (v1 : (c : Dev Cert.ProjectionsIdeal.nD) → Buf (Elt Ideal) ((c.tc : Thread Cert.ProjectionsIdeal.nD Cert.ProjectionsIdeal.τ).loc Cert.ProjectionsIdeal.main_v0_1)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v0_0) = v0 c
          ∧ r.2.mem ((c.tc : Thread Cert.ProjectionsIdeal.nD Cert.ProjectionsIdeal.τ).loc Cert.ProjectionsIdeal.main_v0_1) = v1 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4))
      ∧ θ_run (Cert.ProjectionsRefIdeal.defs (F := Ideal)) (onTc (τ := Cert.ProjectionsRefIdeal.τ) (Cert.ProjectionsRefIdeal.main (F := Ideal))) ⟨m', fun _ => 0, g'⟩ (fun r => ∀ c : Dev Cert.ProjectionsRefIdeal.nD,
          r.2.mem ((c.tc : Thread Cert.ProjectionsRefIdeal.nD Cert.ProjectionsRefIdeal.τ).loc Cert.ProjectionsRefIdeal.main_v14) = v0 c
          ∧ r.2.mem ((c.tc : Thread Cert.ProjectionsRefIdeal.nD Cert.ProjectionsRefIdeal.τ).loc Cert.ProjectionsRefIdeal.main_v29) = v1 c
          ∧ r.2.mem ((c.tc : Thread Cert.ProjectionsRefIdeal.nD Cert.ProjectionsRefIdeal.τ).loc Cert.ProjectionsRefIdeal.main_arg0) = m' ((c.tc : Thread Cert.ProjectionsRefIdeal.nD Cert.ProjectionsRefIdeal.τ).loc Cert.ProjectionsRefIdeal.main_arg0)
          ∧ r.2.mem ((c.tc : Thread Cert.ProjectionsRefIdeal.nD Cert.ProjectionsRefIdeal.τ).loc Cert.ProjectionsRefIdeal.main_arg1) = m' ((c.tc : Thread Cert.ProjectionsRefIdeal.nD Cert.ProjectionsRefIdeal.τ).loc Cert.ProjectionsRefIdeal.main_arg1)
          ∧ r.2.mem ((c.tc : Thread Cert.ProjectionsRefIdeal.nD Cert.ProjectionsRefIdeal.τ).loc Cert.ProjectionsRefIdeal.main_arg2) = m' ((c.tc : Thread Cert.ProjectionsRefIdeal.nD Cert.ProjectionsRefIdeal.τ).loc Cert.ProjectionsRefIdeal.main_arg2)
          ∧ r.2.mem ((c.tc : Thread Cert.ProjectionsRefIdeal.nD Cert.ProjectionsRefIdeal.τ).loc Cert.ProjectionsRefIdeal.main_arg3) = m' ((c.tc : Thread Cert.ProjectionsRefIdeal.nD Cert.ProjectionsRefIdeal.τ).loc Cert.ProjectionsRefIdeal.main_arg3)
          ∧ r.2.mem ((c.tc : Thread Cert.ProjectionsRefIdeal.nD Cert.ProjectionsRefIdeal.τ).loc Cert.ProjectionsRefIdeal.main_arg4) = m' ((c.tc : Thread Cert.ProjectionsRefIdeal.nD Cert.ProjectionsRefIdeal.τ).loc Cert.ProjectionsRefIdeal.main_arg4))

def preserves_AttentionForward_AttentionForwardIdeal : Prop :=
  IdealRules.named_const.Statement Cert.AttentionForwardIdeal.κ "exit" .f32 0xC2D00000#32 ⊥

def algebraic_AttentionForwardIdeal_AttentionForwardRefIdeal_pre_attention_forward_finite [hAttentionForwardIdeal : Cert.AttentionForwardIdeal.Facts] [hAttentionForwardRefIdeal : Cert.AttentionForwardRefIdeal.Facts] [hPre_attention_forward_finite : Cert.Pre_attention_forward_finite.Facts] : Prop :=
  ∀ (m : (ℓ : Loc Cert.AttentionForwardIdeal.nD Cert.AttentionForwardIdeal.τ Cert.AttentionForwardIdeal.sig) → Buf (Elt Ideal) ℓ) (g : Dev Cert.AttentionForwardIdeal.nD → PrngReg)
    (m' : (ℓ : Loc Cert.AttentionForwardRefIdeal.nD Cert.AttentionForwardRefIdeal.τ Cert.AttentionForwardRefIdeal.sig) → Buf (Elt Ideal) ℓ) (g' : Dev Cert.AttentionForwardRefIdeal.nD → PrngReg), Pre_AttentionForwardIdeal_attention_forward_finite m →
    (∀ c : Dev Cert.AttentionForwardIdeal.nD,
      m' ((c.tc : Thread Cert.AttentionForwardRefIdeal.nD Cert.AttentionForwardRefIdeal.τ).loc Cert.AttentionForwardRefIdeal.main_arg0) = m ((c.tc : Thread Cert.AttentionForwardIdeal.nD Cert.AttentionForwardIdeal.τ).loc Cert.AttentionForwardIdeal.main_arg0)
      ∧ m' ((c.tc : Thread Cert.AttentionForwardRefIdeal.nD Cert.AttentionForwardRefIdeal.τ).loc Cert.AttentionForwardRefIdeal.main_arg1) = m ((c.tc : Thread Cert.AttentionForwardIdeal.nD Cert.AttentionForwardIdeal.τ).loc Cert.AttentionForwardIdeal.main_arg1)
      ∧ m' ((c.tc : Thread Cert.AttentionForwardRefIdeal.nD Cert.AttentionForwardRefIdeal.τ).loc Cert.AttentionForwardRefIdeal.main_arg2) = m ((c.tc : Thread Cert.AttentionForwardIdeal.nD Cert.AttentionForwardIdeal.τ).loc Cert.AttentionForwardIdeal.main_arg2)) →
    ∃ (v0 : (c : Dev Cert.AttentionForwardIdeal.nD) → Buf (Elt Ideal) ((c.tc : Thread Cert.AttentionForwardIdeal.nD Cert.AttentionForwardIdeal.τ).loc Cert.AttentionForwardIdeal.main_v4_0)),
      θ_run (Cert.AttentionForwardIdeal.defs (F := Ideal)) (onTc (τ := Cert.AttentionForwardIdeal.τ) (Cert.AttentionForwardIdeal.main (F := Ideal))) ⟨m, fun _ => 0, g⟩ (fun r => ∀ c : Dev Cert.AttentionForwardIdeal.nD,
          r.2.mem ((c.tc : Thread Cert.AttentionForwardIdeal.nD Cert.AttentionForwardIdeal.τ).loc Cert.AttentionForwardIdeal.main_v4_0) = v0 c
          ∧ r.2.mem ((c.tc : Thread Cert.AttentionForwardIdeal.nD Cert.AttentionForwardIdeal.τ).loc Cert.AttentionForwardIdeal.main_arg0) = m ((c.tc : Thread Cert.AttentionForwardIdeal.nD Cert.AttentionForwardIdeal.τ).loc Cert.AttentionForwardIdeal.main_arg0)
          ∧ r.2.mem ((c.tc : Thread Cert.AttentionForwardIdeal.nD Cert.AttentionForwardIdeal.τ).loc Cert.AttentionForwardIdeal.main_arg1) = m ((c.tc : Thread Cert.AttentionForwardIdeal.nD Cert.AttentionForwardIdeal.τ).loc Cert.AttentionForwardIdeal.main_arg1)
          ∧ r.2.mem ((c.tc : Thread Cert.AttentionForwardIdeal.nD Cert.AttentionForwardIdeal.τ).loc Cert.AttentionForwardIdeal.main_arg2) = m ((c.tc : Thread Cert.AttentionForwardIdeal.nD Cert.AttentionForwardIdeal.τ).loc Cert.AttentionForwardIdeal.main_arg2))
      ∧ θ_run (Cert.AttentionForwardRefIdeal.defs (F := Ideal)) (onTc (τ := Cert.AttentionForwardRefIdeal.τ) (Cert.AttentionForwardRefIdeal.main (F := Ideal))) ⟨m', fun _ => 0, g'⟩ (fun r => ∀ c : Dev Cert.AttentionForwardRefIdeal.nD,
          r.2.mem ((c.tc : Thread Cert.AttentionForwardRefIdeal.nD Cert.AttentionForwardRefIdeal.τ).loc Cert.AttentionForwardRefIdeal.main_v30) = v0 c
          ∧ r.2.mem ((c.tc : Thread Cert.AttentionForwardRefIdeal.nD Cert.AttentionForwardRefIdeal.τ).loc Cert.AttentionForwardRefIdeal.main_arg0) = m' ((c.tc : Thread Cert.AttentionForwardRefIdeal.nD Cert.AttentionForwardRefIdeal.τ).loc Cert.AttentionForwardRefIdeal.main_arg0)
          ∧ r.2.mem ((c.tc : Thread Cert.AttentionForwardRefIdeal.nD Cert.AttentionForwardRefIdeal.τ).loc Cert.AttentionForwardRefIdeal.main_arg1) = m' ((c.tc : Thread Cert.AttentionForwardRefIdeal.nD Cert.AttentionForwardRefIdeal.τ).loc Cert.AttentionForwardRefIdeal.main_arg1)
          ∧ r.2.mem ((c.tc : Thread Cert.AttentionForwardRefIdeal.nD Cert.AttentionForwardRefIdeal.τ).loc Cert.AttentionForwardRefIdeal.main_arg2) = m' ((c.tc : Thread Cert.AttentionForwardRefIdeal.nD Cert.AttentionForwardRefIdeal.τ).loc Cert.AttentionForwardRefIdeal.main_arg2))

def Claim : Prop :=
  ∃ (hMixer : Cert.Mixer.Facts) (hMixerIdeal : Cert.MixerIdeal.Facts) (hMixerRefIdeal : Cert.MixerRefIdeal.Facts) (hAttention : Cert.Attention.Facts) (hAttentionIdeal : Cert.AttentionIdeal.Facts) (hAttentionRefIdeal : Cert.AttentionRefIdeal.Facts) (hGate : Cert.Gate.Facts) (hGateIdeal : Cert.GateIdeal.Facts) (hGateRefIdeal : Cert.GateRefIdeal.Facts) (hLoss : Cert.Loss.Facts) (hLossIdeal : Cert.LossIdeal.Facts) (hLossRefIdeal : Cert.LossRefIdeal.Facts) (hNorms : Cert.Norms.Facts) (hNormsIdeal : Cert.NormsIdeal.Facts) (hNormsRefIdeal : Cert.NormsRefIdeal.Facts) (hWeight : Cert.Weight.Facts) (hWeightIdeal : Cert.WeightIdeal.Facts) (hWeightRefIdeal : Cert.WeightRefIdeal.Facts) (hFirstNorm : Cert.FirstNorm.Facts) (hFirstNormIdeal : Cert.FirstNormIdeal.Facts) (hFirstNormRefIdeal : Cert.FirstNormRefIdeal.Facts) (hMixerForward : Cert.MixerForward.Facts) (hMixerForwardIdeal : Cert.MixerForwardIdeal.Facts) (hMixerForwardRefIdeal : Cert.MixerForwardRefIdeal.Facts) (hProjections : Cert.Projections.Facts) (hProjectionsIdeal : Cert.ProjectionsIdeal.Facts) (hProjectionsRefIdeal : Cert.ProjectionsRefIdeal.Facts) (hAttentionForward : Cert.AttentionForward.Facts) (hAttentionForwardIdeal : Cert.AttentionForwardIdeal.Facts) (hAttentionForwardRefIdeal : Cert.AttentionForwardRefIdeal.Facts) (hPre_mixer_finite : Cert.Pre_mixer_finite.Facts) (hPre_attention_finite : Cert.Pre_attention_finite.Facts) (hPre_gate_finite : Cert.Pre_gate_finite.Facts) (hPre_norms_finite : Cert.Pre_norms_finite.Facts) (hPre_attention_forward_finite : Cert.Pre_attention_forward_finite.Facts),
    quiescent_Mixer (hMixer := hMixer)
    ∧ quiescent_MixerIdeal (hMixerIdeal := hMixerIdeal)
    ∧ quiescent_MixerIdeal_pre_mixer_finite (hMixerIdeal := hMixerIdeal) (hPre_mixer_finite := hPre_mixer_finite)
    ∧ quiescent_MixerRefIdeal (hMixerRefIdeal := hMixerRefIdeal)
    ∧ quiescent_MixerRefIdeal_pre_mixer_finite (hMixerRefIdeal := hMixerRefIdeal) (hPre_mixer_finite := hPre_mixer_finite)
    ∧ quiescent_Attention (hAttention := hAttention)
    ∧ quiescent_AttentionIdeal (hAttentionIdeal := hAttentionIdeal)
    ∧ quiescent_AttentionIdeal_pre_attention_finite (hAttentionIdeal := hAttentionIdeal) (hPre_attention_finite := hPre_attention_finite)
    ∧ quiescent_AttentionRefIdeal (hAttentionRefIdeal := hAttentionRefIdeal)
    ∧ quiescent_AttentionRefIdeal_pre_attention_finite (hAttentionRefIdeal := hAttentionRefIdeal) (hPre_attention_finite := hPre_attention_finite)
    ∧ quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_Loss (hLoss := hLoss)
    ∧ quiescent_LossIdeal (hLossIdeal := hLossIdeal)
    ∧ quiescent_LossRefIdeal (hLossRefIdeal := hLossRefIdeal)
    ∧ quiescent_Norms (hNorms := hNorms)
    ∧ quiescent_NormsIdeal (hNormsIdeal := hNormsIdeal)
    ∧ quiescent_NormsIdeal_pre_norms_finite (hNormsIdeal := hNormsIdeal) (hPre_norms_finite := hPre_norms_finite)
    ∧ quiescent_NormsRefIdeal (hNormsRefIdeal := hNormsRefIdeal)
    ∧ quiescent_NormsRefIdeal_pre_norms_finite (hNormsRefIdeal := hNormsRefIdeal) (hPre_norms_finite := hPre_norms_finite)
    ∧ quiescent_Weight (hWeight := hWeight)
    ∧ quiescent_WeightIdeal (hWeightIdeal := hWeightIdeal)
    ∧ quiescent_WeightRefIdeal (hWeightRefIdeal := hWeightRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_MixerForward (hMixerForward := hMixerForward)
    ∧ quiescent_MixerForwardIdeal (hMixerForwardIdeal := hMixerForwardIdeal)
    ∧ quiescent_MixerForwardRefIdeal (hMixerForwardRefIdeal := hMixerForwardRefIdeal)
    ∧ quiescent_Projections (hProjections := hProjections)
    ∧ quiescent_ProjectionsIdeal (hProjectionsIdeal := hProjectionsIdeal)
    ∧ quiescent_ProjectionsRefIdeal (hProjectionsRefIdeal := hProjectionsRefIdeal)
    ∧ quiescent_AttentionForward (hAttentionForward := hAttentionForward)
    ∧ quiescent_AttentionForwardIdeal (hAttentionForwardIdeal := hAttentionForwardIdeal)
    ∧ quiescent_AttentionForwardIdeal_pre_attention_forward_finite (hAttentionForwardIdeal := hAttentionForwardIdeal) (hPre_attention_forward_finite := hPre_attention_forward_finite)
    ∧ quiescent_AttentionForwardRefIdeal (hAttentionForwardRefIdeal := hAttentionForwardRefIdeal)
    ∧ quiescent_AttentionForwardRefIdeal_pre_attention_forward_finite (hAttentionForwardRefIdeal := hAttentionForwardRefIdeal) (hPre_attention_forward_finite := hPre_attention_forward_finite)
    ∧ preserves_Mixer_MixerIdeal
    ∧ algebraic_MixerIdeal_MixerRefIdeal_pre_mixer_finite (hMixerIdeal := hMixerIdeal) (hMixerRefIdeal := hMixerRefIdeal) (hPre_mixer_finite := hPre_mixer_finite)
    ∧ preserves_Attention_AttentionIdeal
    ∧ algebraic_AttentionIdeal_AttentionRefIdeal_pre_attention_finite (hAttentionIdeal := hAttentionIdeal) (hAttentionRefIdeal := hAttentionRefIdeal) (hPre_attention_finite := hPre_attention_finite)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_Loss_LossIdeal
    ∧ algebraic_LossIdeal_LossRefIdeal (hLossIdeal := hLossIdeal) (hLossRefIdeal := hLossRefIdeal)
    ∧ preserves_Norms_NormsIdeal
    ∧ algebraic_NormsIdeal_NormsRefIdeal_pre_norms_finite (hNormsIdeal := hNormsIdeal) (hNormsRefIdeal := hNormsRefIdeal) (hPre_norms_finite := hPre_norms_finite)
    ∧ preserves_Weight_WeightIdeal
    ∧ algebraic_WeightIdeal_WeightRefIdeal (hWeightIdeal := hWeightIdeal) (hWeightRefIdeal := hWeightRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_MixerForward_MixerForwardIdeal
    ∧ algebraic_MixerForwardIdeal_MixerForwardRefIdeal (hMixerForwardIdeal := hMixerForwardIdeal) (hMixerForwardRefIdeal := hMixerForwardRefIdeal)
    ∧ preserves_Projections_ProjectionsIdeal
    ∧ algebraic_ProjectionsIdeal_ProjectionsRefIdeal (hProjectionsIdeal := hProjectionsIdeal) (hProjectionsRefIdeal := hProjectionsRefIdeal)
    ∧ preserves_AttentionForward_AttentionForwardIdeal
    ∧ algebraic_AttentionForwardIdeal_AttentionForwardRefIdeal_pre_attention_forward_finite (hAttentionForwardIdeal := hAttentionForwardIdeal) (hAttentionForwardRefIdeal := hAttentionForwardRefIdeal) (hPre_attention_forward_finite := hPre_attention_forward_finite)
-- ==== Pre_attention_finite.lean ====
abbrev S16384x1024 : Shape := ⟨2, ![16384, 1024]⟩
abbrev S16384x512 : Shape := ⟨2, ![16384, 512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x1024 .bf16) (main_arg1 : FVec F S16384x1024 .bf16) (main_arg2 : FVec F S16384x512 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S16384x512 .f32 := Host.absf main_arg2
  let main_cst_2 : FVec F S_ .f32 := constant S_ .f32 0x7F800000#32
  let main_v12 : FVec F S16384x512 .f32 := broadcastInDim S16384x512 ![] bcast_S_S16384x512 main_cst_2
  let main_v13 : IVec S16384x512 1 := cmpf .olt main_v11 main_v12
  let main_c_3 : IVec S_ 1 := constantI S_ 1 1#1
  let main_v14 : IVec S_ 1 := (fun x v => Host.reduce IntOp.andi x v reducesTo_S16384x512_S_d0_1 h_S_) main_v13 main_c_3
  let main_v15 : IVec S_ 1 := andi main_v10 main_v14
  main_v15
-- ==== Pre_attention_forward_finite.lean ====
abbrev S16384x1024 : Shape := ⟨2, ![16384, 1024]⟩
abbrev S512 : Shape := ⟨1, ![512]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S16384x1024 .bf16) (main_arg1 : FVec F S16384x1024 .bf16) (main_arg2 : FVec F S512 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  let main_v11 : FVec F S512 .f32 := Host.absf main_arg2
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  let main_c_3 : IVec S_ 1 := constantI S_ 1 1#1
  let main_v14 : IVec S_ 1 := (fun x v => Host.reduce IntOp.andi x v reducesTo_S512_S_d0 h_S_) main_v13 main_c_3
  let main_v15 : IVec S_ 1 := andi main_v10 main_v14
  main_v15
-- ==== Pre_gate_finite.lean ====
abbrev S16384x1024 : Shape := ⟨2, ![16384, 1024]⟩
abbrev S512x1024 : Shape := ⟨2, ![512, 1024]⟩
abbrev S16384x512 : Shape := ⟨2, ![16384, 512]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S512x1024 : S_.BroadcastsInDim S512x1024 (![] : Fin 0 → Fin S512x1024.rank)
  reducesTo_S512x1024_S_d0_1 : S512x1024.ReducesTo [0, 1] S_
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x1024 .f32) (main_arg1 : FVec F S512x1024 .bf16) (main_arg2 : FVec F S16384x512 .f32) (main_arg3 : FVec F S16384x1024 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S512x1024 .f32 := (extf .f32 · bitsLt_bf16_f32) main_arg1
  let main_v5 : FVec F S512x1024 .f32 := Host.absf main_v4
  let main_cst_0 : FVec F S_ .f32 := constant S_ .f32 0x7F800000#32
  let main_v6 : FVec F S512x1024 .f32 := broadcastInDim S512x1024 ![] bcast_S_S512x1024 main_cst_0
  let main_v7 : IVec S512x1024 1 := cmpf .olt main_v5 main_v6
  let main_c_1 : IVec S_ 1 := constantI S_ 1 1#1
  let main_v8 : IVec S_ 1 := (fun x v => Host.reduce IntOp.andi x v reducesTo_S512x1024_S_d0_1 h_S_) main_v7 main_c_1
  let main_v9 : IVec S_ 1 := andi main_v3 main_v8
  let main_v10 : FVec F S16384x512 .f32 := Host.absf main_arg2
  let main_cst_2 : FVec F S_ .f32 := constant S_ .f32 0x7F800000#32
  let main_v11 : FVec F S16384x512 .f32 := broadcastInDim S16384x512 ![] bcast_S_S16384x512 main_cst_2
  let main_v12 : IVec S16384x512 1 := cmpf .olt main_v10 main_v11
  let main_c_3 : IVec S_ 1 := constantI S_ 1 1#1
  let main_v13 : IVec S_ 1 := (fun x v => Host.reduce IntOp.andi x v reducesTo_S16384x512_S_d0_1 h_S_) main_v12 main_c_3
  let main_v14 : IVec S_ 1 := andi main_v9 main_v13
  main_v14
-- ==== Pre_mixer_finite.lean ====
abbrev S16384x4096 : Shape := ⟨2, ![16384, 4096]⟩
abbrev S16384x1024 : Shape := ⟨2, ![16384, 1024]⟩
abbrev S3x1024 : Shape := ⟨2, ![3, 1024]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S3x1024 : S_.BroadcastsInDim S3x1024 (![] : Fin 0 → Fin S3x1024.rank)
  reducesTo_S3x1024_S_d0_1 : S3x1024.ReducesTo [0, 1] S_

variable [Facts]

def fn {F : FTy → Type} [FloatOps F] (main_arg0 : FVec F S16384x4096 .bf16) (main_arg1 : FVec F S16384x1024 .f32) (main_arg2 : FVec F S3x1024 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384x1024 .f32 := Host.absf main_arg1
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v4 main_v8
  let main_v10 : FVec F S3x1024 .f32 := Host.absf main_arg2
  let main_cst_2 : FVec F S_ .f32 := constant S_ .f32 0x7F800000#32
  let main_v11 : FVec F S3x1024 .f32 := broadcastInDim S3x1024 ![] bcast_S_S3x1024 main_cst_2
  let main_v12 : IVec S3x1024 1 := cmpf .olt main_v10 main_v11
  let main_c_3 : IVec S_ 1 := constantI S_ 1 1#1
  let main_v13 : IVec S_ 1 := (fun x v => Host.reduce IntOp.andi x v reducesTo_S3x1024_S_d0_1 h_S_) main_v12 main_c_3
  let main_v14 : IVec S_ 1 := andi main_v9 main_v13
  main_v14
-- ==== Pre_norms_finite.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16384x1024 .f32) (main_arg1 : FVec F S16384x1024 .bf16) (main_arg2 : FVec F S16384x1024 .f32) (main_arg3 : FVec F S1024x1024 .bf16) (main_arg4 : FVec F S1024x1024 .bf16) (main_arg5 : FVec F S1x1024 .f32) (main_arg6 : FVec F S1x1024 .f32) (main_arg7 : FVec F S16384x1024 .f32) : IVec S_ 1 :=
  let main_v0 : FVec F S16384x1024 .f32 := Host.absf main_arg2
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := (extf .f32 · bitsLt_bf16_f32) main_arg4
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S1x1024 .f32 := Host.absf main_arg6
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  main_v14
-- ==== Mixer.lean ====
abbrev S16384x4096 : Shape := ⟨2, ![16384, 4096]⟩
abbrev S16384x1024 : Shape := ⟨2, ![16384, 1024]⟩
abbrev S3x1024 : Shape := ⟨2, ![3, 1024]⟩
abbrev S8x1024 : Shape := ⟨2, ![8, 1024]⟩
abbrev S512x1024 : Shape := ⟨2, ![512, 1024]⟩
abbrev S16x1024 : Shape := ⟨2, ![16, 1024]⟩
abbrev S512x4096 : Shape := ⟨2, ![512, 4096]⟩
abbrev S1x1024 : Shape := ⟨2, ![1, 1024]⟩
abbrev S1024 : Shape := ⟨1, ![1024]⟩

abbrev nBuf : Space → Nat
  | .hbm => 5
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S3x1024, .f32⟩
  | .hbm, ⟨3, _⟩ => ⟨S16384x4096, .bf16⟩
  | .hbm, ⟨4, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S16x1024, .f32⟩
  | .local _ .vmem, ⟨19, _⟩ => ⟨S16x1024, .f32⟩
  | .local _ .vmem, ⟨20, _⟩ => ⟨S3x1024, .f32⟩
  | .local _ .vmem, ⟨21, _⟩ => ⟨S512x4096, .bf16⟩
  | .local _ .vmem, ⟨22, _⟩ => ⟨S512x4096, .bf16⟩
  | .local _ .vmem, ⟨23, _⟩ => ⟨S8x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c3_i32 : BitVec 32 := 3#32
  let c0_i32 : BitVec 32 := 0#32
  ![v2.toNat, c3_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixerRefIdeal.lean ====
abbrev S16384x4096 : Shape := ⟨2, ![16384, 4096]⟩
abbrev S16384x1024 : Shape := ⟨2, ![16384, 1024]⟩
abbrev S3x1024 : Shape := ⟨2, ![3, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .f32⟩
  | .hbm, ⟨2, _⟩ => ⟨S3x1024, .f32⟩
  | .hbm, ⟨3, _⟩ => ⟨S16384x4096, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S2x1024, .f32⟩
  | .hbm, ⟨11, _⟩ => ⟨S16386x1024, .f32⟩
  | .hbm, ⟨12, _⟩ => ⟨S_, .f32⟩
  | .hbm, ⟨13, _⟩ => ⟨S2x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S16386x1024, .f32⟩
  | .hbm, ⟨59, _⟩ => ⟨S_, .f32⟩
  | .hbm, ⟨60, _⟩ => ⟨S3x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S16386x1024, .f32⟩
  | .hbm, ⟨69, _⟩ => ⟨S16386x1024, .f32⟩
  | .hbm, ⟨70, _⟩ => ⟨S_, .f32⟩
  | .hbm, ⟨71, _⟩ => ⟨S3x1024, .f32⟩
  | .hbm, ⟨72, _⟩ => ⟨S3x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S_, .f32⟩
  | .hbm, ⟨80, _⟩ => ⟨S16386x1024, .f32⟩
  | .hbm, ⟨81, _⟩ => ⟨S16386x1024, .f32⟩
  | .hbm, ⟨82, _⟩ => ⟨S_, .f32⟩
  | .hbm, ⟨83, _⟩ => ⟨S3x1024, .f32⟩
  | .hbm, ⟨84, _⟩ => ⟨S3x1024, .f32⟩
  | .hbm, ⟨85, _⟩ => ⟨S2x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x4096, .f32⟩
  | .hbm, ⟨90, _⟩ => ⟨S16384x4096, .bf16⟩
  | .hbm, ⟨91, _⟩ => ⟨S_, .i32⟩
  | .hbm, ⟨92, _⟩ => ⟨S_, .f32⟩
  | .hbm, ⟨93, _⟩ => ⟨S8x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v24_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v24_1 : Ref sig .tc := ⟨.hbm, 40, rfl⟩
abbrev main_v24_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c : Ref sig .tc := ⟨.hbm, 91, rfl⟩
abbrev main_call2_v0 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Attention.lean ====
abbrev S16384x1024 : Shape := ⟨2, ![16384, 1024]⟩
abbrev S16384x512 : Shape := ⟨2, ![16384, 512]⟩
abbrev S_ : Shape := ⟨0, ![]⟩
abbrev S128 : Shape := ⟨1, ![128]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384x64x256 : Shape := ⟨4, ![8, 16384, 64, 256]⟩
abbrev S8x16384x63 : Shape := ⟨3, ![8, 16384, 63]⟩
abbrev S8x16384x1 : Shape := ⟨3, ![8, 16384, 1]⟩
abbrev S2x4x16384x64 : Shape := ⟨4, ![2, 4, 16384, 64]⟩
abbrev S256x256 : Shape := ⟨2, ![256, 256]⟩
abbrev S1x4x256x64 : Shape := ⟨4, ![1, 4, 256, 64]⟩
abbrev S16384x256 : Shape := ⟨2, ![16384, 256]⟩
abbrev S2 : Shape := ⟨1, ![2]⟩
abbrev S1 : Shape := ⟨1, ![1]⟩
abbrev S256x64 : Shape := ⟨2, ![256, 64]⟩
abbrev S256x1 : Shape := ⟨2, ![256, 1]⟩
abbrev S1x1x256x64 : Shape := ⟨4, ![1, 1, 256, 64]⟩
abbrev S256 : Shape := ⟨1, ![256]⟩

abbrev nBuf : Space → Nat
  | .hbm => 58
  | .vmem => 14
  | .smem => 1
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .f32⟩
  | .hbm, ⟨3, _⟩ => ⟨S_, .i32⟩
  | .hbm, ⟨4, _⟩ => ⟨S16384x512, .bf16⟩
  | .hbm, ⟨5, _⟩ => ⟨S16384x512, .f32⟩
  | .hbm, ⟨6, _⟩ => ⟨S16384x8x64, .f32⟩
  | .hbm, ⟨7, _⟩ => ⟨S8x16384x64, .f32⟩
  | .hbm, ⟨8, _⟩ => ⟨S_, .f32⟩
  | .hbm, ⟨9, _⟩ => ⟨S8x16384x64, .f32⟩
  | .hbm, ⟨10, _⟩ => ⟨S8x16384x64, .f32⟩
  | .hbm, ⟨11, _⟩ => ⟨S16384x512, .bf16⟩
  | .hbm, ⟨12, _⟩ => ⟨S16384x512, .f32⟩
  | .hbm, ⟨13, _⟩ => ⟨S16384x8x64, .f32⟩
  | .hbm, ⟨14, _⟩ => ⟨S8x16384x64, .f32⟩
  | .hbm, ⟨15, _⟩ => ⟨S8x16384x16384, .f32⟩
  | .hbm, ⟨16, _⟩ => ⟨S16384, .i32⟩
  | .hbm, ⟨17, _⟩ => ⟨S1x16384, .i32⟩
  | .hbm, ⟨18, _⟩ => ⟨S16384, .i32⟩
  | .hbm, ⟨19, _⟩ => ⟨S16384x1, .i32⟩
  | .hbm, ⟨20, _⟩ => ⟨S16384x16384, .i32⟩
  | .hbm, ⟨21, _⟩ => ⟨S16384x16384, .i32⟩
  | .hbm, ⟨22, _⟩ => ⟨S16384x16384, .i1⟩
  | .hbm, ⟨23, _⟩ => ⟨S_, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384x16384, .f32⟩
  | .hbm, ⟨31, _⟩ => ⟨S8x16384x16384, .f32⟩
  | .hbm, ⟨32, _⟩ => ⟨S8x16384x16384, .f32⟩
  | .hbm, ⟨33, _⟩ => ⟨S8x16384x16384, .f32⟩
  | .hbm, ⟨34, _⟩ => ⟨S8x16384x16384, .f32⟩
  | .hbm, ⟨35, _⟩ => ⟨S_, .f32⟩
  | .hbm, ⟨36, _⟩ => ⟨S_, .f32⟩
  | .hbm, ⟨37, _⟩ => ⟨S8x16384x16384, .i1⟩
  | .hbm, ⟨38, _⟩ => ⟨S8x16384x16384, .f32⟩
  | .hbm, ⟨39, _⟩ => ⟨S8x16384x16384, .f32⟩
  | .hbm, ⟨40, _⟩ => ⟨S8x16384x64x256, .f32⟩
  | .hbm, ⟨41, _⟩ => ⟨S_, .f32⟩
  | .hbm, ⟨42, _⟩ => ⟨S8x16384x64, .f32⟩
  | .hbm, ⟨43, _⟩ => ⟨S8x16384x63, .f32⟩
  | .hbm, ⟨44, _⟩ => ⟨S_, .f32⟩
  | .hbm, ⟨45, _⟩ => ⟨S8x16384x1, .f32⟩
  | .hbm, ⟨46, _⟩ => ⟨S8x16384x64, .f32⟩
  | .hbm, ⟨47, _⟩ => ⟨S_, .f32⟩
  | .hbm, ⟨48, _⟩ => ⟨S_, .f32⟩
  | .hbm, ⟨49, _⟩ => ⟨S8x16384x64, .f32⟩
  | .hbm, ⟨50, _⟩ => ⟨S2x4x16384x64, .f32⟩
  | .hbm, ⟨51, _⟩ => ⟨S256x256, .i32⟩
  | .hbm, ⟨52, _⟩ => ⟨S256x256, .i32⟩
  | .hbm, ⟨53, _⟩ => ⟨S256x256, .i1⟩
  | .hbm, ⟨54, _⟩ => ⟨S256x256, .bf16⟩
  | .hbm, ⟨55, _⟩ => ⟨S256x256, .bf16⟩
  | .hbm, ⟨56, _⟩ => ⟨S16384x512, .bf16⟩
  | .hbm, ⟨57, _⟩ => ⟨S16384x1024, .f32⟩
  | .local _ .vmem, ⟨0, _⟩ => ⟨S256x256, .bf16⟩
  | .local _ .vmem, ⟨1, _⟩ => ⟨S256x256, .bf16⟩
  | .local _ .vmem, ⟨2, _⟩ => ⟨S1x4x256x64, .f32⟩
  | .local _ .vmem, ⟨3, _⟩ => ⟨S1x4x256x64, .f32⟩
  | .local _ .vmem, ⟨4, _⟩ => ⟨S256x256, .f32⟩
  | .local _ .vmem, ⟨5, _⟩ => ⟨S256x256, .f32⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S16384x256, .bf16⟩
  | .local _ .vmem, ⟨11, _⟩ => ⟨S16384x256, .bf16⟩
  | .local _ .vmem, ⟨12, _⟩ => ⟨S16384x256, .f32⟩
  | .local _ .vmem, ⟨13, _⟩ => ⟨S16384x256, .f32⟩
  | .local _ .smem, ⟨0, _⟩ => ⟨S128, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_call1_cst : Ref sig .tc := ⟨.hbm, 47, rfl⟩
abbrev main_call1_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 64], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v0 : BitVec 32 := Scalar.muli arg0 c64_i32
  let arg1 : BitVec 32 := BitVec.ofNat 32 (i 1).val
  let v1 : BitVec 32 := Scalar.addi v0 arg1
  let v2 : Index := Scalar.indexCast v1
  ![v2.toNat]
def k0_mult1 (i : grid0.Coords) : BitVec 32 :=
  let arg0 : BitVec 32 := BitVec.ofNat 32 (i 0).val
  let c256_i32 : BitVec 32 := 256#32
  let v6 : BitVec 32 := Scalar.muli arg0 c256_i32
  v6
def k0_mult2 (i : grid0.Coords) : BitVec 32 :=
  let c2_i32 : BitVec 32 := 2#32
  let arg0 : BitVec 32 := BitVec.ofNat 32 (i 0).val
  let v8 : BitVec 32 := Scalar.addi c2_i32 arg0
  let c256_i32_0 : BitVec 32 := 256#32
  let v9 : BitVec 32 := Scalar.muli v8 c256_i32_0
  v9
def k0_cond1 (i : grid0.Coords) : BitVec 1 :=
  let arg1 : BitVec 32 := BitVec.ofNat 32 (i 1).val
  let c0_i32_1 : BitVec 32 := 0#32
  let v11 : BitVec 1 := Scalar.cmpi .eq arg1 c0_i32_1
  let v12 : BitVec 32 := Scalar.extui v11
  let c0_i32_2 : BitVec 32 := 0#32
  let v13 : BitVec 1 := Scalar.cmpi .ne v12 c0_i32_2
  v13

def k0_off2 (i : grid0.Coords) : Fin 2 → Nat :=
  let c0_i32_88 : BitVec 32 := 0#32
  let arg0 : BitVec 32 := BitVec.ofNat 32 (i 0).val
  let c256_i32 : BitVec 32 := 256#32
  let v6 : BitVec 32 := Scalar.muli arg0 c256_i32
  let v7 : BitVec 32 := v6
  ![0, v7.toNat]
def k0_off3 (i : grid0.Coords) : Fin 2 → Nat :=
  let c0_i32_90 : BitVec 32 := 0#32
  let c2_i32 : BitVec 32 := 2#32
  let arg0 : BitVec 32 := BitVec.ofNat 32 (i 0).val
  let v8 : BitVec 32 := Scalar.addi c2_i32 arg0
  let c256_i32_0 : BitVec 32 := 256#32
  let v9 : BitVec 32 := Scalar.muli v8 c256_i32_0
  let v10 : BitVec 32 := v9
  ![0, v10.toNat]
@[reducible] def k0_t1_loop (i : grid0.Coords) (v3 : BitVec 32) : Scf.Loop 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let c1_i32_18 : BitVec 32 := 1#32
  ⟨v5, v47, c1_i32_18⟩

def k0_mult3 (i : grid0.Coords) (v3 : BitVec 32) (k0_t1 : Fin (k0_t1_loop i v3).trips) : BitVec 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32_18 : BitVec 32 := 1#32
  let arg16 : BitVec 32 := Scf.iv v5 c1_i32_18 k0_t1
  let c256_i32_87 : BitVec 32 := 256#32
  let v244 : BitVec 32 := Scalar.muli arg16 c256_i32_87
  v244
def k0_off4 (i : grid0.Coords) (v3 : BitVec 32) (k0_t1 : Fin (k0_t1_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let c1_i32_18 : BitVec 32 := 1#32
  let arg16 : BitVec 32 := Scf.iv v5 c1_i32_18 k0_t1
  let c256_i32_87 : BitVec 32 := 256#32
  let v244 : BitVec 32 := Scalar.muli arg16 c256_i32_87
  let v245 : BitVec 32 := v244
  let v246 : Index := Scalar.indexCast v245
  let c0_88 : Index := 0#32
  ![v246.toNat, 0]
@[reducible] def k0_t2_loop (i : grid0.Coords) (v3 : BitVec 32) : Scf.Loop 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let v44 : BitVec 32 := Scalar.addi v5 v43
  let c1_i32_19 : BitVec 32 := 1#32
  ⟨v47, v44, c1_i32_19⟩
def k0_mult4 (i : grid0.Coords) (v3 : BitVec 32) (k0_t2 : Fin (k0_t2_loop i v3).trips) : BitVec 32 :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let c1_i32_19 : BitVec 32 := 1#32
  let arg16 : BitVec 32 := Scf.iv v47 c1_i32_19 k0_t2
  let c256_i32_87 : BitVec 32 := 256#32
  let v244 : BitVec 32 := Scalar.muli arg16 c256_i32_87
  v244
def k0_off5 (i : grid0.Coords) (v3 : BitVec 32) (k0_t2 : Fin (k0_t2_loop i v3).trips) : Fin 2 → Nat :=
  let arg1 : BitVec 32 := BitVec.ofNat 32 (i 1).val
  let c0_i32 : BitVec 32 := 0#32
  let v4 : BitVec 32 := Scalar.maxsi c0_i32 v3
  let v5 : BitVec 32 := Scalar.minsi arg1 v4
  let v43 : BitVec 32 := Scalar.subi arg1 v5
  let c1_i32 : BitVec 32 := 1#32
  let v45 : BitVec 32 := Scalar.divsi v43 c1_i32
  let v46 : BitVec 32 := Scalar.muli v45 c1_i32
  let v47 : BitVec 32 := Scalar.addi v5 v46
  let c1_i32_19 : BitVec 32 := 1#32
  let arg16 : BitVec 32 := Scf.iv v47 c1_i32_19 k0_t2
  let c256_i32_87 : BitVec 32 := 256#32
  let v244 : BitVec 32 := Scalar.muli arg16 c256_i32_87
  let v245 : BitVec 32 := v244
  let v246 : Index := Scalar.indexCast v245
  let c0_88 : Index := 0#32
  ![v246.toNat, 0]

def k0_chk1 (i : grid0.Coords) (v3 : BitVec 32) : Prop :=
  ((k0_t1_loop i v3).OK) ∧
  (∀ k0_t1 : Fin (k0_t1_loop i v3).trips, 256 ∣ (k0_mult3 i v3 k0_t1).toNat) ∧
  (∀ k0_t1 : Fin (k0_t1_loop i v3).trips, ∀ a, (k0_off4 i v3 k0_t1) a + S256x256.size a ≤ S16384x256.size a) ∧
  ((k0_t2_loop i v3).OK) ∧
  (∀ k0_t2 : Fin (k0_t2_loop i v3).trips, 256 ∣ (k0_mult4 i v3 k0_t2).toNat) ∧
  (∀ k0_t2 : Fin (k0_t2_loop i v3).trips, ∀ a, (k0_off5 i v3 k0_t2) a + S256x256.size a ≤ S16384x256.size a)
theorem k0_t1_ok : ∀ (i : grid0.Coords) (v3 : BitVec 32) (k0_hw1 : k0_chk1 i v3), (k0_t1_loop i v3).OK := fun i v3 k0_hw1 => k0_hw1.1
theorem k0_mult3_dvd : ∀ (i : grid0.Coords) (v3 : BitVec 32) (k0_hw1 : k0_chk1 i v3) (k0_t1 : Fin (k0_t1_loop i v3).trips), 256 ∣ (k0_mult3 i v3 k0_t1).toNat := fun i v3 k0_hw1 k0_t1 => k0_hw1.2.1 k0_t1
theorem k0_off4_inb : ∀ (i : grid0.Coords) (v3 : BitVec 32) (k0_hw1 : k0_chk1 i v3) (k0_t1 : Fin (k0_t1_loop i v3).trips), ∀ a, (k0_off4 i v3 k0_t1) a + S256x256.size a ≤ S16384x256.size a := fun i v3 k0_hw1 k0_t1 => k0_hw1.2.2.1 k0_t1
theorem k0_t2_ok : ∀ (i : grid0.Coords) (v3 : BitVec 32) (k0_hw1 : k0_chk1 i v3), (k0_t2_loop i v3).OK := fun i v3 k0_hw1 => k0_hw1.2.2.2.1
theorem k0_mult4_dvd : ∀ (i : grid0.Coords) (v3 : BitVec 32) (k0_hw1 : k0_chk1 i v3) (k0_t2 : Fin (k0_t2_loop i v3).trips), 256 ∣ (k0_mult4 i v3 k0_t2).toNat := fun i v3 k0_hw1 k0_t2 => k0_hw1.2.2.2.2.1 k0_t2
theorem k0_off5_inb : ∀ (i : grid0.Coords) (v3 : BitVec 32) (k0_hw1 : k0_chk1 i v3) (k0_t2 : Fin (k0_t2_loop i v3).trips), ∀ a, (k0_off5 i v3 k0_t2) a + S256x256.size a ≤ S16384x256.size a := fun i v3 k0_hw1 k0_t2 => k0_hw1.2.2.2.2.2 k0_t2

def k0_mult5 (i : grid0.Coords) : BitVec 32 :=
  let arg1 : BitVec 32 := BitVec.ofNat 32 (i 1).val
  let c256_i32_20 : BitVec 32 := 256#32
  let v50 : BitVec 32 := Scalar.muli arg1 c256_i32_20
  v50
def k0_off6 (i : grid0.Coords) : Fin 2 → Nat :=
  let arg1 : BitVec 32 := BitVec.ofNat 32 (i 1).val
  let c256_i32_20 : BitVec 32 := 256#32
  let v50 : BitVec 32 := Scalar.muli arg1 c256_i32_20
  let v51 : BitVec 32 := v50
  let v52 : Index := Scalar.indexCast v51
  let c0_21 : Index := 0#32
  ![v52.toNat, 0]
def k0_cond2 (i : grid0.Coords) : BitVec 1 :=
  let arg1 : BitVec 32 := BitVec.ofNat 32 (i 1).val
  let c63_i32 : BitVec 32 := 63#32
  let v241 : BitVec 1 := Scalar.cmpi .eq arg1 c63_i32
  let v242 : BitVec 32 := Scalar.extui v241
  let c0_i32_86 : BitVec 32 := 0#32
  let v243 : BitVec 1 := Scalar.cmpi .ne v242 c0_i32_86
  v243

def k0_off7 (i : grid0.Coords) : Fin 2 → Nat :=
  let c0_i32_88 : BitVec 32 := 0#32
  let arg0 : BitVec 32 := BitVec.ofNat 32 (i 0).val
  let c256_i32 : BitVec 32 := 256#32
  let v6 : BitVec 32 := Scalar.muli arg0 c256_i32
  let v7 : BitVec 32 := v6
  ![0, v7.toNat]
def k0_off8 (i : grid0.Coords) : Fin 2 → Nat :=
  let c0_i32_90 : BitVec 32 := 0#32
  let c2_i32 : BitVec 32 := 2#32
  let arg0 : BitVec 32 := BitVec.ofNat 32 (i 0).val
  let v8 : BitVec 32 := Scalar.addi c2_i32 arg0
  let c256_i32_0 : BitVec 32 := 256#32
  let v9 : BitVec 32 := Scalar.muli v8 c256_i32_0
  let v10 : BitVec 32 := v9
  ![0, v10.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttentionRefIdeal.lean ====
abbrev S16384x1024 : Shape := ⟨2, ![16384, 1024]⟩
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩

abbrev nBuf : Space → Nat
  | .hbm => 133
  | .vmem => 0
  | .smem => 0
  | _ => 0

abbrev hbmTy0_0 (i : Nat) : BufTy := match i % 128 with
  | 0 => ⟨S16384x1024, .bf16⟩
  | 1 => ⟨S16384x1024, .bf16⟩
  | 2 => ⟨S16384x512, .f32⟩
  | 3 => ⟨S16384x512, .bf16⟩
  | 4 => ⟨S16384x1024, .f32⟩
  | 5 => ⟨S16384x512, .f32⟩
  | 6 => ⟨S16384x8x64, .f32⟩
  | 7 => ⟨S8x16384x64, .f32⟩
  | 8 => ⟨S16384x512, .f32⟩
  | 9 => ⟨S16384x8x64, .f32⟩
  | 10 => ⟨S8x16384x64, .f32⟩
  | 11 => ⟨S16384x512, .f32⟩
  | 12 => ⟨S16384x8x64, .f32⟩
  | 13 => ⟨S8x16384x64, .f32⟩
  | 14 => ⟨S8x16384x16384, .f32⟩
  | 15 => ⟨S_, .f32⟩
  | 16 => ⟨S8x16384x16384, .f32⟩
  | 17 => ⟨S8x16384x16384, .f32⟩
  | 18 => ⟨S16384, .i32⟩
  | 19 => ⟨S1x16384, .i32⟩
  | 20 => ⟨S16384, .i32⟩
  | 21 => ⟨S16384x1, .i32⟩
  | 22 => ⟨S16384x16384, .i32⟩
  | 23 => ⟨S16384x16384, .i32⟩
  | 24 => ⟨S16384x16384, .i1⟩
  | 25 => ⟨S8x16384x16384, .f32⟩
  | 26 => ⟨S8x16384x16384, .f32⟩
  | 27 => ⟨S_, .f32⟩
  | 28 => ⟨S8x16384x16384, .f32⟩
  | 29 => ⟨S8x16384x16384, .f32⟩
  | 30 => ⟨S8x16384x16384, .f32⟩
  | 31 => ⟨S8x16384x16384, .f32⟩
  | 32 => ⟨S8x16384x16384, .i1⟩
  | 33 => ⟨S8x16384x16384, .f32⟩
  | 34 => ⟨S8x16384x16384, .f32⟩
  | 35 => ⟨S8x16384x16384, .f32⟩
  | 36 => ⟨S8x16384x16384, .f32⟩
  | 37 => ⟨S8x16384x16384, .f32⟩
  | 38 => ⟨S8x16384x16384, .f32⟩
  | 39 => ⟨S8x16384x16384, .f32⟩
  | 40 => ⟨S8x16384x16384, .f32⟩
  | 41 => ⟨S_, .f32⟩
  | 42 => ⟨S8x16384x16384, .f32⟩
  | 43 => ⟨S8x16384x16384, .i1⟩
  | 44 => ⟨S_, .f32⟩
  | 45 => ⟨S8x16384x16384, .f32⟩
  | 46 => ⟨S8x16384x16384, .f32⟩
  | 47 => ⟨S_, .f32⟩
  | 48 => ⟨S8x16384x16384, .f32⟩
  | 49 => ⟨S8x16384x16384, .i1⟩
  | 50 => ⟨S_, .f32⟩
  | 51 => ⟨S8x16384x16384, .f32⟩
  | 52 => ⟨S8x16384x16384, .f32⟩
  | 53 => ⟨S8x16384x16384, .f32⟩
  | 54 => ⟨S8x16384x16384, .f32⟩
  | 55 => ⟨S_, .f32⟩
  | 56 => ⟨S_, .f32⟩
  | 57 => ⟨S_, .i1⟩
  | 58 => ⟨S_, .f32⟩
  | 59 => ⟨S_, .f32⟩
  | 60 => ⟨S_, .f32⟩
  | 61 => ⟨S_, .f32⟩
  | 62 => ⟨S8x16384x16384, .f32⟩
  | 63 => ⟨S8x16384x16384, .i1⟩
  | 64 => ⟨S_, .f32⟩
  | 65 => ⟨S8x16384x16384, .f32⟩
  | 66 => ⟨S8x16384x16384, .f32⟩
  | 67 => ⟨S8x16384x16384, .f32⟩
  | 68 => ⟨S8x16384x16384, .f32⟩
  | 69 => ⟨S8x16384x16384, .f32⟩
  | 70 => ⟨S_, .f32⟩
  | 71 => ⟨S8x16384x16384, .f32⟩
  | 72 => ⟨S8x16384x16384, .f32⟩
  | 73 => ⟨S8x16384x16384, .f32⟩
  | 74 => ⟨S_, .f32⟩
  | 75 => ⟨S_, .f32⟩
  | 76 => ⟨S8x16384x16384, .i1⟩
  | 77 => ⟨S8x16384x16384, .f32⟩
  | 78 => ⟨S8x16384x16384, .f32⟩
  | 79 => ⟨S_, .f32⟩
  | 80 => ⟨S8x16384x16384, .f32⟩
  | 81 => ⟨S_, .f32⟩
  | 82 => ⟨S_, .f32⟩
  | 83 => ⟨S8x16384x16384, .f32⟩
  | 84 => ⟨S8x16384x16384, .f32⟩
  | 85 => ⟨S_, .f32⟩
  | 86 => ⟨S_, .f32⟩
  | 87 => ⟨S8x16384x16384, .i1⟩
  | 88 => ⟨S8x16384x16384, .f32⟩
  | 89 => ⟨S8x16384x16384, .f32⟩
  | 90 => ⟨S_, .f32⟩
  | 91 => ⟨S8x16384x16384, .f32⟩
  | 92 => ⟨S8x16384x16384, .f32⟩
  | 93 => ⟨S8x16384x64, .f32⟩
  | 94 => ⟨S16384x8x64, .f32⟩
  | 95 => ⟨S16384x512, .f32⟩
  | 96 => ⟨S16384x8x64, .f32⟩
  | 97 => ⟨S8x16384x64, .f32⟩
  | 98 => ⟨S8x64x16384, .f32⟩
  | 99 => ⟨S8x16384x64, .f32⟩
  | 100 => ⟨S8x16384x16384, .f32⟩
  | 101 => ⟨S8x16384x16384, .f32⟩
  | 102 => ⟨S_, .f32⟩
  | 103 => ⟨S8x16384x16384, .f32⟩
  | 104 => ⟨S8x16384x16384, .f32⟩
  | 105 => ⟨S_, .f32⟩
  | 106 => ⟨S_, .f32⟩
  | 107 => ⟨S8x16384x16384, .f32⟩
  | 108 => ⟨S_, .f32⟩
  | 109 => ⟨S8x16384x16384, .f32⟩
  | 110 => ⟨S8x16384x16384, .f32⟩
  | 111 => ⟨S8x16384x16384, .f32⟩
  | 112 => ⟨S8x16384x16384, .f32⟩
  | 113 => ⟨S8x16384x16384, .f32⟩
  | 114 => ⟨S8x16384x16384, .f32⟩
  | 115 => ⟨S8x16384x16384, .f32⟩
  | 116 => ⟨S_, .f32⟩
  | 117 => ⟨S8x16384x16384, .f32⟩
  | 118 => ⟨S8x16384x16384, .f32⟩
  | 119 => ⟨S8x16384x64, .f32⟩
  | 120 => ⟨S8x16384x64, .f32⟩
  | 121 => ⟨S16384x8x64, .f32⟩
  | 122 => ⟨S16384x512, .f32⟩
  | 123 => ⟨S_, .f32⟩
  | 124 => ⟨S16384x1024, .f32⟩
  | 125 => ⟨S16384x8x64, .f32⟩
  | 126 => ⟨S16384x512, .f32⟩
  | 127 => ⟨S_, .f32⟩
  | _ => ⟨S16384x1024, .bf16⟩

abbrev hbmTy0_1 (i : Nat) : BufTy := match i % 128 with
  | 0 => ⟨S16384x1024, .f32⟩
  | 1 => ⟨S16384x1024, .f32⟩
  | 2 => ⟨S16384x8x64, .f32⟩
  | 3 => ⟨S16384x512, .f32⟩
  | 4 => ⟨S16384x512, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1_0 : Ref sig .tc := ⟨.hbm, 40, rfl⟩
abbrev main_call0_call0_cst_0 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_cst_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_cst_2 : Ref sig .tc := ⟨.hbm, 47, rfl⟩
abbrev main_call0_call0_v17 : Ref sig .tc := ⟨.hbm, 48, rfl⟩
abbrev main_call0_call0_v18 : Ref sig .tc := ⟨.hbm, 49, rfl⟩
abbrev main_call0_call0_cst_3 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_v21 : Ref sig .tc := ⟨.hbm, 53, rfl⟩
abbrev main_v22_1 : Ref sig .tc := ⟨.hbm, 54, rfl⟩
abbrev main_call0_call0_cst_4 : Ref sig .tc := ⟨.hbm, 55, rfl⟩
abbrev main_call0_call0_cst_5 : Ref sig .tc := ⟨.hbm, 56, rfl⟩
abbrev main_call0_call0_v23 : Ref sig .tc := ⟨.hbm, 57, rfl⟩
abbrev main_call0_call0_cst_6 : Ref sig .tc := ⟨.hbm, 58, rfl⟩
abbrev main_call0_call0_cst_7 : Ref sig .tc := ⟨.hbm, 59, rfl⟩
abbrev main_call0_call0_v24 : Ref sig .tc := ⟨.hbm, 60, rfl⟩
abbrev main_call0_call0_cst_8 : Ref sig .tc := ⟨.hbm, 61, rfl⟩
abbrev main_call0_call0_v25 : Ref sig .tc := ⟨.hbm, 62, rfl⟩
abbrev main_call0_call0_v26 : Ref sig .tc := ⟨.hbm, 63, rfl⟩
abbrev main_call0_call0_cst_9 : Ref sig .tc := ⟨.hbm, 64, rfl⟩
abbrev main_call0_call0_v27 : Ref sig .tc := ⟨.hbm, 65, rfl⟩
abbrev main_call0_call0_v28 : Ref sig .tc := ⟨.hbm, 66, rfl⟩
abbrev main_call0_call0_v29 : Ref sig .tc := ⟨.hbm, 67, rfl⟩
abbrev main_call0_call0_v30 : Ref sig .tc := ⟨.hbm, 68, rfl⟩
abbrev main_call0_call0_v31 : Ref sig .tc := ⟨.hbm, 69, rfl⟩
abbrev main_call0_call0_cst_10 : Ref sig .tc := ⟨.hbm, 70, rfl⟩
abbrev main_call0_call0_v32 : Ref sig .tc := ⟨.hbm, 71, rfl⟩
abbrev main_v22_2 : Ref sig .tc := ⟨.hbm, 72, rfl⟩
abbrev main_v22_0 : Ref sig .tc := ⟨.hbm, 73, rfl⟩
abbrev main_cst_0 : Ref sig .tc := ⟨.hbm, 74, rfl⟩
abbrev main_call1_v0 : Ref sig .tc := ⟨.hbm, 75, rfl⟩
abbrev main_v23_1 : Ref sig .tc := ⟨.hbm, 76, rfl⟩
abbrev main_call1_v2 : Ref sig .tc := ⟨.hbm, 77, rfl⟩
abbrev main_v23_0 : Ref sig .tc := ⟨.hbm, 78, rfl⟩
abbrev main_call1_cst : Ref sig .tc := ⟨.hbm, 79, rfl⟩
abbrev main_v23_2 : Ref sig .tc := ⟨.hbm, 80, rfl⟩
abbrev main_call2_cst : Ref sig .tc := ⟨.hbm, 81, rfl⟩
abbrev main_call2_v0 : Ref sig .tc := ⟨.hbm, 82, rfl⟩
abbrev main_v24 : Ref sig .tc := ⟨.hbm, 83, rfl⟩
abbrev main_v25 : Ref sig .tc := ⟨.hbm, 84, rfl⟩
abbrev main_cst_1 : Ref sig .tc := ⟨.hbm, 85, rfl⟩
abbrev main_call3_v0 : Ref sig .tc := ⟨.hbm, 86, rfl⟩
abbrev main_v26_1 : Ref sig .tc := ⟨.hbm, 87, rfl⟩
abbrev main_call3_v2 : Ref sig .tc := ⟨.hbm, 88, rfl⟩
abbrev main_v26_0 : Ref sig .tc := ⟨.hbm, 89, rfl⟩
abbrev main_call3_cst : Ref sig .tc := ⟨.hbm, 90, rfl⟩
abbrev main_v26_2 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_call4_cst : Ref sig .tc := ⟨.hbm, 102, rfl⟩
abbrev main_call4_v0 : Ref sig .tc := ⟨.hbm, 103, rfl⟩
abbrev main_v37 : Ref sig .tc := ⟨.hbm, 104, rfl⟩
abbrev main_call5_cst : Ref sig .tc := ⟨.hbm, 105, rfl⟩
abbrev main_call5_v0 : Ref sig .tc := ⟨.hbm, 106, rfl⟩
abbrev main_v38 : Ref sig .tc := ⟨.hbm, 107, rfl⟩
abbrev main_call6_cst : Ref sig .tc := ⟨.hbm, 108, rfl⟩
abbrev main_call6_v0 : Ref sig .tc := ⟨.hbm, 109, rfl⟩
abbrev main_v39 : Ref sig .tc := ⟨.hbm, 110, rfl⟩
abbrev main_call7_v0 : Ref sig .tc := ⟨.hbm, 111, rfl⟩
abbrev main_call7_v1 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_cst_2 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_cst_3 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_cst_4 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩

abbrev nD : Nat := 1
abbrev τ : Topo := Topo.v7x

variable {F : FTy → Type} [FloatOps F]
-- ==== Gate.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S16384x512, .f32⟩
  | .hbm, ⟨3, _⟩ => ⟨S16384x1024, .bf16⟩
  | .hbm, ⟨4, _⟩ => ⟨S16384x512, .f32⟩
  | .hbm, ⟨5, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateRefIdeal.lean ====
abbrev S16384x1024 : Shape := ⟨2, ![16384, 1024]⟩
abbrev S512x1024 : Shape := ⟨2, ![512, 1024]⟩
abbrev S16384x512 : Shape := ⟨2, ![16384, 512]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .bf16⟩
  | .hbm, ⟨2, _⟩ => ⟨S16384x512, .f32⟩
  | .hbm, ⟨3, _⟩ => ⟨S16384x1024, .bf16⟩
  | .hbm, ⟨4, _⟩ => ⟨S16384x512, .bf16⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384x512, .f32⟩
  | .hbm, ⟨13, _⟩ => ⟨S16384x512, .f32⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S512x1024, .f32⟩
  | .hbm, ⟨21, _⟩ => ⟨S16384x1024, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Loss.lean ====
abbrev S16384x512 : Shape := ⟨2, ![16384, 512]⟩
abbrev S16384x1024 : Shape := ⟨2, ![16384, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .bf16⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x512, .bf16⟩
  | .hbm, ⟨7, _⟩ => ⟨S16384x1024, .f32⟩
  | .hbm, ⟨8, _⟩ => ⟨S1x1024, .f32⟩
  | .hbm, ⟨9, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x512, .bf16⟩
  | .local _ .vmem, ⟨11, _⟩ => ⟨S512x512, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S16384x512 : Shape := ⟨2, ![16384, 512]⟩
abbrev S16384x1024 : Shape := ⟨2, ![16384, 1024]⟩
abbrev S512x1024 : Shape := ⟨2, ![512, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .bf16⟩
  | .hbm, ⟨2, _⟩ => ⟨S512x1024, .bf16⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x512, .bf16⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S_, .f32⟩
  | .hbm, ⟨11, _⟩ => ⟨S16384x512, .f32⟩
  | .hbm, ⟨12, _⟩ => ⟨S16384x512, .f32⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S512x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_13 : Ref sig .tc := ⟨.hbm, 79, rfl⟩
abbrev main_v51 : Ref sig .tc := ⟨.hbm, 80, rfl⟩
abbrev main_v52 : Ref sig .tc := ⟨.hbm, 81, rfl⟩
abbrev main_cst_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩

abbrev nD : Nat := 1
abbrev τ : Topo := Topo.v7x

variable {F : FTy → Type} [FloatOps F]
-- ==== Norms.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S1024x1024, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== NormsRefIdeal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S1024x1024, .bf16⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S1024x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S1024x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S_, .f32⟩
  | .hbm, ⟨70, _⟩ => ⟨S16384, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S16384x1024, .f32⟩
  | .hbm, ⟨90, _⟩ => ⟨S16384x1, .f32⟩
  | .hbm, ⟨91, _⟩ => ⟨S_, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]
-- ==== Weight.lean ====
abbrev S16384x1024 : Shape := ⟨2, ![16384, 1024]⟩
abbrev S16384x4096 : Shape := ⟨2, ![16384, 4096]⟩
abbrev S1x1024 : Shape := ⟨2, ![1, 1024]⟩
abbrev S4x1024x1024 : Shape := ⟨3, ![4, 1024, 1024]⟩
abbrev S512x1024 : Shape := ⟨2, ![512, 1024]⟩
abbrev S512x2048 : Shape := ⟨2, ![512, 2048]⟩
abbrev S2x1024x1024 : Shape := ⟨3, ![2, 1024, 1024]⟩
abbrev S1024x2048 : Shape := ⟨2, ![1024, 2048]⟩
abbrev S512 : Shape := ⟨1, ![512]⟩
abbrev S512x1 : Shape := ⟨2, ![512, 1]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S1x1024, .f32⟩
  | .hbm, ⟨3, _⟩ => ⟨S4x1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2048, .bf16⟩
  | .local _ .vmem, ⟨4, _⟩ => ⟨S512x2048, .bf16⟩
  | .local _ .vmem, ⟨5, _⟩ => ⟨S2x1024x1024, .bf16⟩
  | .local _ .vmem, ⟨6, _⟩ => ⟨S2x1024x1024, .bf16⟩
  | .local _ .vmem, ⟨7, _⟩ => ⟨S1024x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v25 : BitVec 1 := Scalar.cmpi .eq arg1 c31_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WeightRefIdeal.lean ====
abbrev S16384x1024 : Shape := ⟨2, ![16384, 1024]⟩
abbrev S16384x4096 : Shape := ⟨2, ![16384, 4096]⟩
abbrev S1x1024 : Shape := ⟨2, ![1, 1024]⟩
abbrev S_ : Shape := ⟨0, ![]⟩
abbrev S1024x4096 : Shape := ⟨2, ![1024, 4096]⟩
abbrev S16384 : Shape := ⟨1, ![16384]⟩
abbrev S16384x1 : Shape := ⟨2, ![16384, 1]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .bf16⟩
  | .hbm, ⟨2, _⟩ => ⟨S1x1024, .f32⟩
  | .hbm, ⟨3, _⟩ => ⟨S_, .f32⟩
  | .hbm, ⟨4, _⟩ => ⟨S1024x4096, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S16384x4096, .f32⟩
  | .hbm, ⟨22, _⟩ => ⟨S4096x1024, .f32⟩
  | .hbm, ⟨23, _⟩ => ⟨S1024x4096, .f32⟩
  | .hbm, ⟨24, _⟩ => ⟨S1024x4x1024, .f32⟩
  | .hbm, ⟨25, _⟩ => ⟨S4x1024x1024, .f32⟩
  | .hbm, ⟨26, _⟩ => ⟨S4x1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FirstNorm.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FirstNormRefIdeal.lean ====
abbrev S16384x4096 : Shape := ⟨2, ![16384, 4096]⟩
abbrev S1024x4096 : Shape := ⟨2, ![1024, 4096]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1024x4096, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x4096, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixerForward.lean ====
abbrev S16384x4096 : Shape := ⟨2, ![16384, 4096]⟩
abbrev S3x1024 : Shape := ⟨2, ![3, 1024]⟩
abbrev S16384x1024 : Shape := ⟨2, ![16384, 1024]⟩
abbrev S512x1024 : Shape := ⟨2, ![512, 1024]⟩
abbrev S16x1024 : Shape := ⟨2, ![16, 1024]⟩
abbrev S1x1024 : Shape := ⟨2, ![1, 1024]⟩

abbrev nBuf : Space → Nat
  | .hbm => 3
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S3x1024, .f32⟩
  | .hbm, ⟨2, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S3x1024, .f32⟩
  | .local _ .vmem, ⟨13, _⟩ => ⟨S512x1024, .bf16⟩
  | .local _ .vmem, ⟨14, _⟩ => ⟨S512x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixerForwardRefIdeal.lean ====
abbrev S16384x4096 : Shape := ⟨2, ![16384, 4096]⟩
abbrev S3x1024 : Shape := ⟨2, ![3, 1024]⟩
abbrev S16384x1024 : Shape := ⟨2, ![16384, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S3x1024, .f32⟩
  | .hbm, ⟨2, _⟩ => ⟨S16384x4096, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S2x1024, .f32⟩
  | .hbm, ⟨10, _⟩ => ⟨S16386x1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Projections.lean ====
abbrev S16384x1024 : Shape := ⟨2, ![16384, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S16384x1024, .bf16⟩
  | .hbm, ⟨6, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjectionsRefIdeal.lean ====
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S1024x1024, .bf16⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x1024, .f32⟩
  | .hbm, ⟨21, _⟩ => ⟨S16384x1024, .f32⟩
  | .hbm, ⟨22, _⟩ => ⟨S16384x1024, .bf16⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1024x1024, .f32⟩
  | .hbm, ⟨39, _⟩ => ⟨S16384x1024, .f32⟩
  | .hbm, ⟨40, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== AttentionForward.lean ====
abbrev S16384x1024 : Shape := ⟨2, ![16384, 1024]⟩
abbrev S512 : Shape := ⟨1, ![512]⟩
abbrev S256x256 : Shape := ⟨2, ![256, 256]⟩
abbrev S16384x512 : Shape := ⟨2, ![16384, 512]⟩
abbrev S2x4x16384x64 : Shape := ⟨4, ![2, 4, 16384, 64]⟩
abbrev S128 : Shape := ⟨1, ![128]⟩
abbrev S16384x256 : Shape := ⟨2, ![16384, 256]⟩
abbrev S1x4x256x64 : Shape := ⟨4, ![1, 4, 256, 64]⟩
abbrev S256x64 : Shape := ⟨2, ![256, 64]⟩
abbrev S256 : Shape := ⟨1, ![256]⟩
abbrev S256x1 : Shape := ⟨2, ![256, 1]⟩
abbrev S4x256x64 : Shape := ⟨3, ![4, 256, 64]⟩
abbrev S1x1x256x64 : Shape := ⟨4, ![1, 1, 256, 64]⟩
abbrev S1 : Shape := ⟨1, ![1]⟩
abbrev S1x256x1 : Shape := ⟨3, ![1, 256, 1]⟩
abbrev S1x1x1 : Shape := ⟨3, ![1, 1, 1]⟩

abbrev nBuf : Space → Nat
  | .hbm => 10
  | .vmem => 11
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S512, .f32⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .bf16⟩
  | .hbm, ⟨7, _⟩ => ⟨S16384x512, .f32⟩
  | .hbm, ⟨8, _⟩ => ⟨S2x4x16384x64, .f32⟩
  | .hbm, ⟨9, _⟩ => ⟨S128, .i32⟩
  | .local _ .vmem, ⟨0, _⟩ => ⟨S256x256, .bf16⟩
  | .local _ .vmem, ⟨1, _⟩ => ⟨S256x256, .bf16⟩
  | .local _ .vmem, ⟨2, _⟩ => ⟨S16384x256, .bf16⟩
  | .local _ .vmem, ⟨3, _⟩ => ⟨S16384x256, .bf16⟩
  | .local _ .vmem, ⟨4, _⟩ => ⟨S16384x256, .bf16⟩
  | .local _ .vmem, ⟨5, _⟩ => ⟨S16384x256, .bf16⟩
  | .local _ .vmem, ⟨6, _⟩ => ⟨S256x256, .bf16⟩
  | .local _ .vmem, ⟨7, _⟩ => ⟨S256x256, .f32⟩
  | .local _ .vmem, ⟨8, _⟩ => ⟨S256x256, .f32⟩
  | .local _ .vmem, ⟨9, _⟩ => ⟨S1x4x256x64, .f32⟩
  | .local _ .vmem, ⟨10, _⟩ => ⟨S1x4x256x64, .f32⟩
  | .local _ .smem, ⟨0, _⟩ => ⟨S512, .f32⟩
  | .local _ .smem, ⟨1, _⟩ => ⟨S128, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c256_i32 : BitVec 32 := 256#32
  let v54 : BitVec 32 := Scalar.muli arg1 c256_i32
  v54
def k0_off1 (i : grid0.Coords) : Fin 2 → Nat :=
  let arg1 : BitVec 32 := BitVec.ofNat 32 (i 1).val
  let c256_i32 : BitVec 32 := 256#32
  let v54 : BitVec 32 := Scalar.muli arg1 c256_i32
  let v55 : BitVec 32 := v54
  let v56 : Index := Scalar.indexCast v55
  let c0_24 : Index := 0#32
  ![v56.toNat, 0]
def k0_off2 (i : grid0.Coords) (c0_i32_96 : BitVec 32) : Fin 1 → Nat :=
  let c4_i32 : BitVec 32 := 4#32
  let arg0 : BitVec 32 := BitVec.ofNat 32 (i 0).val
  let v226 : BitVec 32 := Scalar.muli c4_i32 arg0
  let v227 : BitVec 32 := Scalar.addi v226 c0_i32_96
  let c64_i32 : BitVec 32 := 64#32
  let v228 : BitVec 32 := Scalar.muli v227 c64_i32
  let arg1 : BitVec 32 := BitVec.ofNat 32 (i 1).val
  let c1_i32_94 : BitVec 32 := 1#32
  let v224 : BitVec 32 := Scalar.subi arg1 c1_i32_94
  let c0_i32_95 : BitVec 32 := 0#32
  let v225 : BitVec 32 := Scalar.maxsi v224 c0_i32_95
  let v229 : BitVec 32 := Scalar.addi v228 v225
  let v230 : Index := Scalar.indexCast v229
  ![v230.toNat]
def k0_mult2 (arg10 : BitVec 32) : BitVec 32 :=
  let c1_i32_112 : BitVec 32 := 1#32
  let v289 : BitVec 32 := Scalar.subi arg10 c1_i32_112
  let c256_i32_113 : BitVec 32 := 256#32
  let v290 : BitVec 32 := Scalar.muli v289 c256_i32_113
  v290

def k0_off3 (arg10 : BitVec 32) : Fin 2 → Nat :=
  let c1_i32_112 : BitVec 32 := 1#32
  let v289 : BitVec 32 := Scalar.subi arg10 c1_i32_112
  let c256_i32_113 : BitVec 32 := 256#32
  let v290 : BitVec 32 := Scalar.muli v289 c256_i32_113
  let v291 : BitVec 32 := v290
  let v292 : Index := Scalar.indexCast v291
  let c0_114 : Index := 0#32
  ![v292.toNat, 0]
def k0_off4 (i : grid0.Coords) (arg10 : BitVec 32) (c0_i32_185 : BitVec 32) : Fin 1 → Nat :=
  let c4_i32_184 : BitVec 32 := 4#32
  let arg0 : BitVec 32 := BitVec.ofNat 32 (i 0).val
  let v448 : BitVec 32 := Scalar.muli c4_i32_184 arg0
  let v449 : BitVec 32 := Scalar.addi v448 c0_i32_185
  let c64_i32_186 : BitVec 32 := 64#32
  let v450 : BitVec 32 := Scalar.muli v449 c64_i32_186
  let c1_i32_181 : BitVec 32 := 1#32
  let v445 : BitVec 32 := Scalar.subi arg10 c1_i32_181
  let c1_i32_182 : BitVec 32 := 1#32
  let v446 : BitVec 32 := Scalar.subi v445 c1_i32_182
  let c0_i32_183 : BitVec 32 := 0#32
  let v447 : BitVec 32 := Scalar.maxsi v446 c0_i32_183
  let v451 : BitVec 32 := Scalar.addi v450 v447
  let v452 : Index := Scalar.indexCast v451
  ![v452.toNat]

def k0_chk1 (i : grid0.Coords) (arg10 : BitVec 32) : Prop :=
  (256 ∣ (k0_mult2 arg10).toNat) ∧
  (∀ a, (k0_off3 arg10) a + S256x256.size a ≤ S16384x256.size a) ∧
  (∀ (r : Fin 4), ∀ a, (k0_off4 i arg10 (BitVec.ofNat 32 r.val)) a + S1.size a ≤ S512.size a)
theorem k0_mult2_dvd : ∀ (i : grid0.Coords) (arg10 : BitVec 32) (k0_hw1 : k0_chk1 i arg10), 256 ∣ (k0_mult2 arg10).toNat := fun i arg10 k0_hw1 => k0_hw1.1
theorem k0_off3_inb : ∀ (i : grid0.Coords) (arg10 : BitVec 32) (k0_hw1 : k0_chk1 i arg10), ∀ a, (k0_off3 arg10) a + S256x256.size a ≤ S16384x256.size a := fun i arg10 k0_hw1 => k0_hw1.2.1
theorem k0_off4_inb : ∀ (i : grid0.Coords) (arg10 : BitVec 32) (k0_hw1 : k0_chk1 i arg10), ∀ (r : Fin 4), ∀ a, (k0_off4 i arg10 (BitVec.ofNat 32 r.val)) a + S1.size a ≤ S512.size a := fun i arg10 k0_hw1 r => k0_hw1.2.2 r

def k0_off5 (i : grid0.Coords) : Fin 1 → Nat :=
  let arg0 : BitVec 32 := BitVec.ofNat 32 (i 0).val
  let c64_i32_109 : BitVec 32 := 64#32
  let v283 : BitVec 32 := Scalar.muli arg0 c64_i32_109
  let arg1 : BitVec 32 := BitVec.ofNat 32 (i 1).val
  let v284 : BitVec 32 := Scalar.addi v283 arg1
  let v285 : Index := Scalar.indexCast v284
  ![v285.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .smem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .smem S128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== AttentionForwardIdeal.lean ====
variable {F : FTy → Type} [FloatOps F] [Named F]
def κ : String → Option EReal := fun
  | "exit" => some ⊥
  | _ => none
-- ==== AttentionForwardRefIdeal.lean ====
abbrev S16384x1024 : Shape := ⟨2, ![16384, 1024]⟩
abbrev S512 : Shape := ⟨1, ![512]⟩
abbrev S16384x512 : Shape := ⟨2, ![16384, 512]⟩
abbrev S16384x8x64 : Shape := ⟨3, ![16384, 8, 64]⟩
abbrev S8x16384x64 : Shape := ⟨3, ![8, 16384, 64]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S512, .f32⟩
  | .hbm, ⟨3, _⟩ => ⟨S16384x512, .bf16⟩
  | .hbm, ⟨4, _⟩ => ⟨S16384x1024, .f32⟩
  | .hbm, ⟨5, _⟩ => ⟨S16384x512, .f32⟩
  | .hbm, ⟨6, _⟩ => ⟨S16384x8x64, .f32⟩
  | .hbm, ⟨7, _⟩ => ⟨S8x16384x64, .f32⟩
  | .hbm, ⟨8, _⟩ => ⟨S16384x512, .f32⟩
  | .hbm, ⟨9, _⟩ => ⟨S16384x8x64, .f32⟩
  | .hbm, ⟨10, _⟩ => ⟨S8x16384x64, .f32⟩
  | .hbm, ⟨11, _⟩ => ⟨S16384x512, .f32⟩
  | .hbm, ⟨12, _⟩ => ⟨S16384x8x64, .f32⟩
  | .hbm, ⟨13, _⟩ => ⟨S8x16384x64, .f32⟩
  | .hbm, ⟨14, _⟩ => ⟨S8x16384x16384, .f32⟩
  | .hbm, ⟨15, _⟩ => ⟨S_, .f32⟩
  | .hbm, ⟨16, _⟩ => ⟨S8x16384x16384, .f32⟩
  | .hbm, ⟨17, _⟩ => ⟨S8x16384x16384, .f32⟩
  | .hbm, ⟨18, _⟩ => ⟨S16384, .i32⟩
  | .hbm, ⟨19, _⟩ => ⟨S1x16384, .i32⟩
  | .hbm, ⟨20, _⟩ => ⟨S16384, .i32⟩
  | .hbm, ⟨21, _⟩ => ⟨S16384x1, .i32⟩
  | .hbm, ⟨22, _⟩ => ⟨S16384x16384, .i32⟩
  | .hbm, ⟨23, _⟩ => ⟨S16384x16384, .i32⟩
  | .hbm, ⟨24, _⟩ => ⟨S16384x16384, .i1⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384x16384, .f32⟩
  | .hbm, ⟨29, _⟩ => ⟨S8x16384x16384, .f32⟩
  | .hbm, ⟨30, _⟩ => ⟨S8x16384x16384, .f32⟩
  | .hbm, ⟨31, _⟩ => ⟨S8x16384x16384, .f32⟩
  | .hbm, ⟨32, _⟩ => ⟨S8x16384x16384, .i1⟩
  | .hbm, ⟨33, _⟩ => ⟨S8x16384x16384, .f32⟩
  | .hbm, ⟨34, _⟩ => ⟨S8x16384x16384, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S8x16384x16384, .f32⟩
  | .hbm, ⟨41, _⟩ => ⟨S8x16384x16384, .f32⟩
  | .hbm, ⟨42, _⟩ => ⟨S_, .f32⟩
  | .hbm, ⟨43, _⟩ => ⟨S_, .f32⟩
  | .hbm, ⟨44, _⟩ => ⟨S8x16384x16384, .i1⟩
  | .hbm, ⟨45, _⟩ => ⟨S8x16384x16384, .f32⟩
  | .hbm, ⟨46, _⟩ => ⟨S8x16384x16384, .f32⟩
  | .hbm, ⟨47, _⟩ => ⟨S_, .f32⟩
  | .hbm, ⟨48, _⟩ => ⟨S_, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S_, .f32⟩
  | .hbm, ⟨53, _⟩ => ⟨S8x16384x16384, .i1⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S8x16384x64, .f32⟩
  | .hbm, ⟨58, _⟩ => ⟨S16384x8x64, .f32⟩
  | .hbm, ⟨59, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v22 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_call2_cst : Ref sig .tc := ⟨.hbm, 47, rfl⟩
abbrev main_call2_v0 : Ref sig .tc := ⟨.hbm, 48, rfl⟩
abbrev main_v24 : Ref sig .tc := ⟨.hbm, 49, rfl⟩
abbrev main_v25 : Ref sig .tc := ⟨.hbm, 50, rfl⟩
abbrev main_cst_1 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩

abbrev nD : Nat := 1
abbrev τ : Topo := Topo.v7x

variable {F : FTy → Type} [FloatOps F]
-- ==== Proof.Mixer.Spec.lean ====
/- The gradient of the gated short convolution, written entry by entry on the extended reals.

   A row `p` of `U` holds, for every channel `q`, the gate `B`, the gate `C`, the input `X` and the argument `G` of the
   SiLU, in four groups of 1024 columns; `D` is the cotangent of the output and `W` the three taps. -/
module

public import Idealize.ShloMosaic.PureOps.Ideal
public import Idealize.ShloMosaic.Lib.Pointwise

@[expose] public section

set_option maxRecDepth 16384

noncomputable section

namespace Cert.Mixer.Spec

open Idealize.ShloMosaic

/-- The rows of `u`, a cotangent of the output, the taps. -/
abbrev Us : Shape := ⟨2, ![16384, 4096]⟩
abbrev Ds : Shape := ⟨2, ![16384, 1024]⟩
abbrev Ws : Shape := ⟨2, ![3, 1024]⟩

variable (U : FVec Ideal Us .bf16) (D : FVec Ideal Ds .f32) (W : FVec Ideal Ws .f32)

def gateB (p : Fin 16384) (q : Fin 1024) : EReal := U (ix2 p ⟨q.val, by omega⟩)
def gateC (p : Fin 16384) (q : Fin 1024) : EReal := U (ix2 p ⟨1024 + q.val, by omega⟩)
def inX (p : Fin 16384) (q : Fin 1024) : EReal := U (ix2 p ⟨2048 + q.val, by omega⟩)
def actG (p : Fin 16384) (q : Fin 1024) : EReal := U (ix2 p ⟨3072 + q.val, by omega⟩)

/-- The logistic function, as both programs compute it. -/
def sig (g : EReal) : EReal := Ideal.div 1 (1 + Ideal.exp (-g))

/-- The entry `k` rows before row `p`, zero before the first row. -/
def before (f : Fin 16384 → EReal) (k p : ℕ) : EReal := if h : k ≤ p ∧ p - k < 16384 then f ⟨p - k, h.2⟩ else 0

/-- The entry `k` rows after row `p`, zero after the last row. -/
def after (f : Fin 16384 → EReal) (k p : ℕ) : EReal := if h : p + k < 16384 then f ⟨p + k, h⟩ else 0

/-- What the convolution reads. -/
def conv_in (q : Fin 1024) (p : Fin 16384) : EReal := gateC U p q * inX U p q

/-- What the convolution leaves. -/
def conv_out (p : Fin 16384) (q : Fin 1024) : EReal :=
  W (ix2 2 q) * conv_in U q p + W (ix2 1 q) * before (conv_in U q) 1 p + W (ix2 0 q) * before (conv_in U q) 2 p

/-- The cotangent of what the convolution leaves. -/
def d_out (q : Fin 1024) (p : Fin 16384) : EReal := D (ix2 p q) * gateB U p q * (actG U p q * sig (actG U p q))

/-- The cotangent of what the convolution reads. -/
def d_in (p : Fin 16384) (q : Fin 1024) : EReal :=
  W (ix2 2 q) * d_out U D q p + W (ix2 1 q) * after (d_out U D q) 1 p + W (ix2 0 q) * after (d_out U D q) 2 p

/-- The four gradients of a row. -/
def d_gateB (p : Fin 16384) (q : Fin 1024) : EReal :=
  D (ix2 p q) * conv_out U W p q * (actG U p q * sig (actG U p q))
def d_gateC (p : Fin 16384) (q : Fin 1024) : EReal := d_in U D W p q * inX U p q
def d_inX (p : Fin 16384) (q : Fin 1024) : EReal := d_in U D W p q * gateC U p q
def d_actG (p : Fin 16384) (q : Fin 1024) : EReal :=
  D (ix2 p q) * gateB U p q * conv_out U W p q
    * (sig (actG U p q) * (1 + actG U p q * (1 - sig (actG U p q))))

/-- A row of the gradient: the four groups of columns side by side. -/
def d_row (p : Fin 16384) (j : Fin 4096) : EReal :=
  if h0 : j.val < 1024 then d_gateB U D W p ⟨j.val, h0⟩
  else if h1 : j.val < 2048 then d_gateC U D W p ⟨j.val - 1024, by omega⟩
  else if h2 : j.val < 3072 then d_inX U D W p ⟨j.val - 2048, by omega⟩
  else d_actG U D W p ⟨j.val - 3072, by omega⟩

/-- The gradient of the tap that reads `2 - k` rows before. -/
def d_tap (k : ℕ) (q : Fin 1024) : EReal := ∑ p : Fin 16384, d_out U D q p * before (conv_in U q) (2 - k) p

end Cert.Mixer.Spec

end
-- ==== Proof.Common.Word.lean ====
/- Selects on the equality of two small words, and the rows that a rotation reads. -/
module

public import Idealize.ShloMosaic.PureOps.Ideal
public import Idealize.ShloMosaic.Lib.Pointwise

@[expose] public section

noncomputable section

namespace Cert.Common

open Idealize.ShloMosaic

/-- A select on the equality of two words asks whether the words are equal. -/
theorem select_eq {α : Type} (x y : BitVec 32) (a b : α) :
    Scalar.select (IntOp.cmpi .eq x y) a b = if x = y then a else b := by
  unfold Scalar.select IntOp.cmpi
  by_cases h : x = y
  · subst h; simp
  · have hb : (x == y) = false := by simpa using h
    simp [h, hb]

/-- Two words below 2³² are equal when their numbers are. -/
theorem ofNat_eq (n k : ℕ) (hn : n < 2 ^ 32) (hk : k < 2 ^ 32) : BitVec.ofNat 32 n = BitVec.ofNat 32 k ↔ n = k := by
  constructor
  · intro h
    have := congrArg BitVec.toNat h
    rwa [BitVec.toNat_ofNat, BitVec.toNat_ofNat, Nat.mod_eq_of_lt hn, Nat.mod_eq_of_lt hk] at this
  · rintro rfl; rfl

theorem select_ofNat {α : Type} (n k : ℕ) (hn : n < 2 ^ 32) (hk : k < 2 ^ 32) (a b : α) :
    Scalar.select (IntOp.cmpi .eq (BitVec.ofNat 32 n) (BitVec.ofNat 32 k)) a b = if n = k then a else b := by
  rw [select_eq]
  exact if_congr (ofNat_eq n k hn hk) rfl rfl

theorem cmpi_slt_ofNat (n k : ℕ) (hn : n < 2 ^ 31) (hk : k < 2 ^ 31) :
    IntOp.cmpi .slt (BitVec.ofNat 32 n) (BitVec.ofNat 32 k) = if n < k then 1#1 else 0#1 := by
  have hi : ∀ m : ℕ, m < 2 ^ 31 → (BitVec.ofNat 32 m).toInt = (m : ℤ) := fun m hm => by
    rw [BitVec.toInt_eq_toNat_cond, BitVec.toNat_ofNat, Nat.mod_eq_of_lt (by omega), if_pos (by omega)]
  have hs : (BitVec.ofNat 32 n).slt (BitVec.ofNat 32 k) = decide (n < k) := by
    rw [BitVec.slt, hi n hn, hi k hk]
    exact decide_eq_decide.mpr (by omega)
  unfold IntOp.cmpi
  rw [hs]
  by_cases h : n < k <;> simp [h]

end Cert.Common

end
-- ==== Proof.Mixer.Pay.lean ====
/- The kernel's payloads, read at one entry of a block. -/
module

public import proofs.«01_k».proof.Proof.Gen.MixerIdeal.Value
public import proofs.«01_k».proof.Proof.Mixer.Spec
public import proofs.«01_k».proof.Proof.Common.Word
public import Idealize.ShloMosaic.Lib.Pipeline.ValueKit
public import Idealize.ShloMosaic.Lib.Pointwise

@[expose] public section

set_option maxRecDepth 16384

noncomputable section

namespace Cert.Mixer.Pay

open Idealize.ShloMosaic Idealize.ShloMosaic.TcCoe Idealize.SL.Sem
open Cert.MixerIdeal Cert.MixerIdeal.Gen Cert.Common

theorem conv_in_at (x1 x2 : Vec Ideal S512x1024 .bf16) (i : Fin 512) (q : Fin 1024) :
    k0_pay10 x1 x2 (ix2 i q) = x1 (ix2 i q) * x2 (ix2 i q) := by
  pointwise [k0_pay10, k0_pay7, k0_pay8]

theorem halo_at (g : grid0.Coords) (y1 y2 : Vec Ideal S16x1024 .bf16) (i : Fin 16) (q : Fin 1024) :
    k0_pay11 g y1 y2 (ix2 i q) = if (g 0).val = 0 then 0 else y1 (ix2 i q) * y2 (ix2 i q) := by
  pointwise [k0_pay11]
  exact select_ofNat _ 0 (lt_trans (g 0).isLt (by decide)) (by decide) _ _

theorem shift1_at (g : grid0.Coords) (x1 x2 : Vec Ideal S512x1024 .bf16) (y1 y2 : Vec Ideal S16x1024 .bf16)
    (i : Fin 512) (q : Fin 1024) :
    k0_pay12 g x1 x2 y1 y2 (ix2 i q)
      = if h : i.val = 0 then k0_pay11 g y1 y2 (ix2 15 q) else k0_pay10 x1 x2 (ix2 ⟨i.val - 1, by omega⟩ q) := by
  pointwise [k0_pay12]
  refine (select_ofNat _ 0 (by omega) (by decide) _ _).trans ?_
  by_cases h : i.val = 0
  · rw [if_pos h, dif_pos h]
  · rw [if_neg h, dif_neg h]
    exact congrArg (fun j => k0_pay10 x1 x2 (ix2 j q)) (Fin.ext (by show (i.val + 512 - 1) % 512 = i.val - 1; omega))

theorem shift2_at (g : grid0.Coords) (x1 x2 : Vec Ideal S512x1024 .bf16) (y1 y2 : Vec Ideal S16x1024 .bf16)
    (i : Fin 512) (q : Fin 1024) :
    k0_pay15 (k0_pay11 g y1 y2) (iota .tc S512x1024 32 [0] iota_S512x1024_d0_w32) (k0_pay13 g x1 x2 y1 y2) k0_pay14 (ix2 i q)
      = if h : i.val < 2 then k0_pay11 g y1 y2 (ix2 ⟨14 + i.val, by omega⟩ q)
        else k0_pay10 x1 x2 (ix2 ⟨i.val - 2, by omega⟩ q) := by
  pointwise [k0_pay15, k0_pay13, k0_pay14]
  refine (select_ofNat _ 1 (by omega) (by decide) _ _).trans ?_
  by_cases h1 : i.val = 1
  · rw [if_pos h1, dif_pos (by omega)]
    exact congrArg (fun j => k0_pay11 g y1 y2 (ix2 j q)) (Fin.ext (by show 15 = 14 + i.val; omega))
  rw [if_neg h1]
  refine (select_ofNat _ 0 (by omega) (by decide) _ _).trans ?_
  by_cases h0 : i.val = 0
  · rw [if_pos h0, dif_pos (by omega)]
    exact congrArg (fun j => k0_pay11 g y1 y2 (ix2 j q)) (Fin.ext (by show 14 = 14 + i.val; omega))
  rw [if_neg h0, dif_neg (by omega)]
  exact congrArg (fun j => k0_pay10 x1 x2 (ix2 j q)) (Fin.ext (by show (i.val + 512 - 2) % 512 = i.val - 2; omega))

theorem sig_at (x : FVec Ideal S512x1024 .f32) (i : Fin 512) (q : Fin 1024) :
    k0_pay17 x (ix2 i q) = Spec.sig (x (ix2 i q)) := by
  pointwise [k0_pay17]
  unfold Spec.sig
  rw [zero_sub]

theorem silu_at (x : Vec Ideal S16x1024 .bf16) (i : Fin 16) (q : Fin 1024) :
    k0_pay22 x (ix2 i q) = x (ix2 i q) * Spec.sig (x (ix2 i q)) := by
  pointwise [k0_pay22]
  unfold Spec.sig
  rw [zero_sub]

theorem d_in_at (a : BitVec 32) (w : Vec Ideal S3x1024 .f32) (d : FVec Ideal S512x1024 .f32)
    (e f : FVec Ideal S16x1024 .f32) (i : Fin 512) (q : Fin 1024) :
    k0_pay23 a w d e f (ix2 i q)
      = w (ix2 2 q) * d (ix2 i q)
        + w (ix2 1 q) * (if h : i.val = 511 then (if a = 31#32 then 0 else e (ix2 0 q) * f (ix2 0 q))
            else d (ix2 ⟨i.val + 1, by omega⟩ q))
        + w (ix2 0 q) * (if h : 510 ≤ i.val then (if a = 31#32 then 0 else e (ix2 ⟨i.val - 510, by omega⟩ q) * f (ix2 ⟨i.val - 510, by omega⟩ q))
            else d (ix2 ⟨i.val + 2, by omega⟩ q)) := by
  pointwise [k0_pay23]
  refine Ideal.add_congr (Ideal.add_congr rfl (congrArg (w (ix2 1 q) * ·) ?_)) (congrArg (w (ix2 0 q) * ·) ?_)
  · refine (select_ofNat _ 511 (by omega) (by decide) _ _).trans ?_
    by_cases h : i.val = 511
    · rw [if_pos h, dif_pos h]
      exact select_eq _ _ _ _
    · rw [if_neg h, dif_neg h]
      exact congrArg (fun j => d (ix2 j q)) (Fin.ext (by show (i.val + 512 - 511) % 512 = i.val + 1; omega))
  · refine (select_ofNat _ 511 (by omega) (by decide) _ _).trans ?_
    by_cases h1 : i.val = 511
    · rw [if_pos h1, dif_pos (by omega)]
      refine (select_eq _ _ _ _).trans ?_
      exact congrArg (fun j => if a = 31#32 then (0 : EReal) else e (ix2 j q) * f (ix2 j q)) (Fin.ext (by show 1 = i.val - 510; omega))
    rw [if_neg h1]
    refine (select_ofNat _ 510 (by omega) (by decide) _ _).trans ?_
    by_cases h0 : i.val = 510
    · rw [if_pos h0, dif_pos (by omega)]
      refine (select_eq _ _ _ _).trans ?_
      exact congrArg (fun j => if a = 31#32 then (0 : EReal) else e (ix2 j q) * f (ix2 j q)) (Fin.ext (by show 0 = i.val - 510; omega))
    rw [if_neg h0, dif_neg (by omega)]
    exact congrArg (fun j => d (ix2 j q)) (Fin.ext (by show (i.val + 512 - 510) % 512 = i.val + 2; omega))

theorem d_out_at (x0 : FVec Ideal S512x1024 .f32) (x3 : FVec Ideal S512x1024 .f32) (x4 : Vec Ideal S512x1024 .f32)
    (i : Fin 512) (q : Fin 1024) :
    k0_pay20 x0 x3 x4 (ix2 i q) = x4 (ix2 i q) * x0 (ix2 i q) * (x3 (ix2 i q) * Spec.sig (x3 (ix2 i q))) := by
  pointwise [k0_pay20, k0_pay18, sig_at]

theorem conv_out_at (w : Vec Ideal S3x1024 .f32) (v10 : FVec Ideal S512x1024 .f32) (v18 : FVec Ideal S16x1024 .f32)
    (v26 : FVec Ideal S512x1024 .f32) (v27 : IVec S512x1024 32) (v34 : FVec Ideal S512x1024 .f32) (v35 : IVec S512x1024 32)
    (i : Fin 512) (q : Fin 1024) :
    k0_pay16 w v10 v18 v26 v27 v34 v35 (ix2 i q)
      = w (ix2 2 q) * v10 (ix2 i q) + w (ix2 1 q) * v26 (ix2 i q) + w (ix2 0 q) * k0_pay15 v18 v27 v34 v35 (ix2 i q) := by
  pointwise [k0_pay16]

theorem tap2_at (v40 v67 : FVec Ideal S512x1024 .f32) (v : Vec Ideal S1x1024 .f32) (q : Fin 1024) :
    k0_pay3 v40 v67 v (ix2 0 q) = v (ix2 0 q) + ∑ i : Fin 512, v67 (ix2 i q) * v40 (ix2 i q) := by
  pointwise [k0_pay3]

theorem tap1_at (v40 v67 : FVec Ideal S512x1024 .f32) (v : Vec Ideal S1x1024 .f32) (q : Fin 1024) :
    k0_pay4 v40 v67 v (ix2 0 q) = v (ix2 0 q) + ∑ i : Fin 512, v67 (ix2 i q) * v40 (ix2 i q) := by
  pointwise [k0_pay4]

theorem tap0_at (v40 v67 : FVec Ideal S512x1024 .f32) (v : Vec Ideal S1x1024 .f32) (q : Fin 1024) :
    k0_pay5 v40 v67 v (ix2 0 q) = v (ix2 0 q) + ∑ i : Fin 512, v67 (ix2 i q) * v40 (ix2 i q) := by
  pointwise [k0_pay5]

theorem d_gateB_at (x4 : Vec Ideal S512x1024 .f32) (v51 v59 : FVec Ideal S512x1024 .f32) (i : Fin 512) (q : Fin 1024) :
    k0_pay24 x4 v51 v59 (ix2 i q) = x4 (ix2 i q) * v51 (ix2 i q) * v59 (ix2 i q) := by
  pointwise [k0_pay24]

theorem d_actG_at (v2 : FVec Ideal S512x1024 .f32) (x4 : Vec Ideal S512x1024 .f32) (v51 : FVec Ideal S512x1024 .f32)
    (x : FVec Ideal S512x1024 .f32) (i : Fin 512) (q : Fin 1024) :
    k0_pay1 v2 x4 v51 (k0_pay19 x) (ix2 i q)
      = x4 (ix2 i q) * v2 (ix2 i q) * v51 (ix2 i q)
        * (Spec.sig (x (ix2 i q)) * (1 + x (ix2 i q) * (1 - Spec.sig (x (ix2 i q))))) := by
  pointwise [k0_pay1, k0_pay19, sig_at]

end Cert.Mixer.Pay

end
-- ==== Proof.Mixer.Rows.lean ====
/- The kernel's blocks, read as entries of its arguments. -/
module

public import proofs.«01_k».proof.Proof.Mixer.Pay

@[expose] public section

set_option maxRecDepth 16384

noncomputable section

namespace Cert.Mixer.Rows

open Idealize.ShloMosaic Idealize.ShloMosaic.TcCoe Idealize.SL.Sem
open Cert.MixerIdeal Cert.MixerIdeal.Gen Cert.Common

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 2]
    ∧ win0_3.index t = ![t.val, 3] ∧ win0_4.index t = ![t.val, 0] ∧ win0_5.index t = ![t.val * 32 - 1, 1]
    ∧ win0_6.index t = ![t.val * 32 - 1, 2] ∧ win0_10.index t = ![0, 0] ∧ win0_11.index t = ![t.val, 0]
    ∧ win0_12.index t = ![0, 0] :=
  (by decide +kernel : ∀ t : Fin grid0.N, _)

theorem idx_next : ∀ t : Fin cfg0.N, win0_7.index t = ![min (t.val * 32 + 32) 1023, 0]
    ∧ win0_8.index t = ![min (t.val * 32 + 32) 1023, 3] ∧ win0_9.index t = ![min (t.val * 32 + 32) 1023, 0] :=
  (by decide +kernel : ∀ t : Fin grid0.N, _)

theorem N_eq : cfg0.N = 32 := by decide +kernel

theorem coord_eq : ∀ t : Fin cfg0.N, ((grid0.coords t) 0).val = t.val :=
  (by decide +kernel : ∀ t : Fin grid0.N, _)

/-- Row `i` of block `t`. -/
abbrev row (t : Fin cfg0.N) (i : Fin 512) : Fin 16384 :=
  ⟨512 * t.val + i.val, by have := t.isLt; have := N_eq; omega⟩

abbrev U := m (c.tc.loc main_arg0)
abbrev D := m (c.tc.loc main_arg1)
abbrev W := m (c.tc.loc main_arg2)

theorem gateB_at (t : Fin cfg0.N) (i : Fin 512) (q : Fin 1024) :
    iblk m c 0 t (ix2 i q) = Spec.gateB (U m c) (row t i) q := by
  unfold Spec.gateB
  blk_point [iblk, V, idx t]

theorem gateC_at (t : Fin cfg0.N) (i : Fin 512) (q : Fin 1024) :
    iblk m c 1 t (ix2 i q) = Spec.gateC (U m c) (row t i) q := by
  unfold Spec.gateC
  blk_point [iblk, V, idx t]

theorem inX_at (t : Fin cfg0.N) (i : Fin 512) (q : Fin 1024) :
    iblk m c 2 t (ix2 i q) = Spec.inX (U m c) (row t i) q := by
  unfold Spec.inX
  blk_point [iblk, V, idx t]

theorem actG_at (t : Fin cfg0.N) (i : Fin 512) (q : Fin 1024) :
    iblk m c 3 t (ix2 i q) = Spec.actG (U m c) (row t i) q := by
  unfold Spec.actG
  blk_point [iblk, V, idx t]

theorem d_at (t : Fin cfg0.N) (i : Fin 512) (q : Fin 1024) : iblk m c 4 t (ix2 i q) = D m c (ix2 (row t i) q) := by
  blk_point [iblk, V, idx t]

theorem w_at (t : Fin cfg0.N) (k : Fin 3) (q : Fin 1024) : iblk m c 10 t (ix2 k q) = W m c (ix2 k q) := by
  blk_point [iblk, V, idx t]

/-- The halo of sixteen rows before block `t`, and the one behind it. -/
abbrev prow (t : Fin cfg0.N) (h : 0 < t.val) (i : Fin 16) : Fin 16384 :=
  ⟨512 * t.val - 16 + i.val, by have := t.isLt; have := N_eq; omega⟩
abbrev nrow (t : Fin cfg0.N) (h : t.val < 31) (i : Fin 16) : Fin 16384 :=
  ⟨512 * t.val + 512 + i.val, by omega⟩

theorem prevC_at (t : Fin cfg0.N) (h : 0 < t.val) (i : Fin 16) (q : Fin 1024) :
    iblk m c 5 t (ix2 i q) = Spec.gateC (U m c) (prow t h i) q := by
  unfold Spec.gateC
  blk_point [iblk, V, idx t]

theorem prevX_at (t : Fin cfg0.N) (h : 0 < t.val) (i : Fin 16) (q : Fin 1024) :
    iblk m c 6 t (ix2 i q) = Spec.inX (U m c) (prow t h i) q := by
  unfold Spec.inX
  blk_point [iblk, V, idx t]

theorem nextB_at (t : Fin cfg0.N) (h : t.val < 31) (i : Fin 16) (q : Fin 1024) :
    iblk m c 7 t (ix2 i q) = Spec.gateB (U m c) (nrow t h i) q := by
  unfold Spec.gateB
  blk_point [iblk, V, idx_next t]

theorem nextG_at (t : Fin cfg0.N) (h : t.val < 31) (i : Fin 16) (q : Fin 1024) :
    iblk m c 8 t (ix2 i q) = Spec.actG (U m c) (nrow t h i) q := by
  unfold Spec.actG
  blk_point [iblk, V, idx_next t]

theorem nextD_at (t : Fin cfg0.N) (h : t.val < 31) (i : Fin 16) (q : Fin 1024) :
    iblk m c 9 t (ix2 i q) = D m c (ix2 (nrow t h i) q) := by
  blk_point [iblk, V, idx_next t]

end Cert.Mixer.Rows

end
-- ==== Proof.Mixer.Block.lean ====
/- What a point of the grid computes, in the words of the specification. -/
module

public import proofs.«01_k».proof.Proof.Mixer.Rows

@[expose] public section

set_option maxRecDepth 16384

noncomputable section

namespace Cert.Mixer.Block

open Idealize.ShloMosaic Idealize.ShloMosaic.TcCoe Idealize.SL.Sem
open Cert.MixerIdeal Cert.MixerIdeal.Gen Cert.Common Cert.Mixer.Rows

variable (m : (ℓ : Loc nD τ sig) → Buf (Elt Ideal) ℓ) (c : Dev nD) (t : Fin cfg0.N)

/-- The vectors of point `t`: what the convolution reads, its halo, the two shifted blocks. -/
abbrev vIn : FVec Ideal S512x1024 .f32 := k0_pay10 (iblk m c 1 t) (iblk m c 2 t)
abbrev vHalo : FVec Ideal S16x1024 .f32 := k0_pay11 (grid0.coords t) (iblk m c 5 t) (iblk m c 6 t)
abbrev vShift1 : FVec Ideal S512x1024 .f32 :=
  k0_pay12 (grid0.coords t) (iblk m c 1 t) (iblk m c 2 t) (iblk m c 5 t) (iblk m c 6 t)
abbrev vRot2 : FVec Ideal S512x1024 .f32 :=
  k0_pay13 (grid0.coords t) (iblk m c 1 t) (iblk m c 2 t) (iblk m c 5 t) (iblk m c 6 t)
abbrev vIota : IVec S512x1024 32 := iota .tc S512x1024 32 [0] iota_S512x1024_d0_w32
abbrev vShift2 : FVec Ideal S512x1024 .f32 := k0_pay15 (vHalo m c t) vIota (vRot2 m c t) k0_pay14
abbrev vOut : FVec Ideal S512x1024 .f32 :=
  k0_pay16 (iblk m c 10 t) (vIn m c t) (vHalo m c t) (vShift1 m c t) vIota (vRot2 m c t) k0_pay14
abbrev vDOut : FVec Ideal S512x1024 .f32 := k0_pay20 (k0_pay6 (iblk m c 0 t)) (k0_pay9 (iblk m c 3 t)) (iblk m c 4 t)
abbrev vDIn : FVec Ideal S512x1024 .f32 :=
  k0_pay23 (BitVec.ofNat 32 ((grid0.coords t) 0).val) (iblk m c 10 t) (vDOut m c t)
    (k0_pay21 (iblk m c 9 t) (iblk m c 7 t)) (k0_pay22 (iblk m c 8 t))

theorem in_at (i : Fin 512) (q : Fin 1024) : vIn m c t (ix2 i q) = Spec.conv_in (U m c) q (row t i) := by
  refine (Pay.conv_in_at _ _ i q).trans ?_
  rw [gateC_at, inX_at]
  rfl

theorem halo_at (h : 0 < t.val) (i : Fin 16) (q : Fin 1024) :
    vHalo m c t (ix2 i q) = Spec.conv_in (U m c) q (prow t h i) := by
  refine (Pay.halo_at _ _ _ i q).trans ?_
  rw [coord_eq, if_neg (by omega), prevC_at m c t h, prevX_at m c t h]
  rfl

theorem halo_first (h : t.val = 0) (i : Fin 16) (q : Fin 1024) : vHalo m c t (ix2 i q) = 0 := by
  refine (Pay.halo_at _ _ _ i q).trans ?_
  rw [coord_eq, if_pos h]

theorem before_of (f : Fin 16384 → EReal) (k p : ℕ) (r : Fin 16384) (h : r.val + k = p) : Spec.before f k p = f r := by
  unfold Spec.before
  have := r.isLt
  rw [dif_pos ⟨by omega, by omega⟩]
  exact congrArg f (Fin.ext (by show p - k = r.val; omega))

theorem before_none (f : Fin 16384 → EReal) (k p : ℕ) (h : p < k) : Spec.before f k p = 0 := by
  unfold Spec.before
  rw [dif_neg (by omega)]

theorem after_of (f : Fin 16384 → EReal) (k p : ℕ) (r : Fin 16384) (h : p + k = r.val) : Spec.after f k p = f r := by
  unfold Spec.after
  have := r.isLt
  rw [dif_pos (by omega)]
  exact congrArg f (Fin.ext h)

theorem after_none (f : Fin 16384 → EReal) (k p : ℕ) (h : 16384 ≤ p + k) : Spec.after f k p = 0 := by
  unfold Spec.after
  rw [dif_neg (by omega)]

theorem shift1_at (i : Fin 512) (q : Fin 1024) :
    vShift1 m c t (ix2 i q) = Spec.before (Spec.conv_in (U m c) q) 1 (row t i) := by
  refine (Pay.shift1_at _ _ _ _ _ i q).trans ?_
  by_cases hi : i.val = 0
  · rw [dif_pos hi]
    by_cases ht : t.val = 0
    · refine (halo_first m c t ht _ q).trans (before_none _ _ _ (by show 512 * t.val + i.val < 1; omega)).symm
    · refine (halo_at m c t (by omega) _ q).trans (?_ : _ = _)
      exact (before_of _ _ _ _ (by show 512 * t.val - 16 + 15 + 1 = 512 * t.val + i.val; omega)).symm
  · rw [dif_neg hi]
    refine (in_at m c t _ q).trans ?_
    exact (before_of _ _ _ _ (by show 512 * t.val + (i.val - 1) + 1 = 512 * t.val + i.val; omega)).symm

theorem shift2_at (i : Fin 512) (q : Fin 1024) :
    vShift2 m c t (ix2 i q) = Spec.before (Spec.conv_in (U m c) q) 2 (row t i) := by
  refine (Pay.shift2_at _ _ _ _ _ i q).trans ?_
  by_cases hi : i.val < 2
  · rw [dif_pos hi]
    by_cases ht : t.val = 0
    · refine (halo_first m c t ht _ q).trans (before_none _ _ _ (by show 512 * t.val + i.val < 2; omega)).symm
    · refine (halo_at m c t (by omega) _ q).trans (?_ : _ = _)
      exact (before_of _ _ _ _ (by show 512 * t.val - 16 + (14 + i.val) + 2 = 512 * t.val + i.val; omega)).symm
  · rw [dif_neg hi]
    refine (in_at m c t _ q).trans ?_
    exact (before_of _ _ _ _ (by show 512 * t.val + (i.val - 2) + 2 = 512 * t.val + i.val; omega)).symm

theorem out_at (i : Fin 512) (q : Fin 1024) : vOut m c t (ix2 i q) = Spec.conv_out (U m c) (W m c) (row t i) q := by
  refine (Pay.conv_out_at _ _ _ _ _ _ _ i q).trans ?_
  exact Ideal.add_congr (Ideal.add_congr (Ideal.mul_congr (w_at m c t _ q) (in_at m c t i q))
    (Ideal.mul_congr (w_at m c t _ q) (shift1_at m c t i q))) (Ideal.mul_congr (w_at m c t _ q) (shift2_at m c t i q))

theorem d_out_at (i : Fin 512) (q : Fin 1024) : vDOut m c t (ix2 i q) = Spec.d_out (U m c) (D m c) q (row t i) := by
  have h0 : k0_pay6 (iblk m c 0 t) (ix2 i q) = Spec.gateB (U m c) (row t i) q := gateB_at m c t i q
  have h3 : k0_pay9 (iblk m c 3 t) (ix2 i q) = Spec.actG (U m c) (row t i) q := actG_at m c t i q
  refine (Pay.d_out_at _ _ _ i q).trans ?_
  rw [h0, h3, d_at]
  rfl

theorem d_halo_at (h : t.val < 31) (i : Fin 16) (q : Fin 1024) :
    (k0_pay21 (iblk m c 9 t) (iblk m c 7 t) (ix2 i q) : EReal) * k0_pay22 (iblk m c 8 t) (ix2 i q)
      = Spec.d_out (U m c) (D m c) q (nrow t h i) := by
  have h1 : k0_pay21 (iblk m c 9 t) (iblk m c 7 t) (ix2 i q)
      = (show EReal from D m c (ix2 (nrow t h i) q)) * Spec.gateB (U m c) (nrow t h i) q := by
    have e : k0_pay21 (iblk m c 9 t) (iblk m c 7 t) (ix2 i q) = (show EReal from iblk m c 9 t (ix2 i q)) * (show EReal from iblk m c 7 t (ix2 i q)) := rfl
    rw [e, nextD_at m c t h, nextB_at m c t h]
  rw [h1, Pay.silu_at, nextG_at m c t h]
  rfl

theorem d_in_at (i : Fin 512) (q : Fin 1024) : vDIn m c t (ix2 i q) = Spec.d_in (U m c) (D m c) (W m c) (row t i) q := by
  have ht := t.isLt
  have hN := N_eq
  have hlast : BitVec.ofNat 32 ((grid0.coords t) 0).val = 31#32 ↔ t.val = 31 := by
    rw [coord_eq]
    exact ofNat_eq _ _ (by omega) (by omega)
  refine (Pay.d_in_at _ _ _ _ _ i q).trans ?_
  rw [w_at, w_at, w_at, d_out_at]
  unfold Spec.d_in
  refine Ideal.add_congr (Ideal.add_congr rfl (Ideal.mul_congr rfl ?_)) (Ideal.mul_congr rfl ?_)
  · by_cases hi : i.val = 511
    · rw [dif_pos hi]
      by_cases h31 : t.val = 31
      · rw [if_pos (hlast.mpr h31), after_none _ _ _ (by show 16384 ≤ 512 * t.val + i.val + 1; omega)]
      · rw [if_neg (fun h => h31 (hlast.mp h)), d_halo_at m c t (by omega)]
        exact (after_of _ _ _ _ (by show 512 * t.val + i.val + 1 = 512 * t.val + 512 + 0; omega)).symm
    · rw [dif_neg hi, d_out_at]
      exact (after_of _ _ _ _ (by show 512 * t.val + i.val + 1 = 512 * t.val + (i.val + 1); omega)).symm
  · by_cases hi : 510 ≤ i.val
    · rw [dif_pos hi]
      by_cases h31 : t.val = 31
      · rw [if_pos (hlast.mpr h31), after_none _ _ _ (by show 16384 ≤ 512 * t.val + i.val + 2; omega)]
      · rw [if_neg (fun h => h31 (hlast.mp h)), d_halo_at m c t (by omega)]
        exact (after_of _ _ _ _ (by show 512 * t.val + i.val + 2 = 512 * t.val + 512 + (i.val - 510); omega)).symm
    · rw [dif_neg hi, d_out_at]
      exact (after_of _ _ _ _ (by show 512 * t.val + i.val + 2 = 512 * t.val + (i.val + 2); omega)).symm

end Cert.Mixer.Block

end
-- ==== Proof.Mixer.Groups.lean ====
/- The kernel's first result: the gradient of the four groups of columns, a block of rows at a time. -/
module

public import proofs.«01_k».proof.Proof.Mixer.Block

@[expose] public section

set_option maxRecDepth 16384

noncomputable section

namespace Cert.Mixer.Groups

open Idealize.ShloMosaic Idealize.ShloMosaic.TcCoe Idealize.SL.Sem
open Cert.MixerIdeal Cert.MixerIdeal.Gen Cert.Common Cert.Mixer.Rows Cert.Mixer.Block

variable (m : (ℓ : Loc nD τ sig) → Buf (Elt Ideal) ℓ) (c : Dev nD) (t : Fin cfg0.N)

theorem gateB_at (i : Fin 512) (q : Fin 1024) :
    k0_pay24 (iblk m c 4 t) (vOut m c t) (k0_pay18 (k0_pay9 (iblk m c 3 t))) (ix2 i q)
      = Spec.d_gateB (U m c) (D m c) (W m c) (row t i) q := by
  have h3 : k0_pay9 (iblk m c 3 t) (ix2 i q) = Spec.actG (U m c) (row t i) q := actG_at m c t i q
  refine (Pay.d_gateB_at _ _ _ i q).trans (Ideal.mul_congr (Ideal.mul_congr (d_at m c t i q) (out_at m c t i q)) ?_)
  refine Eq.trans (b := (k0_pay9 (iblk m c 3 t) (ix2 i q) : EReal) * k0_pay17 (k0_pay9 (iblk m c 3 t)) (ix2 i q)) rfl ?_
  rw [Pay.sig_at, h3]

theorem gateC_at (i : Fin 512) (q : Fin 1024) :
    k0_pay25 (BitVec.ofNat 32 ((grid0.coords t) 0).val) (iblk m c 10 t) (k0_pay8 (iblk m c 2 t)) (vDOut m c t)
        (k0_pay21 (iblk m c 9 t) (iblk m c 7 t)) (k0_pay22 (iblk m c 8 t)) (ix2 i q)
      = Spec.d_gateC (U m c) (D m c) (W m c) (row t i) q :=
  Ideal.mul_congr (d_in_at m c t i q) (inX_at m c t i q)

theorem inX_at (i : Fin 512) (q : Fin 1024) :
    k0_pay26 (BitVec.ofNat 32 ((grid0.coords t) 0).val) (iblk m c 10 t) (k0_pay7 (iblk m c 1 t)) (vDOut m c t)
        (k0_pay21 (iblk m c 9 t) (iblk m c 7 t)) (k0_pay22 (iblk m c 8 t)) (ix2 i q)
      = Spec.d_inX (U m c) (D m c) (W m c) (row t i) q :=
  Ideal.mul_congr (d_in_at m c t i q) (Rows.gateC_at m c t i q)

theorem actG_at (i : Fin 512) (q : Fin 1024) :
    k0_pay1 (k0_pay6 (iblk m c 0 t)) (iblk m c 4 t) (vOut m c t) (k0_pay19 (k0_pay9 (iblk m c 3 t))) (ix2 i q)
      = Spec.d_actG (U m c) (D m c) (W m c) (row t i) q := by
  have h0 : k0_pay6 (iblk m c 0 t) (ix2 i q) = Spec.gateB (U m c) (row t i) q := Rows.gateB_at m c t i q
  have h3 : k0_pay9 (iblk m c 3 t) (ix2 i q) = Spec.actG (U m c) (row t i) q := Rows.actG_at m c t i q
  refine (Pay.d_actG_at _ _ _ _ i q).trans ?_
  rw [h0, h3, d_at]
  exact Ideal.mul_congr (Ideal.mul_congr rfl (out_at m c t i q)) rfl

/-- A column of one group is that group's gradient. -/
theorem row_of (p p' : Fin 16384) (j : Fin 4096) (q : Fin 1024) (hp : p'.val = p.val) :
    (j.val = q.val → Spec.d_gateB (U m c) (D m c) (W m c) p q = Spec.d_row (U m c) (D m c) (W m c) p' j)
    ∧ (j.val = 1024 + q.val → Spec.d_gateC (U m c) (D m c) (W m c) p q = Spec.d_row (U m c) (D m c) (W m c) p' j)
    ∧ (j.val = 2048 + q.val → Spec.d_inX (U m c) (D m c) (W m c) p q = Spec.d_row (U m c) (D m c) (W m c) p' j)
    ∧ (j.val = 3072 + q.val → Spec.d_actG (U m c) (D m c) (W m c) p q = Spec.d_row (U m c) (D m c) (W m c) p' j) := by
  obtain rfl : p = p' := Fin.ext hp.symm
  have hq := q.isLt
  unfold Spec.d_row
  refine ⟨fun h => ?_, fun h => ?_, fun h => ?_, fun h => ?_⟩
  · rw [dif_pos (by omega)]
    exact congrArg (Spec.d_gateB (U m c) (D m c) (W m c) p) (Fin.ext h.symm)
  · rw [dif_neg (by omega), dif_pos (by omega)]
    exact congrArg (Spec.d_gateC (U m c) (D m c) (W m c) p) (Fin.ext (by show q.val = j.val - 1024; omega))
  · rw [dif_neg (by omega), dif_neg (by omega), dif_pos (by omega)]
    exact congrArg (Spec.d_inX (U m c) (D m c) (W m c) p) (Fin.ext (by show q.val = j.val - 2048; omega))
  · rw [dif_neg (by omega), dif_neg (by omega), dif_neg (by omega)]
    exact congrArg (Spec.d_actG (U m c) (D m c) (W m c) p) (Fin.ext (by show q.val = j.val - 3072; omega))

theorem block (y : S512x4096.Idx) (p : Fin 16384) (hy : p.val = 512 * t.val + (y 0).val) :
    (outsAt0 m c t.val t.isLt).1 y = Spec.d_row (U m c) (D m c) (W m c) p (y 1) := by
  by_cases ht : t.val % 32 = 0
  on_goal 1 => rw [outsAt0_A m c t ht]
  on_goal 2 => rw [outsAt0_B m c t ht]
  all_goals
    frame_out
    canon_tiles x h
    all_goals obtain ⟨i, q, rfl⟩ : ∃ (i : Fin 512) (q : Fin 1024), x = ix2 i q := ⟨x 0, x 1, by blk_ext⟩
    · exact (actG_at m c t i q).trans ((row_of m c _ p (y 1) q (by show p.val = 512 * t.val + i.val; rw [hy, h0]; rfl)).2.2.2 h1)
    · exact (inX_at m c t i q).trans ((row_of m c _ p (y 1) q (by show p.val = 512 * t.val + i.val; rw [hy, h0]; rfl)).2.2.1 h1)
    · exact (gateC_at m c t i q).trans ((row_of m c _ p (y 1) q (by show p.val = 512 * t.val + i.val; rw [hy, h0]; rfl)).2.1 h1)
    · exact (gateB_at m c t i q).trans ((row_of m c _ p (y 1) q (by show p.val = 512 * t.val + i.val; rw [hy, h0]; rfl)).1 h1)

theorem result (c : Dev nD) : (dats m 0 c).arrAt 11 (cfgs 0).N
    = fun j : S16384x4096.Idx => Spec.d_row (U m c) (D m c) (W m c) (j 0) (j 1) := by
  refine (dats m 0 c).arrAt_eq_of_covers 11 _ (by decide +kernel) fun t hf y => ?_
  blk_simp
  rw [after0_11]
  have e1 : (win0_11.blk t).view.emb y 1 = y 1 := Fin.ext (by blk_simp [idx t])
  rw [e1]
  refine block m c t y _ ?_
  blk_simp [idx t]
  omega

end Cert.Mixer.Groups

end
-- ==== Proof.Common.RowStore.lean ====
/- One row at a time of a buffer of rows: what stores of single rows leave, and what a load of one row reads. -/
module

public import Idealize.ShloMosaic.Lib.Pipeline.ValueKit
public import Idealize.ShloMosaic.Lib.Pointwise
public import Idealize.ShloMosaic.Lib.WritesUnit

@[expose] public section

noncomputable section

namespace Cert.Common

open Idealize.ShloMosaic

variable {m n : ℕ} {e : EltTy} {Val : EltTy → Type} [∀ e, Nonempty (Val e)]

abbrev Rows (m n : ℕ) : Shape := ⟨2, ![m, n]⟩

abbrev rowRect (m n o : ℕ) (inb : ∀ a, (![o, 0] : Fin 2 → ℕ) a + (![1, n] : Fin 2 → ℕ) a ≤ (Rows m n).size a) : Rect (Rows m n) :=
  Rect.unit (s := Rows m n) ![o, 0] ![1, n] inb

theorem rowRect_idx (o : ℕ) (ho : o < m) (inb) (q : Fin n) :
    (rowRect m n o inb).toLoadRect.idx (ix2 (0 : Fin 1) q) = (ix2 (⟨o, ho⟩ : Fin m) q : (Rows m n).Idx) := by
  funext a
  apply Fin.ext
  fin_cases a
  · show o + 1 * 0 = o
    omega
  · show 0 + 1 * q.val = q.val
    omega

theorem canon_row_same (o : ℕ) (inb) (w : (rowRect m n o inb).shape.Idx → Val e) (L : List (View.Piece Val (Rows m n) e))
    (k : Fin m) (q : Fin n) (h : k.val = o) :
    View.canon ((⟨rowRect m n o inb, w⟩ : View.Piece Val (Rows m n) e) :: L) (ix2 k q) = w (ix2 (0 : Fin 1) q) := by
  have e1 : (ix2 k q : (Rows m n).Idx) = (rowRect m n o inb).emb (ix2 (0 : Fin 1) q) := by
    refine Eq.trans ?_ (rowRect_idx o (h ▸ k.isLt) inb q).symm
    exact congrArg (fun k => (ix2 k q : (Rows m n).Idx)) (Fin.ext h)
  rw [e1, View.canon_cons_emb]

theorem canon_row_other (o : ℕ) (inb) (w : (rowRect m n o inb).shape.Idx → Val e) (L : List (View.Piece Val (Rows m n) e))
    (k : Fin m) (q : Fin n) (h : k.val ≠ o) :
    View.canon ((⟨rowRect m n o inb, w⟩ : View.Piece Val (Rows m n) e) :: L) (ix2 k q) = View.canon L (ix2 k q) := by
  refine View.canon_cons_of_not_mem _ _ fun hm => ?_
  obtain ⟨x, hx⟩ := (rowRect m n o inb).exists_idx_of_mem hm
  have h0 : ((rowRect m n o inb).emb x 0).val = k.val := congrArg (fun j : (Rows m n).Idx => (j 0).val) hx
  have h1 : ((rowRect m n o inb).emb x 0).val = o + 1 * (x 0).val := rfl
  have h2 : (x 0).val < 1 := (x 0).isLt
  omega

theorem readCov_row {sig : RefSig} {κ : Kind} {sp : Space} (v : View sig κ sp (Rows m n) e) (L : List (View.Piece Val (Rows m n) e))
    (o : ℕ) (ho : o < m) (inb) (q : Fin n) :
    v.readCov L (rowRect m n o inb).toLoadRect (ix2 (0 : Fin 1) q) = View.canon L (ix2 (⟨o, ho⟩ : Fin m) q) := by
  rw [View.readCov_eq_canon']
  exact congrArg (View.canon L) (rowRect_idx o ho inb q)

theorem ld_row (X : (Rows m n).Idx → Val e) (o : ℕ) (ho : o < m) (inb) (q : Fin n) :
    View.ld X (rowRect m n o inb) (ix2 (0 : Fin 1) q) = X (ix2 (⟨o, ho⟩ : Fin m) q) :=
  congrArg X (rowRect_idx o ho inb q)

theorem read_row_same {sig : RefSig} {κ : Kind} {sp : Space} (v : View sig κ sp (Rows m n) e) (f : v.ty.Contents Val)
    (o : ℕ) (inb) (w : (rowRect m n o inb).shape.Idx → Val e) (L : List (View.Piece Val (Rows m n) e))
    (k : Fin m) (q : Fin n) (h : k.val = o) :
    v.read Val (v.writes Val f ((⟨rowRect m n o inb, w⟩ : View.Piece Val (Rows m n) e) :: L)) (ix2 k q) = w (ix2 (0 : Fin 1) q) :=
  View.read_writes_cons_rows_of_mem v f inb w L _ (ix2 (0 : Fin 1) q) rfl h rfl

theorem read_row_other {sig : RefSig} {κ : Kind} {sp : Space} (v : View sig κ sp (Rows m n) e) (f : v.ty.Contents Val)
    (o : ℕ) (inb) (w : (rowRect m n o inb).shape.Idx → Val e) (L : List (View.Piece Val (Rows m n) e))
    (k : Fin m) (q : Fin n) (h : k.val ≠ o) :
    v.read Val (v.writes Val f ((⟨rowRect m n o inb, w⟩ : View.Piece Val (Rows m n) e) :: L)) (ix2 k q)
      = v.read Val (v.writes Val f L) (ix2 k q) :=
  View.read_writes_cons_rows_of_not_mem v f inb w L _ (o := o) (W := 1) rfl rfl (by
    show k.val < o ∨ o + 1 ≤ k.val
    omega)

end Cert.Common

end
-- ==== Proof.Mixer.Taps.lean ====
/- The kernel's second result: the gradient of the three taps, summed over the blocks. -/
module

public import proofs.«01_k».proof.Proof.Mixer.Block
public import proofs.«01_k».proof.Proof.Common.RowStore

@[expose] public section

set_option maxRecDepth 16384

noncomputable section

namespace Cert.Mixer.Taps

open Idealize.ShloMosaic Idealize.ShloMosaic.TcCoe Idealize.SL.Sem
open Cert.MixerIdeal Cert.MixerIdeal.Gen Cert.Common Cert.Mixer.Rows Cert.Mixer.Block

variable (m : (ℓ : Loc nD τ sig) → Buf (Elt Ideal) ℓ) (c : Dev nD)

/-- What block `t` adds to tap `k`. -/
def share (t : Fin cfg0.N) (k : Fin 8) (q : Fin 1024) : EReal :=
  if k.val < 3 then ∑ i : Fin 512, Spec.d_out (U m c) (D m c) q (row t i)
    * Spec.before (Spec.conv_in (U m c) q) (2 - k.val) (row t i) else 0

theorem share_of (t : Fin cfg0.N) (k : Fin 8) (j : ℕ) (q : Fin 1024) (v40 : FVec Ideal S512x1024 .f32) (hk : k.val = j) (hj : j < 3)
    (h : ∀ i, v40 (ix2 i q) = Spec.before (Spec.conv_in (U m c) q) (2 - j) (row t i)) :
    ∑ i : Fin 512, vDOut m c t (ix2 i q) * v40 (ix2 i q) = share m c t k q := by
  subst hk
  unfold share
  rw [if_pos hj]
  exact Finset.sum_congr rfl fun i _ => Ideal.mul_congr (d_out_at m c t i q) (h i)

theorem before_zero (f : Fin 16384 → EReal) (p : Fin 16384) : Spec.before f 0 p = f p :=
  before_of f 0 p p rfl

theorem pay_zero (x : S8x1024.Idx) : k0_pay2 (F := Ideal) x = (0 : EReal) := Ideal.ofBits_zero_f32

theorem first (t : Fin cfg0.N) (h : t.val % 32 = 0) (k : Fin 8) (q : Fin 1024) :
    (outsAt0 m c t.val t.isLt).2 (ix2 k q) = (0 : EReal) + share m c t k q := by
  have hz : ∀ k : Fin 8, View.canon (Val := Elt Ideal) (s := S8x1024) (e := .f32)
      [⟨Rect.unit ![0, 0] ![8, 1024] inb_S8x1024_S8x1024_0_0, k0_pay2 (F := Ideal)⟩] (ix2 k q) = (0 : EReal) := fun k => by
    canon_tiles x h
    exact pay_zero x
  rw [outsAt0_A m c t h]
  frame_out
  by_cases h2 : k.val = 2
  · refine (canon_row_same 2 _ _ _ k q h2).trans ((Pay.tap0_at _ _ _ q).trans ?_)
    refine Ideal.add_congr ?_ (share_of m c t k 2 q _ h2 (by omega) fun i => (in_at m c t i q).trans (before_zero _ _).symm)
    refine (readCov_row _ _ 2 (by omega) _ q).trans ?_
    exact (canon_row_other 1 _ _ _ _ q (show 2 ≠ 1 by decide)).trans ((canon_row_other 0 _ _ _ _ q (show 2 ≠ 0 by decide)).trans (hz _))
  refine (canon_row_other 2 _ _ _ k q h2).trans ?_
  by_cases h1 : k.val = 1
  · refine (canon_row_same 1 _ _ _ k q h1).trans ((Pay.tap1_at _ _ _ q).trans ?_)
    refine Ideal.add_congr ?_ (share_of m c t k 1 q _ h1 (by omega) fun i => shift1_at m c t i q)
    refine (readCov_row _ _ 1 (by omega) _ q).trans ?_
    exact (canon_row_other 0 _ _ _ _ q (show 1 ≠ 0 by decide)).trans (hz _)
  refine (canon_row_other 1 _ _ _ k q h1).trans ?_
  by_cases h0 : k.val = 0
  · refine (canon_row_same 0 _ _ _ k q h0).trans ((Pay.tap2_at _ _ _ q).trans ?_)
    refine Ideal.add_congr ?_ (share_of m c t k 0 q _ h0 (by omega) fun i => shift2_at m c t i q)
    exact (readCov_row _ _ 0 (by omega) _ q).trans (hz _)
  refine (canon_row_other 0 _ _ _ k q h0).trans ((hz k).trans ?_)
  unfold share
  rw [if_neg (by omega), zero_add]

theorem next (t : Fin cfg0.N) (h : ¬t.val % 32 = 0) (k : Fin 8) (q : Fin 1024) :
    (outsAt0 m c t.val t.isLt).2 (ix2 k q)
      = (show EReal from (outsAt0 m c (t.val - 1) (by have := t.isLt; omega)).2 (ix2 k q)) + share m c t k q := by
  rw [outsAt0_B m c t h]
  frame_out
  by_cases h2 : k.val = 2
  · refine (read_row_same _ _ 2 _ _ _ k q h2).trans ((Pay.tap0_at _ _ _ q).trans ?_)
    refine Ideal.add_congr ?_ (share_of m c t k 2 q _ h2 (by omega) fun i => (in_at m c t i q).trans (before_zero _ _).symm)
    exact (ld_row _ 2 (by omega) _ q).trans (congrArg (fun k => (outsAt0 m c (t.val - 1) (by have := t.isLt; omega)).2 (ix2 k q)) (Fin.ext h2.symm))
  refine (read_row_other _ _ 2 _ _ _ k q h2).trans ?_
  by_cases h1 : k.val = 1
  · refine (read_row_same _ _ 1 _ _ _ k q h1).trans ((Pay.tap1_at _ _ _ q).trans ?_)
    refine Ideal.add_congr ?_ (share_of m c t k 1 q _ h1 (by omega) fun i => shift1_at m c t i q)
    exact (ld_row _ 1 (by omega) _ q).trans (congrArg (fun k => (outsAt0 m c (t.val - 1) (by have := t.isLt; omega)).2 (ix2 k q)) (Fin.ext h1.symm))
  refine (read_row_other _ _ 1 _ _ _ k q h1).trans ?_
  by_cases h0 : k.val = 0
  · refine (read_row_same _ _ 0 _ _ _ k q h0).trans ((Pay.tap2_at _ _ _ q).trans ?_)
    refine Ideal.add_congr ?_ (share_of m c t k 0 q _ h0 (by omega) fun i => shift2_at m c t i q)
    exact (ld_row _ 0 (by omega) _ q).trans (congrArg (fun k => (outsAt0 m c (t.val - 1) (by have := t.isLt; omega)).2 (ix2 k q)) (Fin.ext h0.symm))
  refine (read_row_other _ _ 0 _ _ _ k q h0).trans ?_
  unfold share
  rw [if_neg (by omega), add_zero]
  exact congrFun (Memref.IsWhole.read_unread _ _) _

theorem sum_share (p : Fin 32 → Fin cfg0.N) (hp : ∀ s, (p s).val = s.val) (k : Fin 8) (q : Fin 1024) :
    ∑ s : Fin 32, share m c (p s) k q = if k.val < 3 then Spec.d_tap (U m c) (D m c) k.val q else 0 := by
  by_cases hk : k.val < 3
  · rw [if_pos hk]
    unfold share Spec.d_tap
    simp only [if_pos hk]
    refine Fin.sum_mul_add_congr fun s i hl => ?_
    have e : 512 * (p s).val + i.val = s.val * 512 + i.val := by
      rw [hp]
      omega
    simp only [row, e]
  · rw [if_neg hk]
    unfold share
    simp only [if_neg hk]
    exact Finset.sum_const_zero

theorem result (c : Dev nD) : (dats m 0 c).arrAt 12 (cfgs 0).N
    = fun j : S8x1024.Idx => if (j 0).val < 3 then Spec.d_tap (U m c) (D m c) (j 0).val (j 1) else 0 := by
  refine (dats m 0 c).arrAt_eq_of_covers 12 _ (by decide +kernel) fun t hf y => ?_
  blk_simp
  rw [after0_12, Pipeline.eq_sum_fin_of_reset_step_apply_of_flush (fun n h => (outsAt0 m c n h).2) 32 (fun _ => (0 : EReal))
    (fun t j => share m c t (j 0) (j 1))
    (fun t h j => by
      have e : j = ix2 (j 0) (j 1) := by blk_ext
      rw [e]
      exact first m c t h (j 0) (j 1))
    (fun t h j => by
      have e : j = ix2 (j 0) (j 1) := by blk_ext
      rw [e]
      exact next m c t h (j 0) (j 1)) t ((flush0_12 t).mp hf) _]
  have ht := t.isLt
  have hN := N_eq
  have hN' : cfg0.grid.N = 32 := N_eq
  rw [zero_add]
  refine (sum_share m c (fun s => ⟨32 * (t.val / 32) + s.val, _⟩) (fun s => ?_) (y 0) (y 1)).trans ?_
  · show 32 * (t.val / 32) + s.val = s.val
    omega
  · have e0 : win0_12.index t 0 * 8 + (y 0).val = (y 0).val := by
      rw [(idx t).2.2.2.2.2.2.2.2.2]
      show 0 * 8 + (y 0).val = (y 0).val
      omega
    have e1 : (win0_12.blk t).view.emb y 1 = y 1 := Fin.ext (by blk_simp [idx t])
    simp only [e0, e1]

end Cert.Mixer.Taps

end
-- ==== Proof.Mixer.Ref.lean ====
/- What the reference returns, entry by entry. -/
module

public import proofs.«01_k».proof.Proof.Gen.MixerRefIdeal.Run
public import proofs.«01_k».proof.Proof.Mixer.Spec

@[expose] public section

set_option maxRecDepth 16384

noncomputable section

namespace Cert.Mixer.Ref

open Idealize.ShloMosaic Idealize.ShloMosaic.TcCoe Idealize.SL.Sem
open Cert.MixerRefIdeal Cert.MixerRefIdeal.Gen Cert.MixerRefIdeal.Value

variable (m : (ℓ : Loc nD τ sig) → Buf (Elt Ideal) ℓ) (c : Dev nD)

/-- `before` and `after` in the reference's spelling of the shifted rows. -/
theorem before_eq (f : Fin 16384 → EReal) (k : ℕ) (p : Fin 16384) (h : k ≤ p.val) :
    Spec.before f k p = f ⟨p.val - k, by omega⟩ := by
  unfold Spec.before
  rw [dif_pos ⟨h, by omega⟩]

theorem before_zero (f : Fin 16384 → EReal) (k : ℕ) (p : Fin 16384) (h : ¬ k ≤ p.val) : Spec.before f k p = 0 := by
  unfold Spec.before
  rw [dif_neg fun h' => h h'.1]

theorem after_eq (f : Fin 16384 → EReal) (k : ℕ) (p : Fin 16384) (h : p.val + k < 16384) :
    Spec.after f k p = f ⟨p.val + k, h⟩ := by
  unfold Spec.after
  rw [dif_pos h]

theorem after_zero (f : Fin 16384 → EReal) (k : ℕ) (p : Fin 16384) (h : ¬ p.val + k < 16384) : Spec.after f k p = 0 := by
  unfold Spec.after
  rw [dif_neg h]

/-- What the convolution leaves, with the two shifted rows as the reference writes them. -/
theorem conv_out_eq (U : FVec Ideal Spec.Us .bf16) (W : FVec Ideal Spec.Ws .f32) (p : Fin 16384) (q : Fin 1024) :
    Spec.conv_out U W p q = W (ix2 0 q) * (if h : p.val < 2 then 0 else Spec.conv_in U q ⟨p.val - 2, by omega⟩)
      + W (ix2 1 q) * (if h : 1 + p.val < 2 then 0 else Spec.conv_in U q ⟨1 + p.val - 2, by omega⟩)
      + W (ix2 2 q) * Spec.conv_in U q p := by
  unfold Spec.conv_out
  have h2 : Spec.before (Spec.conv_in U q) 2 p = if h : p.val < 2 then 0 else Spec.conv_in U q ⟨p.val - 2, by omega⟩ := by
    by_cases h : p.val < 2
    · rw [dif_pos h, before_zero _ _ _ (by omega)]
    · rw [dif_neg h, before_eq _ _ _ (by omega)]
  have h1 : Spec.before (Spec.conv_in U q) 1 p
      = if h : 1 + p.val < 2 then 0 else Spec.conv_in U q ⟨1 + p.val - 2, by omega⟩ := by
    by_cases h : 1 + p.val < 2
    · rw [dif_pos h, before_zero _ _ _ (by omega)]
    · rw [dif_neg h, before_eq _ _ _ (by omega)]
      exact congrArg _ (Fin.ext (by show p.val - 1 = 1 + p.val - 2; omega))
  rw [h1, h2]
  ac_rfl

theorem d_gateB_at (p : Fin 16384) (q : Fin 1024) :
    res_out0 m c (ix2 p ⟨q.val, by omega⟩ : S16384x4096.Idx)
      = Spec.d_gateB (m (c.tc.loc main_arg0)) (m (c.tc.loc main_arg1)) (m (c.tc.loc main_arg2)) p q := by
  pointwise [res_main_v61]
  simp only [Spec.d_gateB, conv_out_eq, Spec.conv_in, Spec.gateC, Spec.inX, Spec.actG, Spec.sig]
  exact mul_right_comm (_ : EReal) _ _

theorem d_in_eq (U : FVec Ideal Spec.Us .bf16) (D : FVec Ideal Spec.Ds .f32) (W : FVec Ideal Spec.Ws .f32)
    (p : Fin 16384) (q : Fin 1024) :
    Spec.d_in U D W p q = W (ix2 2 q) * Spec.d_out U D q p
      + (if h : 1 ≤ 2 + p.val ∧ 2 + p.val - 1 < 16384 then W (ix2 1 q) * Spec.d_out U D q ⟨2 + p.val - 1, h.2⟩ else 0)
      + (if h : 2 + p.val < 16384 then W (ix2 0 q) * Spec.d_out U D q ⟨2 + p.val, h⟩ else 0) := by
  unfold Spec.d_in
  congr 1
  · congr 1
    by_cases h : p.val + 1 < 16384
    · rw [dif_pos ⟨by omega, by omega⟩, after_eq _ _ _ h]
      exact congrArg (fun i => W (ix2 1 q) * Spec.d_out U D q i) (Fin.ext (by show p.val + 1 = 2 + p.val - 1; omega))
    · rw [dif_neg (by omega), after_zero _ _ _ h, mul_zero]
  · by_cases h : p.val + 2 < 16384
    · rw [dif_pos (by omega), after_eq _ _ _ h]
      exact congrArg (fun i => W (ix2 0 q) * Spec.d_out U D q i) (Fin.ext (by show p.val + 2 = 2 + p.val; omega))
    · rw [dif_neg (by omega), after_zero _ _ _ h, mul_zero]

theorem d_out_eq (U : FVec Ideal Spec.Us .bf16) (D : FVec Ideal Spec.Ds .f32) (p : Fin 16384) (q : Fin 1024) :
    Spec.d_out U D q p = U (ix2 p ⟨q.val, by omega⟩) * (D (ix2 p q) * (U (ix2 p ⟨3072 + q.val, by omega⟩)
      * Ideal.div 1 (1 + Ideal.exp (-U (ix2 p ⟨3072 + q.val, by omega⟩))))) := by
  unfold Spec.d_out Spec.gateB Spec.actG Spec.sig
  ac_rfl

end Cert.Mixer.Ref

end
-- ==== Proof.Common.Finite.lean ====
/- Arrays whose entries are real numbers: how a precondition says it, and what the operations keep of it. -/
module

public import Idealize.ShloMosaic.PureOps.Ideal
public import Idealize.ShloMosaic.Lib.ReduceAll
public import Idealize.ShloMosaic.Lib.Pointwise

@[expose] public section

set_option maxRecDepth 16384

noncomputable section

namespace Cert.Common

open Idealize.ShloMosaic

/-- The extended real is a real number. -/
def Real? (x : EReal) : Prop := ∃ r : ℝ, x = (r : EReal)

theorem Real?.coe (r : ℝ) : Real? (r : EReal) := ⟨r, rfl⟩
theorem Real?.zero : Real? 0 := ⟨0, rfl⟩
theorem Real?.one : Real? 1 := ⟨1, rfl⟩
theorem Real?.add {x y : EReal} (hx : Real? x) (hy : Real? y) : Real? (x + y) := by
  obtain ⟨a, rfl⟩ := hx
  obtain ⟨b, rfl⟩ := hy
  exact ⟨a + b, (EReal.coe_add a b).symm⟩
theorem Real?.mul {x y : EReal} (hx : Real? x) (hy : Real? y) : Real? (x * y) := by
  obtain ⟨a, rfl⟩ := hx
  obtain ⟨b, rfl⟩ := hy
  exact ⟨a * b, (EReal.coe_mul a b).symm⟩
theorem Real?.neg {x : EReal} (hx : Real? x) : Real? (-x) := by
  obtain ⟨a, rfl⟩ := hx
  exact ⟨-a, (EReal.coe_neg a).symm⟩
theorem Real?.sub {x y : EReal} (hx : Real? x) (hy : Real? y) : Real? (x - y) := by
  rw [sub_eq_add_neg]
  exact hx.add hy.neg
theorem Real?.sum {ι : Type} (s : Finset ι) (f : ι → EReal) (h : ∀ i ∈ s, Real? (f i)) : Real? (∑ i ∈ s, f i) := by
  classical
  induction s using Finset.induction_on with
  | empty => exact Real?.zero
  | insert a s ha ih =>
    rw [Finset.sum_insert ha]
    exact (h a (Finset.mem_insert_self a s)).add (ih fun i hi => h i (Finset.mem_insert_of_mem hi))

/-- The logistic function takes a real number to a real number. -/
theorem Real?.logistic {g : EReal} (hg : Real? g) : Real? (Ideal.div 1 (1 + Ideal.exp (-g))) := by
  obtain ⟨b, rfl⟩ := hg
  exact ⟨_, Ideal.logistic_coe b⟩

/-- An extended real whose absolute value lies below infinity is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : Real? x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | top => simp [Ideal.cmp] at h'
  | coe r => exact ⟨r, rfl⟩

/-- The precondition's test of a whole array: every entry is a real number. -/
theorem real_of_all {s t u : Shape} {axes : List (Fin s.rank)} [Subsingleton t.Idx] (x : FVec Ideal s .f32) (b : FVec Ideal s .f32)
    (hb : ∀ i, b i = FloatOps.ofBits (F := Ideal) .f32 0x7F800000#32) (init : u.Idx → BitVec 1) (hr) (hu) (j : t.Idx)
    (h : Host.reduce (axes := axes) IntOp.andi (cmpf .olt (Host.absf x) b) init hr hu j = 1#1) (i : s.Idx) : Real? (x i) := by
  have := Host.reduce_andi_all _ _ _ _ _ h i
  refine real_of_abs_lt _ ?_
  rw [← hb i]
  exact this

/-- Both bits of an `and` are set. -/
theorem andi_one {x y : BitVec 1} (h : IntOp.andi x y = 1#1) : x = 1#1 ∧ y = 1#1 := by
  revert x y
  decide

end Cert.Common

end
-- ==== Proof.Mixer.Ref2.lean ====
/- What the reference returns, entry by entry. -/
module

public import proofs.«01_k».proof.Proof.Gen.MixerRefIdeal.Run
public import proofs.«01_k».proof.Proof.Mixer.Ref
public import proofs.«01_k».proof.Proof.Common.Finite

@[expose] public section

set_option maxRecDepth 16384

noncomputable section

namespace Cert.Mixer.Ref

open Idealize.ShloMosaic Idealize.ShloMosaic.TcCoe Idealize.SL.Sem
open Cert.MixerRefIdeal Cert.MixerRefIdeal.Gen Cert.MixerRefIdeal.Value Cert.Common

variable (m : (ℓ : Loc nD τ sig) → Buf (Elt Ideal) ℓ) (c : Dev nD)

theorem d_gateC_at (p : Fin 16384) (q : Fin 1024) :
    res_out0 m c (ix2 p ⟨1024 + q.val, by omega⟩ : S16384x4096.Idx)
      = Spec.d_gateC (m (c.tc.loc main_arg0)) (m (c.tc.loc main_arg1)) (m (c.tc.loc main_arg2)) p q := by
  pointwise [res_main_v61]
  simp only [Spec.d_gateC, d_in_eq, d_out_eq, Spec.inX, show 1024 + q.val - 1024 = q.val by omega]

theorem d_inX_at (p : Fin 16384) (q : Fin 1024) :
    res_out0 m c (ix2 p ⟨2048 + q.val, by omega⟩ : S16384x4096.Idx)
      = Spec.d_inX (m (c.tc.loc main_arg0)) (m (c.tc.loc main_arg1)) (m (c.tc.loc main_arg2)) p q := by
  pointwise [res_main_v61]
  simp only [show ¬ 2048 + q.val < 1024 by omega, show ¬ 2048 + q.val - 1024 < 1024 by omega, dite_false, Fin.eta, show 2048 + q.val - 1024 - 1024 = q.val by omega, q.isLt, and_true, dite_true]
  simp only [Spec.d_inX, d_in_eq, d_out_eq, Spec.gateC, show 2048 + q.val - 1024 - 1024 = q.val by omega]
  exact mul_comm (_ : EReal) _

/-- The gradient through the SiLU, by the product rule and in one product. -/
theorem silu_grad (x g : EReal) (hx : Real? x) (hg : Real? g) :
    x * Spec.sig g + g * x * (Spec.sig g * (1 - Spec.sig g)) = x * (Spec.sig g * (1 + g * (1 - Spec.sig g))) := by
  obtain ⟨r, hr⟩ := hg.logistic
  obtain ⟨a, rfl⟩ := hx
  obtain ⟨b, rfl⟩ := hg
  unfold Spec.sig
  rw [hr]
  rw [← EReal.coe_one]
  simp only [← EReal.coe_mul, ← EReal.coe_add, ← EReal.coe_sub]
  congr 1
  ring

theorem before_real (f : Fin 16384 → EReal) (hf : ∀ p, Real? (f p)) (k p : ℕ) : Real? (Spec.before f k p) := by
  unfold Spec.before
  split_ifs
  · exact hf _
  · exact Real?.zero

theorem conv_out_real (U : FVec Ideal Spec.Us .bf16) (W : FVec Ideal Spec.Ws .f32) (hU : ∀ i, Real? (U i))
    (hW : ∀ i, Real? (W i)) (p : Fin 16384) (q : Fin 1024) : Real? (Spec.conv_out U W p q) := by
  have hc : ∀ p, Real? (Spec.conv_in U q p) := fun p => (hU _).mul (hU _)
  exact (((hW _).mul (hc p)).add ((hW _).mul (before_real _ hc _ _))).add ((hW _).mul (before_real _ hc _ _))

theorem d_actG_eq (U : FVec Ideal Spec.Us .bf16) (D : FVec Ideal Spec.Ds .f32) (W : FVec Ideal Spec.Ws .f32)
    (hU : ∀ i, Real? (U i)) (hD : ∀ i, Real? (D i)) (hW : ∀ i, Real? (W i)) (p : Fin 16384) (q : Fin 1024) :
    Spec.d_actG U D W p q
      = Spec.gateB U p q * Spec.conv_out U W p q * D (ix2 p q) * Spec.sig (Spec.actG U p q)
        + Spec.actG U p q * (Spec.gateB U p q * Spec.conv_out U W p q * D (ix2 p q))
          * (Spec.sig (Spec.actG U p q) * (1 - Spec.sig (Spec.actG U p q))) := by
  rw [silu_grad (Spec.gateB U p q * Spec.conv_out U W p q * D (ix2 p q)) (Spec.actG U p q) (((hU _).mul (conv_out_real U W hU hW p q)).mul (hD _)) (hU _)]
  unfold Spec.d_actG
  rw [mul_assoc (D (ix2 p q)) (Spec.gateB U p q) (Spec.conv_out U W p q),
    mul_comm (D (ix2 p q)) (Spec.gateB U p q * Spec.conv_out U W p q)]

theorem d_actG_at (hU : ∀ i : S16384x4096.Idx, Real? (m (c.tc.loc main_arg0) i))
    (hD : ∀ i : S16384x1024.Idx, Real? (m (c.tc.loc main_arg1) i)) (hW : ∀ i : S3x1024.Idx, Real? (m (c.tc.loc main_arg2) i))
    (p : Fin 16384) (q : Fin 1024) :
    res_out0 m c (ix2 p ⟨3072 + q.val, by omega⟩ : S16384x4096.Idx)
      = Spec.d_actG (m (c.tc.loc main_arg0)) (m (c.tc.loc main_arg1)) (m (c.tc.loc main_arg2)) p q := by
  pointwise [res_main_v61]
  simp only [show ¬ 3072 + q.val < 1024 by omega, show ¬ 3072 + q.val - 1024 < 1024 by omega,
    show ¬ 3072 + q.val - 1024 - 1024 < 1024 by omega, dite_false,
    Fin.eta, show 3072 + q.val - 1024 - 1024 - 1024 = q.val by omega]
  refine Eq.trans ?_ (d_actG_eq _ _ _ hU hD hW p q).symm
  simp only [conv_out_eq, Spec.sig, Spec.gateB, Spec.actG, Spec.conv_in, Spec.inX, Spec.gateC]

end Cert.Mixer.Ref

end
-- ==== Proof.Mixer.Ref3.lean ====
/- What the reference returns, entry by entry. -/
module

public import proofs.«01_k».proof.Proof.Gen.MixerRefIdeal.Run
public import proofs.«01_k».proof.Proof.Mixer.Ref

@[expose] public section

set_option maxRecDepth 16384

noncomputable section

namespace Cert.Mixer.Ref

open Idealize.ShloMosaic Idealize.ShloMosaic.TcCoe Idealize.SL.Sem
open Cert.MixerRefIdeal Cert.MixerRefIdeal.Gen Cert.MixerRefIdeal.Value

variable (m : (ℓ : Loc nD τ sig) → Buf (Elt Ideal) ℓ) (c : Dev nD)

/-- A sum against rows read `k` before: only the rows from `k` on count. -/
theorem tap_split (f g : Fin 16384 → EReal) (k n : ℕ) (h : k + n = 16384) :
    ∑ p : Fin 16384, f p * Spec.before g k p = ∑ x : Fin n, f ⟨k + x.val, by omega⟩ * g ⟨x.val, by omega⟩ := by
  have e := Fin.sum_univ_two_halves k n h fun p : Fin 16384 => f p * Spec.before g k p
  refine e.trans ?_
  have h0 : ∀ x : Fin k, f ⟨x.val, by omega⟩ * Spec.before g k x.val = 0 := fun x => by
    have := before_zero g k ⟨x.val, by omega⟩ (by show ¬ k ≤ x.val; omega)
    exact (congrArg (f ⟨x.val, by omega⟩ * ·) this).trans (mul_zero _)
  have h1 : ∀ x : Fin n, f ⟨k + x.val, by omega⟩ * Spec.before g k (k + x.val) = f ⟨k + x.val, by omega⟩ * g ⟨x.val, by omega⟩ := fun x => by
    have := before_eq g k ⟨k + x.val, by omega⟩ (by show k ≤ k + x.val; omega)
    refine congrArg (f ⟨k + x.val, by omega⟩ * ·) (this.trans ?_)
    exact congrArg g (Fin.ext (by show k + x.val - k = x.val; omega))
  refine (congrArg₂ (· + ·) (Finset.sum_eq_zero fun x _ => h0 x) (Finset.sum_congr rfl fun x _ => h1 x)).trans ?_
  exact zero_add _

theorem tap_zero (f g : Fin 16384 → EReal) : ∑ p : Fin 16384, f p * g p = ∑ p : Fin 16384, f p * Spec.before g 0 p :=
  Finset.sum_congr rfl fun p _ => congrArg (f p * ·) (before_eq g 0 p (Nat.zero_le _)).symm

theorem tap_one (f g : Fin 16384 → EReal) :
    (∑ p : Fin 16384, f p * if h : 1 + p.val < 2 then 0 else g ⟨1 + p.val - 2, by omega⟩)
      = ∑ p : Fin 16384, f p * Spec.before g 1 p := by
  refine Finset.sum_congr rfl fun p _ => congrArg (f p * ·) ?_
  by_cases h : 1 + p.val < 2
  · rw [dif_pos h, before_zero _ _ _ (by omega)]
  · rw [dif_neg h, before_eq _ _ _ (by omega)]
    exact congrArg g (Fin.ext (by show 1 + p.val - 2 = p.val - 1; omega))

theorem d_tap_at (k : Fin 8) (q : Fin 1024) :
    res_out1 m c (ix2 k q : S8x1024.Idx)
      = if k.val < 3 then Spec.d_tap (m (c.tc.loc main_arg0)) (m (c.tc.loc main_arg1)) k q else 0 := by
  pointwise [res_main_v62]
  simp only [← d_out_eq]
  by_cases h3 : k.val < 3
  · have hk : k.val = 0 ∨ k.val = 1 ∨ k.val = 2 := by omega
    rcases hk with h | h | h
    · simp only [h, show ¬ (2 ≤ 0) by omega, show ¬ (1 ≤ 0) by omega, false_and, show (0 < 3) by omega,
        show (0 < 1) by omega, dite_true, if_true, dite_false, zero_add, mul_zero, Finset.sum_const_zero, Spec.d_tap, Nat.sub_zero]
      exact (tap_split (Spec.d_out (m (c.tc.loc main_arg0)) (m (c.tc.loc main_arg1)) q) (Spec.conv_in (m (c.tc.loc main_arg0)) q) 2
        16382 (by omega)).symm
    · simp only [h, show ¬ (2 ≤ 1) by omega, false_and, show (1 ≤ 1 ∧ 1 - 1 < 1) from ⟨by omega, by omega⟩, true_and,
        show ¬ (1 < 1) by omega, show (1 < 3) by omega, dite_true, if_true, dite_false, zero_add, add_zero, Spec.d_tap]
      exact tap_one (Spec.d_out (m (c.tc.loc main_arg0)) (m (c.tc.loc main_arg1)) q) (Spec.conv_in (m (c.tc.loc main_arg0)) q)
    · simp only [h, show ¬ (2 - 1 < 1) by omega, and_false, show ¬ (2 < 1) by omega, show (2 < 3) by omega,
        show (2 - 2 < 1) by omega, and_true, le_refl, dite_true, if_true, dite_false, add_zero, Spec.d_tap]
      exact tap_zero (Spec.d_out (m (c.tc.loc main_arg0)) (m (c.tc.loc main_arg1)) q) (Spec.conv_in (m (c.tc.loc main_arg0)) q)
  · simp only [h3, dite_false, if_false]
    show (((0#32 : BitVec 32).toInt : ℝ) : EReal) = 0
    simp

end Cert.Mixer.Ref

end
-- ==== Proof.Mixer.Claim.lean ====
/- The two programs end with the same results. -/
module

public import proofs.«01_k».proof.Defs
public import proofs.«01_k».proof.Proof.Gen.Pre_mixer_finite
public import proofs.«01_k».proof.Proof.Gen.Mixer.Frame
public import proofs.«01_k».proof.Proof.Gen.MixerIdeal.Value
public import proofs.«01_k».proof.Proof.Mixer.Groups
public import proofs.«01_k».proof.Proof.Mixer.Taps
public import proofs.«01_k».proof.Proof.Mixer.Ref2
public import proofs.«01_k».proof.Proof.Mixer.Ref3
public import Idealize.ShloMosaic.Lib.Quiescent

@[expose] public section

set_option maxRecDepth 16384

noncomputable section

namespace Cert.Mixer.Claim

open Idealize.ShloMosaic Idealize.ShloMosaic.TcCoe Idealize.SL.Sem Cert.Common

/-- The reference's frame: it has no counters. -/
theorem ref_frame (m : (ℓ : Loc MixerRefIdeal.nD MixerRefIdeal.τ MixerRefIdeal.sig) → Buf (Elt Ideal) ℓ) (g : Dev MixerRefIdeal.nD → PrngReg) :
    θ_run (MixerRefIdeal.defs (F := Ideal)) (onTc (τ := MixerRefIdeal.τ) (MixerRefIdeal.main (F := Ideal))) ⟨m, fun _ => 0, g⟩
      (fun r => (∀ c : Dev MixerRefIdeal.nD,
        r.2.mem ((c.tc : Thread MixerRefIdeal.nD MixerRefIdeal.τ).loc MixerRefIdeal.main_arg0) = m ((c.tc : Thread MixerRefIdeal.nD MixerRefIdeal.τ).loc MixerRefIdeal.main_arg0)
        ∧ r.2.mem ((c.tc : Thread MixerRefIdeal.nD MixerRefIdeal.τ).loc MixerRefIdeal.main_arg1) = m ((c.tc : Thread MixerRefIdeal.nD MixerRefIdeal.τ).loc MixerRefIdeal.main_arg1)
        ∧ r.2.mem ((c.tc : Thread MixerRefIdeal.nD MixerRefIdeal.τ).loc MixerRefIdeal.main_arg2) = m ((c.tc : Thread MixerRefIdeal.nD MixerRefIdeal.τ).loc MixerRefIdeal.main_arg2))
        ∧ r.2.sem = fun _ => 0) :=
  (θ_run _ _ _).mono (fun r h => ⟨fun c => (h c).2.2, sem_eq_zero_of_no_sems rfl r.2⟩) (MixerRefIdeal.Value.run m g)

/-- What the precondition says: the three arguments hold real numbers. -/
theorem reals (x : FVec Ideal Pre_mixer_finite.S16384x4096 .bf16) (y : FVec Ideal Pre_mixer_finite.S16384x1024 .f32)
    (z : FVec Ideal Pre_mixer_finite.S3x1024 .f32) (h : Pre_mixer_finite.fn (F := Ideal) x y z = fun _ => 1#1) :
    (∀ i, Real? (x i)) ∧ (∀ i, Real? (y i)) ∧ ∀ i, Real? (z i) := by
  have h' := congrFun h ix0
  dsimp only [Pre_mixer_finite.fn] at h'
  obtain ⟨hxy, hz⟩ := andi_one h'
  obtain ⟨hx, hy⟩ := andi_one hxy
  haveI : Subsingleton Pre_mixer_finite.S_.Idx := ⟨fun a b => funext fun i => i.elim0⟩
  exact ⟨fun i => real_of_all (extf .f32 x _) _ (fun _ => rfl) _ _ _ _ hx i, fun i => real_of_all y _ (fun _ => rfl) _ _ _ _ hy i,
    fun i => real_of_all z _ (fun _ => rfl) _ _ _ _ hz i⟩

/-- A row of the reference's first result. -/
theorem row (m : (ℓ : Loc MixerRefIdeal.nD MixerRefIdeal.τ MixerRefIdeal.sig) → Buf (Elt Ideal) ℓ) (c : Dev MixerRefIdeal.nD)
    (hU : ∀ i, Real? (m (c.tc.loc MixerRefIdeal.main_arg0) i)) (hD : ∀ i, Real? (m (c.tc.loc MixerRefIdeal.main_arg1) i))
    (hW : ∀ i, Real? (m (c.tc.loc MixerRefIdeal.main_arg2) i)) (p : Fin 16384) (j : Fin 4096) :
    MixerRefIdeal.Value.res_main_v61 m c (ix2 p j) = Spec.d_row (m (c.tc.loc MixerRefIdeal.main_arg0)) (m (c.tc.loc MixerRefIdeal.main_arg1))
      (m (c.tc.loc MixerRefIdeal.main_arg2)) p j := by
  have hj := j.isLt
  unfold Spec.d_row
  by_cases h0 : j.val < 1024
  · rw [dif_pos h0]
    exact Mixer.Ref.d_gateB_at m c p ⟨j.val, h0⟩
  rw [dif_neg h0]
  by_cases h1 : j.val < 2048
  · rw [dif_pos h1]
    refine Eq.trans ?_ (Mixer.Ref.d_gateC_at m c p ⟨j.val - 1024, by omega⟩)
    exact congrArg (fun j => MixerRefIdeal.Value.res_main_v61 m c (ix2 p j)) (Fin.ext (by show j.val = 1024 + (j.val - 1024); omega))
  rw [dif_neg h1]
  by_cases h2 : j.val < 3072
  · rw [dif_pos h2]
    refine Eq.trans ?_ (Mixer.Ref.d_inX_at m c p ⟨j.val - 2048, by omega⟩)
    exact congrArg (fun j => MixerRefIdeal.Value.res_main_v61 m c (ix2 p j)) (Fin.ext (by show j.val = 2048 + (j.val - 2048); omega))
  rw [dif_neg h2]
  refine Eq.trans ?_ (Mixer.Ref.d_actG_at m c hU hD hW p ⟨j.val - 3072, by omega⟩)
  exact congrArg (fun j => MixerRefIdeal.Value.res_main_v61 m c (ix2 p j)) (Fin.ext (by show j.val = 3072 + (j.val - 3072); omega))

theorem algebraic : algebraic_MixerIdeal_MixerRefIdeal_pre_mixer_finite := by
  intro m g m' g' hpre hag
  refine ⟨fun c => (MixerIdeal.Gen.dats m 0 c).arrAt 11 (MixerIdeal.cfgs 0).N, fun c => (MixerIdeal.Gen.dats m 0 c).arrAt 12 (MixerIdeal.cfgs 0).N,
    MixerIdeal.Value.run_blocks m g, (θ_run _ _ _).mono (fun r h c => ?_) (MixerRefIdeal.Value.run m' g')⟩
  obtain ⟨a0, a1, a2⟩ := hag c
  obtain ⟨hU, hD, hW⟩ := reals _ _ _ (hpre c)
  refine ⟨(h c).1.trans ?_, (h c).2.1.trans ?_, (h c).2.2⟩
  · refine Eq.trans ?_ (Groups.result m c).symm
    funext j
    have e : j = ix2 (j 0) (j 1) := by blk_ext
    refine (congrArg (MixerRefIdeal.Value.res_main_v61 m' c) e).trans ((row m' c (fun i => by rw [a0]; exact hU i) (fun i => by rw [a1]; exact hD i)
      (fun i => by rw [a2]; exact hW i) (j 0) (j 1)).trans ?_)
    rw [a0, a1, a2]
  · refine Eq.trans ?_ (Taps.result m c).symm
    funext j
    have e : j = ix2 (j 0) (j 1) := by blk_ext
    refine (congrArg (MixerRefIdeal.Value.res_main_v62 m' c) e).trans ((Mixer.Ref.d_tap_at m' c (j 0) (j 1)).trans ?_)
    rw [a0, a1]

end Cert.Mixer.Claim

end
-- ==== Proof.Attn.Run.lean ====
/- The attention kernel's body, run once in each of its three cases (the first point of a head group, a middle point,
   the last point), over any float values: what it leaves in its result block, in the four scratch buffers that it
   carries between the points, and in the result that it writes by its own transfers. -/
module

public import proofs.«01_k».proof.Proof.Gen.AttentionIdeal.Frame.Runs

@[expose] public section

set_option maxRecDepth 16384

noncomputable section

namespace Cert.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The six staging buffers of a point: the queries, the running sums, the incoming gradient, the two triangles of ones,
    the result. -/
structure Stage where
  q : Memref sig .tc .vmem S256x256 .bf16
  hq : q.IsWhole
  cin : Memref sig .tc .vmem S1x4x256x64 .f32
  hcin : cin.IsWhole
  ct : Memref sig .tc .vmem S256x256 .f32
  hct : ct.IsWhole
  one : Memref sig .tc .vmem S256x256 .bf16
  hone : one.IsWhole
  oneT : Memref sig .tc .vmem S256x256 .bf16
  honeT : oneT.IsWhole
  dq : Memref sig .tc .vmem S256x256 .bf16
  hdq : dq.IsWhole

/-- What the body finds in the five buffers that it only reads. -/
structure Ins (F : FTy → Type) [FloatOps F] where
  q : Vec F S256x256 .bf16
  cin : Vec F S1x4x256x64 .f32
  ct : Vec F S256x256 .f32
  one : Vec F S256x256 .bf16
  oneT : Vec F S256x256 .bf16

/-- What is carried between the points: the head group's keys and values, the sums of their gradients, and the result that
    the body's own transfers write. -/
structure Carry (F : FTy → Type) [FloatOps F] (c : Dev nD) where
  k : Vec F S16384x256 .bf16
  v : Vec F S16384x256 .bf16
  dk : Vec F S16384x256 .f32
  dv : Vec F S16384x256 .f32
  out : HbBuf0 (F := F) c hbM0_1

/-- The word of the table at a point. -/
abbrev word (i : grid0.Coords) {c : Dev nD} (xt : TbBuf0 (F := F) c tbM0_0) :=
  tbM0_0.view.readAt (Elt F) (Rect.unit (s := S128) (k0_off1 i) S1.size (k0_off1_inb i)).toLoadRect xt
    (Shape.Idx.first (numel1_S1.symm ▸ Nat.one_pos))

/-- The buffers that the body only reads, the table, its own semaphores and the keys and values in memory. -/
def Held (c : Dev nD) (a : Stage) (x : Ins F) (xt : TbBuf0 (F := F) c tbM0_0) (fh : HbBuf0 (F := F) c hbM0_0) : sProp 𝕄 :=
  iprop(owns (c : Thread nD τ) a.q fullShare x.q ∗ owns (c : Thread nD τ) a.cin fullShare x.cin
    ∗ owns (c : Thread nD τ) a.ct fullShare x.ct ∗ owns (c : Thread nD τ) a.one fullShare x.one
    ∗ owns (c : Thread nD τ) a.oneT fullShare x.oneT ∗ tbPt0 c tbM0_0 xt
    ∗ semVal ((c : Thread nD τ), SemLoc.dma 10) 0 ∗ semVal ((c : Thread nD τ), SemLoc.dma 11) 0 ∗ hbPt0 c hbM0_0 fh)

/-- The kernel's body at a point. -/
abbrev body (i : grid0.Coords) (a : Stage) :=
  cc0_attention_bwd (F := F) i tbM0_0 htbM0_0 a.q a.hq (Memref.whole main_arg1) (Memref.isWhole_whole _) a.cin a.hcin a.ct a.hct
    a.one a.hone a.oneT a.honeT a.dq a.hdq (Memref.whole main_v42_1) (Memref.isWhole_whole _) scM0_0 (Memref.isWhole_whole _)
    scM0_1 (Memref.isWhole_whole _) scM0_2 (Memref.isWhole_whole _) scM0_3 (Memref.isWhole_whole _) cc0_scratch4

/-- The two windows of the result that the copies of a last point go to: the head group's columns of the gradient of the
    keys, and of the values. -/
abbrev gradK (i : grid0.Coords) (hc1 : cond0_1 i) :=
  (Memref.whole main_v42_1).slice (Rect.unit (s := S16384x1024) (k0_off7 i) S16384x256.size (k0_off7_inb i hc1)) (fun _ => rfl)
abbrev gradV (i : grid0.Coords) (hc1 : cond0_1 i) :=
  (Memref.whole main_v42_1).slice (Rect.unit (s := S16384x1024) (k0_off8 i) S16384x256.size (k0_off8_inb i hc1)) (fun _ => rfl)

set_option maxHeartbeats 1600000 in
/-- The first point of a head group: the pieces written into the result block and into all four scratch buffers. -/
def runA (c : Dev nD) (i : grid0.Coords) (a : Stage) (hc0 : cond0_0 i) (hc1 : ¬cond0_1 i) (x : Ins F)
    (xt : TbBuf0 (F := F) c tbM0_0) (fh : HbBuf0 (F := F) c hbM0_0) (out : HbBuf0 (F := F) c hbM0_1) (hw : k0_chk1 i (word i xt)) :
    Σ' (L : List (View.Piece (Elt F) S256x256 .bf16)) (Lk : List (View.Piece (Elt F) S16384x256 .bf16))
      (Lv : List (View.Piece (Elt F) S16384x256 .bf16)) (Ldk : List (View.Piece (Elt F) S16384x256 .f32)),
      { Ldv : List (View.Piece (Elt F) S16384x256 .f32) //
      ∀ (W : Waits sig Unit) (K : PUnit → sProp 𝕄),
        iprop(Held c a x xt fh ∗ (∃ d, owns (c : Thread nD τ) a.dq fullShare d)
          ∗ (∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)
          ∗ hbPt0 c hbM0_1 out ∗ owes (c : Thread nD τ) 0 W
          ∗ (iprop(Held c a x xt fh
              ∗ (∃ f, a.dq.view.loc (c : Thread nD τ) ↦[a.dq.view.set]{fullShare} a.dq.view.writes (Elt F) f L)
              ∗ (∃ f, scM0_0.view.loc (c : Thread nD τ) ↦[scM0_0.view.set]{fullShare} scM0_0.view.writes (Elt F) f Lk)
              ∗ (∃ f, scM0_1.view.loc (c : Thread nD τ) ↦[scM0_1.view.set]{fullShare} scM0_1.view.writes (Elt F) f Lv)
              ∗ (∃ f, scM0_2.view.loc (c : Thread nD τ) ↦[scM0_2.view.set]{fullShare} scM0_2.view.writes (Elt F) f Ldk)
              ∗ (∃ f, scM0_3.view.loc (c : Thread nD τ) ↦[scM0_3.view.set]{fullShare} scM0_3.view.writes (Elt F) f Ldv)
              ∗ hbPt0 c hbM0_1 out ∗ (∃ W', owes (c : Thread nD τ) 0 W')) -∗ K ⟨⟩))
          ⊢ wp frame (wpE (defs₀ (F := F)) Variants.none c none) Set.univ (body i a) K } := by
  refine ⟨?_, ?_, ?_, ?_, ?_, fun W K => ?run⟩
  case run =>
    unfold body Held
    simp only [cc0_attention_bwd_eq_skeleton]; unfold cc0_attention_bwd_skel
    simp only [k0_part9_eq_skeleton, k0_part10_eq_skeleton, k0_part11_eq_skeleton, k0_part12_eq_skeleton, k0_part13_eq_skeleton]
    unfold owns
    iintro ⟨⟨⟨%f0, %hf0, H0⟩, ⟨%f1, %hf1, H1⟩, ⟨%f2, %hf2, H2⟩, ⟨%f3, %hf3, H3⟩, ⟨%f4, %hf4, H4⟩, HT, Hq0, Hq1, Hh⟩, ⟨%d5, %f5, -, H5⟩, ⟨%e0, %g0, -, HS0⟩, ⟨%e1, %g1, -, HS1⟩, ⟨%e2, %g2, -, HS2⟩, ⟨%e3, %g3, -, HS3⟩, Ho, HW, Hk⟩
    obtain rfl := a.hq.eq_unread hf0; obtain rfl := a.hcin.eq_unread hf1; obtain rfl := a.hct.eq_unread hf2
    obtain rfl := a.hone.eq_unread hf3; obtain rfl := a.honeT.eq_unread hf4
    sl_exec (disch := first | sl_exact hc0 | sl_exact hc1 | sl_exact hw)
    sl_step
    iapply Hk
    isplitl [H0 H1 H2 H3 H4 HT Hq0 Hq1 Hh]
    · isplitl [H0]; · iexists _; isplitr; · ipureintro; exact a.hq.read_unread _
                      iexact H0
      isplitl [H1]; · iexists _; isplitr; · ipureintro; exact a.hcin.read_unread _
                      iexact H1
      isplitl [H2]; · iexists _; isplitr; · ipureintro; exact a.hct.read_unread _
                      iexact H2
      isplitl [H3]; · iexists _; isplitr; · ipureintro; exact a.hone.read_unread _
                      iexact H3
      isplitl [H4]; · iexists _; isplitr; · ipureintro; exact a.honeT.read_unread _
                      iexact H4
      isplitl [HT]; · iexact HT
      isplitl [Hq0]; · iexact Hq0
      isplitl [Hq1]; · iexact Hq1
      iexact Hh
    isplitl [H5]; · iexists _; iexact H5
    isplitl [HS0]; · iexists _; iexact HS0
    isplitl [HS1]; · iexists _; iexact HS1
    isplitl [HS2]; · iexists _; iexact HS2
    isplitl [HS3]; · iexists _; iexact HS3
    isplitl [Ho]; · iexact Ho
    iexists _; iexact HW

set_option maxHeartbeats 1600000 in
/-- A middle point: the pieces written into the result block and into the two sums of gradients. -/
def runB (c : Dev nD) (i : grid0.Coords) (a : Stage) (hc0 : ¬cond0_0 i) (hc1 : ¬cond0_1 i) (x : Ins F)
    (xt : TbBuf0 (F := F) c tbM0_0) (fh : HbBuf0 (F := F) c hbM0_0) (s : Carry F c) (hw : k0_chk1 i (word i xt)) :
    Σ' (L : List (View.Piece (Elt F) S256x256 .bf16)) (Ldk : List (View.Piece (Elt F) S16384x256 .f32)),
      { Ldv : List (View.Piece (Elt F) S16384x256 .f32) //
      ∀ (W : Waits sig Unit) (K : PUnit → sProp 𝕄),
        iprop(Held c a x xt fh ∗ (∃ d, owns (c : Thread nD τ) a.dq fullShare d)
          ∗ owns (c : Thread nD τ) scM0_0 fullShare s.k ∗ owns (c : Thread nD τ) scM0_1 fullShare s.v
          ∗ owns (c : Thread nD τ) scM0_2 fullShare s.dk ∗ owns (c : Thread nD τ) scM0_3 fullShare s.dv
          ∗ hbPt0 c hbM0_1 s.out ∗ owes (c : Thread nD τ) 0 W
          ∗ (iprop(Held c a x xt fh
              ∗ (∃ f, a.dq.view.loc (c : Thread nD τ) ↦[a.dq.view.set]{fullShare} a.dq.view.writes (Elt F) f L)
              ∗ owns (c : Thread nD τ) scM0_0 fullShare s.k ∗ owns (c : Thread nD τ) scM0_1 fullShare s.v
              ∗ (scM0_2.view.loc (c : Thread nD τ) ↦[scM0_2.view.set]{fullShare}
                  scM0_2.view.writes (Elt F) ((Memref.isWhole_whole cc0_scratch2).unread s.dk) Ldk)
              ∗ (scM0_3.view.loc (c : Thread nD τ) ↦[scM0_3.view.set]{fullShare}
                  scM0_3.view.writes (Elt F) ((Memref.isWhole_whole cc0_scratch3).unread s.dv) Ldv)
              ∗ hbPt0 c hbM0_1 s.out ∗ (∃ W', owes (c : Thread nD τ) 0 W')) -∗ K ⟨⟩))
          ⊢ wp frame (wpE (defs₀ (F := F)) Variants.none c none) Set.univ (body i a) K } := by
  refine ⟨?_, ?_, ?_, fun W K => ?run⟩
  case run =>
    unfold body Held
    simp only [cc0_attention_bwd_eq_skeleton]; unfold cc0_attention_bwd_skel
    simp only [k0_part9_eq_skeleton, k0_part10_eq_skeleton, k0_part11_eq_skeleton, k0_part12_eq_skeleton, k0_part13_eq_skeleton]
    unfold owns
    iintro ⟨⟨⟨%f0, %hf0, H0⟩, ⟨%f1, %hf1, H1⟩, ⟨%f2, %hf2, H2⟩, ⟨%f3, %hf3, H3⟩, ⟨%f4, %hf4, H4⟩, HT, Hq0, Hq1, Hh⟩, ⟨%d5, %f5, -, H5⟩, ⟨%g0, %hg0, HS0⟩, ⟨%g1, %hg1, HS1⟩, ⟨%g2, %hg2, HS2⟩, ⟨%g3, %hg3, HS3⟩, Ho, HW, Hk⟩
    obtain rfl := a.hq.eq_unread hf0; obtain rfl := a.hcin.eq_unread hf1; obtain rfl := a.hct.eq_unread hf2
    obtain rfl := a.hone.eq_unread hf3; obtain rfl := a.honeT.eq_unread hf4
    obtain rfl := (Memref.isWhole_whole cc0_scratch0).eq_unread hg0; obtain rfl := (Memref.isWhole_whole cc0_scratch1).eq_unread hg1
    obtain rfl := (Memref.isWhole_whole cc0_scratch2).eq_unread hg2; obtain rfl := (Memref.isWhole_whole cc0_scratch3).eq_unread hg3
    sl_exec (disch := first | sl_exact hc0 | sl_exact hc1 | sl_exact hw)
    sl_step
    iapply Hk
    isplitl [H0 H1 H2 H3 H4 HT Hq0 Hq1 Hh]
    · isplitl [H0]; · iexists _; isplitr; · ipureintro; exact a.hq.read_unread _
                      iexact H0
      isplitl [H1]; · iexists _; isplitr; · ipureintro; exact a.hcin.read_unread _
                      iexact H1
      isplitl [H2]; · iexists _; isplitr; · ipureintro; exact a.hct.read_unread _
                      iexact H2
      isplitl [H3]; · iexists _; isplitr; · ipureintro; exact a.hone.read_unread _
                      iexact H3
      isplitl [H4]; · iexists _; isplitr; · ipureintro; exact a.honeT.read_unread _
                      iexact H4
      isplitl [HT]; · iexact HT
      isplitl [Hq0]; · iexact Hq0
      isplitl [Hq1]; · iexact Hq1
      iexact Hh
    isplitl [H5]; · iexists _; iexact H5
    isplitl [HS0]; · iexists _; isplitr; · ipureintro; exact (Memref.isWhole_whole cc0_scratch0).read_unread _
                     iexact HS0
    isplitl [HS1]; · iexists _; isplitr; · ipureintro; exact (Memref.isWhole_whole cc0_scratch1).read_unread _
                     iexact HS1
    isplitl [HS2]; · iexact HS2
    isplitl [HS3]; · iexact HS3
    isplitl [Ho]; · iexact Ho
    iexists _; iexact HW

set_option maxHeartbeats 1600000 in
set_option sl_exec.dmaWindow true in
set_option sl_exec.dmaWindowSet true in
set_option sl_exec.dmaWindowLent true in
/-- The last point of a head group: the same, and the result in memory after the two copies. -/
def runC (c : Dev nD) (i : grid0.Coords) (a : Stage) (hc0 : ¬cond0_0 i) (hc1 : cond0_1 i)
    (hd : Disjoint (gradV i hc1).view.set (gradK i hc1).view.set) (x : Ins F)
    (xt : TbBuf0 (F := F) c tbM0_0) (fh : HbBuf0 (F := F) c hbM0_0) (s : Carry F c) (hw : k0_chk1 i (word i xt)) :
    Σ' (L : List (View.Piece (Elt F) S256x256 .bf16)) (Ldk : List (View.Piece (Elt F) S16384x256 .f32))
      (out : HbBuf0 (F := F) c hbM0_1),
      { Ldv : List (View.Piece (Elt F) S16384x256 .f32) //
      ∀ (W : Waits sig Unit) (K : PUnit → sProp 𝕄),
        iprop(Held c a x xt fh ∗ (∃ d, owns (c : Thread nD τ) a.dq fullShare d)
          ∗ owns (c : Thread nD τ) scM0_0 fullShare s.k ∗ owns (c : Thread nD τ) scM0_1 fullShare s.v
          ∗ owns (c : Thread nD τ) scM0_2 fullShare s.dk ∗ owns (c : Thread nD τ) scM0_3 fullShare s.dv
          ∗ hbPt0 c hbM0_1 s.out ∗ owes (c : Thread nD τ) 0 W
          ∗ (iprop(Held c a x xt fh
              ∗ (∃ f, a.dq.view.loc (c : Thread nD τ) ↦[a.dq.view.set]{fullShare} a.dq.view.writes (Elt F) f L)
              ∗ owns (c : Thread nD τ) scM0_0 fullShare s.k ∗ owns (c : Thread nD τ) scM0_1 fullShare s.v
              ∗ (scM0_2.view.loc (c : Thread nD τ) ↦[scM0_2.view.set]{fullShare}
                  scM0_2.view.writes (Elt F) ((Memref.isWhole_whole cc0_scratch2).unread s.dk) Ldk)
              ∗ (scM0_3.view.loc (c : Thread nD τ) ↦[scM0_3.view.set]{fullShare}
                  scM0_3.view.writes (Elt F) ((Memref.isWhole_whole cc0_scratch3).unread s.dv) Ldv)
              ∗ hbPt0 c hbM0_1 out ∗ (∃ W', owes (c : Thread nD τ) 0 W')) -∗ K ⟨⟩))
          ⊢ wp frame (wpE (defs₀ (F := F)) Variants.none c none) Set.univ (body i a) K } := by
  refine ⟨?_, ?_, ?_, ?_, fun W K => ?run⟩
  case run =>
    unfold body Held
    simp only [cc0_attention_bwd_eq_skeleton]; unfold cc0_attention_bwd_skel
    simp only [k0_part9_eq_skeleton, k0_part10_eq_skeleton, k0_part11_eq_skeleton, k0_part12_eq_skeleton, k0_part13_eq_skeleton]
    unfold owns
    iintro ⟨⟨⟨%f0, %hf0, H0⟩, ⟨%f1, %hf1, H1⟩, ⟨%f2, %hf2, H2⟩, ⟨%f3, %hf3, H3⟩, ⟨%f4, %hf4, H4⟩, HT, Hq0, Hq1, Hh⟩, ⟨%d5, %f5, -, H5⟩, ⟨%g0, %hg0, HS0⟩, ⟨%g1, %hg1, HS1⟩, ⟨%g2, %hg2, HS2⟩, ⟨%g3, %hg3, HS3⟩, Ho, HW, Hk⟩
    obtain rfl := a.hq.eq_unread hf0; obtain rfl := a.hcin.eq_unread hf1; obtain rfl := a.hct.eq_unread hf2
    obtain rfl := a.hone.eq_unread hf3; obtain rfl := a.honeT.eq_unread hf4
    obtain rfl := (Memref.isWhole_whole cc0_scratch0).eq_unread hg0; obtain rfl := (Memref.isWhole_whole cc0_scratch1).eq_unread hg1
    obtain rfl := (Memref.isWhole_whole cc0_scratch2).eq_unread hg2; obtain rfl := (Memref.isWhole_whole cc0_scratch3).eq_unread hg3
    sl_exec (disch := first | sl_exact hc0 | sl_exact hc1 | sl_exact hw)
    sl_step
    iapply Hk
    isplitl [H0 H1 H2 H3 H4 HT Hq0 Hq1 Hh]
    · isplitl [H0]; · iexists _; isplitr; · ipureintro; exact a.hq.read_unread _
                      iexact H0
      isplitl [H1]; · iexists _; isplitr; · ipureintro; exact a.hcin.read_unread _
                      iexact H1
      isplitl [H2]; · iexists _; isplitr; · ipureintro; exact a.hct.read_unread _
                      iexact H2
      isplitl [H3]; · iexists _; isplitr; · ipureintro; exact a.hone.read_unread _
                      iexact H3
      isplitl [H4]; · iexists _; isplitr; · ipureintro; exact a.honeT.read_unread _
                      iexact H4
      isplitl [HT]; · iexact HT
      isplitl [Hq0]; · iexact Hq0
      isplitl [Hq1]; · iexact Hq1
      iexact Hh
    isplitl [H5]; · iexists _; iexact H5
    isplitl [HS0]; · iexists _; isplitr; · ipureintro; exact (Memref.isWhole_whole cc0_scratch0).read_unread _
                     iexact HS0
    isplitl [HS1]; · iexists _; isplitr; · ipureintro; exact (Memref.isWhole_whole cc0_scratch1).read_unread _
                     iexact HS1
    isplitl [HS2]; · iexact HS2
    isplitl [HS3]; · iexact HS3
    isplitl [Ho]; · iexact Ho
    iexists _; iexact HW

end Cert.Attn

end
-- ==== Proof.Attn.Launch.lean ====
/- The attention kernel's launch: what is carried from point to point, the body's triple at every point, and the final
   memory of the program over any float values. -/
module

public import proofs.«01_k».proof.Proof.Attn.Run
public import Idealize.ShloMosaic.Lib.Pipeline.FrameValue

@[expose] public section

set_option maxRecDepth 16384

noncomputable section

namespace Cert.Attn

open Cert.AttentionIdeal Cert.AttentionIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## One point -/

/-- The scratch buffers and the written result, at named contents. -/
def Carried (c : Dev nD) (s : Carry F c) : sProp 𝕄 :=
  iprop(owns (c : Thread nD τ) scM0_0 fullShare s.k ∗ owns (c : Thread nD τ) scM0_1 fullShare s.v
    ∗ owns (c : Thread nD τ) scM0_2 fullShare s.dk ∗ owns (c : Thread nD τ) scM0_3 fullShare s.dv ∗ hbPt0 c hbM0_1 s.out)

/-- The two windows of a last point do not meet. -/
theorem grads_disjoint : ∀ t : Fin grid0.N, ∀ hc1 : cond0_1 (grid0.coords t),
    LoadRect.disj (Rect.unit (s := S16384x1024) (k0_off8 (grid0.coords t)) S16384x256.size (k0_off8_inb (grid0.coords t) hc1))
      (Rect.unit (s := S16384x1024) (k0_off7 (grid0.coords t)) S16384x256.size (k0_off7_inb (grid0.coords t) hc1)).toLoadRect = true := by
  decide +kernel

theorem grads_sets (t : Fin grid0.N) (hc1 : cond0_1 (grid0.coords t)) :
    Disjoint (gradV (grid0.coords t) hc1).view.set (gradK (grid0.coords t) hc1).view.set :=
  View.disjoint_slice_of_disj (Memref.whole main_v42_1).view _ _ (grads_disjoint t hc1)

section
variable (c : Dev nD) (t : Fin grid0.N) (a : Stage) (x : Ins F) (xt : TbBuf0 (F := F) c tbM0_0) (fh : HbBuf0 (F := F) c hbM0_0)
  (hw : k0_chk1 (grid0.coords t) (word (grid0.coords t) xt))

/-- What the body leaves at a point that finds `s`: the result block and what is carried on. -/
def step (s : Carry F c) : Vec F S256x256 .bf16 × Carry F c :=
  if h0 : t.val % 64 = 0 then
    let r := runA c (grid0.coords t) a ((hcond0_0 t).mpr h0) (fun h => by have := (hcond0_1 t).mp h; omega) x xt fh s.out hw
    (VO0_5.read (Elt F) (VO0_5.writes (Elt F) VO0_5.junk r.1),
      ⟨VS0_0.read (Elt F) (VS0_0.writes (Elt F) VS0_0.junk r.2.1), VS0_1.read (Elt F) (VS0_1.writes (Elt F) VS0_1.junk r.2.2.1),
        VS0_2.read (Elt F) (VS0_2.writes (Elt F) VS0_2.junk r.2.2.2.1), VS0_3.read (Elt F) (VS0_3.writes (Elt F) VS0_3.junk r.2.2.2.2.1),
        s.out⟩)
  else if h1 : t.val % 64 = 63 then
    let r := runC c (grid0.coords t) a (fun h => h0 ((hcond0_0 t).mp h)) ((hcond0_1 t).mpr h1) (grads_sets t _) x xt fh s hw
    (VO0_5.read (Elt F) (VO0_5.writes (Elt F) VO0_5.junk r.1),
      ⟨s.k, s.v, VS0_2.read (Elt F) (VS0_2.writes (Elt F) ((Memref.isWhole_whole cc0_scratch2).unread s.dk) r.2.1),
        VS0_3.read (Elt F) (VS0_3.writes (Elt F) ((Memref.isWhole_whole cc0_scratch3).unread s.dv) r.2.2.2.1), r.2.2.1⟩)
  else
    let r := runB c (grid0.coords t) a (fun h => h0 ((hcond0_0 t).mp h)) (fun h => h1 ((hcond0_1 t).mp h)) x xt fh s hw
    (VO0_5.read (Elt F) (VO0_5.writes (Elt F) VO0_5.junk r.1),
      ⟨s.k, s.v, VS0_2.read (Elt F) (VS0_2.writes (Elt F) ((Memref.isWhole_whole cc0_scratch2).unread s.dk) r.2.1),
        VS0_3.read (Elt F) (VS0_3.writes (Elt F) ((Memref.isWhole_whole cc0_scratch3).unread s.dv) r.2.2.1), s.out⟩)

/-- The first point of a head group reads nothing of what it finds but the written result. -/
theorem step_congr (s s' : Carry F c) (ho : s.out = s'.out) (h : t.val % 64 ≠ 0 → s = s') :
    step c t a x xt fh hw s = step c t a x xt fh hw s' := by
  by_cases h0 : t.val % 64 = 0
  · obtain ⟨k, v, dk, dv, o⟩ := s
    obtain ⟨k', v', dk', dv', o'⟩ := s'
    obtain rfl : o = o' := ho
    simp only [step, h0, dite_true]
  · rw [h h0]

/-- A buffer at pieces that cover it is owned at what they are over anything. -/
theorem owns_writes {S : Shape} {e : EltTy} (M : Memref sig .tc .vmem S e) (V : View sig .tc .vmem S e)
    (L : List (View.Piece (Elt F) S e)) (hL : ∀ y : S.Idx, ∃ pc ∈ L, y ∈ pc.1.set) :
    iprop(∃ f, M.view.loc (c : Thread nD τ) ↦[M.view.set]{fullShare} M.view.writes (Elt F) f L)
      ⊢ (owns (c : Thread nD τ) M fullShare (V.read (Elt F) (V.writes (Elt F) V.junk L)) : sProp 𝕄) := by
  unfold owns
  iintro ⟨%f, H⟩
  iexists _
  isplitr
  · ipureintro; exact View.read_writes_of_cover M.view f V V.junk L hL
  iexact H

/-- A buffer written into over known contents is owned at what it then holds. -/
theorem owns_written {S : Shape} {e : EltTy} (M : Memref sig .tc .vmem S e) (f : M.view.ty.Contents (Elt F))
    (L : List (View.Piece (Elt F) S e)) :
    iprop(M.view.loc (c : Thread nD τ) ↦[M.view.set]{fullShare} M.view.writes (Elt F) f L)
      ⊢ (owns (c : Thread nD τ) M fullShare (M.view.read (Elt F) (M.view.writes (Elt F) f L)) : sProp 𝕄) := by
  unfold owns
  iintro H
  iexists _
  isplitr
  · ipureintro; rfl
  iexact H

/-- The body at any point takes what is carried from `s` to `step s`. -/
theorem step_run (s : Carry F c) (W : Waits sig Unit) (K : PUnit → sProp 𝕄) :
    iprop(Held c a x xt fh ∗ (∃ d, owns (c : Thread nD τ) a.dq fullShare d) ∗ Carried c s ∗ owes (c : Thread nD τ) 0 W
      ∗ (iprop(Held c a x xt fh ∗ owns (c : Thread nD τ) a.dq fullShare (step c t a x xt fh hw s).1
          ∗ Carried c (step c t a x xt fh hw s).2 ∗ (∃ W', owes (c : Thread nD τ) 0 W')) -∗ K ⟨⟩))
      ⊢ wp frame (wpE (defs₀ (F := F)) Variants.none c none) Set.univ (body (grid0.coords t) a) K := by
  unfold Carried step
  iintro ⟨HH, H5, ⟨HS0, HS1, HS2, HS3, Ho⟩, HW, Hk⟩
  by_cases h0 : t.val % 64 = 0
  · simp only [h0, dite_true]
    iapply ((runA c (grid0.coords t) a ((hcond0_0 t).mpr h0) (fun h => by have := (hcond0_1 t).mp h; omega) x xt fh s.out hw).2.2.2.2.2 W _)
    isplitl [HH]; · iexact HH
    isplitl [H5]; · iexact H5
    isplitl [HS0]; · iexists _; iexact HS0
    isplitl [HS1]; · iexists _; iexact HS1
    isplitl [HS2]; · iexists _; iexact HS2
    isplitl [HS3]; · iexists _; iexact HS3
    isplitl [Ho]; · iexact Ho
    isplitl [HW]; · iexact HW
    iintro ⟨HH, H5, HS0, HS1, HS2, HS3, Ho, HW⟩
    iapply Hk
    isplitl [HH]; · iexact HH
    isplitl [H5]
    · iapply (owns_writes c a.dq VO0_5 _ (View.cover_of_tiledL _ S256x256.size (by sl_kernel_rfl))); iexact H5
    isplitr [HW]
    · isplitl [HS0]
      · iapply (owns_writes c scM0_0 VS0_0 _ (View.cover_of_tiledL _ S16384x256.size (by sl_kernel_rfl))); iexact HS0
      isplitl [HS1]
      · iapply (owns_writes c scM0_1 VS0_1 _ (View.cover_of_tiledL _ S16384x256.size (by sl_kernel_rfl))); iexact HS1
      isplitl [HS2]
      · iapply (owns_writes c scM0_2 VS0_2 _ (View.cover_of_wholeMem _ (by sl_whole_mem))); iexact HS2
      isplitl [HS3]
      · iapply (owns_writes c scM0_3 VS0_3 _ (View.cover_of_wholeMem _ (by sl_whole_mem))); iexact HS3
      iexact Ho
    iexact HW
  · simp only [h0, dite_false]
    by_cases h1 : t.val % 64 = 63
    · simp only [h1, dite_true]
      iapply ((runC c (grid0.coords t) a (fun h => h0 ((hcond0_0 t).mp h)) ((hcond0_1 t).mpr h1) (grads_sets t _) x xt fh s hw).2.2.2.2 W _)
      isplitl [HH]; · iexact HH
      isplitl [H5]; · iexact H5
      isplitl [HS0]; · iexact HS0
      isplitl [HS1]; · iexact HS1
      isplitl [HS2]; · iexact HS2
      isplitl [HS3]; · iexact HS3
      isplitl [Ho]; · iexact Ho
      isplitl [HW]; · iexact HW
      iintro ⟨HH, H5, HS0, HS1, HS2, HS3, Ho, HW⟩
      iapply Hk
      isplitl [HH]; · iexact HH
      isplitl [H5]
      · iapply (owns_writes c a.dq VO0_5 _ (View.cover_of_tiledL _ S256x256.size (by sl_kernel_rfl))); iexact H5
      isplitr [HW]
      · isplitl [HS0]; · iexact HS0
        isplitl [HS1]; · iexact HS1
        isplitl [HS2]; · iapply owns_written; iexact HS2
        isplitl [HS3]; · iapply owns_written; iexact HS3
        iexact Ho
      iexact HW
    · simp only [h1, dite_false]
      iapply ((runB c (grid0.coords t) a (fun h => h0 ((hcond0_0 t).mp h)) (fun h => h1 ((hcond0_1 t).mp h)) x xt fh s hw).2.2.2 W _)
      isplitl [HH]; · iexact HH
      isplitl [H5]; · iexact H5
      isplitl [HS0]; · iexact HS0
      isplitl [HS1]; · iexact HS1
      isplitl [HS2]; · iexact HS2
      isplitl [HS3]; · iexact HS3
      isplitl [Ho]; · iexact Ho
      isplitl [HW]; · iexact HW
      iintro ⟨HH, H5, HS0, HS1, HS2, HS3, Ho, HW⟩
      iapply Hk
      isplitl [HH]; · iexact HH
      isplitl [H5]
      · iapply (owns_writes c a.dq VO0_5 _ (View.cover_of_tiledL _ S256x256.size (by sl_kernel_rfl))); iexact H5
      isplitr [HW]
      · isplitl [HS0]; · iexact HS0
        isplitl [HS1]; · iexact HS1
        isplitl [HS2]; · iapply owns_written; iexact HS2
        isplitl [HS3]; · iapply owns_written; iexact HS3
        iexact Ho
      iexact HW

end

/-! ## The grid's points in order -/

variable (m : (ℓ : Loc nD τ sig) → Buf (Elt F) ℓ) (ρ : Dev nD → PrngReg) (hO : Ok m) (hH : Hyps m hO)

/-- The staging buffers of a point, and what they hold. -/
abbrev stage (t : Fin (cfgM m hO).N) : Stage :=
  ⟨ms0_0 m hO t, hs0_0 m hO t, ms0_1 m hO t, hs0_1 m hO t, ms0_2 m hO t, hs0_2 m hO t, ms0_3 m hO t, hs0_3 m hO t,
    ms0_4 m hO t, hs0_4 m hO t, ms0_5 m hO t, hs0_5 m hO t⟩
abbrev ins (c : Dev nD) (t : Fin (cfgM m hO).N) : Ins F :=
  ⟨iblk m hO c 0 t, iblk m hO c 1 t, iblk m hO c 2 t, iblk m hO c 3 t, iblk m hO c 4 t⟩

/-- A point of the launch. -/
abbrev pstep (c : Dev nD) (t : Fin (cfgM m hO).N) (s : Carry F c) : Vec F S256x256 .bf16 × Carry F c :=
  step c t (stage m hO t) (ins m hO c t) (tbl m 0) (V m c main_arg1) (Hyps.c0 hH c t) s

/-- What is carried to position `n`. -/
def carry (c : Dev nD) : ℕ → Carry F c
  | 0 => ⟨VS0_0.read (Elt F) VS0_0.junk, VS0_1.read (Elt F) VS0_1.junk, VS0_2.read (Elt F) VS0_2.junk, VS0_3.read (Elt F) VS0_3.junk,
      V m c main_v42_1⟩
  | n + 1 => if h : n < (cfgM m hO).N then (pstep m hO hH c ⟨n, h⟩ (carry c n)).2 else carry c n

theorem carry_succ (c : Dev nD) (t : Fin (cfgM m hO).N) :
    carry m hO hH c (t.val + 1) = (pstep m hO hH c t (carry m hO hH c t.val)).2 := by
  rw [carry, dif_pos t.isLt]

/-- The invariant before position `n`: the carried buffers at `carry n`, the scratch at anything before the first point. -/
def Inv (c : Dev nD) (n : ℕ) : sProp 𝕄 :=
  iprop((∃ s, ⌜s.out = (carry m hO hH c n).out ∧ (n % 64 ≠ 0 → s = carry m hO hH c n)⌝ ∗ Carried c s) ∗ (∃ r, prngReg c r)
    ∗ iprop(semVal ((c : Thread nD τ), SemLoc.dma 10) 0 ∗ semVal ((c : Thread nD τ), SemLoc.dma 11) 0)
    ∗ hbPt0 c hbM0_0 (V m c main_arg1) ∗ tbPt0 c tbM0_0 (tbl m 0))

/-- The pipeline's proof data. -/
def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (pstep m hO hH c t (carry m hO hH c t.val)).1
  Φ t := Inv m hO hH c t.val
  q _ := fullShare
  owed _ := 0

theorem phi_eq (c : Dev nD) (t : Fin (cfgM m hO).N) :
    (dats m hO hH 0 c).Φ t.castSucc = Inv m hO hH c t.val ∧ (dats m hO hH 0 c).Φ t.succ = Inv m hO hH c (t.val + 1) := by
  dsimp only [dats]
  exact ⟨Pipeline.Dat.Φ_castSucc (fun n _ => Inv m hO hH c n) t, rfl⟩

theorem A_eq (c : Dev nD) (w : Fin (cfgM m hO).W) : (dats m hO hH 0 c).A w = V m c (Pipeline.arrRef spec0 w) := by
  dsimp only [dats]

/-- The triple of the body at a point, in the pipeline's terms. -/
theorem sound (c : Dev nD) (t : Fin (cfgM m hO).N) :
    iprop((dats m hO hH 0 c).Φ t.castSucc ∗ (dats m hO hH 0 c).owesAt () t.castSucc
        ∗ (∃ d, owns (c : Thread nD τ) (ms0_0 m hO t) fullShare ((dats m hO hH 0 c).before 0 t d))
        ∗ (∃ d, owns (c : Thread nD τ) (ms0_1 m hO t) fullShare ((dats m hO hH 0 c).before 1 t d))
        ∗ (∃ d, owns (c : Thread nD τ) (ms0_2 m hO t) fullShare ((dats m hO hH 0 c).before 2 t d))
        ∗ (∃ d, owns (c : Thread nD τ) (ms0_3 m hO t) fullShare ((dats m hO hH 0 c).before 3 t d))
        ∗ (∃ d, owns (c : Thread nD τ) (ms0_4 m hO t) fullShare ((dats m hO hH 0 c).before 4 t d))
        ∗ (∃ d, owns (c : Thread nD τ) (ms0_5 m hO t) fullShare ((dats m hO hH 0 c).before 5 t d)))
      ⊢ wp frame (wpE (defs₀ (F := F)) Variants.none c none) Set.univ (bodyAt0 (adm m hO) t) (fun _ =>
        iprop((dats m hO hH 0 c).Φ t.succ ∗ (dats m hO hH 0 c).owesAt () t.succ
          ∗ owns (c : Thread nD τ) (ms0_0 m hO t) fullShare ((dats m hO hH 0 c).after 0 t)
          ∗ owns (c : Thread nD τ) (ms0_1 m hO t) fullShare ((dats m hO hH 0 c).after 1 t)
          ∗ owns (c : Thread nD τ) (ms0_2 m hO t) fullShare ((dats m hO hH 0 c).after 2 t)
          ∗ owns (c : Thread nD τ) (ms0_3 m hO t) fullShare ((dats m hO hH 0 c).after 3 t)
          ∗ owns (c : Thread nD τ) (ms0_4 m hO t) fullShare ((dats m hO hH 0 c).after 4 t)
          ∗ owns (c : Thread nD τ) (ms0_5 m hO t) fullShare ((dats m hO hH 0 c).after 5 t))) := by
  have b0 := before0_0_of m hO (dats m hO hH 0 c) (A_eq m hO hH c 0) (fun _ => by dsimp only [dats]; rfl) t
  have b1 := before0_1_of m hO (dats m hO hH 0 c) (A_eq m hO hH c 1) (fun _ => by dsimp only [dats]; rfl) t
  have b2 := before0_2_of m hO (dats m hO hH 0 c) (A_eq m hO hH c 2) (fun _ => by dsimp only [dats]; rfl) t
  have b3 := before0_3_of m hO (dats m hO hH 0 c) (A_eq m hO hH c 3) (fun _ => by dsimp only [dats]; rfl) t
  have b4 := before0_4_of m hO (dats m hO hH 0 c) (A_eq m hO hH c 4) (fun _ => by dsimp only [dats]; rfl) t
  simp only [b0, b1, b2, b3, b4]
  rw [(phi_eq m hO hH c t).1, (phi_eq m hO hH c t).2,
    show (dats m hO hH 0 c).after 5 t = (pstep m hO hH c t (carry m hO hH c t.val)).1 from by dsimp only [dats]; rfl]
  unfold Inv Dat.owesAt Pipeline.owesWithin
  rw [show (dats m hO hH 0 c).owed t.castSucc = 0 from rfl, show (dats m hO hH 0 c).owed t.succ = 0 from rfl]
  iintro ⟨⟨⟨%s, %hs, HC⟩, Hg, ⟨Hq0, Hq1⟩, Hh, HT⟩, ⟨%W, -, HW⟩, ⟨%d0, H0⟩, ⟨%d1, H1⟩, ⟨%d2, H2⟩, ⟨%d3, H3⟩, ⟨%d4, H4⟩, ⟨%d5, H5⟩⟩
  have hst := step_congr c t (stage m hO t) (ins m hO c t) (tbl m 0) (V m c main_arg1) (Hyps.c0 hH c t) s (carry m hO hH c t.val) hs.1 hs.2
  iapply (step_run c t (stage m hO t) (ins m hO c t) (tbl m 0) (V m c main_arg1) (Hyps.c0 hH c t) s W _)
  rw [hst, carry_succ]
  unfold Held
  isplitl [H0 H1 H2 H3 H4 Hq0 Hq1 Hh HT]
  · isplitl [H0]; · iexact H0
    isplitl [H1]; · iexact H1
    isplitl [H2]; · iexact H2
    isplitl [H3]; · iexact H3
    isplitl [H4]; · iexact H4
    isplitl [HT]; · iexact HT
    isplitl [Hq0]; · iexact Hq0
    isplitl [Hq1]; · iexact Hq1
    iexact Hh
  isplitl [H5]; · iexists _; iexact H5
  isplitl [HC]; · iexact HC
  isplitl [HW]; · iexact HW
  iintro ⟨⟨H0, H1, H2, H3, H4, HT, Hq0, Hq1, Hh⟩, H5, HC, ⟨%W', HW⟩⟩
  isplitl [HC Hg Hq0 Hq1 Hh HT]
  · isplitl [HC]
    · iexists _; isplitr
      · ipureintro; exact ⟨rfl, fun _ => rfl⟩
      iexact HC
    isplitl [Hg]; · iexact Hg
    isplitl [Hq0 Hq1]
    · isplitl [Hq0]; · iexact Hq0
      iexact Hq1
    isplitl [Hh]; · iexact Hh
    iexact HT
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem row (t : Fin (cfgM m hO).N) :
    defs₀ (F := F) .tc (cfgM m hO).body ((cfgM m hO).bodyArgs t ((cfgM m hO).slots t)) = bodyAt0 (adm m hO) t := by
  unfold defs₀; rw [Defs.onTc_tc]

theorem obligation (c : Dev nD) : BodyObligation (dats (F := F) m hO hH 0 c) (defs₀ (F := F)) Variants.none () Set.univ := fun t => by
  rw [bigSep_W0, bigSep_W0, row m hO]
  exact triple_restated (sound m hO hH c t) rfl .rfl fun _ => .rfl

/-! ## The launch -/

/-- What the result written by the body's own transfers holds at the end; the other buffers as the region finds them. -/
def final (c : Dev nD) (b : Ref sig .tc) : Buf (Elt F) ((c.tc : Thread nD τ).loc b) :=
  if h : b = main_v42_1 then h ▸ (carry m hO hH c 128).out else V m c b

/-- The launch's invariant conjunct by conjunct, the written result named. -/
theorem ends_eq (c : Dev nD) (G : (c : Dev nD) → (b : Ref sig .tc) → Buf (Elt F) ((c.tc : Thread nD τ).loc b)) :
    (Pipeline.ΦDRG osem0 spec0 H0 R0 (V m) G c : sProp 𝕄)
      = iprop(iprop((∃ d, owns (c : Thread nD τ) scM0_0 fullShare d) ∗ (∃ d, owns (c : Thread nD τ) scM0_1 fullShare d)
            ∗ (∃ d, owns (c : Thread nD τ) scM0_2 fullShare d) ∗ (∃ d, owns (c : Thread nD τ) scM0_3 fullShare d)) ∗ (∃ r, prngReg c r)
          ∗ iprop(semVal ((c : Thread nD τ), SemLoc.dma 10) 0 ∗ semVal ((c : Thread nD τ), SemLoc.dma 11) 0)
          ∗ iprop(hbPt0 c hbM0_0 (V m c main_arg1)) ∗ hbPt0 c hbM0_1 (G c main_v42_1)) := by
  rw [Pipeline.ΦDRG_eq, scopedRest0_eq, ownSems00_eq, hbmPts0_eq]
  unfold Pipeline.routed
  rw [BI.bigSep_eq_bigSepL_of_eq [main_v42_1] (by decide) (by decide)]
  simp only [scM0_0, scM0_1, scM0_2, scM0_3, owns_whole]
  rfl

theorem hin (c : Dev nD) :
    iprop(Pipeline.ΦDRG osem0 spec0 H0 R0 (V m) (V m) c ∗ Pipeline.ΦT pre0 (tbl m) c) ⊢ (dats m hO hH 0 c).Φ 0 := by
  rw [show (dats m hO hH 0 c).Φ 0 = Inv m hO hH c 0 from rfl, ends_eq, PhiT0_eq]
  unfold Inv Carried
  iintro ⟨⟨⟨⟨%d0, HS0⟩, ⟨%d1, HS1⟩, ⟨%d2, HS2⟩, ⟨%d3, HS3⟩⟩, Hg, Hq, Hh, Ho⟩, HT⟩
  isplitl [HS0 HS1 HS2 HS3 Ho]
  · iexists (⟨d0, d1, d2, d3, V m c main_v42_1⟩ : Carry F c)
    isplitr
    · ipureintro; exact ⟨rfl, fun h => absurd (Nat.zero_mod _) h⟩
    isplitl [HS0]; · iexact HS0
    isplitl [HS1]; · iexact HS1
    isplitl [HS2]; · iexact HS2
    isplitl [HS3]; · iexact HS3
    iexact Ho
  isplitl [Hg]; · iexact Hg
  isplitl [Hq]; · iexact Hq
  isplitl [Hh]; · iexact Hh
  iexact HT

theorem hout (c : Dev nD) :
    (dats m hO hH 0 c).Φ (Fin.last (cfgM m hO).N) ⊢ Pipeline.ΦDRG osem0 spec0 H0 R0 (V m) (final m hO hH) c := by
  rw [show (dats m hO hH 0 c).Φ (Fin.last (cfgM m hO).N) = Inv m hO hH c 128 from rfl, ends_eq]
  unfold Inv Carried
  iintro ⟨⟨%s, %hs, HS0, HS1, HS2, HS3, Ho⟩, Hg, Hq, Hh, -⟩
  isplitl [HS0 HS1 HS2 HS3]
  · isplitl [HS0]; · iexists _; iexact HS0
    isplitl [HS1]; · iexists _; iexact HS1
    isplitl [HS2]; · iexists _; iexact HS2
    iexists _; iexact HS3
  isplitl [Hg]; · iexact Hg
  isplitl [Hq]; · iexact Hq
  isplitl [Hh]; · iexact Hh
  rw [show final m hO hH c main_v42_1 = s.out from by rw [hs.1]; unfold final; rw [dif_pos rfl]]
  iexact Ho

set_option backward.isDefEq.respectTransparency.types false in
/-- The launch: the pipeline's arrays at what the proof data say, the written result at `final`, every other unscoped
    buffer as the region finds it, every counter at zero. -/
theorem run_main : θ_run defs (onTc (τ := τ) (main (F := F))) (s₀ m ρ) (fun r =>
    Pipeline.FramePostRG (Pipeline.pin pcfgs fun _ => adm m hO) (dats m hO hH) 0 R0 (V m) (final m hO hH) r ∧ r.2.sem = fun _ => 0) :=
  Pipeline.θ_run_frameP_dmaRG (Q' := _) pcfgs (fun _ => adm m hO) (dats m hO hH) (0 : Fin 1) launch0 osem0 defs₀ Variants.none
    ownSemFacts0 H0 R0 H0_sub R0_sub m ρ main (hbody := fun c => (obligation m hO hH c).loose)
    (hshare := fun c => (dats m hO hH 0 c).share_full fun _ => rfl) (howed := fun _ _ => rfl) (V := V m)
    (hmain := hmain m Variants.none) (hA := A_eq m hO hH) (hpf := V_pre m) (G := final m hO hH) (hin := hin m hO hH) (hout := hout m hO hH)

end Cert.Attn

end
-- ==== Proof.Attn.Word.lean ====
/- The table of the attention kernel holds zeros, so that nothing is skipped: the side conditions of the launch, and the
   two frames, the device's program's and its ideal's, from the one run. -/
module

public import proofs.«01_k».proof.Proof.Attn.Launch
public import proofs.«01_k».proof.Proof.Gen.Attention
public import proofs.«01_k».proof.Defs
public import Idealize.ShloMosaic.Lib.Claim

@[expose] public section

set_option maxRecDepth 16384

noncomputable section

namespace Cert.Attn

open Cert.AttentionIdeal Cert.AttentionIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

theorem tbl_zero (j : S128.Idx) : tbl m 0 j = 0#32 := by
  show V m 0 main_v0 j = _
  entry_read
  rfl

theorem chk_zero : ∀ t : Fin grid0.N, k0_chk1 (grid0.coords t) 0#32 := by decide +kernel

theorem ok : Ok m := trivial

theorem word_zero (t : Fin grid0.N) (c : Dev nD) :
    word (c := c) (grid0.coords t) (tbl m 0) = 0#32 := tbl_zero m _

theorem hyps : Gen.Hyps m (ok m) := fun c t => by
  have h := word_zero m t c
  unfold word at h
  rw [h]
  exact chk_zero t

/-- The run, the argument arrays unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and
    (frame_of m ρ (ok m) (dats m (ok m) (hyps m)) (A_eq m (ok m) (hyps m))
      ((θ_run defs _ _).mono (fun _ h => h.1.toR) (run_main m ρ (ok m) (hyps m))))
    ((θ_run defs _ _).mono (fun _ h => h.2) (run_main m ρ (ok m) (hyps m)))

/-- The device's program has the same text. -/
theorem frame_device (m : (ℓ : Loc Cert.Attention.nD Cert.Attention.τ Cert.Attention.sig) → Buf (Elt Bits) ℓ)
    (g : Dev Cert.Attention.nD → PrngReg) :
    θ_run (Cert.Attention.defs (F := Bits)) (onTc (τ := Cert.Attention.τ) (Cert.Attention.main (F := Bits))) ⟨m, fun _ => 0, g⟩
      (fun r => (∀ c : Dev Cert.Attention.nD,
        r.2.mem ((c.tc : Thread Cert.Attention.nD Cert.Attention.τ).loc Cert.Attention.main_arg0) = m ((c.tc : Thread Cert.Attention.nD Cert.Attention.τ).loc Cert.Attention.main_arg0)
        ∧ r.2.mem ((c.tc : Thread Cert.Attention.nD Cert.Attention.τ).loc Cert.Attention.main_arg1) = m ((c.tc : Thread Cert.Attention.nD Cert.Attention.τ).loc Cert.Attention.main_arg1)
        ∧ r.2.mem ((c.tc : Thread Cert.Attention.nD Cert.Attention.τ).loc Cert.Attention.main_arg2) = m ((c.tc : Thread Cert.Attention.nD Cert.Attention.τ).loc Cert.Attention.main_arg2))
        ∧ r.2.sem = fun _ => 0) := by
  have h := frame (F := Bits) m g
  rw [show (Cert.Attention.defs (F := Bits)) = Cert.AttentionIdeal.defs from by sl_kernel_rfl,
    show (Cert.Attention.main (F := Bits)) = Cert.AttentionIdeal.main from by sl_kernel_rfl]
  exact h

end Cert.Attn

end
-- ==== Proof.Attn.Lift.lean ====
/- Real matrices as vectors of ideal floats, and the kernel's operations on them. -/
module

public import proofs.«01_k».proof.Proof.Gen.AttentionIdeal.Skeleton
public import proofs.«01_k».proof.Proof.Common.Word
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Cert.AttentionIdeal Cert.AttentionIdeal.Gen
open Finset (range)

/-- The vector that holds the real matrix `f`. -/
def up {φ : FTy} {n k : ℕ} (f : ℕ → ℕ → ℝ) : FVec Ideal ⟨2, ![n, k]⟩ φ := fun x => ((f (x 0).val (x 1).val : ℝ) : EReal)

theorem up_at {φ : FTy} {n k : ℕ} (f : ℕ → ℕ → ℝ) (i : Fin n) (q : Fin k) :
    (up f : FVec Ideal ⟨2, ![n, k]⟩ φ) (ix2 i q) = ((f i.val q.val : ℝ) : EReal) := rfl

theorem eq_up {φ : FTy} {n k : ℕ} {v : FVec Ideal ⟨2, ![n, k]⟩ φ} {f : ℕ → ℕ → ℝ}
    (h : ∀ (i : Fin n) (q : Fin k), v (ix2 i q) = ((f i.val q.val : ℝ) : EReal)) : v = up f := by
  funext x
  obtain ⟨i, q, rfl⟩ : ∃ i q, x = ix2 i q := ⟨x 0, x 1, eq_ix2 x⟩
  exact h i q

theorem up_congr {φ : FTy} {n k : ℕ} {f g : ℕ → ℕ → ℝ} (h : ∀ i q, i < n → q < k → f i q = g i q) :
    (up f : FVec Ideal ⟨2, ![n, k]⟩ φ) = up g :=
  eq_up fun i q => by rw [up_at, h _ _ i.isLt q.isLt]

theorem coe_sum {n : ℕ} (f : ℕ → ℝ) : ((∑ d ∈ range n, f d : ℝ) : EReal) = ∑ d : Fin n, ((f d.val : ℝ) : EReal) := by
  rw [← Fin.sum_univ_eq_sum_range]
  exact map_sum (⟨⟨((↑) : ℝ → EReal), rfl⟩, EReal.coe_add⟩ : ℝ →+ EReal) _ _

section
variable {φ ψ : FTy} {n k : ℕ} (f g : ℕ → ℕ → ℝ)

theorem addf_up : addf (up f : FVec Ideal ⟨2, ![n, k]⟩ φ) (up g) = up fun i q => f i q + g i q :=
  funext fun _ => (EReal.coe_add _ _).symm
theorem subf_up : subf (up f : FVec Ideal ⟨2, ![n, k]⟩ φ) (up g) = up fun i q => f i q - g i q :=
  funext fun _ => (EReal.coe_sub _ _).symm
theorem mulf_up : mulf (up f : FVec Ideal ⟨2, ![n, k]⟩ φ) (up g) = up fun i q => f i q * g i q :=
  funext fun _ => (EReal.coe_mul _ _).symm
theorem maximumf_up : maximumf (up f : FVec Ideal ⟨2, ![n, k]⟩ φ) (up g) = up fun i q => max (f i q) (g i q) :=
  funext fun _ => (EReal.coe_strictMono.monotone.map_max).symm
theorem absf_up : absf (up f : FVec Ideal ⟨2, ![n, k]⟩ φ) = up fun i q => |f i q| :=
  funext fun _ => (EReal.coe_strictMono.monotone.map_max).symm
theorem exp_up : exp (up f : FVec Ideal ⟨2, ![n, k]⟩ φ) = up fun i q => Real.exp (f i q) :=
  funext fun _ => rfl
theorem truncf_up (h) : truncf ψ (up f : FVec Ideal ⟨2, ![n, k]⟩ φ) h = up f := rfl
theorem log_up : log (up fun i q => 1 + Real.exp (f i q) : FVec Ideal ⟨2, ![n, k]⟩ φ)
    = up fun i q => Real.log (1 + Real.exp (f i q)) :=
  funext fun x => by
    have : 0 < 1 + Real.exp (f (x 0).val (x 1).val) := by positivity
    show Ideal.log (((1 + Real.exp (f (x 0).val (x 1).val) : ℝ)) : EReal) = _
    rw [Ideal.log_coe, if_neg (not_le.mpr this)]
    rfl
end

theorem zero_up {n k : ℕ} : (broadcast ⟨2, ![n, k]⟩ (Scalar.ofBits .f32 0x00000000#32) : FVec Ideal ⟨2, ![n, k]⟩ .f32) = up fun _ _ => 0 :=
  funext fun _ => by
    show Ideal.ofBits .f32 0x00000000#32 = ((0 : ℝ) : EReal)
    simp
theorem one_up {n k : ℕ} : (broadcast ⟨2, ![n, k]⟩ (Scalar.ofBits .f32 0x3F800000#32) : FVec Ideal ⟨2, ![n, k]⟩ .f32) = up fun _ _ => 1 :=
  funext fun _ => by
    show Ideal.ofBits .f32 0x3F800000#32 = ((1 : ℝ) : EReal)
    simp
theorem eighth_up {n k : ℕ} : (broadcast ⟨2, ![n, k]⟩ (Scalar.ofBits .f32 0x3E000000#32) : FVec Ideal ⟨2, ![n, k]⟩ .f32) = up fun _ _ => 1 / 8 :=
  funext fun _ => by
    show Ideal.ofBits .f32 0x3E000000#32 = ((1 / 8 : ℝ) : EReal)
    simp [Ideal.ofBits, Ideal.ieee, -EReal.coe_mul]; norm_num
theorem eighth_up' {n k : ℕ} : (broadcast ⟨2, ![n, k]⟩ (Scalar.ofBits .bf16 0x3E00#16) : FVec Ideal ⟨2, ![n, k]⟩ .bf16) = up fun _ _ => 1 / 8 :=
  funext fun _ => by
    show Ideal.ofBits .bf16 0x3E00#16 = ((1 / 8 : ℝ) : EReal)
    simp [Ideal.ofBits, Ideal.ieee, -EReal.coe_mul]; norm_num

section
variable (f g : ℕ → ℕ → ℝ)

theorem mm_up : matmul dot_S256x64_S256x64_S256x256_1_1_0_0_n_n none (up f : FVec Ideal S256x64 .bf16) (up g : FVec Ideal S256x64 .bf16)
    (constant S256x256 .f32 0x00000000#32) = up fun i q => ∑ d ∈ range 64, f i d * g q d := by
  refine eq_up fun i q => ?_
  pointwise
  simp only [up_at, coe_sum, EReal.coe_mul]

theorem mm_tri_up : matmul dot_S256x256_S256x256_S256x256_1_0_0_1_n_n none (up f : FVec Ideal S256x256 .bf16) (up g : FVec Ideal S256x256 .bf16)
    (constant S256x256 .f32 0x00000000#32) = up fun i q => ∑ d ∈ range 256, f i d * g d q := by
  refine eq_up fun i q => ?_
  pointwise
  simp only [up_at, coe_sum, EReal.coe_mul]

theorem mm_row_up : matmul dot_S256x256_S256x64_S256x64_1_0_0_1_n_n none (up f : FVec Ideal S256x256 .bf16) (up g : FVec Ideal S256x64 .bf16)
    (constant S256x64 .f32 0x00000000#32) = up fun i q => ∑ d ∈ range 256, f i d * g d q := by
  refine eq_up fun i q => ?_
  pointwise
  simp only [up_at, coe_sum, EReal.coe_mul]

theorem mm_col_up : matmul dot_S256x256_S256x64_S256x64_0_0_1_1_n_n none (up f : FVec Ideal S256x256 .bf16) (up g : FVec Ideal S256x64 .bf16)
    (constant S256x64 .f32 0x00000000#32) = up fun i q => ∑ d ∈ range 256, f d i * g d q := by
  refine eq_up fun i q => ?_
  pointwise
  simp only [up_at, coe_sum, EReal.coe_mul]

/-- A head's columns. -/
def hd (h : ℕ) (f : ℕ → ℕ → ℝ) : ℕ → ℕ → ℝ := fun i d => f i (64 * h + d)

theorem slice0_up {φ : FTy} (h) : extractStridedSlice S256x64 ![0, 0] (up f : FVec Ideal S256x256 φ) h = up (hd 0 f) := by
  refine eq_up fun i q => ?_
  pointwise
  simp only [up_at, hd]
  try (congr 3; omega)
theorem slice1_up {φ : FTy} (h) : extractStridedSlice S256x64 ![0, 64] (up f : FVec Ideal S256x256 φ) h = up (hd 1 f) := by
  refine eq_up fun i q => ?_
  pointwise
  simp only [up_at, hd]
  try (congr 3; omega)
theorem slice2_up {φ : FTy} (h) : extractStridedSlice S256x64 ![0, 128] (up f : FVec Ideal S256x256 φ) h = up (hd 2 f) := by
  refine eq_up fun i q => ?_
  pointwise
  simp only [up_at, hd]
  try (congr 3; omega)
theorem slice3_up {φ : FTy} (h) : extractStridedSlice S256x64 ![0, 192] (up f : FVec Ideal S256x256 φ) h = up (hd 3 f) := by
  refine eq_up fun i q => ?_
  pointwise
  simp only [up_at, hd]
  try (congr 3; omega)
theorem last_up {φ : FTy} (h) : extractStridedSlice S256x1 ![0, 255] (up f : FVec Ideal S256x256 φ) h = up fun i _ => f i 255 := by
  refine eq_up fun i q => ?_
  pointwise
  rfl
theorem col_up (h) : broadcastTo S256x256 (up f : FVec Ideal S256x1 .f32) h = up fun i _ => f i 0 := by
  refine eq_up fun i q => ?_
  pointwise
  rfl

/-- Four heads side by side. -/
def join (f : ℕ → ℕ → ℕ → ℝ) : ℕ → ℕ → ℝ := fun i q => f (q / 64) i (q % 64)

theorem join_up {φ : FTy} (f : ℕ → ℕ → ℕ → ℝ) (h) :
    concatenate S256x256 1 [⟨S256x64, (up (f 0) : FVec Ideal S256x64 φ)⟩, ⟨S256x64, up (f 1)⟩, ⟨S256x64, up (f 2)⟩, ⟨S256x64, up (f 3)⟩] h
      = (up (join f) : FVec Ideal S256x256 φ) := by
  refine eq_up fun i q => ?_
  pointwise
  simp only [up_at, join]
  have := q.isLt
  split
  · rw [show q.val / 64 = 0 by omega, show q.val % 64 = q.val by omega]
  split
  · rw [show q.val / 64 = 1 by omega, show q.val % 64 = q.val - 64 by omega]
  split
  · rw [show q.val / 64 = 2 by omega, show q.val % 64 = q.val - 64 - 64 by omega]
  · rw [show q.val / 64 = 3 by omega, show q.val % 64 = q.val - 64 - 64 - 64 by omega]

/-- The tile's running sums are one of the 64 columns of the point's block. -/
theorem cin_up (j : ℕ) (hj : j < 64) (r : Vec Ideal S1x1x256x64 .f32) (c : ℕ → ℕ → ℝ)
    (hr : ∀ (i : Fin 256) (q : Fin 64), r (ix4 0 0 i q) = ((c i.val q.val : ℝ) : EReal)) (h1 h2 h3 h4) (w : BitVec 32) (hw : w = BitVec.ofNat 32 j):
    shapeCast S256x1 (multiReduction .add [1] S256 (select (cmpi .eq (iota .tc S256x64 32 [1] iota_S256x64_d1_w32) (broadcast S256x64 w))
      (shapeCast S256x64 r shapeCasts_S1x1x256x64_S256x64 : FVec Ideal S256x64 .f32) (up fun _ _ => 0)) 0x00000000#32 h1 h2 h3) h4
      = (up fun i _ => c i j : FVec Ideal S256x1 .f32) := by
  subst hw
  refine eq_up fun i q => ?_
  pointwise
  rw [Finset.sum_eq_single (⟨j, hj⟩ : Fin 64)]
  · exact ((Common.select_ofNat _ _ (by omega) (by omega) _ _).trans (if_pos rfl)).trans (hr i ⟨j, hj⟩)
  · intro y _ hy
    exact ((Common.select_ofNat _ _ (by omega) (by omega) _ _).trans (if_neg fun h => hy (Fin.ext h))).trans (by simp [up_at])
  · intro h; exact absurd (Finset.mem_univ _) h

theorem causal_at {α : Type} (a b : S256x256.Idx → α) (i q : Fin 256) :
    select k0_pay124 a b (ix2 i q) = if q.val < i.val then a (ix2 i q) else b (ix2 i q) := by
  have h : k0_pay124 (ix2 i q) = if q.val < i.val then 1#1 else 0#1 := by
    pointwise [k0_pay124]
    exact Common.cmpi_slt_ofNat _ _ (by omega) (by omega)
  show Scalar.select (k0_pay124 (ix2 i q)) _ _ = _
  rw [h]
  by_cases hh : q.val < i.val <;> simp [hh, Scalar.select]

theorem causal_up {φ : FTy} : select k0_pay124 (up f : FVec Ideal S256x256 φ) (up g) = up fun i q => if q < i then f i q else g i q := by
  refine eq_up fun i q => ?_
  rw [causal_at]
  split <;> rfl

theorem causal_exp_up : exp (select k0_pay124 (up f : FVec Ideal S256x256 .f32) (broadcast S256x256 (Scalar.ofBits .f32 0xFF800000#32)))
    = up fun i q => if q < i then Real.exp (f i q) else 0 := by
  refine eq_up fun i q => ?_
  show Ideal.exp (select k0_pay124 _ _ (ix2 i q)) = _
  rw [causal_at]
  split
  · rfl
  · show Ideal.exp (Ideal.ofBits .f32 0xFF800000#32) = _
    simp [Ideal.ofBits, Ideal.ieee]
end

end Cert.Attn
end
-- ==== Proof.Attn.Real.lean ====
/- The attention's gradient in the real numbers: one tile, head by head. -/
module

public import Mathlib.Analysis.SpecialFunctions.Log.Basic

@[expose] public section

noncomputable section

namespace Cert.Attn

open Finset (range)

/-- `log (1 - sigmoid x)`, in the form that does not overflow. -/
def ell (x : ℝ) : ℝ := 0 - (max x 0 + Real.log (1 + Real.exp (0 - |x|)))

section
variable (z da : ℕ → ℕ → ℝ) (c C : ℕ → ℝ)

/-- The scores of a tile. -/
def score (q k : ℕ → ℕ → ℝ) (i s : ℕ) : ℝ := ∑ d ∈ range 64, q i d * k s d
/-- The sums to the right within a tile. -/
def tailSum (l : ℕ → ℕ → ℝ) (i s : ℕ) : ℝ := ∑ t ∈ range 256, l i t * (if s ≤ t then 1 else 0)
/-- The sums to the left within a tile. -/
def headSum (g : ℕ → ℕ → ℝ) (i s : ℕ) : ℝ := ∑ t ∈ range 256, g i t * (if t ≤ s then 1 else 0)

/-- The weights of a tile to the left of the diagonal. -/
def tw (i s : ℕ) : ℝ := Real.exp (z i s + (c i + tailSum (fun i s => ell (z i s)) i s))
def tg (i s : ℕ) : ℝ := tw z c i s * da i s
def tdz (i s : ℕ) : ℝ := tg z da c i s - Real.exp (z i s + ell (z i s)) * (C i + headSum (tg z da c) i s)

/-- The weights of the tile on the diagonal. -/
def dw (i s : ℕ) : ℝ := if s < i then Real.exp (z i s + tailSum (fun i s => if s < i then ell (z i s) else 0) i s) else 0
def dg (i s : ℕ) : ℝ := dw z i s * da i s
def ddz (i s : ℕ) : ℝ := if s < i then dg z da i s - Real.exp (z i s + (if s < i then ell (z i s) else 0)) * (C i + headSum (dg z da) i s) else 0

end

end Cert.Attn
end
-- ==== Proof.Attn.Trip.lean ====
/- What one trip of the attention kernel's inner loop leaves, in the real numbers. -/
module

public import proofs.«01_k».proof.Proof.Gen.AttentionIdeal.Loops
public import proofs.«01_k».proof.Proof.Attn.Word
public import proofs.«01_k».proof.Proof.Attn.Lift
public import proofs.«01_k».proof.Proof.Attn.Real

@[expose] public section

set_option maxRecDepth 16384

noncomputable section

namespace Cert.Attn

open Idealize.ShloMosaic Idealize.ShloMosaic.TcCoe Idealize.SL.Sem
open Cert.AttentionIdeal Cert.AttentionIdeal.Gen
open Finset (range)

/-- Ones on and below the diagonal, and on and above it. -/
def below (t s : ℕ) : ℝ := if s ≤ t then 1 else 0
def above (t s : ℕ) : ℝ := if t ≤ s then 1 else 0

/-- The operands that a point's inner loop is given: the triangles of ones, the scaled queries and the incoming gradient,
    head by head. -/
structure Ops (F : FTy → Type) [FloatOps F] where
  one : FVec F S256x256 .bf16
  oneT : FVec F S256x256 .bf16
  q0 : FVec F S256x64 .bf16
  q1 : FVec F S256x64 .bf16
  q2 : FVec F S256x64 .bf16
  q3 : FVec F S256x64 .bf16
  d0 : FVec F S256x64 .bf16
  d1 : FVec F S256x64 .bf16
  d2 : FVec F S256x64 .bf16
  d3 : FVec F S256x64 .bf16

/-- The operands that hold the real matrices of the queries and of the gradient. -/
def realOps (Q D : ℕ → ℕ → ℝ) : Ops Ideal :=
  ⟨up below, up above, up (hd 0 Q), up (hd 1 Q), up (hd 2 Q), up (hd 3 Q), up (hd 0 D), up (hd 1 D), up (hd 2 D), up (hd 3 D)⟩

/-- What the inner loop carries: per head the sums to the left, and the queries' gradient. -/
abbrev Acc (F : FTy → Type) [FloatOps F] := FVec F S256x1 .f32 × FVec F S256x64 .f32 × FVec F S256x1 .f32 × FVec F S256x64 .f32
  × FVec F S256x1 .f32 × FVec F S256x64 .f32 × FVec F S256x1 .f32 × FVec F S256x64 .f32

def realAcc (C : ℕ → ℕ → ℝ) (A : ℕ → ℕ → ℕ → ℝ) : Acc Ideal :=
  (up fun i _ => C 0 i, up (A 0), up fun i _ => C 1 i, up (A 1), up fun i _ => C 2 i, up (A 2), up fun i _ => C 3 i, up (A 3))

section
variable {F : FTy → Type} [FloatOps F]

/-- One trip of a point's inner loop. -/
abbrev tripK (c : Dev nD) (i : grid0.Coords) (a : Stage) (v3 : BitVec 32) (hw : k0_chk1 i v3) (v5 : BitVec 32) (o : Ops F)
    (X5 : BufTy.Contents (Elt F) a.cin.view.ty) (X11 : BufTy.Contents (Elt F) scM0_0.view.ty)
    (X12 : BufTy.Contents (Elt F) scM0_1.view.ty) (k : Fin (k0_t1_loop i v3).trips) :=
  trip_k0_t1 (F := F) Variants.none c none i tbM0_0 htbM0_0 a.q a.hq (Memref.whole main_arg1) (Memref.isWhole_whole _) a.cin a.hcin
    a.ct a.hct a.one a.hone a.oneT a.honeT a.dq a.hdq (Memref.whole main_v42_1) (Memref.isWhole_whole _) scM0_0
    (Memref.isWhole_whole _) scM0_1 (Memref.isWhole_whole _) scM0_2 (Memref.isWhole_whole _) scM0_3 (Memref.isWhole_whole _)
    cc0_scratch4 (BitVec.ofNat 32 (i 1).val) v3 hw v5 o.one o.oneT o.q0 o.q1 o.q2 o.q3 o.d0 o.d1 o.d2 o.d3
    (iota .tc S256x64 32 [1] iota_S256x64_d1_w32) (k0_pay125 (F := F)) (k0_pay126 (F := F)) (FloatOps.ofBits .f32 0x00000000#32) X5 X11 X12 k
end

section
variable (q k v d z da g : ℕ → ℕ → ℝ)

theorem pay4_up : k0_pay4 (up (φ := .bf16) (n := 256) (k := 256) k) = up (hd 0 k) := slice0_up k slices_S256x256_o0_0_S256x64
theorem pay5_up : k0_pay5 (up (φ := .bf16) (n := 256) (k := 256) k) = up (hd 1 k) := slice1_up k slices_S256x256_o0_64_S256x64
theorem pay6_up : k0_pay6 (up (φ := .bf16) (n := 256) (k := 256) k) = up (hd 2 k) := slice2_up k slices_S256x256_o0_128_S256x64
theorem pay7_up : k0_pay7 (up (φ := .bf16) (n := 256) (k := 256) k) = up (hd 3 k) := slice3_up k slices_S256x256_o0_192_S256x64
theorem pay8_up : k0_pay8 (up q) (up (φ := .bf16) (n := 256) (k := 256) k) = up (score q (hd 0 k)) := by
  unfold k0_pay8; dsimp only; rw [pay4_up]; exact mm_up _ _
theorem pay12_up : k0_pay12 (up q) (up (φ := .bf16) (n := 256) (k := 256) k) = up (score q (hd 0 k)) := by
  unfold k0_pay12; dsimp only; exact (congrArg (fun x => matmul _ none _ x _) (slice0_up k _)).trans (mm_up _ _)
theorem pay9_up : k0_pay9 (up q) (up (φ := .bf16) (n := 256) (k := 256) k) = up (score q (hd 1 k)) := by
  unfold k0_pay9; dsimp only; rw [pay5_up]; exact mm_up _ _
theorem pay13_up : k0_pay13 (up q) (up (φ := .bf16) (n := 256) (k := 256) k) = up (score q (hd 1 k)) := by
  unfold k0_pay13; dsimp only; exact (congrArg (fun x => matmul _ none _ x _) (slice1_up k _)).trans (mm_up _ _)
theorem pay10_up : k0_pay10 (up q) (up (φ := .bf16) (n := 256) (k := 256) k) = up (score q (hd 2 k)) := by
  unfold k0_pay10; dsimp only; rw [pay6_up]; exact mm_up _ _
theorem pay14_up : k0_pay14 (up q) (up (φ := .bf16) (n := 256) (k := 256) k) = up (score q (hd 2 k)) := by
  unfold k0_pay14; dsimp only; exact (congrArg (fun x => matmul _ none _ x _) (slice2_up k _)).trans (mm_up _ _)
theorem pay11_up : k0_pay11 (up q) (up (φ := .bf16) (n := 256) (k := 256) k) = up (score q (hd 3 k)) := by
  unfold k0_pay11; dsimp only; rw [pay7_up]; exact mm_up _ _
theorem pay15_up : k0_pay15 (up q) (up (φ := .bf16) (n := 256) (k := 256) k) = up (score q (hd 3 k)) := by
  unfold k0_pay15; dsimp only; exact (congrArg (fun x => matmul _ none _ x _) (slice3_up k _)).trans (mm_up _ _)
theorem pay21_up : k0_pay21 (up z) = up fun i s => ell (z i s) := by
  simp only [k0_pay21, zero_up, one_up, maximumf_up, absf_up, subf_up, exp_up, addf_up, log_up]; rfl
theorem pay22_up : k0_pay22 (up z) = up fun i s => ell (z i s) := by
  simp only [k0_pay22, zero_up, one_up, maximumf_up, absf_up, subf_up, exp_up, addf_up, log_up]; rfl
theorem pay16_up : k0_pay16 (up q) (up (φ := .bf16) (n := 256) (k := 256) k) = up fun i s => ell (score q (hd 0 k) i s) := by
  simp only [k0_pay16, pay8_up, zero_up, one_up, maximumf_up, absf_up, subf_up, exp_up, addf_up, log_up]; rfl
theorem pay20_up : k0_pay20 (k0_pay17 (up q) (up (φ := .bf16) (n := 256) (k := 256) k)) (k0_pay18 (up q) (up (φ := .bf16) (n := 256) (k := 256) k))
    k0_pay19 = up fun i s => ell (score q (hd 1 k) i s) := by
  simp only [k0_pay17, k0_pay18, k0_pay19, k0_pay20, pay9_up, zero_up, one_up, maximumf_up, absf_up, subf_up, exp_up, addf_up, log_up]; rfl

theorem pay32_up (c : ℕ → ℕ → ℝ) (j : ℕ) (hj : j < 64) (r : Vec Ideal S1x1x256x64 .f32)
    (hr : ∀ (i : Fin 256) (q : Fin 64), r (ix4 0 0 i q) = ((c i.val q.val : ℝ) : EReal)) :
    k0_pay32 (iota .tc S256x64 32 [1] iota_S256x64_d1_w32) (BitVec.ofNat 32 j) r = up fun i _ => c i j := by
  unfold k0_pay32; dsimp only; rw [zero_up]; exact cin_up j hj r c hr _ _ _ _ _ rfl
theorem pay33_up (c : ℕ → ℕ → ℝ) (j : ℕ) (hj : j < 64) (r : Vec Ideal S1x1x256x64 .f32)
    (hr : ∀ (i : Fin 256) (q : Fin 64), r (ix4 0 0 i q) = ((c i.val q.val : ℝ) : EReal)) :
    k0_pay33 (iota .tc S256x64 32 [1] iota_S256x64_d1_w32) (BitVec.ofNat 32 j) r = up fun i _ => c i j := by
  unfold k0_pay33; dsimp only; rw [zero_up]; exact cin_up j hj r c hr _ _ _ _ _ rfl
theorem pay34_up (R : ℕ → ℕ → ℝ) (c : ℕ → ℕ → ℝ) (j : ℕ) (hj : j < 64) (r : Vec Ideal S1x1x256x64 .f32)
    (hr : ∀ (i : Fin 256) (q : Fin 64), r (ix4 0 0 i q) = ((c i.val q.val : ℝ) : EReal)) :
    k0_pay34 (up z) (up R) (k0_pay31 (iota .tc S256x64 32 [1] iota_S256x64_d1_w32) (BitVec.ofNat 32 j)) r = up fun i s => z i s + (c i j + R i s) := by
  refine (congrArg (fun x => addf (up z) (addf (broadcastTo S256x256 x broadcasts_S256x1_S256x256) (up R))) (pay32_up c j hj r hr)).trans ?_
  simp only [col_up, addf_up]
theorem pay35_up (R : ℕ → ℕ → ℝ) (c : ℕ → ℕ → ℝ) (j : ℕ) (hj : j < 64) (r : Vec Ideal S1x1x256x64 .f32)
    (hr : ∀ (i : Fin 256) (q : Fin 64), r (ix4 0 0 i q) = ((c i.val q.val : ℝ) : EReal)) :
    k0_pay35 (iota .tc S256x64 32 [1] iota_S256x64_d1_w32) (BitVec.ofNat 32 j) (up z) (up R) r = up fun i s => z i s + (c i j + R i s) := by
  refine (congrArg (fun x => addf (up z) (addf (broadcastTo S256x256 x broadcasts_S256x1_S256x256) (up R))) (pay32_up c j hj r hr)).trans ?_
  simp only [col_up, addf_up]
end

/-- Four heads side by side, one by one. -/
def four (a b c d : ℕ → ℕ → ℝ) : ℕ → ℕ → ℝ := join fun h => if h = 0 then a else if h = 1 then b else if h = 2 then c else d

theorem join4_up {φ : FTy} (a b c d : ℕ → ℕ → ℝ) (h) :
    concatenate S256x256 1 [⟨S256x64, (up a : FVec Ideal S256x64 φ)⟩, ⟨S256x64, up b⟩, ⟨S256x64, up c⟩, ⟨S256x64, up d⟩] h
      = (up (four a b c d) : FVec Ideal S256x256 φ) :=
  join_up (fun h => if h = 0 then a else if h = 1 then b else if h = 2 then c else d) h

/-- Four vectors side by side. -/
def cat4 {F : FTy → Type} [FloatOps F] (a b c d : FVec F S256x64 .f32) : FVec F S256x256 .f32 :=
  concatenate S256x256 1 [⟨S256x64, a⟩, ⟨S256x64, b⟩, ⟨S256x64, c⟩, ⟨S256x64, d⟩] concatenates_S256x64_S256x64_S256x64_S256x64_S256x256_d1

theorem cat4_up (a b c d : ℕ → ℕ → ℝ) : cat4 (up a) (up b) (up c) (up d) = up (four a b c d) := join4_up _ _ _ _ _

theorem cast_up {φ : FTy} (f : ℕ → ℕ → ℝ) (h) : shapeCast S256x256 (up f : FVec Ideal S256x256 φ) h = up f := by
  refine eq_up fun i q => ?_
  pointwise
  rfl

theorem pay138_up (a b c d E : ℕ → ℕ → ℝ) : k0_pay138 (up a) (up b) (up c) (up d) (up (φ := .f32) (n := 256) (k := 256) E)
    = up fun i s => E i s + four a b c d i s := by
  refine (show _ = shapeCast S256x256 (addf (up E) (cat4 (up a) (up b) (up c) (up d))) _ from rfl).trans ?_
  rw [cat4_up, addf_up, cast_up]

theorem pay137_up (q0 q1 q2 q3 a b c d E : ℕ → ℕ → ℝ) :
    k0_pay137 (up q0) (up q1) (up q2) (up q3) (up a) (up b) (up c) (up d) (up (φ := .f32) (n := 256) (k := 256) E)
    = up fun i s => E i s + four (fun s d => ∑ i ∈ range 256, a i s * q0 i d) (fun s d => ∑ i ∈ range 256, b i s * q1 i d)
        (fun s d => ∑ i ∈ range 256, c i s * q2 i d) (fun s t => ∑ i ∈ range 256, d i s * q3 i t) i s := by
  refine (show _ = shapeCast S256x256 (addf (up E) (cat4 (matmul dot_S256x256_S256x64_S256x64_0_0_1_1_n_n none (up a) (up q0) (constant S256x64 .f32 0x00000000#32))
    (matmul dot_S256x256_S256x64_S256x64_0_0_1_1_n_n none (up b) (up q1) (constant S256x64 .f32 0x00000000#32))
    (matmul dot_S256x256_S256x64_S256x64_0_0_1_1_n_n none (up c) (up q2) (constant S256x64 .f32 0x00000000#32))
    (matmul dot_S256x256_S256x64_S256x64_0_0_1_1_n_n none (up d) (up q3) (constant S256x64 .f32 0x00000000#32)))) _ from rfl).trans ?_
  simp only [mm_col_up]
  rw [cat4_up, addf_up, cast_up]

theorem join_four (f : ℕ → ℕ → ℕ → ℝ) (s d : ℕ) (hd : d < 256) : join f s d = four (f 0) (f 1) (f 2) (f 3) s d := by
  unfold four join
  have : d / 64 < 4 := by omega
  interval_cases d / 64 <;> rfl

theorem add_join_up {φ : FTy} (E : ℕ → ℕ → ℝ) (f : ℕ → ℕ → ℕ → ℝ) :
    (up fun s d => E s d + join f s d : FVec Ideal S256x256 φ) = up fun s d => E s d + four (f 0) (f 1) (f 2) (f 3) s d :=
  up_congr fun s d _ hd => by rw [join_four _ s d hd]

/-- The scores of a head of a tile. -/
def zed (Q K : ℕ → ℕ → ℝ) (h : ℕ) : ℕ → ℕ → ℝ := score (hd h Q) (hd h K)

section
variable (Q D K V : ℕ → ℕ → ℝ) (c C : ℕ → ℕ → ℝ) (h : ℕ)
def tW : ℕ → ℕ → ℝ := tw (zed Q K h) (c h)
def tG : ℕ → ℕ → ℝ := tg (zed Q K h) (zed D V h) (c h)
def tZ : ℕ → ℕ → ℝ := tdz (zed Q K h) (zed D V h) (c h) (C h)
/-- What a tile adds to the sums to the left, and to the gradients of the queries, keys and values. -/
def tC (i : ℕ) : ℝ := headSum (tG Q D K V c h) i 255
def tQ (i d : ℕ) : ℝ := ∑ s ∈ range 256, tZ Q D K V c C h i s * hd h K s d
def tK (s d : ℕ) : ℝ := ∑ i ∈ range 256, tZ Q D K V c C h i s * hd h Q i d
def tV (s d : ℕ) : ℝ := ∑ i ∈ range 256, tW Q K c h i s * hd h D i d
end

section
variable (c : Dev nD) (i : grid0.Coords) (a : Stage) (v3 : BitVec 32) (hw : k0_chk1 i v3) (v5 : BitVec 32)
  (X5 : BufTy.Contents (Elt Ideal) a.cin.view.ty) (X11 : BufTy.Contents (Elt Ideal) scM0_0.view.ty)
  (X12 : BufTy.Contents (Elt Ideal) scM0_1.view.ty) (k : Fin (k0_t1_loop i v3).trips)
  (Q D K V : ℕ → ℕ → ℝ) (cin : ℕ → ℕ → ℕ → ℝ) (j : ℕ)

/-- What a trip loads holds real numbers. -/
structure Loaded : Prop where
  word : trip_k0_t1.sl.arg16 (F := Ideal) i v3 v5 k = BitVec.ofNat 32 j
  lt : j < 64
  kk : scM0_0.view.readAt (Elt Ideal) (Rect.unit (s := S16384x256) (k0_off4 i v3 k) S256x256.size (k0_off4_inb i v3 hw k)).toLoadRect X11
    = up (φ := .bf16) (n := 256) (k := 256) K
  vv : scM0_1.view.readAt (Elt Ideal) (Rect.unit (s := S16384x256) (k0_off4 i v3 k) S256x256.size (k0_off4_inb i v3 hw k)).toLoadRect X12
    = up (φ := .bf16) (n := 256) (k := 256) V
  c0 : ∀ (y : Fin 256) (q : Fin 64), a.cin.view.readAt (Elt Ideal) (Rect.unit (s := S1x4x256x64) ![0, 0, 0, 0] S1x1x256x64.size
    inb_S1x4x256x64_S1x1x256x64_0_0_0_0).toLoadRect X5 (ix4 0 0 y q) = ((cin 0 y.val q.val : ℝ) : EReal)
  c1 : ∀ (y : Fin 256) (q : Fin 64), a.cin.view.readAt (Elt Ideal) (Rect.unit (s := S1x4x256x64) ![0, 1, 0, 0] S1x1x256x64.size
    inb_S1x4x256x64_S1x1x256x64_0_1_0_0).toLoadRect X5 (ix4 0 0 y q) = ((cin 1 y.val q.val : ℝ) : EReal)
  c2 : ∀ (y : Fin 256) (q : Fin 64), a.cin.view.readAt (Elt Ideal) (Rect.unit (s := S1x4x256x64) ![0, 2, 0, 0] S1x1x256x64.size
    inb_S1x4x256x64_S1x1x256x64_0_2_0_0).toLoadRect X5 (ix4 0 0 y q) = ((cin 2 y.val q.val : ℝ) : EReal)
  c3 : ∀ (y : Fin 256) (q : Fin 64), a.cin.view.readAt (Elt Ideal) (Rect.unit (s := S1x4x256x64) ![0, 3, 0, 0] S1x1x256x64.size
    inb_S1x4x256x64_S1x1x256x64_0_3_0_0).toLoadRect X5 (ix4 0 0 y q) = ((cin 3 y.val q.val : ℝ) : EReal)

variable {c i a v3 hw v5 X5 X11 X12 k Q D K V cin j}
variable (H : Loaded i a v3 hw v5 X5 X11 X12 k K V cin j) (C : ℕ → ℕ → ℝ) (A : ℕ → ℕ → ℕ → ℝ)
include H

theorem trip_acc (f g) : (tripK c i a v3 hw v5 (realOps Q D) X5 X11 X12 k).1 (realAcc C A) f g
    = realAcc (fun h i => C h i + tC Q D K V (fun h i => cin h i j) h i)
        (fun h i d => A h i d + tQ Q D K V (fun h i => cin h i j) C h i d) := by
  unfold tripK trip_k0_t1
  dsimp only [realAcc, realOps]
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40]
  simp only [H.word]
  simp only [H.kk, H.vv, ↓pay34_up _ _ _ j H.lt _ H.c0]
  simp only [
    k0_pay133, k0_pay134, k0_pay135, k0_pay136, k0_pay139, k0_pay140, k0_pay141, k0_pay142,
    pay4_up, pay5_up, pay6_up, pay7_up, pay8_up, pay9_up, pay10_up, pay11_up, pay12_up, pay13_up, pay14_up, pay15_up,
    pay16_up, pay20_up, pay21_up, pay22_up, pay34_up _ _ _ j H.lt _ H.c0, pay35_up _ _ _ j H.lt _ H.c1, pay32_up _ j H.lt _ H.c2,
    pay33_up _ j H.lt _ H.c3, k0_pay23, k0_pay24, k0_pay25, k0_pay26, k0_pay27, k0_pay28, k0_pay29, k0_pay30, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56,
    truncf_up, exp_up, mulf_up, addf_up, subf_up, mm_tri_up, mm_row_up, mm_col_up, col_up, last_up]
  rfl

theorem trip_dk (f g) (E : ℕ → ℕ → ℝ)
    (hf : scM0_2.view.readAt (Elt Ideal) (Rect.unit (s := S16384x256) (k0_off4 i v3 k) S256x256.size (k0_off4_inb i v3 hw k)).toLoadRect f
      = up (φ := .f32) (n := 256) (k := 256) E) :
    (tripK c i a v3 hw v5 (realOps Q D) X5 X11 X12 k).2.1 (realAcc C A) f g
      = [⟨Rect.unit (s := S16384x256) (k0_off4 i v3 k) S256x256.size (k0_off4_inb i v3 hw k),
          up (φ := .f32) (n := 256) (k := 256) fun s d => E s d + join (fun h => tK Q D K V (fun h i => cin h i j) C h) s d⟩] := by
  rw [add_join_up]
  unfold tripK trip_k0_t1
  dsimp only [realAcc, realOps]
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40]
  simp only [H.word]
  simp only [H.kk, H.vv, ↓pay34_up _ _ _ j H.lt _ H.c0]
  simp only [hf,
    pay4_up, pay5_up, pay6_up, pay7_up, pay8_up, pay9_up, pay10_up, pay11_up, pay12_up, pay13_up, pay14_up, pay15_up,
    pay16_up, pay20_up, pay21_up, pay22_up, pay34_up _ _ _ j H.lt _ H.c0, pay35_up _ _ _ j H.lt _ H.c1, pay32_up _ j H.lt _ H.c2,
    pay33_up _ j H.lt _ H.c3, k0_pay23, k0_pay24, k0_pay25, k0_pay26, k0_pay27, k0_pay28, k0_pay29, k0_pay30, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56,
    truncf_up, exp_up, mulf_up, addf_up, subf_up, mm_tri_up, mm_row_up, mm_col_up, col_up, last_up, pay137_up]
  rfl

theorem trip_dv (f g) (E : ℕ → ℕ → ℝ)
    (hf : scM0_3.view.readAt (Elt Ideal) (Rect.unit (s := S16384x256) (k0_off4 i v3 k) S256x256.size (k0_off4_inb i v3 hw k)).toLoadRect g
      = up (φ := .f32) (n := 256) (k := 256) E) :
    (tripK c i a v3 hw v5 (realOps Q D) X5 X11 X12 k).2.2.1 (realAcc C A) f g
      = [⟨Rect.unit (s := S16384x256) (k0_off4 i v3 k) S256x256.size (k0_off4_inb i v3 hw k),
          up (φ := .f32) (n := 256) (k := 256) fun s d => E s d + join (fun h => tV Q D K (fun h i => cin h i j) h) s d⟩] := by
  rw [add_join_up]
  unfold tripK trip_k0_t1
  dsimp only [realAcc, realOps]
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40]
  simp only [H.word]
  simp only [H.kk, H.vv, ↓pay34_up _ _ _ j H.lt _ H.c0]
  simp only [hf,
    pay4_up, pay5_up, pay6_up, pay7_up, pay8_up, pay9_up, pay10_up, pay11_up, pay12_up, pay13_up, pay14_up, pay15_up,
    pay16_up, pay20_up, pay21_up, pay22_up, pay34_up _ _ _ j H.lt _ H.c0, pay35_up _ _ _ j H.lt _ H.c1, pay32_up _ j H.lt _ H.c2,
    pay33_up _ j H.lt _ H.c3, k0_pay23, k0_pay24, k0_pay25, k0_pay26, k0_pay27, k0_pay28, k0_pay29, k0_pay30, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56,
    truncf_up, exp_up, mulf_up, addf_up, subf_up, mm_tri_up, mm_row_up, mm_col_up, col_up, last_up, pay138_up]
  rfl

end

end Cert.Attn
end
-- ==== Proof.Attn.Diag.lean ====
/- The tile on the diagonal of the attention kernel: what a point leaves of it, over any float values, and in the real
   numbers. -/
module

public import proofs.«01_k».proof.Proof.Attn.Trip

@[expose] public section

set_option maxRecDepth 16384

noncomputable section

namespace Cert.Attn

open Idealize.ShloMosaic Idealize.ShloMosaic.TcCoe Idealize.SL.Sem
open Cert.AttentionIdeal Cert.AttentionIdeal.Gen
open Finset (range)

section
variable {F : FTy → Type} [FloatOps F] (o : Ops F) (kb vb : Vec F S256x256 .bf16) (acc : Acc F)

def dl0 := k0_pay168 (k0_pay165 o.q0 kb) (k0_pay166 o.q0 kb) k0_pay167
def dl1 := k0_pay169 (k0_pay158 o.q1 kb)
def dl2 := k0_pay170 (k0_pay159 o.q2 kb)
def dl3 := k0_pay171 (k0_pay160 o.q3 kb)
def db0 := k0_pay177 k0_pay124 (k0_pay157 o.q0 kb) (dl0 o kb) k0_pay172
def db1 := k0_pay178 k0_pay124 (k0_pay158 o.q1 kb) (dl1 o kb)
def db2 := k0_pay179 k0_pay124 (k0_pay159 o.q2 kb) (dl2 o kb)
def db3 := k0_pay180 k0_pay124 (k0_pay160 o.q3 kb) (dl3 o kb)
def dw0 := k0_pay181 o.one k0_pay124 (k0_pay157 o.q0 kb) (dl0 o kb) k0_pay172
def dw1 := k0_pay182 o.one k0_pay124 (k0_pay158 o.q1 kb) (dl1 o kb)
def dw2 := k0_pay183 o.one k0_pay124 (k0_pay159 o.q2 kb) (dl2 o kb)
def dw3 := k0_pay184 o.one k0_pay124 (k0_pay160 o.q3 kb) (dl3 o kb)
def dg0 := k0_pay185 o.one k0_pay124 (k0_pay157 o.q0 kb) (k0_pay161 o.d0 vb) (dl0 o kb) k0_pay172
def dg1 := k0_pay186 o.one k0_pay124 (k0_pay158 o.q1 kb) (k0_pay162 o.d1 vb) (dl1 o kb)
def dg2 := k0_pay187 o.one k0_pay124 (k0_pay159 o.q2 kb) (k0_pay163 o.d2 vb) (dl2 o kb)
def dg3 := k0_pay188 o.one k0_pay124 (k0_pay160 o.q3 kb) (k0_pay164 o.d3 vb) (dl3 o kb)
def dp0 := k0_pay189 o.one o.oneT k0_pay124 (k0_pay157 o.q0 kb) (k0_pay161 o.d0 vb) (dl0 o kb) k0_pay172
def dp1 := k0_pay190 o.one o.oneT k0_pay124 (k0_pay158 o.q1 kb) (k0_pay162 o.d1 vb) (dl1 o kb)
def dz0 := k0_pay195 k0_pay124 acc.1 (db0 o kb) (dg0 o kb vb) (dp0 o kb vb)
def dz1 := k0_pay196 k0_pay124 acc.2.2.1 (db1 o kb) (dg1 o kb vb) (dp1 o kb vb)
def dz2 := k0_pay197 o.oneT k0_pay124 acc.2.2.2.2.1 (db2 o kb) (dg2 o kb vb)
def dz3 := k0_pay198 o.oneT k0_pay124 acc.2.2.2.2.2.2.1 (db3 o kb) (dg3 o kb vb)

/-- The result block of a point. -/
def tileQ : FVec F S256x256 .bf16 :=
  k0_pay3 acc.2.2.2.2.2.2.2 (k0_pay156 kb) (dz3 o kb vb acc)
    (k0_pay199 k0_pay124 acc.1 acc.2.1 (k0_pay153 kb) (db0 o kb) (dg0 o kb vb) (dp0 o kb vb))
    (k0_pay200 k0_pay124 acc.2.2.1 acc.2.2.2.1 (k0_pay154 kb) (db1 o kb) (dg1 o kb vb) (dp1 o kb vb))
    (k0_pay201 o.oneT k0_pay124 acc.2.2.2.2.1 acc.2.2.2.2.2.1 (k0_pay155 kb) (db2 o kb) (dg2 o kb vb))
    (constant S256x64 .f32 0x00000000#32)
/-- The block of the keys' gradient that a point's diagonal tile is added to. -/
def tileK (E : Vec F S256x256 .f32) : FVec F S256x256 .f32 :=
  k0_pay1 o.q0 o.q1 o.q2 o.q3 (dz0 o kb vb acc) (dz1 o kb vb acc) (dz2 o kb vb acc) (dz3 o kb vb acc) E
/-- The block of the values' gradient that a point's diagonal tile is added to. -/
def tileV (E : Vec F S256x256 .f32) : FVec F S256x256 .f32 :=
  k0_pay2 (k0_pay191 o.d0 (dw0 o kb)) (k0_pay192 o.d1 (dw1 o kb)) (k0_pay193 o.d2 (dw2 o kb)) (k0_pay194 o.d3 (dw3 o kb)) E
end

section
variable (q k v z l : ℕ → ℕ → ℝ)
theorem pay153_up : k0_pay153 (up (φ := .bf16) (n := 256) (k := 256) k) = up (hd 0 k) := slice0_up k slices_S256x256_o0_0_S256x64
theorem pay154_up : k0_pay154 (up (φ := .bf16) (n := 256) (k := 256) k) = up (hd 1 k) := slice1_up k slices_S256x256_o0_64_S256x64
theorem pay155_up : k0_pay155 (up (φ := .bf16) (n := 256) (k := 256) k) = up (hd 2 k) := slice2_up k slices_S256x256_o0_128_S256x64
theorem pay156_up : k0_pay156 (up (φ := .bf16) (n := 256) (k := 256) k) = up (hd 3 k) := slice3_up k slices_S256x256_o0_192_S256x64
theorem pay157_up : k0_pay157 (up q) (up (φ := .bf16) (n := 256) (k := 256) k) = up (score q (hd 0 k)) := by
  unfold k0_pay157; dsimp only; rw [pay153_up]; exact mm_up _ _
theorem pay161_up : k0_pay161 (up q) (up (φ := .bf16) (n := 256) (k := 256) k) = up (score q (hd 0 k)) := by
  unfold k0_pay161; dsimp only; exact (congrArg (fun x => matmul _ none _ x _) (slice0_up k _)).trans (mm_up _ _)
theorem pay158_up : k0_pay158 (up q) (up (φ := .bf16) (n := 256) (k := 256) k) = up (score q (hd 1 k)) := by
  unfold k0_pay158; dsimp only; rw [pay154_up]; exact mm_up _ _
theorem pay162_up : k0_pay162 (up q) (up (φ := .bf16) (n := 256) (k := 256) k) = up (score q (hd 1 k)) := by
  unfold k0_pay162; dsimp only; exact (congrArg (fun x => matmul _ none _ x _) (slice1_up k _)).trans (mm_up _ _)
theorem pay159_up : k0_pay159 (up q) (up (φ := .bf16) (n := 256) (k := 256) k) = up (score q (hd 2 k)) := by
  unfold k0_pay159; dsimp only; rw [pay155_up]; exact mm_up _ _
theorem pay163_up : k0_pay163 (up q) (up (φ := .bf16) (n := 256) (k := 256) k) = up (score q (hd 2 k)) := by
  unfold k0_pay163; dsimp only; exact (congrArg (fun x => matmul _ none _ x _) (slice2_up k _)).trans (mm_up _ _)
theorem pay160_up : k0_pay160 (up q) (up (φ := .bf16) (n := 256) (k := 256) k) = up (score q (hd 3 k)) := by
  unfold k0_pay160; dsimp only; rw [pay156_up]; exact mm_up _ _
theorem pay164_up : k0_pay164 (up q) (up (φ := .bf16) (n := 256) (k := 256) k) = up (score q (hd 3 k)) := by
  unfold k0_pay164; dsimp only; exact (congrArg (fun x => matmul _ none _ x _) (slice3_up k _)).trans (mm_up _ _)
theorem pay168_up : k0_pay168 (k0_pay165 (up q) (up (φ := .bf16) (n := 256) (k := 256) k)) (k0_pay166 (up q) (up (φ := .bf16) (n := 256) (k := 256) k))
    k0_pay167 = up fun i s => ell (score q (hd 0 k) i s) := by
  simp only [k0_pay165, k0_pay166, k0_pay167, k0_pay168, pay157_up, zero_up, one_up, maximumf_up, absf_up, subf_up, exp_up, addf_up, log_up]; rfl
theorem pay169_up : k0_pay169 (up z) = up fun i s => ell (z i s) := by
  simp only [k0_pay169, zero_up, one_up, maximumf_up, absf_up, subf_up, exp_up, addf_up, log_up]; rfl
theorem pay170_up : k0_pay170 (up z) = up fun i s => ell (z i s) := by
  simp only [k0_pay170, zero_up, one_up, maximumf_up, absf_up, subf_up, exp_up, addf_up, log_up]; rfl
theorem pay171_up : k0_pay171 (up z) = up fun i s => ell (z i s) := by
  simp only [k0_pay171, zero_up, one_up, maximumf_up, absf_up, subf_up, exp_up, addf_up, log_up]; rfl

theorem pay2_up (a b c d E : ℕ → ℕ → ℝ) : k0_pay2 (up a) (up b) (up c) (up d) (up (φ := .f32) (n := 256) (k := 256) E)
    = up fun i s => E i s + four a b c d i s := by
  refine (show _ = shapeCast S256x256 (addf (up E) (cat4 (up a) (up b) (up c) (up d))) _ from rfl).trans ?_
  rw [cat4_up, addf_up, cast_up]

theorem pay1_up (q0 q1 q2 q3 a b c d E : ℕ → ℕ → ℝ) :
    k0_pay1 (up q0) (up q1) (up q2) (up q3) (up a) (up b) (up c) (up d) (up (φ := .f32) (n := 256) (k := 256) E)
    = up fun i s => E i s + four (fun s d => ∑ i ∈ range 256, a i s * q0 i d) (fun s d => ∑ i ∈ range 256, b i s * q1 i d)
        (fun s d => ∑ i ∈ range 256, c i s * q2 i d) (fun s t => ∑ i ∈ range 256, d i s * q3 i t) i s :=
  pay137_up q0 q1 q2 q3 a b c d E

theorem pay3_up (a b c d e g : ℕ → ℕ → ℝ) : k0_pay3 (up d) (up e) (up g) (up a) (up b) (up c) (constant S256x64 .f32 0x00000000#32)
    = up fun i s => four a b c (fun i s => d i s + ∑ t ∈ range 256, g i t * e t s) i s * (1 / 8) := by
  refine (show _ = truncf .bf16 (mulf (cat4 (up a) (up b) (up c) (addf (up d) (matmul dot_S256x256_S256x64_S256x64_1_0_0_1_n_n none (up g) (up e)
    (constant S256x64 .f32 0x00000000#32)))) (broadcast S256x256 (Scalar.ofBits .f32 0x3E000000#32))) bitsLt_bf16_f32 from rfl).trans ?_
  rw [mm_row_up, addf_up, cat4_up, eighth_up, mulf_up, truncf_up]

theorem join_mul_up {φ : FTy} (f : ℕ → ℕ → ℕ → ℝ) :
    (up fun s d => join f s d * (1 / 8) : FVec Ideal S256x256 φ) = up fun s d => four (f 0) (f 1) (f 2) (f 3) s d * (1 / 8) :=
  up_congr fun s d _ hd => by rw [join_four _ s d hd]
end

section
variable (Q D K V : ℕ → ℕ → ℝ) (C : ℕ → ℕ → ℝ) (A : ℕ → ℕ → ℕ → ℝ)

/-- The diagonal tile's weights and the gradient of its scores, head by head. -/
def uW (h : ℕ) : ℕ → ℕ → ℝ := dw (zed Q K h)
def uZ (h : ℕ) : ℕ → ℕ → ℝ := ddz (zed Q K h) (zed D V h) (C h)
def uQ (h i d : ℕ) : ℝ := ∑ s ∈ range 256, uZ Q D K V C h i s * hd h K s d
def uK (h s d : ℕ) : ℝ := ∑ i ∈ range 256, uZ Q D K V C h i s * hd h Q i d
def uV (h s d : ℕ) : ℝ := ∑ i ∈ range 256, uW Q K h i s * hd h D i d

theorem tileQ_up : tileQ (realOps Q D) (up (φ := .bf16) (n := 256) (k := 256) K) (up (φ := .bf16) (n := 256) (k := 256) V) (realAcc C A)
    = up fun i d => join (fun h i d => A h i d + uQ Q D K V C h i d) i d * (1 / 8) := by
  rw [join_mul_up]
  unfold tileQ
  simp only [dl0, dl1, dl2, dl3, db0, db1, db2, db3, dw0, dw1, dw2, dw3, dg0, dg1, dg2, dg3, dz0, dz1, dz2, dz3, dp0, dp1, realOps, realAcc, pay153_up, pay154_up, pay155_up, pay156_up, pay157_up, pay158_up, pay159_up, pay160_up, pay161_up, pay162_up, pay163_up, pay164_up, pay168_up, pay169_up, pay170_up, pay171_up,
    k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, zero_up, causal_exp_up, causal_up, truncf_up, exp_up, mulf_up, addf_up, subf_up, mm_tri_up, mm_row_up, mm_col_up, col_up, pay3_up]
  rfl

theorem tileK_up (E : ℕ → ℕ → ℝ) : tileK (realOps Q D) (up (φ := .bf16) (n := 256) (k := 256) K) (up (φ := .bf16) (n := 256) (k := 256) V)
    (realAcc C A) (up (φ := .f32) (n := 256) (k := 256) E) = up fun s d => E s d + join (uK Q D K V C) s d := by
  rw [add_join_up]
  unfold tileK
  simp only [dl0, dl1, dl2, dl3, db0, db1, db2, db3, dw0, dw1, dw2, dw3, dg0, dg1, dg2, dg3, dz0, dz1, dz2, dz3, dp0, dp1, realOps, realAcc, pay153_up, pay154_up, pay155_up, pay156_up, pay157_up, pay158_up, pay159_up, pay160_up, pay161_up, pay162_up, pay163_up, pay164_up, pay168_up, pay169_up, pay170_up, pay171_up,
    k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, zero_up, causal_exp_up, causal_up, truncf_up, exp_up, mulf_up, addf_up, subf_up, mm_tri_up, mm_row_up, mm_col_up, col_up, pay1_up]
  rfl

theorem tileV_up (E : ℕ → ℕ → ℝ) : tileV (realOps Q D) (up (φ := .bf16) (n := 256) (k := 256) K) (up (φ := .f32) (n := 256) (k := 256) E)
    = up fun s d => E s d + join (uV Q D K) s d := by
  rw [add_join_up]
  unfold tileV
  simp only [dl0, dl1, dl2, dl3, db0, db1, db2, db3, dw0, dw1, dw2, dw3, dg0, dg1, dg2, dg3, dz0, dz1, dz2, dz3, dp0, dp1, realOps, pay153_up, pay154_up, pay155_up, pay156_up, pay157_up, pay158_up, pay159_up, pay160_up, pay161_up, pay162_up, pay163_up, pay164_up, pay168_up, pay169_up, pay170_up, pay171_up,
    k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, zero_up, causal_exp_up, causal_up, truncf_up, exp_up, mulf_up, addf_up, subf_up, mm_tri_up, mm_row_up, mm_col_up, col_up, pay2_up]
  rfl
end

end Cert.Attn
end
-- ==== Proof.Attn.Point.lean ====
/- A point of the attention kernel: its three runs leave the inner loop's pieces and the diagonal tile's. -/
module

public import proofs.«01_k».proof.Proof.Attn.Diag

@[expose] public section

set_option maxRecDepth 16384

noncomputable section

namespace Cert.Attn

open Idealize.ShloMosaic Idealize.ShloMosaic.TcCoe Idealize.SL.Sem
open Cert.AttentionIdeal Cert.AttentionIdeal.Gen
open Finset (range)

variable {F : FTy → Type} [FloatOps F]

section
variable (c : Dev nD) (i : grid0.Coords) (a : Stage) (v3 : BitVec 32) (hw : k0_chk1 i v3) (o : Ops F)

/-- What a point's inner loop reads and starts from: the running sums' block, the keys, the values, and the two sums of
    gradients. -/
structure Mem (F : FTy → Type) [FloatOps F] (a : Stage) where
  cin : BufTy.Contents (Elt F) a.cin.view.ty
  k : BufTy.Contents (Elt F) scM0_0.view.ty
  v : BufTy.Contents (Elt F) scM0_1.view.ty
  dk : BufTy.Contents (Elt F) scM0_2.view.ty
  dv : BufTy.Contents (Elt F) scM0_3.view.ty

/-- The inner loop carries zeros into its first trip. -/
abbrev acc0 : Acc F :=
  (k0_pay125, k0_pay126, k0_pay127 (FloatOps.ofBits .f32 0x00000000#32), k0_pay128, k0_pay129, k0_pay130, k0_pay131, k0_pay132)

/-- The state of the inner loop after `n` trips. -/
abbrev st1 (e : Mem F a) (n : ℕ) :=
  st_k0_t1 (F := F) Variants.none c none i tbM0_0 htbM0_0 a.q a.hq (Memref.whole main_arg1) (Memref.isWhole_whole _) a.cin a.hcin
    a.ct a.hct a.one a.hone a.oneT a.honeT a.dq a.hdq (Memref.whole main_v42_1) (Memref.isWhole_whole _) scM0_0
    (Memref.isWhole_whole _) scM0_1 (Memref.isWhole_whole _) scM0_2 (Memref.isWhole_whole _) scM0_3 (Memref.isWhole_whole _)
    cc0_scratch4 (BitVec.ofNat 32 (i 1).val) v3 hw (k0_t1_loop i v3).lb o.one o.oneT o.q0 o.q1 o.q2 o.q3 o.d0 o.d1 o.d2 o.d3
    (iota .tc S256x64 32 [1] iota_S256x64_d1_w32) (k0_pay125 (F := F)) (k0_pay126 (F := F)) (FloatOps.ofBits .f32 0x00000000#32)
    e.cin e.k e.v e.dk e.dv acc0 n

/-- The state of the second loop, whose trips are those that the first leaves over. -/
abbrev st2 (e : Mem F a) (init : Acc F) (n : ℕ) :=
  st_k0_t2 (F := F) Variants.none c none i tbM0_0 htbM0_0 a.q a.hq (Memref.whole main_arg1) (Memref.isWhole_whole _) a.cin a.hcin
    a.ct a.hct a.one a.hone a.oneT a.honeT a.dq a.hdq (Memref.whole main_v42_1) (Memref.isWhole_whole _) scM0_0
    (Memref.isWhole_whole _) scM0_1 (Memref.isWhole_whole _) scM0_2 (Memref.isWhole_whole _) scM0_3 (Memref.isWhole_whole _)
    cc0_scratch4 (BitVec.ofNat 32 (i 1).val) v3 hw (k0_t1_loop i v3).lb o.one o.oneT o.q0 o.q1 o.q2 o.q3 o.d0 o.d1 o.d2 o.d3
    (iota .tc S256x64 32 [1] iota_S256x64_d1_w32) (k0_pay125 (F := F)) (k0_pay126 (F := F)) (FloatOps.ofBits .f32 0x00000000#32)
    (k0_t1_loop i v3).ub e.cin e.k e.v e.dk e.dv init n

abbrev end1 (e : Mem F a) := st1 c i a v3 hw o e (Scf.trips (k0_t1_loop i v3).lb (k0_t1_loop i v3).ub (k0_t1_loop i v3).st)
abbrev end2 (e : Mem F a) (init : Acc F) :=
  st2 c i a v3 hw o e init (Scf.trips (k0_t2_loop i v3).lb (k0_t2_loop i v3).ub (k0_t2_loop i v3).st)
end

/-- The operands of a point's inner loop, from what its buffers hold. -/
abbrev opsOf (a : Stage) (x : Ins F) : Ops F :=
  let q := a.q.view.readAt (Elt F) (Rect.unit (s := S256x256) ![0, 0] S256x256.size inb_S256x256_S256x256_0_0).toLoadRect (a.hq.unread x.q)
  let d := a.ct.view.readAt (Elt F) (Rect.unit (s := S256x256) ![0, 0] S256x256.size inb_S256x256_S256x256_0_0).toLoadRect (a.hct.unread x.ct)
  ⟨k0_pay112 (a.one.view.readAt (Elt F) (Rect.unit (s := S256x256) ![0, 0] S256x256.size inb_S256x256_S256x256_0_0).toLoadRect (a.hone.unread x.one)),
    k0_pay113 (a.oneT.view.readAt (Elt F) (Rect.unit (s := S256x256) ![0, 0] S256x256.size inb_S256x256_S256x256_0_0).toLoadRect (a.honeT.unread x.oneT)),
    k0_pay116 q, k0_pay117 q, k0_pay118 q, k0_pay119 q, k0_pay120 d, k0_pay121 d, k0_pay122 d, k0_pay123 d⟩

section
variable (c : Dev nD) (i : grid0.Coords) (a : Stage) (x : Ins F) (xt : TbBuf0 (F := F) c tbM0_0)
  (fh : HbBuf0 (F := F) c hbM0_0) (hw : k0_chk1 i (word i xt))

abbrev rowsOf (i : grid0.Coords) := Rect.unit (s := S16384x256) (k0_off6 i) S256x256.size (k0_off6_inb i)
abbrev diagOf {e : EltTy} (M : Memref sig .tc .vmem S16384x256 e) (i : grid0.Coords) (f : BufTy.Contents (Elt F) M.view.ty) : Vec F S256x256 e :=
  M.view.readAt (Elt F) (rowsOf i).toLoadRect f

/-- What a middle or last point finds. -/
abbrev memB (s : Carry F c) : Mem F a :=
  ⟨a.hcin.unread x.cin, (Memref.isWhole_whole cc0_scratch0).unread s.k, (Memref.isWhole_whole cc0_scratch1).unread s.v,
    (Memref.isWhole_whole cc0_scratch2).unread s.dk, (Memref.isWhole_whole cc0_scratch3).unread s.dv⟩
/-- The copies of the keys and values that the first point of a head group starts with. -/
abbrev copyK (i : grid0.Coords) (hc0 : cond0_0 i) (fh : HbBuf0 (F := F) c hbM0_0) : View.Piece (Elt F) S16384x256 .bf16 :=
  ⟨Rect.whole S16384x256, runA.sl.dma1 c i hc0 fh⟩
abbrev copyV (i : grid0.Coords) (hc0 : cond0_0 i) (fh : HbBuf0 (F := F) c hbM0_0) : View.Piece (Elt F) S16384x256 .bf16 :=
  ⟨Rect.whole S16384x256, runA.sl.dma1_1 c i hc0 fh⟩
/-- What the first point of a head group starts with. -/
abbrev memA (hc0 : cond0_0 i) : Mem F a :=
  ⟨a.hcin.unread x.cin, scM0_0.view.writes (Elt F) scM0_0.view.junk [copyK c i hc0 fh],
    scM0_1.view.writes (Elt F) scM0_1.view.junk [copyV c i hc0 fh], scM0_2.view.writes (Elt F) scM0_2.view.junk runA.sl.HS2_1,
    scM0_3.view.writes (Elt F) scM0_3.view.junk runA.sl.HS3_1⟩

/-- A point's first loop from what it finds, and its second from what the first leaves. -/
abbrev endOf (e : Mem F a) := end1 c i a (word i xt) hw (opsOf a x) e
abbrev endOf' (e : Mem F a) (dk : BufTy.Contents (Elt F) scM0_2.view.ty) (dv : BufTy.Contents (Elt F) scM0_3.view.ty) :=
  end2 c i a (word i xt) hw (opsOf a x) { e with dk := dk, dv := dv } (endOf c i a x xt hw e).1
abbrev endB (s : Carry F c) := endOf c i a x xt hw (memB c a x s)
abbrev endB' (s : Carry F c) := endOf' c i a x xt hw (memB c a x s) (scM0_2.view.writes (Elt F) (memB c a x s).dk (endB c i a x xt hw s).2.1)
  (scM0_3.view.writes (Elt F) (memB c a x s).dv (endB c i a x xt hw s).2.2)
abbrev endA (hc0 : cond0_0 i) := endOf c i a x xt hw (memA c i a x fh hc0)
abbrev endA' (hc0 : cond0_0 i) := endOf' c i a x xt hw (memA c i a x fh hc0)
  (scM0_2.view.writes (Elt F) scM0_2.view.junk ((endA c i a x xt fh hw hc0).2.1 ++ runA.sl.HS2_1))
  (scM0_3.view.writes (Elt F) scM0_3.view.junk ((endA c i a x xt fh hw hc0).2.2 ++ runA.sl.HS3_1))
end

end Cert.Attn
end
-- ==== Proof.Attn.Loop.lean ====
/- The inner loop of a point: what its trips leave, summed, in the real numbers. -/
module

public import proofs.«01_k».proof.Proof.Attn.Point
public import Idealize.ShloMosaic.Lib.WritesUnit

@[expose] public section

set_option maxRecDepth 16384

noncomputable section

namespace Cert.Attn

open Idealize.ShloMosaic Idealize.ShloMosaic.TcCoe Idealize.SL.Sem
open Cert.AttentionIdeal Cert.AttentionIdeal.Gen
open Finset (range)

/-! ## The trips of a point, the table being zero -/

theorem loop_lb : ∀ t : Fin grid0.N, (k0_t1_loop (grid0.coords t) 0#32).lb = 0#32 := by decide +kernel
theorem loop_trips : ∀ t : Fin grid0.N, (k0_t1_loop (grid0.coords t) 0#32).trips = (grid0.coords t 1).val := by decide +kernel
theorem loop_trips2 : ∀ t : Fin grid0.N, (k0_t2_loop (grid0.coords t) 0#32).trips = 0 := by decide +kernel
theorem point_lt (t : Fin grid0.N) : (grid0.coords t 1).val < 64 := (grid0.coords t 1).isLt

theorem trip_word (t : Fin grid0.N) (k) :
    trip_k0_t1.sl.arg16 (F := Ideal) (grid0.coords t) 0#32 (k0_t1_loop (grid0.coords t) 0#32).lb k = BitVec.ofNat 32 k.val := by
  unfold trip_k0_t1.sl.arg16 Scf.iv
  rw [loop_lb]
  simp

theorem trip_off (t : Fin grid0.N) (k) : k0_off4 (grid0.coords t) 0#32 k = ![k.val * 256, 0] := by
  have hk := k.isLt
  have h1 := loop_trips t
  have h2 := point_lt t
  have h : k0_off4 (grid0.coords t) 0#32 k
      = ![(BitVec.toNat (trip_k0_t1.sl.arg16 (F := Ideal) (grid0.coords t) 0#32 (k0_t1_loop (grid0.coords t) 0#32).lb k * 256#32)), 0] := rfl
  rw [h, trip_word, BitVec.toNat_mul, BitVec.toNat_ofNat]
  congr 1
  rw [show (256#32).toNat = 256 from rfl]
  omega

theorem diag_off : ∀ t : Fin grid0.N, k0_off6 (grid0.coords t) = ![(grid0.coords t 1).val * 256, 0] := by decide +kernel

/-! ## Tiles of rows -/

/-- Rows `256 j` to `256 (j + 1)` of a matrix. -/
def tile (j : ℕ) (G : ℕ → ℕ → ℝ) : ℕ → ℕ → ℝ := fun s d => G (256 * j + s) d

theorem read_tile (v : View sig .tc .vmem S16384x256 .f32) (f) (G : ℕ → ℕ → ℝ)
    (h : v.read (Elt Ideal) f = (up G : FVec Ideal S16384x256 .f32)) (o) (inb) (j : ℕ) (ho : o = ![j * 256, 0]) :
    v.readAt (Elt Ideal) (Rect.unit (s := S16384x256) o S256x256.size inb).toLoadRect f = up (φ := .f32) (n := 256) (k := 256) (tile j G) := by
  subst ho
  rw [View.readAt_eq_ld, h]
  funext x
  show ((G _ _ : ℝ) : EReal) = ((G _ _ : ℝ) : EReal)
  congr 2
  · show j * 256 + 1 * (x 0).val = _; omega
  · show 0 + 1 * (x 1).val = _; omega

theorem read_tile' (v : View sig .tc .vmem S16384x256 .bf16) (f) (G : ℕ → ℕ → ℝ)
    (h : v.read (Elt Ideal) f = (up G : FVec Ideal S16384x256 .bf16)) (o) (inb) (j : ℕ) (ho : o = ![j * 256, 0]) :
    v.readAt (Elt Ideal) (Rect.unit (s := S16384x256) o S256x256.size inb).toLoadRect f = up (φ := .bf16) (n := 256) (k := 256) (tile j G) := by
  subst ho
  rw [View.readAt_eq_ld, h]
  funext x
  show ((G _ _ : ℝ) : EReal) = ((G _ _ : ℝ) : EReal)
  congr 2
  · show j * 256 + 1 * (x 0).val = _; omega
  · show 0 + 1 * (x 1).val = _; omega

theorem write_tile (v : View sig .tc .vmem S16384x256 .f32) (f) (L : List (View.Piece (Elt Ideal) S16384x256 .f32)) (G E : ℕ → ℕ → ℝ)
    (h : v.read (Elt Ideal) (v.writes (Elt Ideal) f L) = (up G : FVec Ideal S16384x256 .f32)) (o) (inb) (j : ℕ) (ho : o = ![j * 256, 0]) :
    v.read (Elt Ideal) (v.writes (Elt Ideal) f (⟨Rect.unit (s := S16384x256) o S256x256.size inb, up (φ := .f32) (n := 256) (k := 256) E⟩ :: L))
      = (up fun r d => if r / 256 = j then E (r % 256) d else G r d : FVec Ideal S16384x256 .f32) := by
  funext y
  by_cases hy : (y 0).val / 256 = j
  · refine (View.read_writes_cons_rows_of_mem v f inb _ L y (ix2 ⟨(y 0).val % 256, by omega⟩ ⟨(y 1).val, (y 1).isLt⟩) ho
      (by show (y 0).val = j * 256 + (y 0).val % 256; omega) rfl).trans ?_
    show ((E _ _ : ℝ) : EReal) = (((if (y 0).val / 256 = j then _ else _ : ℝ)) : EReal)
    rw [if_pos hy]; rfl
  · refine (View.read_writes_cons_rows_of_not_mem (W := 256) v f inb _ L y ho rfl (by omega)).trans ?_
    rw [h]
    show ((G _ _ : ℝ) : EReal) = (((if (y 0).val / 256 = j then _ else _ : ℝ)) : EReal)
    rw [if_neg hy]

/-! ## The loop -/

section
variable (Q D K V : ℕ → ℕ → ℝ) (cin : ℕ → ℕ → ℕ → ℝ)

/-- The sums carried into trip `j`, the queries' gradient there, and what trip `j` adds to the two others. -/
def sC (j h i : ℕ) : ℝ := ∑ n ∈ range j, tC Q D (tile n K) (tile n V) (fun h i => cin h i n) h i
def sQ (j h i d : ℕ) : ℝ :=
  ∑ n ∈ range j, tQ Q D (tile n K) (tile n V) (fun h i => cin h i n) (sC Q D K V cin n) h i d
def sK (j : ℕ) : ℕ → ℕ → ℝ := join fun h => tK Q D (tile j K) (tile j V) (fun h i => cin h i j) (sC Q D K V cin j) h
def sV (j : ℕ) : ℕ → ℕ → ℝ := join fun h => tV Q D (tile j K) (fun h i => cin h i j) h
end

section
variable (c : Dev nD) (t : Fin grid0.N) (a : Stage) (hw : k0_chk1 (grid0.coords t) 0#32)
  (Q D K V : ℕ → ℕ → ℝ) (cin : ℕ → ℕ → ℕ → ℝ) (GK GV : ℕ → ℕ → ℝ) (e : Mem Ideal a)

/-- What a point finds holds real numbers. -/
structure Real' : Prop where
  kk : scM0_0.view.read (Elt Ideal) e.k = (up K : FVec Ideal S16384x256 .bf16)
  vv : scM0_1.view.read (Elt Ideal) e.v = (up V : FVec Ideal S16384x256 .bf16)
  dk : scM0_2.view.read (Elt Ideal) e.dk = (up GK : FVec Ideal S16384x256 .f32)
  dv : scM0_3.view.read (Elt Ideal) e.dv = (up GV : FVec Ideal S16384x256 .f32)
  c0 : ∀ (y : Fin 256) (q : Fin 64), a.cin.view.readAt (Elt Ideal) (Rect.unit (s := S1x4x256x64) ![0, 0, 0, 0] S1x1x256x64.size
    inb_S1x4x256x64_S1x1x256x64_0_0_0_0).toLoadRect e.cin (ix4 0 0 y q) = ((cin 0 y.val q.val : ℝ) : EReal)
  c1 : ∀ (y : Fin 256) (q : Fin 64), a.cin.view.readAt (Elt Ideal) (Rect.unit (s := S1x4x256x64) ![0, 1, 0, 0] S1x1x256x64.size
    inb_S1x4x256x64_S1x1x256x64_0_1_0_0).toLoadRect e.cin (ix4 0 0 y q) = ((cin 1 y.val q.val : ℝ) : EReal)
  c2 : ∀ (y : Fin 256) (q : Fin 64), a.cin.view.readAt (Elt Ideal) (Rect.unit (s := S1x4x256x64) ![0, 2, 0, 0] S1x1x256x64.size
    inb_S1x4x256x64_S1x1x256x64_0_2_0_0).toLoadRect e.cin (ix4 0 0 y q) = ((cin 2 y.val q.val : ℝ) : EReal)
  c3 : ∀ (y : Fin 256) (q : Fin 64), a.cin.view.readAt (Elt Ideal) (Rect.unit (s := S1x4x256x64) ![0, 3, 0, 0] S1x1x256x64.size
    inb_S1x4x256x64_S1x1x256x64_0_3_0_0).toLoadRect e.cin (ix4 0 0 y q) = ((cin 3 y.val q.val : ℝ) : EReal)

theorem acc0_up : (acc0 : Acc Ideal) = realAcc (fun _ _ => 0) (fun _ _ _ => 0) := by
  unfold realAcc
  exact congrArg₂ Prod.mk zero_up <| congrArg₂ Prod.mk zero_up <| congrArg₂ Prod.mk zero_up <| congrArg₂ Prod.mk zero_up <|
    congrArg₂ Prod.mk zero_up <| congrArg₂ Prod.mk zero_up <| congrArg₂ Prod.mk zero_up zero_up

variable {c t a hw Q D K V cin GK GV e} (H : Real' a K V cin GK GV e)
include H

theorem loaded (k : Fin (k0_t1_loop (grid0.coords t) 0#32).trips) :
    Loaded (grid0.coords t) a 0#32 hw (k0_t1_loop (grid0.coords t) 0#32).lb e.cin e.k e.v k (tile k.val K) (tile k.val V) cin k.val :=
  ⟨trip_word t k, lt_of_lt_of_le k.isLt ((loop_trips t).le.trans (point_lt t).le), read_tile' _ _ _ H.kk _ _ _ (trip_off t k), read_tile' _ _ _ H.vv _ _ _ (trip_off t k),
    H.c0, H.c1, H.c2, H.c3⟩

/-- After `n` trips. -/
theorem loop_up (n : ℕ) (hn : n ≤ (grid0.coords t 1).val) :
    (st1 c (grid0.coords t) a 0#32 hw (realOps Q D) e n).1 = realAcc (sC Q D K V cin n) (sQ Q D K V cin n)
    ∧ scM0_2.view.read (Elt Ideal) (scM0_2.view.writes (Elt Ideal) e.dk (st1 c (grid0.coords t) a 0#32 hw (realOps Q D) e n).2.1)
      = (up fun r d => GK r d + if r / 256 < n then sK Q D K V cin (r / 256) (r % 256) d else 0 : FVec Ideal S16384x256 .f32)
    ∧ scM0_3.view.read (Elt Ideal) (scM0_3.view.writes (Elt Ideal) e.dv (st1 c (grid0.coords t) a 0#32 hw (realOps Q D) e n).2.2)
      = (up fun r d => GV r d + if r / 256 < n then sV Q D K cin (r / 256) (r % 256) d else 0 : FVec Ideal S16384x256 .f32) := by
  induction n with
  | zero =>
    refine ⟨acc0_up.trans ?_, ?_, ?_⟩
    · congr 1
    · exact H.dk.trans (up_congr fun r d _ _ => by simp)
    · exact H.dv.trans (up_congr fun r d _ _ => by simp)
  | succ n ih =>
    obtain ⟨i1, i2, i3⟩ := ih (by omega)
    have hk : n < (k0_t1_loop (grid0.coords t) 0#32).trips := by rw [loop_trips]; omega
    have hs : st1 c (grid0.coords t) a 0#32 hw (realOps Q D) e (n + 1)
        = ((tripK c (grid0.coords t) a 0#32 hw (k0_t1_loop (grid0.coords t) 0#32).lb (realOps Q D) e.cin e.k e.v ⟨n, hk⟩).1
            (st1 c (grid0.coords t) a 0#32 hw (realOps Q D) e n).1
            (scM0_2.view.writes (Elt Ideal) e.dk (st1 c (grid0.coords t) a 0#32 hw (realOps Q D) e n).2.1)
            (scM0_3.view.writes (Elt Ideal) e.dv (st1 c (grid0.coords t) a 0#32 hw (realOps Q D) e n).2.2),
          (tripK c (grid0.coords t) a 0#32 hw (k0_t1_loop (grid0.coords t) 0#32).lb (realOps Q D) e.cin e.k e.v ⟨n, hk⟩).2.1
            (st1 c (grid0.coords t) a 0#32 hw (realOps Q D) e n).1
            (scM0_2.view.writes (Elt Ideal) e.dk (st1 c (grid0.coords t) a 0#32 hw (realOps Q D) e n).2.1)
            (scM0_3.view.writes (Elt Ideal) e.dv (st1 c (grid0.coords t) a 0#32 hw (realOps Q D) e n).2.2)
            ++ (st1 c (grid0.coords t) a 0#32 hw (realOps Q D) e n).2.1,
          (tripK c (grid0.coords t) a 0#32 hw (k0_t1_loop (grid0.coords t) 0#32).lb (realOps Q D) e.cin e.k e.v ⟨n, hk⟩).2.2.1
            (st1 c (grid0.coords t) a 0#32 hw (realOps Q D) e n).1
            (scM0_2.view.writes (Elt Ideal) e.dk (st1 c (grid0.coords t) a 0#32 hw (realOps Q D) e n).2.1)
            (scM0_3.view.writes (Elt Ideal) e.dv (st1 c (grid0.coords t) a 0#32 hw (realOps Q D) e n).2.2)
            ++ (st1 c (grid0.coords t) a 0#32 hw (realOps Q D) e n).2.2) := by
      unfold st1
      rw [show n + 1 = (⟨n, hk⟩ : Fin (k0_t1_loop (grid0.coords t) 0#32).trips).val + 1 from rfl, st_k0_t1_succ]
    rw [hs, i1]
    dsimp only
    have HL := loaded (hw := hw) H ⟨n, hk⟩
    refine ⟨?_, ?_, ?_⟩
    · rw [trip_acc HL]
      congr 1
      · funext h i; exact (Finset.sum_range_succ _ _).symm
      · funext h i d; exact (Finset.sum_range_succ _ _).symm
    · rw [trip_dk HL _ _ _ _ _ (read_tile _ _ _ i2 _ _ n (trip_off t ⟨n, hk⟩))]
      refine (write_tile _ _ _ _ _ i2 _ _ n (trip_off t ⟨n, hk⟩)).trans (up_congr fun r d _ _ => ?_)
      by_cases hr : r / 256 = n
      · subst hr
        simp only [tile, if_true, show 256 * (r / 256) + r % 256 = r by omega, lt_irrefl, if_false, add_zero, Nat.lt_succ_self, sK]
      · simp only [if_neg hr, show r / 256 < n + 1 ↔ r / 256 < n by omega]
    · rw [trip_dv HL _ _ _ _ _ (read_tile _ _ _ i3 _ _ n (trip_off t ⟨n, hk⟩))]
      refine (write_tile _ _ _ _ _ i3 _ _ n (trip_off t ⟨n, hk⟩)).trans (up_congr fun r d _ _ => ?_)
      by_cases hr : r / 256 = n
      · subst hr
        simp only [tile, if_true, show 256 * (r / 256) + r % 256 = r by omega, lt_irrefl, if_false, add_zero, Nat.lt_succ_self, sV]
      · simp only [if_neg hr, show r / 256 < n + 1 ↔ r / 256 < n by omega]

end

end Cert.Attn
end
-- ==== Proof.Attn.PointA.lean ====
/- The first point of a head group: its run leaves the inner loop's pieces and the diagonal tile's. -/
module

public import proofs.«01_k».proof.Proof.Attn.Point

@[expose] public section

set_option maxRecDepth 16384

noncomputable section

namespace Cert.Attn

open Idealize.ShloMosaic Idealize.ShloMosaic.TcCoe Idealize.SL.Sem
open Cert.AttentionIdeal Cert.AttentionIdeal.Gen
open Finset (range)

variable {F : FTy → Type} [FloatOps F]

section
variable (c : Dev nD) (i : grid0.Coords) (a : Stage) (x : Ins F) (xt : TbBuf0 (F := F) c tbM0_0)
  (fh : HbBuf0 (F := F) c hbM0_0) (hw : k0_chk1 i (word i xt))

set_option maxHeartbeats 4000000 in
theorem runA_acc (hc0 : cond0_0 i) : ((runA.sl.r_11 c i a hc0 x xt fh hw, runA.sl.r_12 c i a hc0 x xt fh hw, runA.sl.r_13 c i a hc0 x xt fh hw, runA.sl.r_14 c i a hc0 x xt fh hw, runA.sl.r_15 c i a hc0 x xt fh hw, runA.sl.r_16 c i a hc0 x xt fh hw, runA.sl.r_17 c i a hc0 x xt fh hw, runA.sl.r_18 c i a hc0 x xt fh hw) : Acc F) = (endA' c i a x xt fh hw hc0).1 := by
  unfold runA.sl.r_11 runA.sl.r_12 runA.sl.r_13 runA.sl.r_14 runA.sl.r_15 runA.sl.r_16 runA.sl.r_17 runA.sl.r_18
  dsimp only [endA', endOf', end2, st2, endA, endOf, end1, st1, memA]
  rfl

theorem runA_q (hc0 : cond0_0 i) (hc1 : ¬cond0_1 i) (out : HbBuf0 (F := F) c hbM0_1) :
    (runA c i a hc0 hc1 x xt fh out hw).1 = [⟨Rect.unit (s := S256x256) ![0, 0] S256x256.size inb_S256x256_S256x256_0_0,
      tileQ (opsOf a x) (diagOf scM0_0 i (memA c i a x fh hc0).k) (diagOf scM0_1 i (memA c i a x fh hc0).v) (endA' c i a x xt fh hw hc0).1⟩] := by
  rw [← runA_acc]
  unfold runA
  dsimp only
  unfold tileQ
  dsimp only [endA', endOf', end2, st2, endA, endOf, end1, st1, memA]
  rfl

set_option maxHeartbeats 4000000 in
theorem runA_dk (hc0 : cond0_0 i) (hc1 : ¬cond0_1 i) (out : HbBuf0 (F := F) c hbM0_1) :
    (runA c i a hc0 hc1 x xt fh out hw).2.2.2.1 = ⟨rowsOf i, tileK (opsOf a x) (diagOf scM0_0 i (memA c i a x fh hc0).k) (diagOf scM0_1 i (memA c i a x fh hc0).v) (endA' c i a x xt fh hw hc0).1
        (diagOf scM0_2 i (scM0_2.view.writes (Elt F) scM0_2.view.junk ((endA' c i a x xt fh hw hc0).2.1 ++ ((endA c i a x xt fh hw hc0).2.1 ++ runA.sl.HS2_1))))⟩ :: ((endA' c i a x xt fh hw hc0).2.1 ++ ((endA c i a x xt fh hw hc0).2.1 ++ runA.sl.HS2_1)) := by
  refine Eq.trans ?_ (congrArg (fun t => (⟨rowsOf i, tileK (opsOf a x) (diagOf scM0_0 i (memA c i a x fh hc0).k) (diagOf scM0_1 i (memA c i a x fh hc0).v) t
        (diagOf scM0_2 i (scM0_2.view.writes (Elt F) scM0_2.view.junk ((endA' c i a x xt fh hw hc0).2.1 ++ ((endA c i a x xt fh hw hc0).2.1 ++ runA.sl.HS2_1))))⟩ : View.Piece (Elt F) S16384x256 .f32) :: ((endA' c i a x xt fh hw hc0).2.1 ++ ((endA c i a x xt fh hw hc0).2.1 ++ runA.sl.HS2_1))) (runA_acc c i a x xt fh hw hc0))
  unfold runA
  dsimp only
  unfold tileK
  dsimp only [endA', endOf', end2, st2, endA, endOf, end1, st1, memA]
  rfl

set_option maxHeartbeats 4000000 in
theorem runA_dv (hc0 : cond0_0 i) (hc1 : ¬cond0_1 i) (out : HbBuf0 (F := F) c hbM0_1) :
    (runA c i a hc0 hc1 x xt fh out hw).2.2.2.2.1 = ⟨rowsOf i, tileV (opsOf a x) (diagOf scM0_0 i (memA c i a x fh hc0).k)
        (diagOf scM0_3 i (scM0_3.view.writes (Elt F) scM0_3.view.junk ((endA' c i a x xt fh hw hc0).2.2 ++ ((endA c i a x xt fh hw hc0).2.2 ++ runA.sl.HS3_1))))⟩ :: ((endA' c i a x xt fh hw hc0).2.2 ++ ((endA c i a x xt fh hw hc0).2.2 ++ runA.sl.HS3_1)) := by
  unfold runA
  dsimp only
  unfold tileV
  dsimp only [endA', endOf', end2, st2, endA, endOf, end1, st1, memA]
  rfl

theorem runA_k (hc0 : cond0_0 i) (hc1 : ¬cond0_1 i) (out : HbBuf0 (F := F) c hbM0_1) :
    (runA c i a hc0 hc1 x xt fh out hw).2.1 = [copyK c i hc0 fh] := rfl
theorem runA_v (hc0 : cond0_0 i) (hc1 : ¬cond0_1 i) (out : HbBuf0 (F := F) c hbM0_1) :
    (runA c i a hc0 hc1 x xt fh out hw).2.2.1 = [copyV c i hc0 fh] := rfl
end

end Cert.Attn
end
-- ==== Proof.Attn.PointB.lean ====
/- A middle point of the attention kernel: its run leaves the inner loop's pieces and the diagonal tile's. -/
module

public import proofs.«01_k».proof.Proof.Attn.Point

@[expose] public section

set_option maxRecDepth 16384

noncomputable section

namespace Cert.Attn

open Idealize.ShloMosaic Idealize.ShloMosaic.TcCoe Idealize.SL.Sem
open Cert.AttentionIdeal Cert.AttentionIdeal.Gen
open Finset (range)

variable {F : FTy → Type} [FloatOps F]

section
variable (c : Dev nD) (i : grid0.Coords) (a : Stage) (x : Ins F) (xt : TbBuf0 (F := F) c tbM0_0)
  (fh : HbBuf0 (F := F) c hbM0_0) (hw : k0_chk1 i (word i xt))

set_option maxHeartbeats 4000000 in
theorem runB_acc (s : Carry F c) : ((runB.sl.r_11 c i a x xt s hw, runB.sl.r_12 c i a x xt s hw, runB.sl.r_13 c i a x xt s hw, runB.sl.r_14 c i a x xt s hw, runB.sl.r_15 c i a x xt s hw, runB.sl.r_16 c i a x xt s hw, runB.sl.r_17 c i a x xt s hw, runB.sl.r_18 c i a x xt s hw) : Acc F) = (endB' c i a x xt hw s).1 := by
  unfold runB.sl.r_11 runB.sl.r_12 runB.sl.r_13 runB.sl.r_14 runB.sl.r_15 runB.sl.r_16 runB.sl.r_17 runB.sl.r_18
  rfl

theorem runB_q (s : Carry F c) (hc0 : ¬cond0_0 i) (hc1 : ¬cond0_1 i) :
    (runB c i a hc0 hc1 x xt fh s hw).1 = [⟨Rect.unit (s := S256x256) ![0, 0] S256x256.size inb_S256x256_S256x256_0_0,
      tileQ (opsOf a x) (diagOf scM0_0 i (memB c a x s).k) (diagOf scM0_1 i (memB c a x s).v) (endB' c i a x xt hw s).1⟩] := by
  rw [← runB_acc]
  unfold runB
  dsimp only
  unfold tileQ
  rfl

set_option maxHeartbeats 4000000 in
theorem runB_dk (s : Carry F c) (hc0 : ¬cond0_0 i) (hc1 : ¬cond0_1 i) :
    (runB c i a hc0 hc1 x xt fh s hw).2.1 = ⟨rowsOf i, tileK (opsOf a x) (diagOf scM0_0 i (memB c a x s).k) (diagOf scM0_1 i (memB c a x s).v) (endB' c i a x xt hw s).1
        (diagOf scM0_2 i (scM0_2.view.writes (Elt F) (memB c a x s).dk ((endB' c i a x xt hw s).2.1 ++ (endB c i a x xt hw s).2.1)))⟩ :: ((endB' c i a x xt hw s).2.1 ++ (endB c i a x xt hw s).2.1) := by
  refine Eq.trans ?_ (congrArg (fun t => (⟨rowsOf i, tileK (opsOf a x) (diagOf scM0_0 i (memB c a x s).k) (diagOf scM0_1 i (memB c a x s).v) t
        (diagOf scM0_2 i (scM0_2.view.writes (Elt F) (memB c a x s).dk ((endB' c i a x xt hw s).2.1 ++ (endB c i a x xt hw s).2.1)))⟩ : View.Piece (Elt F) S16384x256 .f32) :: ((endB' c i a x xt hw s).2.1 ++ (endB c i a x xt hw s).2.1)) (runB_acc c i a x xt hw s))
  unfold runB
  dsimp only
  unfold tileK
  rfl

set_option maxHeartbeats 4000000 in
theorem runB_dv (s : Carry F c) (hc0 : ¬cond0_0 i) (hc1 : ¬cond0_1 i) :
    (runB c i a hc0 hc1 x xt fh s hw).2.2.1 = ⟨rowsOf i, tileV (opsOf a x) (diagOf scM0_0 i (memB c a x s).k)
        (diagOf scM0_3 i (scM0_3.view.writes (Elt F) (memB c a x s).dv ((endB' c i a x xt hw s).2.2 ++ (endB c i a x xt hw s).2.2)))⟩ :: ((endB' c i a x xt hw s).2.2 ++ (endB c i a x xt hw s).2.2) := by
  unfold runB
  dsimp only
  unfold tileV
  rfl
end

end Cert.Attn
end
-- ==== Proof.Attn.PointC.lean ====
/- The last point of a head group: its run leaves the inner loop's pieces and the diagonal tile's. -/
module

public import proofs.«01_k».proof.Proof.Attn.Point

@[expose] public section

set_option maxRecDepth 16384

noncomputable section

namespace Cert.Attn

open Idealize.ShloMosaic Idealize.ShloMosaic.TcCoe Idealize.SL.Sem
open Cert.AttentionIdeal Cert.AttentionIdeal.Gen
open Finset (range)

variable {F : FTy → Type} [FloatOps F]

section
variable (c : Dev nD) (i : grid0.Coords) (a : Stage) (x : Ins F) (xt : TbBuf0 (F := F) c tbM0_0)
  (fh : HbBuf0 (F := F) c hbM0_0) (hw : k0_chk1 i (word i xt))

set_option maxHeartbeats 4000000 in
theorem runC_acc (s : Carry F c) : ((runC.sl.r_11 c i a x xt s hw, runC.sl.r_12 c i a x xt s hw, runC.sl.r_13 c i a x xt s hw, runC.sl.r_14 c i a x xt s hw, runC.sl.r_15 c i a x xt s hw, runC.sl.r_16 c i a x xt s hw, runC.sl.r_17 c i a x xt s hw, runC.sl.r_18 c i a x xt s hw) : Acc F) = (endB' c i a x xt hw s).1 := by
  unfold runC.sl.r_11 runC.sl.r_12 runC.sl.r_13 runC.sl.r_14 runC.sl.r_15 runC.sl.r_16 runC.sl.r_17 runC.sl.r_18
  rfl

theorem runC_q (s : Carry F c) (hc0 : ¬cond0_0 i) (hc1 : cond0_1 i) (hd : Disjoint (gradV i hc1).view.set (gradK i hc1).view.set) :
    (runC c i a hc0 hc1 hd x xt fh s hw).1 = [⟨Rect.unit (s := S256x256) ![0, 0] S256x256.size inb_S256x256_S256x256_0_0,
      tileQ (opsOf a x) (diagOf scM0_0 i (memB c a x s).k) (diagOf scM0_1 i (memB c a x s).v) (endB' c i a x xt hw s).1⟩] := by
  rw [← runC_acc]
  unfold runC
  dsimp only
  unfold tileQ
  rfl

set_option maxHeartbeats 4000000 in
theorem runC_dk (s : Carry F c) (hc0 : ¬cond0_0 i) (hc1 : cond0_1 i) (hd : Disjoint (gradV i hc1).view.set (gradK i hc1).view.set) :
    (runC c i a hc0 hc1 hd x xt fh s hw).2.1 = ⟨rowsOf i, tileK (opsOf a x) (diagOf scM0_0 i (memB c a x s).k) (diagOf scM0_1 i (memB c a x s).v) (endB' c i a x xt hw s).1
        (diagOf scM0_2 i (scM0_2.view.writes (Elt F) (memB c a x s).dk ((endB' c i a x xt hw s).2.1 ++ (endB c i a x xt hw s).2.1)))⟩ :: ((endB' c i a x xt hw s).2.1 ++ (endB c i a x xt hw s).2.1) := by
  refine Eq.trans ?_ (congrArg (fun t => (⟨rowsOf i, tileK (opsOf a x) (diagOf scM0_0 i (memB c a x s).k) (diagOf scM0_1 i (memB c a x s).v) t
        (diagOf scM0_2 i (scM0_2.view.writes (Elt F) (memB c a x s).dk ((endB' c i a x xt hw s).2.1 ++ (endB c i a x xt hw s).2.1)))⟩ : View.Piece (Elt F) S16384x256 .f32) :: ((endB' c i a x xt hw s).2.1 ++ (endB c i a x xt hw s).2.1)) (runC_acc c i a x xt hw s))
  unfold runC
  dsimp only
  unfold tileK
  rfl

set_option maxHeartbeats 4000000 in
theorem runC_dv (s : Carry F c) (hc0 : ¬cond0_0 i) (hc1 : cond0_1 i) (hd : Disjoint (gradV i hc1).view.set (gradK i hc1).view.set) :
    (runC c i a hc0 hc1 hd x xt fh s hw).2.2.2.1 = ⟨rowsOf i, tileV (opsOf a x) (diagOf scM0_0 i (memB c a x s).k)
        (diagOf scM0_3 i (scM0_3.view.writes (Elt F) (memB c a x s).dv ((endB' c i a x xt hw s).2.2 ++ (endB c i a x xt hw s).2.2)))⟩ :: ((endB' c i a x xt hw s).2.2 ++ (endB c i a x xt hw s).2.2) := by
  unfold runC
  dsimp only
  unfold tileV
  rfl
end

end Cert.Attn
end
-- ==== Proof.Attn.Step.lean ====
/- A point of the attention kernel, in the real numbers: what it leaves of what it finds. -/
module

public import proofs.«01_k».proof.Proof.Attn.Loop
public import proofs.«01_k».proof.Proof.Attn.Word
public import proofs.«01_k».proof.Proof.Attn.PointA
public import proofs.«01_k».proof.Proof.Attn.PointB
public import proofs.«01_k».proof.Proof.Attn.PointC
public import Idealize.ShloMosaic.Lib.WritesUnit

@[expose] public section

set_option maxRecDepth 16384

noncomputable section

namespace Cert.Attn

open Idealize.ShloMosaic Idealize.ShloMosaic.TcCoe Idealize.SL.Sem
open Cert.AttentionIdeal Cert.AttentionIdeal.Gen
open Finset (range)

section
variable (Q D K V : ℕ → ℕ → ℝ) (cin : ℕ → ℕ → ℕ → ℝ) (n : ℕ)

/-- A point's result block, and what it adds to the keys' and values' gradients. -/
def pQ : ℕ → ℕ → ℝ := fun i d => join (fun h i d => sQ Q D K V cin n h i d
  + uQ Q D (tile n K) (tile n V) (sC Q D K V cin n) h i d) i d * (1 / 8)
def pK : ℕ → ℕ → ℝ := fun r d => if r / 256 = n then join (uK Q D (tile n K) (tile n V) (sC Q D K V cin n)) (r % 256) d
  else if r / 256 < n then sK Q D K V cin (r / 256) (r % 256) d else 0
def pV (Q D K : ℕ → ℕ → ℝ) (cin : ℕ → ℕ → ℕ → ℝ) (n : ℕ) : ℕ → ℕ → ℝ := fun r d => if r / 256 = n then join (uV Q D (tile n K)) (r % 256) d
  else if r / 256 < n then sV Q D K cin (r / 256) (r % 256) d else 0
end

section
variable {c : Dev nD} {t : Fin grid0.N} {a : Stage} {w : BitVec 32} {hw : k0_chk1 (grid0.coords t) w} {o : Ops Ideal}
  {Q D K V : ℕ → ℕ → ℝ} {cin : ℕ → ℕ → ℕ → ℝ} {GK GV : ℕ → ℕ → ℝ} {e : Mem Ideal a}

theorem end2_nil (hz : w = 0#32) (init) : end2 c (grid0.coords t) a w hw o e init = (init, [], []) := by
  subst hz
  show st2 c (grid0.coords t) a 0#32 hw o e init (k0_t2_loop (grid0.coords t) 0#32).trips = _
  rw [loop_trips2]
  rfl

theorem end1_up (hz : w = 0#32) (ho : o = realOps Q D) (H : Real' a K V cin GK GV e) :
    (end1 c (grid0.coords t) a w hw o e).1 = realAcc (sC Q D K V cin (grid0.coords t 1).val) (sQ Q D K V cin (grid0.coords t 1).val)
    ∧ scM0_2.view.read (Elt Ideal) (scM0_2.view.writes (Elt Ideal) e.dk (end1 c (grid0.coords t) a w hw o e).2.1)
      = (up fun r d => GK r d + if r / 256 < (grid0.coords t 1).val then sK Q D K V cin (r / 256) (r % 256) d else 0 : FVec Ideal S16384x256 .f32)
    ∧ scM0_3.view.read (Elt Ideal) (scM0_3.view.writes (Elt Ideal) e.dv (end1 c (grid0.coords t) a w hw o e).2.2)
      = (up fun r d => GV r d + if r / 256 < (grid0.coords t 1).val then sV Q D K cin (r / 256) (r % 256) d else 0 : FVec Ideal S16384x256 .f32) := by
  subst hz ho
  show (st1 c (grid0.coords t) a 0#32 hw (realOps Q D) e (k0_t1_loop (grid0.coords t) 0#32).trips).1 = _ ∧
    scM0_2.view.read (Elt Ideal) (scM0_2.view.writes (Elt Ideal) e.dk (st1 c (grid0.coords t) a 0#32 hw (realOps Q D) e (k0_t1_loop (grid0.coords t) 0#32).trips).2.1) = _
    ∧ scM0_3.view.read (Elt Ideal) (scM0_3.view.writes (Elt Ideal) e.dv (st1 c (grid0.coords t) a 0#32 hw (realOps Q D) e (k0_t1_loop (grid0.coords t) 0#32).trips).2.2) = _
  rw [loop_trips]
  exact loop_up H _ le_rfl

variable (hz : w = 0#32) (ho : o = realOps Q D) (H : Real' a K V cin GK GV e)
include hz ho H

theorem point_q : tileQ o (diagOf scM0_0 (grid0.coords t) e.k) (diagOf scM0_1 (grid0.coords t) e.v) (end1 c (grid0.coords t) a w hw o e).1
    = up (pQ Q D K V cin (grid0.coords t 1).val) := by
  rw [(end1_up hz ho H).1, show diagOf scM0_0 (grid0.coords t) e.k = _ from read_tile' _ _ _ H.kk _ _ _ (diag_off t),
    show diagOf scM0_1 (grid0.coords t) e.v = _ from read_tile' _ _ _ H.vv _ _ _ (diag_off t), ho]
  exact tileQ_up _ _ _ _ _ _

theorem point_k : scM0_2.view.read (Elt Ideal) (scM0_2.view.writes (Elt Ideal) e.dk (⟨rowsOf (grid0.coords t),
      tileK o (diagOf scM0_0 (grid0.coords t) e.k) (diagOf scM0_1 (grid0.coords t) e.v) (end1 c (grid0.coords t) a w hw o e).1
        (diagOf scM0_2 (grid0.coords t) (scM0_2.view.writes (Elt Ideal) e.dk (end1 c (grid0.coords t) a w hw o e).2.1))⟩
      :: (end1 c (grid0.coords t) a w hw o e).2.1))
    = (up fun r d => GK r d + pK Q D K V cin (grid0.coords t 1).val r d : FVec Ideal S16384x256 .f32) := by
  have h := end1_up (c := c) (hw := hw) hz ho H
  rw [show diagOf scM0_2 (grid0.coords t) (scM0_2.view.writes (Elt Ideal) e.dk (end1 c (grid0.coords t) a w hw o e).2.1) = _ from
      read_tile _ _ _ h.2.1 _ _ _ (diag_off t), h.1,
    show diagOf scM0_0 (grid0.coords t) e.k = _ from read_tile' _ _ _ H.kk _ _ _ (diag_off t),
    show diagOf scM0_1 (grid0.coords t) e.v = _ from read_tile' _ _ _ H.vv _ _ _ (diag_off t),
    show ∀ E, tileK o (up (φ := .bf16) (n := 256) (k := 256) (tile (grid0.coords t 1).val K)) (up (φ := .bf16) (n := 256) (k := 256) (tile (grid0.coords t 1).val V))
      (realAcc (sC Q D K V cin (grid0.coords t 1).val) (sQ Q D K V cin (grid0.coords t 1).val)) (up (φ := .f32) (n := 256) (k := 256) E) = _ from
      fun E => ho ▸ tileK_up _ _ _ _ _ _ E]
  refine (write_tile _ _ _ _ _ h.2.1 _ _ _ (diag_off t)).trans (up_congr fun r d _ _ => ?_)
  unfold pK
  by_cases hr : r / 256 = (grid0.coords t 1).val
  · simp only [if_pos hr, tile, ← hr, show 256 * (r / 256) + r % 256 = r by omega, lt_irrefl, if_false, add_zero, ↓reduceIte]
  · simp only [if_neg hr]

theorem point_v : scM0_3.view.read (Elt Ideal) (scM0_3.view.writes (Elt Ideal) e.dv (⟨rowsOf (grid0.coords t),
      tileV o (diagOf scM0_0 (grid0.coords t) e.k)
        (diagOf scM0_3 (grid0.coords t) (scM0_3.view.writes (Elt Ideal) e.dv (end1 c (grid0.coords t) a w hw o e).2.2))⟩
      :: (end1 c (grid0.coords t) a w hw o e).2.2))
    = (up fun r d => GV r d + pV Q D K cin (grid0.coords t 1).val r d : FVec Ideal S16384x256 .f32) := by
  have h := end1_up (c := c) (hw := hw) hz ho H
  rw [show diagOf scM0_3 (grid0.coords t) (scM0_3.view.writes (Elt Ideal) e.dv (end1 c (grid0.coords t) a w hw o e).2.2) = _ from
      read_tile _ _ _ h.2.2 _ _ _ (diag_off t),
    show diagOf scM0_0 (grid0.coords t) e.k = _ from read_tile' _ _ _ H.kk _ _ _ (diag_off t),
    show ∀ E, tileV o (up (φ := .bf16) (n := 256) (k := 256) (tile (grid0.coords t 1).val K))
      (up (φ := .f32) (n := 256) (k := 256) E) = _ from fun E => ho ▸ tileV_up _ _ _ E]
  refine (write_tile _ _ _ _ _ h.2.2 _ _ _ (diag_off t)).trans (up_congr fun r d _ _ => ?_)
  unfold pV
  by_cases hr : r / 256 = (grid0.coords t 1).val
  · simp only [if_pos hr, tile, ← hr, show 256 * (r / 256) + r % 256 = r by omega, lt_irrefl, if_false, add_zero, ↓reduceIte]
  · simp only [if_neg hr]
end

/-! ## The point's buffers -/

section
variable (c : Dev nD) (t : Fin grid0.N) (a : Stage) (x : Ins Ideal) (xt : TbBuf0 (F := Ideal) c tbM0_0) (fh : HbBuf0 (F := Ideal) c hbM0_0)
  (hw : k0_chk1 (grid0.coords t) (word (grid0.coords t) xt)) (Q D K V : ℕ → ℕ → ℝ) (cin : ℕ → ℕ → ℕ → ℝ) (GK GV : ℕ → ℕ → ℝ)

/-- The blocks of a point hold real numbers. -/
structure Fine : Prop where
  q : x.q = (up Q : FVec Ideal S256x256 .bf16)
  ct : x.ct = (up D : FVec Ideal S256x256 .f32)
  one : x.one = (up below : FVec Ideal S256x256 .bf16)
  oneT : x.oneT = (up above : FVec Ideal S256x256 .bf16)
  cin : ∀ (h : Fin 4) (y : Fin 256) (q : Fin 64), x.cin (ix4 0 h y q) = ((cin h.val y.val q.val : ℝ) : EReal)

variable {x Q D cin} (hx : Fine x Q D cin)
include hx

theorem ops_up : opsOf a x = realOps (fun i d => Q i d * (1 / 8)) D := by
  have hq : ∀ inb, a.q.view.readAt (Elt Ideal) (Rect.unit (s := S256x256) ![0, 0] S256x256.size inb).toLoadRect (a.hq.unread x.q)
      = (up Q : FVec Ideal S256x256 .bf16) := fun inb => by
    rw [View.readAt_eq_ld, Memref.IsWhole.read_unread, ← hx.q]
    funext y; exact congrArg x.q (funext fun b => Fin.ext (by fin_cases b <;> (show 0 + 1 * _ = _; omega)))
  have hd : ∀ inb, a.ct.view.readAt (Elt Ideal) (Rect.unit (s := S256x256) ![0, 0] S256x256.size inb).toLoadRect (a.hct.unread x.ct)
      = (up D : FVec Ideal S256x256 .f32) := fun inb => by
    rw [View.readAt_eq_ld, Memref.IsWhole.read_unread, ← hx.ct]
    funext y; exact congrArg x.ct (funext fun b => Fin.ext (by fin_cases b <;> (show 0 + 1 * _ = _; omega)))
  have h1 : ∀ inb, a.one.view.readAt (Elt Ideal) (Rect.unit (s := S256x256) ![0, 0] S256x256.size inb).toLoadRect (a.hone.unread x.one)
      = (up below : FVec Ideal S256x256 .bf16) := fun inb => by
    rw [View.readAt_eq_ld, Memref.IsWhole.read_unread, ← hx.one]
    funext y; exact congrArg x.one (funext fun b => Fin.ext (by fin_cases b <;> (show 0 + 1 * _ = _; omega)))
  have h2 : ∀ inb, a.oneT.view.readAt (Elt Ideal) (Rect.unit (s := S256x256) ![0, 0] S256x256.size inb).toLoadRect (a.honeT.unread x.oneT)
      = (up above : FVec Ideal S256x256 .bf16) := fun inb => by
    rw [View.readAt_eq_ld, Memref.IsWhole.read_unread, ← hx.oneT]
    funext y; exact congrArg x.oneT (funext fun b => Fin.ext (by fin_cases b <;> (show 0 + 1 * _ = _; omega)))
  have g : k0_pay114 (up Q : FVec Ideal S256x256 .bf16) = (up fun i d => Q i d * (1 / 8) : FVec Ideal S256x256 .bf16) := by
    unfold k0_pay114; exact (congrArg (mulf _) eighth_up').trans (mulf_up _ _)
  have f : k0_pay115 (up D : FVec Ideal S256x256 .f32) = (up D : FVec Ideal S256x256 .bf16) := rfl
  simp only [opsOf, realOps, hq, hd, h1, h2, k0_pay112, k0_pay113, k0_pay116, k0_pay117, k0_pay118, k0_pay119, k0_pay120, k0_pay121,
    k0_pay122, k0_pay123, g, f, slice0_up, slice1_up, slice2_up, slice3_up, cast_up]

theorem cin_read (h : Fin 4) (o) (inb) (ho : o = ![0, h.val, 0, 0]) (y : Fin 256) (q : Fin 64) :
    a.cin.view.readAt (Elt Ideal) (Rect.unit (s := S1x4x256x64) o S1x1x256x64.size inb).toLoadRect (a.hcin.unread x.cin) (ix4 0 0 y q)
      = ((cin h.val y.val q.val : ℝ) : EReal) := by
  subst ho
  rw [View.readAt_eq_ld, Memref.IsWhole.read_unread, ← hx.cin h y q]
  refine congrArg x.cin (funext fun b => Fin.ext ?_)
  fin_cases b <;> (show _ + 1 * _ = _) <;> simp <;> rfl

theorem memB_real (s : Carry Ideal c) (hk : s.k = (up K : FVec Ideal S16384x256 .bf16)) (hv : s.v = (up V : FVec Ideal S16384x256 .bf16))
    (hdk : s.dk = (up GK : FVec Ideal S16384x256 .f32)) (hdv : s.dv = (up GV : FVec Ideal S16384x256 .f32)) :
    Real' a K V cin GK GV (memB c a x s) :=
  ⟨((Memref.isWhole_whole cc0_scratch0).read_unread _).trans hk, ((Memref.isWhole_whole cc0_scratch1).read_unread _).trans hv,
    ((Memref.isWhole_whole cc0_scratch2).read_unread _).trans hdk, ((Memref.isWhole_whole cc0_scratch3).read_unread _).trans hdv, cin_read a hx 0 _ _ rfl, cin_read a hx 1 _ _ rfl, cin_read a hx 2 _ _ rfl, cin_read a hx 3 _ _ rfl⟩
end

end Cert.Attn
end
-- ==== Proof.Attn.Points.lean ====
/- What the attention kernel carries from point to point, in the real numbers. -/
module

public import proofs.«01_k».proof.Proof.Attn.Step
public import Idealize.ShloMosaic.Lib.WritesUnit

@[expose] public section

set_option maxRecDepth 16384

noncomputable section

namespace Cert.Attn

open Idealize.ShloMosaic Idealize.ShloMosaic.TcCoe Idealize.SL.Sem
open Cert.AttentionIdeal Cert.AttentionIdeal.Gen
open Finset (range)

theorem coords0 : ∀ t : Fin grid0.N, (grid0.coords t 0).val = t.val / 64 := by decide +kernel
theorem coords1 : ∀ t : Fin grid0.N, (grid0.coords t 1).val = t.val % 64 := by decide +kernel
theorem off_k : ∀ t : Fin grid0.N, k0_off2 (grid0.coords t) = ![0, 256 * (t.val / 64)] := by decide +kernel
theorem off_v : ∀ t : Fin grid0.N, k0_off3 (grid0.coords t) = ![0, 512 + 256 * (t.val / 64)] := by decide +kernel
theorem off_dk : ∀ t : Fin grid0.N, k0_off7 (grid0.coords t) = ![0, 256 * (t.val / 64)] := by decide +kernel
theorem off_dv : ∀ t : Fin grid0.N, k0_off8 (grid0.coords t) = ![0, 512 + 256 * (t.val / 64)] := by decide +kernel

/-- Columns from `o` on. -/
def cols (o : ℕ) (G : ℕ → ℕ → ℝ) : ℕ → ℕ → ℝ := fun r d => G r (o + d)

theorem carry_congr {c : Dev nD} {k k' v v' dk dk' dv dv' o o'} (hk : k = k') (hv : v = v') (hdk : dk = dk') (hdv : dv = dv') (ho : o = o') :
    (⟨k, v, dk, dv, o⟩ : Carry Ideal c) = ⟨k', v', dk', dv', o'⟩ := by subst hk hv hdk hdv ho; rfl

/-- A buffer written whole reads what was written. -/
theorem read_whole {S : Shape} {e : EltTy} (v : View sig .tc .vmem S e) (f) (w : S.Idx → Elt Ideal e) (L) :
    v.read (Elt Ideal) (v.writes (Elt Ideal) f (⟨Rect.whole S, w⟩ :: L)) = w :=
  funext fun y => View.read_writes_cons_hit_of_coords v f (Rect.whole S) w L y y fun a => by
    show _ = 0 + 1 * (y a).val; omega

theorem read_block {e : EltTy} (v : View sig .tc .vmem S256x256 e) (f) (inb) (w : S256x256.Idx → Elt Ideal e) (L) :
    v.read (Elt Ideal) (v.writes (Elt Ideal) f (⟨Rect.unit (s := S256x256) ![0, 0] S256x256.size inb, w⟩ :: L)) = w :=
  funext fun y => View.read_writes_cons_hit_of_coords v f (Rect.unit (s := S256x256) ![0, 0] S256x256.size inb) w L y y fun a => by
    fin_cases a <;> (show _ = 0 + 1 * _; omega)

theorem read_rows {e : EltTy} (v : View sig .tc .vmem S16384x256 e) (f) (inb) (w : S16384x256.Idx → Elt Ideal e) (L) :
    v.read (Elt Ideal) (v.writes (Elt Ideal) f (⟨Rect.unit (s := S16384x256) ![0, 0] S16384x256.size inb, w⟩ :: L)) = w :=
  funext fun y => View.read_writes_cons_hit_of_coords v f (Rect.unit (s := S16384x256) ![0, 0] S16384x256.size inb) w L y y fun a => by
    fin_cases a <;> (show _ = 0 + 1 * _; omega)

section
variable (c : Dev nD) (t : Fin grid0.N) (a : Stage) (x : Ins Ideal) (xt : TbBuf0 (F := Ideal) c tbM0_0) (fh : HbBuf0 (F := Ideal) c hbM0_0)
  (hw : k0_chk1 (grid0.coords t) (word (grid0.coords t) xt)) (Q D KV : ℕ → ℕ → ℝ) (cin : ℕ → ℕ → ℕ → ℝ) (GK GV : ℕ → ℕ → ℝ)

variable {x Q D cin fh KV} (hx : Fine x Q D cin) (hf : fh = (up KV : FVec Ideal S16384x1024 .bf16))
include hx hf

theorem memA_real (hc0 : cond0_0 (grid0.coords t)) :
    Real' a (cols (256 * (t.val / 64)) KV) (cols (512 + 256 * (t.val / 64)) KV) cin (fun _ _ => 0) (fun _ _ => 0) (memA c (grid0.coords t) a x fh hc0) := by
  subst hf
  refine ⟨?_, ?_, ?_, ?_, ?_, ?_, ?_, ?_⟩
  rotate_left 2
  · dsimp only [memA]; exact (read_rows _ _ _ _ _).trans zero_up
  · dsimp only [memA]; exact (read_rows _ _ _ _ _).trans zero_up
  · dsimp only [memA]; exact cin_read a hx 0 _ _ rfl
  · dsimp only [memA]; exact cin_read a hx 1 _ _ rfl
  · dsimp only [memA]; exact cin_read a hx 2 _ _ rfl
  · dsimp only [memA]; exact cin_read a hx 3 _ _ rfl
  · dsimp only [memA]
    refine (read_whole _ _ _ _).trans ?_
    funext y
    show ((KV (k0_off2 (grid0.coords t) 0 + 1 * (y 0).val) (k0_off2 (grid0.coords t) 1 + 1 * (y 1).val) : ℝ) : EReal) = _
    rw [off_k]
    show ((KV (0 + 1 * (y 0).val) (256 * (t.val / 64) + 1 * (y 1).val) : ℝ) : EReal) = ((KV _ _ : ℝ) : EReal)
    rw [zero_add, one_mul, one_mul]
  · dsimp only [memA]
    refine (read_whole _ _ _ _).trans ?_
    funext y
    show ((KV (k0_off3 (grid0.coords t) 0 + 1 * (y 0).val) (k0_off3 (grid0.coords t) 1 + 1 * (y 1).val) : ℝ) : EReal) = _
    rw [off_v]
    show ((KV (0 + 1 * (y 0).val) (512 + 256 * (t.val / 64) + 1 * (y 1).val) : ℝ) : EReal) = ((KV _ _ : ℝ) : EReal)
    rw [zero_add, one_mul, one_mul]

variable (hz : word (grid0.coords t) xt = 0#32)
include hz

/-- A first point of a head group. -/
theorem first_up (s : Carry Ideal c) (h0 : t.val % 64 = 0) :
    let K := cols (256 * (t.val / 64)) KV
    let V := cols (512 + 256 * (t.val / 64)) KV
    let q := fun i d => Q i d * (1 / 8)
    step c t a x xt fh hw s = (up (φ := .bf16) (n := 256) (k := 256) (pQ q D K V cin (grid0.coords t 1).val),
      ⟨up (φ := .bf16) (n := 16384) (k := 256) K, up (φ := .bf16) (n := 16384) (k := 256) V,
        up (φ := .f32) (n := 16384) (k := 256) fun r d => 0 + pK q D K V cin (grid0.coords t 1).val r d,
        up (φ := .f32) (n := 16384) (k := 256) fun r d => 0 + pV q D K cin (grid0.coords t 1).val r d, s.out⟩) := by
  intro K V q
  have hc0 := (hcond0_0 t).mpr h0
  have hc1 : ¬cond0_1 (grid0.coords t) := fun h => by have := (hcond0_1 t).mp h; omega
  have H := memA_real c t a hx hf hc0
  have hE : endA' c (grid0.coords t) a x xt fh hw hc0 = ((endA c (grid0.coords t) a x xt fh hw hc0).1, [], []) := end2_nil hz _
  have ho := ops_up a hx
  unfold step
  rw [dif_pos h0]
  dsimp only
  refine Prod.ext ?_ ?_
  · dsimp only
    rw [runA_q, read_block, hE]
    exact point_q (c := c) (hw := hw) hz ho H
  · have e1 : VS0_0.read (Elt Ideal) (VS0_0.writes (Elt Ideal) VS0_0.junk (runA c (grid0.coords t) a hc0 hc1 x xt fh s.out hw).2.1) = up (φ := .bf16) (n := 16384) (k := 256) K := by
      rw [runA_k]; have := H.kk; dsimp only [memA] at this; exact this
    have e2 : VS0_1.read (Elt Ideal) (VS0_1.writes (Elt Ideal) VS0_1.junk (runA c (grid0.coords t) a hc0 hc1 x xt fh s.out hw).2.2.1) = up (φ := .bf16) (n := 16384) (k := 256) V := by
      rw [runA_v]; have := H.vv; dsimp only [memA] at this; exact this
    have e3 : VS0_2.read (Elt Ideal) (VS0_2.writes (Elt Ideal) VS0_2.junk (runA c (grid0.coords t) a hc0 hc1 x xt fh s.out hw).2.2.2.1)
        = up (φ := .f32) (n := 16384) (k := 256) fun r d => 0 + pK q D K V cin (grid0.coords t 1).val r d := by
      rw [runA_dk, hE]
      dsimp only
      rw [List.nil_append, ← List.cons_append, View.writes_append, View.writes_append]
      have h := point_k (c := c) (hw := hw) hz ho H
      dsimp only [memA] at h ⊢
      exact h
    have e4 : VS0_3.read (Elt Ideal) (VS0_3.writes (Elt Ideal) VS0_3.junk (runA c (grid0.coords t) a hc0 hc1 x xt fh s.out hw).2.2.2.2.1)
        = up (φ := .f32) (n := 16384) (k := 256) fun r d => 0 + pV q D K cin (grid0.coords t 1).val r d := by
      rw [runA_dv, hE]
      dsimp only
      rw [List.nil_append, ← List.cons_append, View.writes_append, View.writes_append]
      have h := point_v (c := c) (hw := hw) hz ho H
      dsimp only [memA] at h ⊢
      exact h
    exact carry_congr e1 e2 e3 e4 rfl
end

theorem out_up (t : Fin grid0.N) (hc1 : cond0_1 (grid0.coords t)) (o : FVec Ideal S16384x1024 .f32) (f g : ℕ → ℕ → ℝ) (r : Fin 16384) (d : Fin 1024) :
    View.write (Elt Ideal) (gradV (grid0.coords t) hc1).view
      (View.write (Elt Ideal) (gradK (grid0.coords t) hc1).view o (up (φ := .f32) (n := 16384) (k := 256) f) Finset.univ)
        (up (φ := .f32) (n := 16384) (k := 256) g) Finset.univ (ix2 r d)
      = if d.val / 256 = t.val / 64 then ((f r.val (d.val % 256) : ℝ) : EReal)
        else if d.val / 256 = 2 + t.val / 64 then ((g r.val (d.val % 256) : ℝ) : EReal) else o (ix2 r d) := by
  have ht : t.val / 64 < 2 := by have := t.isLt; have : grid0.N = 128 := rfl; omega
  have e1 : View.write (Elt Ideal) (gradK (grid0.coords t) hc1).view o (up (φ := .f32) (n := 16384) (k := 256) f) Finset.univ
      = (View.whole main_v42_1).writes (Elt Ideal) o
        [⟨Rect.unit (s := S16384x1024) (k0_off7 (grid0.coords t)) S16384x256.size (k0_off7_inb (grid0.coords t) hc1), up (φ := .f32) (n := 16384) (k := 256) f⟩] := rfl
  have e2 : ∀ L, View.write (Elt Ideal) (gradV (grid0.coords t) hc1).view ((View.whole main_v42_1).writes (Elt Ideal) o L) (up (φ := .f32) (n := 16384) (k := 256) g) Finset.univ
      = (View.whole main_v42_1).writes (Elt Ideal) o
        (⟨Rect.unit (s := S16384x1024) (k0_off8 (grid0.coords t)) S16384x256.size (k0_off8_inb (grid0.coords t) hc1), up (φ := .f32) (n := 16384) (k := 256) g⟩ :: L) :=
    fun L => rfl
  have e3 : ∀ X : FVec Ideal S16384x1024 .f32, X = (View.whole main_v42_1).read (Elt Ideal) X := fun X => rfl
  rw [e1, e2]
  refine (congrFun (e3 _) (ix2 r d)).trans ?_
  by_cases h1 : d.val / 256 = 2 + t.val / 64
  · rw [if_neg (by omega), if_pos h1, ← up_at (φ := .f32) g r (⟨d.val % 256, by omega⟩ : Fin 256)]
    have hx : ∀ b : Fin 2, ((ix2 r d : S16384x1024.Idx) b).val = (![0, 512 + 256 * (t.val / 64)] : Fin 2 → ℕ) b
        + ((ix2 r (⟨d.val % 256, by omega⟩ : Fin 256) : S16384x256.Idx) b).val := by
      refine Fin.forall_fin_two.mpr ⟨?_, ?_⟩
      · show r.val = 0 + r.val; omega
      · show d.val = 512 + 256 * (t.val / 64) + d.val % 256; omega
    exact View.read_writes_cons_unit_of_mem (Val := Elt Ideal) (View.whole main_v42_1) o (k0_off8_inb (grid0.coords t) hc1) (up (φ := .f32) (n := 16384) (k := 256) g) _ (ix2 r d) (ix2 r (⟨d.val % 256, by omega⟩ : Fin 256) : S16384x256.Idx) (off_dv t) hx
  · rw [if_neg h1]
    refine (View.read_writes_cons_unit_of_not_mem (Val := Elt Ideal) (View.whole main_v42_1) o (k0_off8_inb (grid0.coords t) hc1) (up (φ := .f32) (n := 16384) (k := 256) g) _ (ix2 r d) (off_dv t) (1 : Fin 2) ?_).trans ?_
    · show d.val < 512 + 256 * (t.val / 64) ∨ 512 + 256 * (t.val / 64) + 256 ≤ d.val; omega
    by_cases h2 : d.val / 256 = t.val / 64
    · rw [if_pos h2, ← up_at (φ := .f32) f r (⟨d.val % 256, by omega⟩ : Fin 256)]
      have hx : ∀ b : Fin 2, ((ix2 r d : S16384x1024.Idx) b).val = (![0, 256 * (t.val / 64)] : Fin 2 → ℕ) b
          + ((ix2 r (⟨d.val % 256, by omega⟩ : Fin 256) : S16384x256.Idx) b).val := by
        refine Fin.forall_fin_two.mpr ⟨?_, ?_⟩
        · show r.val = 0 + r.val; omega
        · show d.val = 256 * (t.val / 64) + d.val % 256; omega
      exact View.read_writes_cons_unit_of_mem (Val := Elt Ideal) (View.whole main_v42_1) o (k0_off7_inb (grid0.coords t) hc1) (up (φ := .f32) (n := 16384) (k := 256) f) [] (ix2 r d) (ix2 r (⟨d.val % 256, by omega⟩ : Fin 256) : S16384x256.Idx) (off_dk t) hx
    · rw [if_neg h2]
      refine (View.read_writes_cons_unit_of_not_mem (Val := Elt Ideal) (View.whole main_v42_1) o (k0_off7_inb (grid0.coords t) hc1) (up (φ := .f32) (n := 16384) (k := 256) f) [] (ix2 r d) (off_dk t) (1 : Fin 2) ?_).trans rfl
      show d.val < 256 * (t.val / 64) ∨ 256 * (t.val / 64) + 256 ≤ d.val; omega

theorem runC_out (c : Dev nD) (i : grid0.Coords) (a : Stage) (x : Ins Ideal) (xt : TbBuf0 (F := Ideal) c tbM0_0) (fh : HbBuf0 (F := Ideal) c hbM0_0)
    (hw : k0_chk1 i (word i xt)) (s : Carry Ideal c) (hc0 : ¬cond0_0 i) (hc1 : cond0_1 i) (hd : Disjoint (gradV i hc1).view.set (gradK i hc1).view.set) :
    (runC c i a hc0 hc1 hd x xt fh s hw).2.2.1 = View.write (Elt Ideal) (gradV i hc1).view
      (View.write (Elt Ideal) (gradK i hc1).view s.out
        (scM0_2.view.read (Elt Ideal) (scM0_2.view.writes (Elt Ideal) ((Memref.isWhole_whole cc0_scratch2).unread s.dk) (runC c i a hc0 hc1 hd x xt fh s hw).2.1)) Finset.univ)
        (scM0_3.view.read (Elt Ideal) (scM0_3.view.writes (Elt Ideal) ((Memref.isWhole_whole cc0_scratch3).unread s.dv) (runC c i a hc0 hc1 hd x xt fh s hw).2.2.2.1)) Finset.univ := by
  unfold runC
  dsimp only
  unfold runC.sl.Ho_w1 runC.sl.Ho_w0 runC.sl.dma10 runC.sl.dma10_1
  rfl

section
variable (c : Dev nD) (t : Fin grid0.N) (a : Stage) (x : Ins Ideal) (xt : TbBuf0 (F := Ideal) c tbM0_0) (fh : HbBuf0 (F := Ideal) c hbM0_0)
  (hw : k0_chk1 (grid0.coords t) (word (grid0.coords t) xt)) (Q D K V : ℕ → ℕ → ℝ) (cin : ℕ → ℕ → ℕ → ℝ) (GK GV : ℕ → ℕ → ℝ)
variable {x Q D cin fh K V GK GV} (hx : Fine x Q D cin) (hz : word (grid0.coords t) xt = 0#32)
  {s : Carry Ideal c} (hk : s.k = (up K : FVec Ideal S16384x256 .bf16)) (hv : s.v = (up V : FVec Ideal S16384x256 .bf16))
  (hdk : s.dk = (up GK : FVec Ideal S16384x256 .f32)) (hdv : s.dv = (up GV : FVec Ideal S16384x256 .f32))
include hx hz hk hv hdk hdv

/-- A middle point of a head group. -/
theorem mid_up (h0 : t.val % 64 ≠ 0) (h1 : t.val % 64 ≠ 63) :
    let q := fun i d => Q i d * (1 / 8)
    step c t a x xt fh hw s = (up (φ := .bf16) (n := 256) (k := 256) (pQ q D K V cin (grid0.coords t 1).val),
      ⟨s.k, s.v, up (φ := .f32) (n := 16384) (k := 256) fun r d => GK r d + pK q D K V cin (grid0.coords t 1).val r d,
        up (φ := .f32) (n := 16384) (k := 256) fun r d => GV r d + pV q D K cin (grid0.coords t 1).val r d, s.out⟩) := by
  intro q
  have hc0 : ¬cond0_0 (grid0.coords t) := fun h => h0 ((hcond0_0 t).mp h)
  have hc1 : ¬cond0_1 (grid0.coords t) := fun h => h1 ((hcond0_1 t).mp h)
  have H := memB_real c a K V GK GV hx s hk hv hdk hdv
  have hE : endB' c (grid0.coords t) a x xt hw s = ((endB c (grid0.coords t) a x xt hw s).1, [], []) := end2_nil hz _
  have ho := ops_up a hx
  unfold step
  rw [dif_neg h0, dif_neg h1]
  dsimp only
  refine Prod.ext ?_ ?_
  · dsimp only
    rw [runB_q, read_block, hE]
    exact point_q (c := c) (hw := hw) hz ho H
  · have e3 : VS0_2.read (Elt Ideal) (VS0_2.writes (Elt Ideal) ((Memref.isWhole_whole cc0_scratch2).unread s.dk) (runB c (grid0.coords t) a hc0 hc1 x xt fh s hw).2.1)
        = up (φ := .f32) (n := 16384) (k := 256) fun r d => GK r d + pK q D K V cin (grid0.coords t 1).val r d := by
      rw [runB_dk, hE]
      exact point_k (c := c) (hw := hw) hz ho H
    have e4 : VS0_3.read (Elt Ideal) (VS0_3.writes (Elt Ideal) ((Memref.isWhole_whole cc0_scratch3).unread s.dv) (runB c (grid0.coords t) a hc0 hc1 x xt fh s hw).2.2.1)
        = up (φ := .f32) (n := 16384) (k := 256) fun r d => GV r d + pV q D K cin (grid0.coords t 1).val r d := by
      rw [runB_dv, hE]
      exact point_v (c := c) (hw := hw) hz ho H
    exact carry_congr rfl rfl e3 e4 rfl

/-- The last point of a head group. -/
theorem last_point_up (h1 : t.val % 64 = 63) :
    let q := fun i d => Q i d * (1 / 8)
    (step c t a x xt fh hw s).1 = up (φ := .bf16) (n := 256) (k := 256) (pQ q D K V cin (grid0.coords t 1).val)
    ∧ ∀ (r : Fin 16384) (d : Fin 1024), (step c t a x xt fh hw s).2.out (ix2 r d)
      = if d.val / 256 = t.val / 64 then ((GK r.val (d.val % 256) + pK q D K V cin (grid0.coords t 1).val r.val (d.val % 256) : ℝ) : EReal)
        else if d.val / 256 = 2 + t.val / 64 then ((GV r.val (d.val % 256) + pV q D K cin (grid0.coords t 1).val r.val (d.val % 256) : ℝ) : EReal)
        else s.out (ix2 r d) := by
  intro q
  have h0 : t.val % 64 ≠ 0 := by omega
  have hc0 : ¬cond0_0 (grid0.coords t) := fun h => h0 ((hcond0_0 t).mp h)
  have hc1 : cond0_1 (grid0.coords t) := (hcond0_1 t).mpr h1
  have H := memB_real c a K V GK GV hx s hk hv hdk hdv
  have hE : endB' c (grid0.coords t) a x xt hw s = ((endB c (grid0.coords t) a x xt hw s).1, [], []) := end2_nil hz _
  have ho := ops_up a hx
  have e3 : scM0_2.view.read (Elt Ideal) (scM0_2.view.writes (Elt Ideal) ((Memref.isWhole_whole cc0_scratch2).unread s.dk) (runC c (grid0.coords t) a hc0 hc1 (grads_sets t _) x xt fh s hw).2.1)
      = up (φ := .f32) (n := 16384) (k := 256) fun r d => GK r d + pK q D K V cin (grid0.coords t 1).val r d := by
    rw [runC_dk, hE]
    exact point_k (c := c) (hw := hw) hz ho H
  have e4 : scM0_3.view.read (Elt Ideal) (scM0_3.view.writes (Elt Ideal) ((Memref.isWhole_whole cc0_scratch3).unread s.dv) (runC c (grid0.coords t) a hc0 hc1 (grads_sets t _) x xt fh s hw).2.2.2.1)
      = up (φ := .f32) (n := 16384) (k := 256) fun r d => GV r d + pV q D K cin (grid0.coords t 1).val r d := by
    rw [runC_dv, hE]
    exact point_v (c := c) (hw := hw) hz ho H
  unfold step
  rw [dif_neg h0, dif_pos h1]
  dsimp only
  refine ⟨?_, fun r d => ?_⟩
  · rw [runC_q, read_block, hE]
    exact point_q (c := c) (hw := hw) hz ho H
  · rw [runC_out]
    refine (congrArg₂ (fun f g => View.write (Elt Ideal) (gradV (grid0.coords t) hc1).view
      (View.write (Elt Ideal) (gradK (grid0.coords t) hc1).view s.out f Finset.univ) g Finset.univ (ix2 r d)) e3 e4).trans ?_
    exact out_up t hc1 s.out _ _ r d
end

end Cert.Attn
end
-- ==== Proof.Attn.Whole.lean ====
/- The attention kernel's points in order: what is carried to each of them, and the two results, in the real numbers. -/
module

public import proofs.«01_k».proof.Proof.Attn.Points

@[expose] public section

set_option maxRecDepth 16384

noncomputable section

namespace Cert.Attn

open Idealize.ShloMosaic Idealize.ShloMosaic.TcCoe Idealize.SL.Sem
open Cert.AttentionIdeal Cert.AttentionIdeal.Gen
open Finset (range)

/-! ## What the points of head group `p` leave -/

section
variable (Q D KV : ℕ → ℕ → ℝ) (CIN : ℕ → ℕ → ℕ → ℕ → ℝ) (p n : ℕ)

/-- The blocks of tile `n`. -/
def bQ : ℕ → ℕ → ℝ := tile n (cols (256 * p) Q)
def bC (h i j : ℕ) : ℝ := CIN p h (256 * n + i) j
/-- The result block of tile `n`, and what it adds to the keys' and values' gradients. -/
def gQ : ℕ → ℕ → ℝ :=
  pQ (fun i d => bQ Q p n i d * (1 / 8)) (bQ D p n) (cols (256 * p) KV) (cols (512 + 256 * p) KV) (bC CIN p n) n
def gK : ℕ → ℕ → ℝ :=
  pK (fun i d => bQ Q p n i d * (1 / 8)) (bQ D p n) (cols (256 * p) KV) (cols (512 + 256 * p) KV) (bC CIN p n) n
def gV : ℕ → ℕ → ℝ :=
  pV (fun i d => bQ Q p n i d * (1 / 8)) (bQ D p n) (cols (256 * p) KV) (bC CIN p n) n
end

section
variable (m : (ℓ : Loc nD τ sig) → Buf (Elt Ideal) ℓ) (hO : Ok m) (hH : Hyps m hO) (c : Dev nD)
  (Q D KV : ℕ → ℕ → ℝ) (CIN : ℕ → ℕ → ℕ → ℕ → ℝ)

/-- The arguments and the buffers that the region finds hold real numbers. -/
structure Inputs : Prop where
  ins : ∀ t : Fin grid0.N, Fine (ins m hO c t) (bQ Q (t.val / 64) (t.val % 64)) (bQ D (t.val / 64) (t.val % 64)) (bC CIN (t.val / 64) (t.val % 64))
  kv : V m c main_arg1 = (up KV : FVec Ideal S16384x1024 .bf16)

variable {m hO c Q D KV CIN} (I : Inputs m hO c Q D KV CIN)
include I

theorem carry_up (n : ℕ) (hn : n ≤ 128) :
    (n % 64 ≠ 0 → (carry m hO hH c n).k = (up (cols (256 * (n / 64)) KV) : FVec Ideal S16384x256 .bf16)
      ∧ (carry m hO hH c n).v = (up (cols (512 + 256 * (n / 64)) KV) : FVec Ideal S16384x256 .bf16)
      ∧ (carry m hO hH c n).dk = (up (fun r d => ∑ i ∈ range (n % 64), gK Q D KV CIN (n / 64) i r d) : FVec Ideal S16384x256 .f32)
      ∧ (carry m hO hH c n).dv = (up (fun r d => ∑ i ∈ range (n % 64), gV Q D KV CIN (n / 64) i r d) : FVec Ideal S16384x256 .f32))
    ∧ ∀ (r : Fin 16384) (d : Fin 1024),
      (d.val / 256 < 2 → d.val / 256 < n / 64 → (carry m hO hH c n).out (ix2 r d)
        = ((∑ i ∈ range 64, gK Q D KV CIN (d.val / 256) i r.val (d.val % 256) : ℝ) : EReal))
      ∧ (2 ≤ d.val / 256 → d.val / 256 - 2 < n / 64 → (carry m hO hH c n).out (ix2 r d)
        = ((∑ i ∈ range 64, gV Q D KV CIN (d.val / 256 - 2) i r.val (d.val % 256) : ℝ) : EReal)) := by
  induction n with
  | zero => exact ⟨fun h => absurd rfl h, fun r d => ⟨fun _ h => absurd h (Nat.not_lt_zero _), fun _ h => absurd h (Nat.not_lt_zero _)⟩⟩
  | succ n ih =>
    obtain ⟨ihs, iho⟩ := ih (by omega)
    have hN : n < (cfgM m hO).N := by show n < 128; omega
    have hs : carry m hO hH c (n + 1) = (pstep m hO hH c ⟨n, hN⟩ (carry m hO hH c n)).2 := carry_succ m hO hH c ⟨n, hN⟩
    have hx := I.ins ⟨n, hN⟩
    have hw := Hyps.c0 hH c ⟨n, hN⟩
    have hz := word_zero m ⟨n, hN⟩ c
    have hc1 := coords1 ⟨n, hN⟩
    by_cases h0 : n % 64 = 0
    · have h := first_up c ⟨n, hN⟩ (stage m hO ⟨n, hN⟩) (tbl m 0) hw (KV := KV) hx I.kv hz (carry m hO hH c n) h0
      rw [hc1] at h
      rw [hs.trans (congrArg Prod.snd h)]
      dsimp only
      refine ⟨fun _ => ⟨?_, ?_, ?_, ?_⟩, fun r d => ?_⟩
      · rw [show (n + 1) / 64 = n / 64 by omega]
      · rw [show (n + 1) / 64 = n / 64 by omega]
      · refine up_congr fun r d _ _ => ?_
        rw [show (n + 1) / 64 = n / 64 by omega, show (n + 1) % 64 = n % 64 + 1 by omega, Finset.sum_range_succ, h0, Finset.sum_range_zero]
        rfl
      · refine up_congr fun r d _ _ => ?_
        rw [show (n + 1) / 64 = n / 64 by omega, show (n + 1) % 64 = n % 64 + 1 by omega, Finset.sum_range_succ, h0, Finset.sum_range_zero]
        rfl
      · rw [show (n + 1) / 64 = n / 64 by omega]; exact iho r d
    obtain ⟨hk, hv, hdk, hdv⟩ := ihs h0
    by_cases h1 : n % 64 = 63
    · have h := (last_point_up c ⟨n, hN⟩ (stage m hO ⟨n, hN⟩) (tbl m 0) hw (fh := V m c main_arg1) hx hz hk hv hdk hdv h1).2
      rw [hc1] at h
      rw [hs]
      refine ⟨fun h' => absurd (by omega) h', fun r d => ?_⟩
      have hd := d.isLt
      refine ⟨fun hd2 hlt => ?_, fun hd2 hlt => ?_⟩
      · refine (h r d).trans ?_
        by_cases hp : d.val / 256 = n / 64
        · rw [if_pos hp, hp, h1, Finset.sum_range_succ (n := 63)]; simp only [h1]; rfl
        · rw [if_neg hp, if_neg (by show ¬ d.val / 256 = 2 + n / 64; omega)]
          exact (iho r d).1 hd2 (by omega)
      · refine (h r d).trans ?_
        by_cases hp : d.val / 256 = 2 + n / 64
        · rw [if_neg (by show ¬ d.val / 256 = n / 64; omega), if_pos hp, show d.val / 256 - 2 = n / 64 by omega, h1, Finset.sum_range_succ (n := 63)]; simp only [h1]; rfl
        · rw [if_neg (by show ¬ d.val / 256 = n / 64; omega), if_neg hp]
          exact (iho r d).2 hd2 (by omega)
    · have h := mid_up c ⟨n, hN⟩ (stage m hO ⟨n, hN⟩) (tbl m 0) hw (fh := V m c main_arg1) hx hz hk hv hdk hdv h0 h1
      rw [hc1] at h
      rw [hs.trans (congrArg Prod.snd h)]
      dsimp only
      refine ⟨fun _ => ⟨?_, ?_, ?_, ?_⟩, fun r d => ?_⟩
      · rw [show (n + 1) / 64 = n / 64 by omega]; exact hk
      · rw [show (n + 1) / 64 = n / 64 by omega]; exact hv
      · refine up_congr fun r d _ _ => ?_
        rw [show (n + 1) / 64 = n / 64 by omega, show (n + 1) % 64 = n % 64 + 1 by omega, Finset.sum_range_succ]
        rfl
      · refine up_congr fun r d _ _ => ?_
        rw [show (n + 1) / 64 = n / 64 by omega, show (n + 1) % 64 = n % 64 + 1 by omega, Finset.sum_range_succ]
        rfl
      · rw [show (n + 1) / 64 = n / 64 by omega]; exact iho r d

/-- The first result's block at any point. -/
theorem block_up (t : Fin grid0.N) : (pstep m hO hH c t (carry m hO hH c t.val)).1
    = (up (gQ Q D KV CIN (t.val / 64) (t.val % 64)) : FVec Ideal S256x256 .bf16) := by
  have hx := I.ins t
  have hw := Hyps.c0 hH c t
  have hz := word_zero m t c
  have hc1 := coords1 t
  have ht : t.val < 128 := t.isLt
  by_cases h0 : t.val % 64 = 0
  · have h := first_up c t (stage m hO t) (tbl m 0) hw (KV := KV) hx I.kv hz (carry m hO hH c t.val) h0
    rw [hc1] at h
    exact congrArg Prod.fst h
  obtain ⟨hk, hv, hdk, hdv⟩ := (carry_up hH I t.val (by omega)).1 h0
  by_cases h1 : t.val % 64 = 63
  · have h := (last_point_up c t (stage m hO t) (tbl m 0) hw (fh := V m c main_arg1) hx hz hk hv hdk hdv h1).1
    rw [hc1] at h
    exact h
  · have h := mid_up c t (stage m hO t) (tbl m 0) hw (fh := V m c main_arg1) hx hz hk hv hdk hdv h0 h1
    rw [hc1] at h
    exact congrArg Prod.fst h

/-- The second result. -/
theorem final_up (r : Fin 16384) (d : Fin 1024) : final m hO hH c main_v42_1 (ix2 r d)
    = ((if d.val / 256 < 2 then ∑ i ∈ range 64, gK Q D KV CIN (d.val / 256) i r.val (d.val % 256)
      else ∑ i ∈ range 64, gV Q D KV CIN (d.val / 256 - 2) i r.val (d.val % 256) : ℝ) : EReal) := by
  have hd := d.isLt
  have h := (carry_up hH I 128 le_rfl).2 r d
  have e : final m hO hH c main_v42_1 = (carry m hO hH c 128).out := by unfold final; rw [dif_pos rfl]
  refine (congrFun e (ix2 r d)).trans ?_
  by_cases hp : d.val / 256 < 2
  · rw [if_pos hp]; exact h.1 hp (by omega)
  · rw [if_neg hp]; exact h.2 (by omega) (by omega)
end

end Cert.Attn
end
-- ==== Proof.Attn.Lift3.lean ====
/- Real arrays with three axes as vectors of ideal floats, and the reference's operations on them. -/
module

public import proofs.«01_k».proof.Proof.Attn.Lift
public import proofs.«01_k».proof.Proof.Gen.AttentionRefIdeal

@[expose] public section

set_option maxRecDepth 16384

noncomputable section

namespace Cert.Attn

open Idealize.ShloMosaic Idealize.ShloMosaic.TcCoe Idealize.SL.Sem
open Finset (range)

/-- The vector that holds the real array `f`. -/
def up3 {φ : FTy} {n k l : ℕ} (f : ℕ → ℕ → ℕ → ℝ) : FVec Ideal ⟨3, ![n, k, l]⟩ φ :=
  fun x => ((f (x 0).val (x 1).val (x 2).val : ℝ) : EReal)

theorem up3_at {φ : FTy} {n k l : ℕ} (f : ℕ → ℕ → ℕ → ℝ) (a : Fin n) (i : Fin k) (q : Fin l) :
    (up3 f : FVec Ideal ⟨3, ![n, k, l]⟩ φ) (ix3 a i q) = ((f a.val i.val q.val : ℝ) : EReal) := rfl

theorem eq_up3 {φ : FTy} {n k l : ℕ} {v : FVec Ideal ⟨3, ![n, k, l]⟩ φ} {f : ℕ → ℕ → ℕ → ℝ}
    (h : ∀ (a : Fin n) (i : Fin k) (q : Fin l), v (ix3 a i q) = ((f a.val i.val q.val : ℝ) : EReal)) : v = up3 f := by
  funext x
  obtain ⟨a, i, q, rfl⟩ : ∃ a i q, x = ix3 a i q := ⟨x 0, x 1, x 2, eq_ix3 x⟩
  exact h a i q

section
variable {φ : FTy} {n k l : ℕ} (f g : ℕ → ℕ → ℕ → ℝ)

theorem addf_up3 : addf (up3 f : FVec Ideal ⟨3, ![n, k, l]⟩ φ) (up3 g) = up3 fun a i q => f a i q + g a i q :=
  funext fun _ => (EReal.coe_add _ _).symm
theorem subf_up3 : subf (up3 f : FVec Ideal ⟨3, ![n, k, l]⟩ φ) (up3 g) = up3 fun a i q => f a i q - g a i q :=
  funext fun _ => (EReal.coe_sub _ _).symm
theorem mulf_up3 : mulf (up3 f : FVec Ideal ⟨3, ![n, k, l]⟩ φ) (up3 g) = up3 fun a i q => f a i q * g a i q :=
  funext fun _ => (EReal.coe_mul _ _).symm
theorem negf_up3 : Host.negf (up3 f : FVec Ideal ⟨3, ![n, k, l]⟩ φ) = up3 fun a i q => -f a i q :=
  funext fun _ => (EReal.coe_neg _).symm
theorem maximumf_up3 : maximumf (up3 f : FVec Ideal ⟨3, ![n, k, l]⟩ φ) (up3 g) = up3 fun a i q => max (f a i q) (g a i q) :=
  funext fun _ => (EReal.coe_strictMono.monotone.map_max).symm
theorem absf_up3 : Host.absf (up3 f : FVec Ideal ⟨3, ![n, k, l]⟩ φ) = up3 fun a i q => |f a i q| :=
  funext fun _ => (EReal.coe_strictMono.monotone.map_max).symm
theorem exp_up3 : Host.exp (up3 f : FVec Ideal ⟨3, ![n, k, l]⟩ φ) = up3 fun a i q => Real.exp (f a i q) :=
  funext fun _ => rfl
theorem log1p_up3 : Host.log1p (up3 fun a i q => Real.exp (f a i q) : FVec Ideal ⟨3, ![n, k, l]⟩ φ)
    = up3 fun a i q => Real.log (1 + Real.exp (f a i q)) :=
  funext fun x => by
    have : 0 < 1 + Real.exp (f (x 0).val (x 1).val (x 2).val) := by positivity
    show Ideal.log (1 + ((Real.exp (f (x 0).val (x 1).val (x 2).val) : ℝ) : EReal)) = _
    rw [← EReal.coe_one, ← EReal.coe_add, Ideal.log_coe, if_neg (not_le.mpr this)]
    rfl

/-- A real number is not different from itself. -/
theorem une_up3 {α : Type} (x y : (⟨3, ![n, k, l]⟩ : Shape).Idx → α) :
    select (cmpf .une (up3 f : FVec Ideal ⟨3, ![n, k, l]⟩ φ) (up3 f)) x y = y := by
  funext i
  show Scalar.select (Ideal.cmp .une _ _) _ _ = _
  simp [Ideal.cmp, Scalar.select]

/-- A real number is not infinite. -/
theorem oeq_up3 {α : Type} (b : FVec Ideal ⟨3, ![n, k, l]⟩ φ) (hb : ∀ i, b i = ⊤) (x y : (⟨3, ![n, k, l]⟩ : Shape).Idx → α) :
    select (cmpf .oeq (up3 f : FVec Ideal ⟨3, ![n, k, l]⟩ φ) b) x y = y := by
  funext i
  show Scalar.select (Ideal.cmp .oeq _ (b i)) _ _ = _
  rw [hb]
  simp [Ideal.cmp, Scalar.select, up3]
end

/-! ## Running sums -/

theorem foldl_add_eq_sum {N : ℕ} (g : Fin N → EReal) : (List.finRange N).foldl (fun r n => r + g n) 0 = ∑ n, g n := by
  rw [Fin.sum_univ_def, List.sum_eq_foldl, List.foldl_map]

/-- A window along the last axis. -/
theorem window_at {φ : FTy} {n k l : ℕ} (L H : ℕ) (x : FVec Ideal ⟨3, ![n, k, l]⟩ φ) (init : FVec Ideal ⟨0, ![]⟩ φ) (h) (hu)
    (hi : ∀ j, init j = 0) (a : Fin n) (i : Fin k) (q : Fin l) :
    Host.reduceWindowAdd (s := ⟨3, ![n, k, l]⟩) (t := ⟨3, ![n, k, l]⟩) (u := ⟨0, ![]⟩) ![1, 1, l] ![1, 1, 1] ![0, 0, L] ![0, 0, H] x init h hu (ix3 a i q)
      = ∑ y : Fin l, if hy : L ≤ q.val + y.val ∧ q.val + y.val - L < l then x (ix3 a i ⟨q.val + y.val - L, hy.2⟩) else 0 := by
  show Ideal.hostReduceWindowAdd _ _ _ _ h x (init (Shape.Idx.first hu)) (ix3 a i q) = _
  unfold Ideal.hostReduceWindowAdd Host.reduceWindow
  rw [hi]
  dsimp only
  refine (foldl_add_eq_sum _).trans ?_
  let e : (⟨3, ![1, 1, l]⟩ : Shape).Idx ≃ Fin l := ⟨fun w => w 2, fun y => ix3 (0 : Fin 1) (0 : Fin 1) y, fun w => by
      funext b
      match b with
      | ⟨0, _⟩ => exact Subsingleton.elim (α := Fin 1) _ _
      | ⟨1, _⟩ => exact Subsingleton.elim (α := Fin 1) _ _
      | ⟨2, _⟩ => rfl, fun y => rfl⟩
  refine Fintype.sum_equiv ((⟨3, ![1, 1, l]⟩ : Shape).rowMajor.symm.trans e) _ _ fun n' => ?_
  rw [Equiv.trans_apply]
  set w := (⟨3, ![1, 1, l]⟩ : Shape).rowMajor.symm n' with hw
  have h0 : (w 0).val = 0 := Nat.lt_one_iff.mp (w 0).isLt
  have h1 : (w 1).val = 0 := Nat.lt_one_iff.mp (w 1).isLt
  have ha := a.isLt
  have hk := i.isLt
  by_cases hy : L ≤ q.val + (w 2).val ∧ q.val + (w 2).val - L < l
  · rw [dif_pos (c := L ≤ q.val + (e w).val ∧ q.val + (e w).val - L < l) hy, dif_pos]
    · refine congrArg x (funext fun b => Fin.ext ?_)
      match b with
      | ⟨0, _⟩ => show a.val * 1 + (w 0).val - 0 = a.val; omega
      | ⟨1, _⟩ => show i.val * 1 + (w 1).val - 0 = i.val; omega
      | ⟨2, _⟩ => show q.val * 1 + (w 2).val - L = q.val + (w 2).val - L; rw [mul_one]
    · intro b
      match b with
      | ⟨0, _⟩ => show 0 ≤ a.val * 1 + (w 0).val ∧ a.val * 1 + (w 0).val - 0 < n; omega
      | ⟨1, _⟩ => show 0 ≤ i.val * 1 + (w 1).val ∧ i.val * 1 + (w 1).val - 0 < k; omega
      | ⟨2, _⟩ => show L ≤ q.val * 1 + (w 2).val ∧ q.val * 1 + (w 2).val - L < l; rw [mul_one]; exact hy
  · rw [dif_neg (c := L ≤ q.val + (e w).val ∧ q.val + (e w).val - L < l) hy, dif_neg]
    intro hin
    have := hin 2
    change L ≤ q.val * 1 + (w 2).val ∧ q.val * 1 + (w 2).val - L < l at this
    rw [mul_one] at this
    exact hy this

section
variable {φ : FTy} {n k l : ℕ} (f : ℕ → ℕ → ℕ → ℝ) (init : FVec Ideal ⟨0, ![]⟩ φ) (hu) (hi : ∀ j, init j = 0)
include hi

theorem right_up3 (H : ℕ) (h : (⟨3, ![n, k, l]⟩ : Shape).ReduceWindows ![1, 1, l] ![1, 1, 1] ![0, 0, 0] ![0, 0, H] ⟨3, ![n, k, l]⟩) :
    Host.reduceWindowAdd (s := ⟨3, ![n, k, l]⟩) (t := ⟨3, ![n, k, l]⟩) (u := ⟨0, ![]⟩) ![1, 1, l] ![1, 1, 1] ![0, 0, 0] ![0, 0, H] (up3 f : FVec Ideal ⟨3, ![n, k, l]⟩ φ) init h hu
      = up3 fun a i s => ∑ t ∈ range l, if s ≤ t then f a i t else 0 := by
  refine eq_up3 fun a i q => (window_at 0 H _ init h hu hi a i q).trans ?_
  have e : ∀ y : Fin l, (if hy : 0 ≤ q.val + y.val ∧ q.val + y.val - 0 < l then (up3 f : FVec Ideal ⟨3, ![n, k, l]⟩ φ) (ix3 a i ⟨q.val + y.val - 0, hy.2⟩) else 0)
      = (((fun y => if q.val + y < l then f a.val i.val (q.val + y) else 0) y.val : ℝ) : EReal) := fun y => by
    dsimp only
    by_cases hy : q.val + y.val < l
    · rw [dif_pos ⟨Nat.zero_le _, hy⟩, if_pos hy]; rfl
    · rw [dif_neg fun h => hy h.2, if_neg hy]; rfl
  refine (Finset.sum_congr rfl fun y _ => e y).trans ((coe_sum fun y => if q.val + y < l then f a.val i.val (q.val + y) else 0).symm.trans (congrArg _ ?_))
  rw [← Finset.sum_filter, ← Finset.sum_filter]
  exact Finset.sum_nbij' (fun y => q.val + y) (fun t => t - q.val) (fun y hy => by simp at hy ⊢; omega) (fun t ht => by simp at ht ⊢; omega)
    (fun y _ => by show q.val + y - q.val = y; omega) (fun t ht => by simp at ht ⊢; omega) (fun y _ => rfl)

theorem left_up3 (L H : ℕ) (hl : L + 1 = l) (h : (⟨3, ![n, k, l]⟩ : Shape).ReduceWindows ![1, 1, l] ![1, 1, 1] ![0, 0, L] ![0, 0, H] ⟨3, ![n, k, l]⟩) :
    Host.reduceWindowAdd (s := ⟨3, ![n, k, l]⟩) (t := ⟨3, ![n, k, l]⟩) (u := ⟨0, ![]⟩) ![1, 1, l] ![1, 1, 1] ![0, 0, L] ![0, 0, H] (up3 f : FVec Ideal ⟨3, ![n, k, l]⟩ φ) init h hu
      = up3 fun a i s => ∑ t ∈ range l, if t ≤ s then f a i t else 0 := by
  refine eq_up3 fun a i q => (window_at L H _ init h hu hi a i q).trans ?_
  have hq := q.isLt
  have e : ∀ y : Fin l, (if hy : L ≤ q.val + y.val ∧ q.val + y.val - L < l then (up3 f : FVec Ideal ⟨3, ![n, k, l]⟩ φ) (ix3 a i ⟨q.val + y.val - L, hy.2⟩) else 0)
      = (((fun y => if L ≤ q.val + y then f a.val i.val (q.val + y - L) else 0) y.val : ℝ) : EReal) := fun y => by
    have hy' := y.isLt
    dsimp only
    by_cases hy : L ≤ q.val + y.val
    · rw [dif_pos ⟨hy, by omega⟩, if_pos hy]; rfl
    · rw [dif_neg fun h => hy h.1, if_neg hy]; rfl
  refine (Finset.sum_congr rfl fun y _ => e y).trans ((coe_sum fun y => if L ≤ q.val + y then f a.val i.val (q.val + y - L) else 0).symm.trans (congrArg _ ?_))
  rw [← Finset.sum_filter, ← Finset.sum_filter]
  exact Finset.sum_nbij' (fun y => q.val + y - L) (fun t => t + L - q.val) (fun y hy => by simp at hy ⊢; omega) (fun t ht => by simp at ht ⊢; omega)
    (fun y hy => by simp at hy ⊢; omega) (fun t ht => by simp at ht ⊢; omega) (fun y _ => rfl)
end

end Cert.Attn
end
-- ==== Proof.Attn.Before.lean ====
/- The host's lines before the attention kernel, in the real numbers: the masks, and the sums of the logarithms over the blocks
   to the right. -/
module

public import proofs.«01_k».proof.Proof.Attn.Whole
public import proofs.«01_k».proof.Proof.Attn.Lift3

@[expose] public section

set_option maxRecDepth 16384

noncomputable section

namespace Cert.Attn.Before

open Idealize.ShloMosaic Idealize.ShloMosaic.TcCoe Idealize.SL.Sem
open Cert.AttentionIdeal Cert.AttentionIdeal.Gen
open Finset (range)

section
variable (f g : ℕ → ℕ → ℕ → ℝ) (u : ℕ → ℕ → ℝ)

theorem heads_up (h1 h2) : transpose S8x16384x64 [1, 0, 2] (shapeCast S16384x8x64 (up u : FVec Ideal S16384x512 .f32) h1 : FVec Ideal S16384x8x64 .f32) h2
    = (up3 fun h r d => u r (64 * h + d) : FVec Ideal S8x16384x64 .f32) := by
  refine eq_up3 fun h r d => ?_
  pointwise
  rw [up_at]
  dsimp only
  rw [show h.val * 64 + d.val = 64 * h.val + d.val by omega]
theorem lo_up {φ : FTy} (h) : extractStridedSlice S16384x512 ![0, 0] (up u : FVec Ideal S16384x1024 φ) h = (up u : FVec Ideal S16384x512 φ) := by
  refine eq_up fun r c => ?_
  pointwise
  rfl
theorem extf_up {n k : ℕ} (u : ℕ → ℕ → ℝ) (h) : extf .f32 (up u : FVec Ideal ⟨2, ![n, k]⟩ .bf16) h = up u := rfl
theorem dot_up : Host.dotGeneral dot_S8x16384x64_S8x16384x64_S8x16384x16384_2_2_1_1_0_0 none
    (up3 f : FVec Ideal S8x16384x64 .f32) (up3 g : FVec Ideal S8x16384x64 .f32)
      = (up3 fun h r s => ∑ d ∈ range 64, f h r d * g h s d : FVec Ideal S8x16384x16384 .f32) := by
  refine eq_up3 fun h r s => ?_
  pointwise
  simp only [up3_at, coe_sum, EReal.coe_mul]
theorem eighths : (broadcastInDim S8x16384x64 ![] bcast_S_S8x16384x64 (constant S_ .f32 0x3E000000#32 : FVec Ideal S_ .f32)) = (up3 fun _ _ _ => 1 / 8 : FVec Ideal S8x16384x64 .f32) := by
  refine eq_up3 fun h r s => ?_
  show Ideal.ofBits .f32 0x3E000000#32 = ((1 / 8 : ℝ) : EReal)
  simp [Ideal.ofBits, Ideal.ieee, -EReal.coe_mul]; norm_num
theorem zeros : (broadcastInDim S8x16384x16384 ![] bcast_S_S8x16384x16384 (constant S_ .f32 0x00000000#32 : FVec Ideal S_ .f32)) = (up3 fun _ _ _ => 0 : FVec Ideal S8x16384x16384 .f32) := by
  refine eq_up3 fun h r s => ?_
  show Ideal.ofBits .f32 0x00000000#32 = ((0 : ℝ) : EReal)
  simp
theorem zeros1 : (broadcastInDim S8x16384x1 ![] bcast_S_S8x16384x1 (constant S_ .f32 0x00000000#32 : FVec Ideal S_ .f32)) = (up3 fun _ _ _ => 0 : FVec Ideal S8x16384x1 .f32) := by
  refine eq_up3 fun h r s => ?_
  show Ideal.ofBits .f32 0x00000000#32 = ((0 : ℝ) : EReal)
  simp
theorem ones : (broadcastInDim S8x16384x16384 ![] bcast_S_S8x16384x16384 (constant S_ .f32 0x3F800000#32 : FVec Ideal S_ .f32)) = (up3 fun _ _ _ => 1 : FVec Ideal S8x16384x16384 .f32) := by
  refine eq_up3 fun h r s => ?_
  show Ideal.ofBits .f32 0x3F800000#32 = ((1 : ℝ) : EReal)
  simp [Ideal.ofBits, Ideal.ieee, -EReal.coe_mul]; norm_num
theorem init_zero (j) : (broadcastInDim S_ ![] bcast_S_S_ (constant S_ .f32 0x00000000#32 : FVec Ideal S_ .f32)) j = (0 : EReal) := by
  show Ideal.ofBits .f32 0x00000000#32 = 0
  simp
theorem cst_zero (j) : (constant S_ .f32 0x00000000#32 : FVec Ideal S_ .f32) j = (0 : EReal) := by
  show Ideal.ofBits .f32 0x00000000#32 = 0
  simp
theorem log_up3 : Host.log (up3 fun h r s => 1 + Real.exp (f h r s) : FVec Ideal S8x16384x16384 .f32)
    = up3 fun h r s => Real.log (1 + Real.exp (f h r s)) :=
  funext fun x => by
    have : 0 < 1 + Real.exp (f (x 0).val (x 1).val (x 2).val) := by positivity
    show Ideal.log ((1 + Real.exp (f (x 0).val (x 1).val (x 2).val) : ℝ) : EReal) = _
    rw [Ideal.log_coe, if_neg (not_le.mpr this)]
    rfl

/-- The keys to the left of each query. -/
abbrev mask : IVec S8x16384x16384 1 := broadcastInDim S8x16384x16384 ![1, 2] bcast_S16384x16384_S8x16384x16384_1_2
  (cmpi .slt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

theorem mask_up (f g : ℕ → ℕ → ℕ → ℝ) : select mask (up3 f : FVec Ideal S8x16384x16384 .f32) (up3 g)
    = up3 fun h r s => if s < r then f h r s else g h r s := by
  refine eq_up3 fun h r s => ?_
  have e : mask (ix3 h r s) = if s.val < r.val then 1#1 else 0#1 := by
    pointwise [mask]
    exact Common.cmpi_slt_ofNat _ _ (by omega) (by omega)
  show Scalar.select (mask (ix3 h r s)) _ _ = _
  rw [e]
  by_cases hh : s.val < r.val <;> simp [hh, Scalar.select, up3_at]

/-- The sums over the blocks of 256. -/
theorem sums_up (v) (hv : ∀ j, v j = (0 : EReal)) (h1) : Host.reduceAdd (shapeCast S8x16384x64x256 (up3 f : FVec Ideal S8x16384x16384 .f32) h1 : FVec Ideal S8x16384x64x256 .f32) (v : FVec Ideal S_ .f32) reducesTo_S8x16384x64x256_S8x16384x64_d3 h_S_
    = (up3 fun h r j => ∑ y ∈ range 256, f h r (256 * j + y) : FVec Ideal S8x16384x64 .f32) := by
  refine eq_up3 fun h r j => ?_
  pointwise
  rw [hv, zero_add, coe_sum]
  refine Finset.sum_congr rfl fun x _ => ?_
  rw [up3_at]
  dsimp only
  rw [Nat.mul_comm]
theorem shift_up (h1) (h2) : concatenate S8x16384x64 2 [⟨S8x16384x63, extractStridedSlice S8x16384x63 ![0, 0, 1] (up3 f : FVec Ideal S8x16384x64 .f32) h1⟩, ⟨S8x16384x1, (up3 fun _ _ _ => 0 : FVec Ideal S8x16384x1 .f32)⟩] h2
    = (up3 fun h r j => if j < 63 then f h r (j + 1) else 0 : FVec Ideal S8x16384x64 .f32) := by
  refine eq_up3 fun h r j => ?_
  pointwise
  by_cases hj : j.val < 63
  · rw [dif_pos hj, if_pos hj, up3_at]
    dsimp only
    rw [Nat.add_comm]
  · rw [dif_neg hj, if_neg hj, up3_at]
end

section
variable (q k : FVec Ideal S16384x1024 .bf16)

/-- The scores, the logarithms, and their sums over the blocks to the right, as the host computes them. -/
abbrev scoresV : FVec Ideal S8x16384x16384 .f32 := Host.dotGeneral dot_S8x16384x64_S8x16384x64_S8x16384x16384_2_2_1_1_0_0 none
  (mulf (transpose S8x16384x64 [1, 0, 2] (shapeCast S16384x8x64 (extf .f32 (extractStridedSlice S16384x512 ![0, 0] q slices_S16384x1024_S16384x512_0_0) bitsLt_bf16_f32) shapeCasts_S16384x512_S16384x8x64) transposes_S16384x8x64_S8x16384x64_1_0_2)
    (broadcastInDim S8x16384x64 ![] bcast_S_S8x16384x64 (constant S_ .f32 0x3E000000#32)))
  (transpose S8x16384x64 [1, 0, 2] (shapeCast S16384x8x64 (extf .f32 (extractStridedSlice S16384x512 ![0, 0] k slices_S16384x1024_S16384x512_0_0) bitsLt_bf16_f32) shapeCasts_S16384x512_S16384x8x64) transposes_S16384x8x64_S8x16384x64_1_0_2)
abbrev logsV : FVec Ideal S8x16384x16384 .f32 := select mask
  (Host.negf (addf (maximumf (scoresV q k) (broadcastInDim S8x16384x16384 ![] bcast_S_S8x16384x16384 (constant S_ .f32 0x00000000#32)))
    (Host.log (addf (broadcastInDim S8x16384x16384 ![] bcast_S_S8x16384x16384 (constant S_ .f32 0x3F800000#32)) (Host.exp (Host.negf (Host.absf (scoresV q k))))))))
  (broadcastInDim S8x16384x16384 ![] bcast_S_S8x16384x16384 (constant S_ .f32 0x00000000#32))
abbrev sumsV : FVec Ideal S8x16384x64 .f32 := Host.reduceAdd (shapeCast S8x16384x64x256 (logsV q k) shapeCasts_S8x16384x16384_S8x16384x64x256 : FVec Ideal S8x16384x64x256 .f32)
  (constant S_ .f32 0x00000000#32) reducesTo_S8x16384x64x256_S8x16384x64_d3 h_S_
abbrev cinV : FVec Ideal S2x4x16384x64 .f32 := shapeCast S2x4x16384x64 (Host.reduceWindowAdd ![1, 1, 64] ![1, 1, 1] ![0, 0, 0] ![0, 0, 63]
  (concatenate S8x16384x64 2 [⟨S8x16384x63, extractStridedSlice S8x16384x63 ![0, 0, 1] (sumsV q k) slices_S8x16384x64_S8x16384x63_0_0_1⟩,
    ⟨S8x16384x1, (broadcastInDim S8x16384x1 ![] bcast_S_S8x16384x1 (constant S_ .f32 0x00000000#32) : FVec Ideal S8x16384x1 .f32)⟩] concatenates_S8x16384x63_S8x16384x1_S8x16384x64_d2)
  (broadcastInDim S_ ![] bcast_S_S_ (constant S_ .f32 0x00000000#32)) reduceWindows_S8x16384x64_S8x16384x64_w1s1p0_0_w1s1p0_0_w64s1p0_63 h_S_ : FVec Ideal S8x16384x64 .f32) shapeCasts_S8x16384x64_S2x4x16384x64
end

/-- The same in the real numbers. -/
def sc (Q KV : ℕ → ℕ → ℝ) (h r s : ℕ) : ℝ := ∑ d ∈ range 64, (Q r (64 * h + d) * (1 / 8)) * KV s (64 * h + d)
def lg (Q KV : ℕ → ℕ → ℝ) (h r s : ℕ) : ℝ := if s < r then ell (sc Q KV h r s) else 0
def CIN (Q KV : ℕ → ℕ → ℝ) (p h r j : ℕ) : ℝ :=
  ∑ t ∈ range 64, if j ≤ t then (if t < 63 then ∑ y ∈ range 256, lg Q KV (4 * p + h) r (256 * (t + 1) + y) else 0) else 0

theorem logs_eq (Q KV : ℕ → ℕ → ℝ) : logsV (up Q) (up KV) = up3 (lg Q KV) := by
  unfold logsV scoresV
  rw [lo_up, lo_up, extf_up, extf_up, heads_up, heads_up, eighths, mulf_up3, dot_up, zeros, maximumf_up3, absf_up3, negf_up3, exp_up3, ones, addf_up3, log_up3, addf_up3, negf_up3, mask_up]
  refine congrArg up3 (funext fun h => funext fun r => funext fun s => ?_)
  simp only [lg, sc, ell, zero_sub]

theorem cin_real (Q KV : ℕ → ℕ → ℝ) (p : Fin 2) (h : Fin 4) (r : Fin 16384) (j : Fin 64) :
    cinV (up Q) (up KV) (ix4 p h r j) = ((CIN Q KV p.val h.val r.val j.val : ℝ) : EReal) := by
  unfold cinV sumsV
  rw [logs_eq, sums_up _ _ cst_zero, zeros1, shift_up, right_up3 _ _ _ init_zero]
  pointwise
  rw [up3_at]
  dsimp only
  rw [Nat.mul_comm]
  rfl

variable (m : (ℓ : Loc nD τ sig) → Buf (Elt Ideal) ℓ) (c : Dev nD)

theorem bit_at (i q : Fin 256) : FloatOps.uitofp (F := Ideal) .bf16 (IntOp.cmpi .sge (BitVec.ofNat 32 i.val) (BitVec.ofNat 32 q.val)) = ((below i.val q.val : ℝ) : EReal) := by
  have hi : ∀ m : Fin 256, (BitVec.ofNat 32 m.val).toInt = (m.val : ℤ) := fun m => by
    rw [BitVec.toInt_eq_toNat_cond, BitVec.toNat_ofNat, Nat.mod_eq_of_lt (by omega), if_pos (by omega)]
  have hs : (BitVec.ofNat 32 q.val).sle (BitVec.ofNat 32 i.val) = decide (q.val ≤ i.val) := by
    rw [BitVec.sle, hi, hi]
    exact decide_eq_decide.mpr (by omega)
  have e : IntOp.cmpi .sge (BitVec.ofNat 32 i.val) (BitVec.ofNat 32 q.val) = if q.val ≤ i.val then 1#1 else 0#1 := by
    unfold IntOp.cmpi
    rw [hs]
    by_cases h : q.val ≤ i.val <;> simp [h]
  rw [e]
  show (((if q.val ≤ i.val then 1#1 else 0#1 : BitVec 1).toNat : ℝ) : EReal) = _
  unfold below
  by_cases h : q.val ≤ i.val <;> simp [h]

theorem one_eq : V m c main_v40 = (up below : FVec Ideal S256x256 .bf16) := by
  simp only [V, hostOps0, hostOps0_1, hostOps0_2, hostOps0_3, hostOps0_4, List.flatten_cons, List.flatten_nil, List.append_nil, List.cons_append, List.nil_append,
    StableHlo.after_cons, StableHlo.after_nil]
  after_results_simp
  refine eq_up fun i q => ?_
  pointwise
  exact bit_at i q
theorem oneT_eq : V m c main_v41 = (up above : FVec Ideal S256x256 .bf16) := by
  simp only [V, hostOps0, hostOps0_1, hostOps0_2, hostOps0_3, hostOps0_4, List.flatten_cons, List.flatten_nil, List.append_nil, List.cons_append, List.nil_append,
    StableHlo.after_cons, StableHlo.after_nil]
  after_results_simp
  refine eq_up fun i q => ?_
  pointwise
  exact bit_at q i

theorem cin_eq (Q KV : ℕ → ℕ → ℝ) (p : Fin 2) (h : Fin 4) (r : Fin 16384) (j : Fin 64)
    (h0 : m ((c.tc : Thread nD τ).loc main_arg0) = (up Q : FVec Ideal S16384x1024 .bf16))
    (h1 : m ((c.tc : Thread nD τ).loc main_arg1) = (up KV : FVec Ideal S16384x1024 .bf16)) :
    V m c main_v36 (ix4 p h r j) = ((CIN Q KV p.val h.val r.val j.val : ℝ) : EReal) := by
  have e : V m c main_v36 = cinV (m ((c.tc : Thread nD τ).loc main_arg0)) (m ((c.tc : Thread nD τ).loc main_arg1)) := by
    simp only [V, hostOps0, hostOps0_1, hostOps0_2, hostOps0_3, hostOps0_4, List.flatten_cons, List.flatten_nil, List.append_nil, List.cons_append, List.nil_append,
      StableHlo.after_cons, StableHlo.after_nil, StableHlo.TRef.binary, StableHlo.TRef.nullary, StableHlo.TRef.ternary, StableHlo.TRef.unary, StableHlo.TRef.toBuf, StableHlo.TRef.ofBuf, cast_eq]
    after_results_simp
    after_results_loop
    simp only [id_eq]
    rfl
  rw [e, h0, h1]
  exact cin_real Q KV p h r j

end Cert.Attn.Before
end
-- ==== Proof.Attn.Host.lean ====
/- What the attention kernel's region finds, in the real numbers: its blocks of the arguments, the masks, and the sums of the
   logarithms over the blocks to the right. -/
module

public import proofs.«01_k».proof.Proof.Attn.Before

@[expose] public section

set_option maxRecDepth 16384

noncomputable section

namespace Cert.Attn.Blocks

open Idealize.ShloMosaic Idealize.ShloMosaic.TcCoe Idealize.SL.Sem
open Cert.AttentionIdeal Cert.AttentionIdeal.Gen
open Finset (range)

variable (m : (ℓ : Loc nD τ sig) → Buf (Elt Ideal) ℓ) (c : Dev nD)

/-! ## The blocks -/

theorem N_lt (t : Fin grid0.N) : t.val < 128 := t.isLt

theorem idx : ∀ t : Fin grid0.N, cc0_transform_0 (grid0.coords t) = ![t.val % 64, t.val / 64] ∧ cc0_transform_2 (grid0.coords t) = ![t.val / 64, 0, t.val % 64, 0]
    ∧ cc0_transform_3 (grid0.coords t) = ![t.val % 64, t.val / 64] ∧ cc0_transform_4 (grid0.coords t) = ![0, 0] ∧ cc0_transform_5 (grid0.coords t) = ![0, 0]
    ∧ cc0_transform_6 (grid0.coords t) = ![t.val % 64, t.val / 64] := by
  decide +kernel

abbrev row (t : Fin grid0.N) (i : Fin 256) : Fin 16384 := ⟨256 * (t.val % 64) + i.val, by omega⟩

theorem q_at (t : Fin grid0.N) (i q : Fin 256) :
    iblk m (ok m) c 0 t (ix2 i q) = V m c main_arg0 (ix2 (row t i) ⟨256 * (t.val / 64) + q.val, by have := N_lt t; omega⟩) := by
  unfold iblk
  refine congrArg (V m c main_arg0) (funext fun a => Fin.ext ?_)
  match a with
  | ⟨0, _⟩ => show cc0_transform_0 (grid0.coords t) 0 * 256 + 1 * i.val = 256 * (t.val % 64) + i.val; rw [(idx t).1]; show t.val % 64 * 256 + 1 * i.val = _; omega
  | ⟨1, _⟩ => show cc0_transform_0 (grid0.coords t) 1 * 256 + 1 * q.val = 256 * (t.val / 64) + q.val; rw [(idx t).1]; show t.val / 64 * 256 + 1 * q.val = _; omega

theorem ct_at (t : Fin grid0.N) (i q : Fin 256) :
    iblk m (ok m) c 2 t (ix2 i q) = V m c main_arg2 (ix2 (row t i) ⟨256 * (t.val / 64) + q.val, by have := N_lt t; omega⟩) := by
  unfold iblk
  refine congrArg (V m c main_arg2) (funext fun a => Fin.ext ?_)
  match a with
  | ⟨0, _⟩ => show cc0_transform_3 (grid0.coords t) 0 * 256 + 1 * i.val = 256 * (t.val % 64) + i.val; rw [(idx t).2.2.1]; show t.val % 64 * 256 + 1 * i.val = _; omega
  | ⟨1, _⟩ => show cc0_transform_3 (grid0.coords t) 1 * 256 + 1 * q.val = 256 * (t.val / 64) + q.val; rw [(idx t).2.2.1]; show t.val / 64 * 256 + 1 * q.val = _; omega

theorem cin_read (t : Fin grid0.N) (h : Fin 4) (i : Fin 256) (q : Fin 64) (A : (⟨S2x4x16384x64, .f32⟩ : BufTy).Contents (Elt Ideal)) :
    (((cfgM m (ok m)).win 1).blk t).view.read (Elt Ideal) A (ix4 0 h i q) = A (ix4 ⟨t.val / 64, by have := N_lt t; omega⟩ h (row t i) q) := by
  refine congrArg A (funext fun a => Fin.ext ?_)
  match a with
  | ⟨0, _⟩ => show cc0_transform_2 (grid0.coords t) 0 * 1 + 1 * 0 = t.val / 64; rw [(idx t).2.1]; show t.val / 64 * 1 + 1 * 0 = _; omega
  | ⟨1, _⟩ => show cc0_transform_2 (grid0.coords t) 1 * 4 + 1 * h.val = h.val; rw [(idx t).2.1]; show 0 * 4 + 1 * h.val = _; omega
  | ⟨2, _⟩ => show cc0_transform_2 (grid0.coords t) 2 * 256 + 1 * i.val = 256 * (t.val % 64) + i.val; rw [(idx t).2.1]; show t.val % 64 * 256 + 1 * i.val = _; omega
  | ⟨3, _⟩ => show cc0_transform_2 (grid0.coords t) 3 * 64 + 1 * q.val = q.val; rw [(idx t).2.1]; show 0 * 64 + 1 * q.val = _; omega

theorem cin_at (t : Fin grid0.N) (h : Fin 4) (i : Fin 256) (q : Fin 64) :
    iblk m (ok m) c 1 t (ix4 0 h i q) = V m c main_v36 (ix4 ⟨t.val / 64, by have := N_lt t; omega⟩ h (row t i) q) := by
  unfold iblk
  exact cin_read m t h i q (V m c main_v36)

theorem one_at (t : Fin grid0.N) (i q : Fin 256) : iblk m (ok m) c 3 t (ix2 i q) = V m c main_v40 (ix2 i q) := by
  unfold iblk
  refine congrArg (V m c main_v40) (funext fun a => Fin.ext ?_)
  match a with
  | ⟨0, _⟩ => show cc0_transform_4 (grid0.coords t) 0 * 256 + 1 * i.val = i.val; rw [(idx t).2.2.2.1]; show 0 * 256 + 1 * i.val = _; omega
  | ⟨1, _⟩ => show cc0_transform_4 (grid0.coords t) 1 * 256 + 1 * q.val = q.val; rw [(idx t).2.2.2.1]; show 0 * 256 + 1 * q.val = _; omega

theorem oneT_at (t : Fin grid0.N) (i q : Fin 256) : iblk m (ok m) c 4 t (ix2 i q) = V m c main_v41 (ix2 i q) := by
  unfold iblk
  refine congrArg (V m c main_v41) (funext fun a => Fin.ext ?_)
  match a with
  | ⟨0, _⟩ => show cc0_transform_5 (grid0.coords t) 0 * 256 + 1 * i.val = i.val; rw [(idx t).2.2.2.2.1]; show 0 * 256 + 1 * i.val = _; omega
  | ⟨1, _⟩ => show cc0_transform_5 (grid0.coords t) 1 * 256 + 1 * q.val = q.val; rw [(idx t).2.2.2.2.1]; show 0 * 256 + 1 * q.val = _; omega

section
variable {m c} {Q KV D : ℕ → ℕ → ℝ}
  (h0 : m ((c.tc : Thread nD τ).loc main_arg0) = (up Q : FVec Ideal S16384x1024 .bf16))
  (h1 : m ((c.tc : Thread nD τ).loc main_arg1) = (up KV : FVec Ideal S16384x1024 .bf16))
  (h2 : m ((c.tc : Thread nD τ).loc main_arg2) = (up D : FVec Ideal S16384x512 .f32))

include h0 in
theorem q_up (t : Fin grid0.N) : (ins m (ok m) c t).q = (up (bQ Q (t.val / 64) (t.val % 64)) : FVec Ideal S256x256 .bf16) :=
  eq_up fun i q => (q_at m c t i q).trans (congrFun ((V_main_arg0 m c).trans h0) _)
include h2 in
theorem ct_up (t : Fin grid0.N) : (ins m (ok m) c t).ct = (up (bQ D (t.val / 64) (t.val % 64)) : FVec Ideal S256x256 .f32) :=
  eq_up fun i q => (ct_at m c t i q).trans (congrFun ((V_main_arg2 m c).trans h2) _)
theorem one_up (t : Fin grid0.N) : (ins m (ok m) c t).one = (up below : FVec Ideal S256x256 .bf16) :=
  eq_up fun i q => (one_at m c t i q).trans (congrFun (Before.one_eq m c) _)
theorem oneT_up (t : Fin grid0.N) : (ins m (ok m) c t).oneT = (up above : FVec Ideal S256x256 .bf16) :=
  eq_up fun i q => (oneT_at m c t i q).trans (congrFun (Before.oneT_eq m c) _)
include h0 h1 in
theorem cin_up (t : Fin grid0.N) (h : Fin 4) (i : Fin 256) (q : Fin 64) :
    (ins m (ok m) c t).cin (ix4 0 h i q) = ((bC (Before.CIN Q KV) (t.val / 64) (t.val % 64) h.val i.val q.val : ℝ) : EReal) :=
  (cin_at m c t h i q).trans (Before.cin_eq m c Q KV _ h _ q h0 h1)

include h0 h1 h2 in
/-- The region's buffers hold real numbers where the arguments do. -/
theorem inputs : Inputs m (ok m) c Q D KV (Before.CIN Q KV) :=
  ⟨fun t => ⟨q_up h0 t, ct_up h2 t, one_up t, oneT_up t, cin_up h0 h1 t⟩, (V_main_arg1 m c).trans h1⟩
end

/-- The first result, block by block. -/
theorem dq_at {Q KV D : ℕ → ℕ → ℝ}
    (h0 : m ((c.tc : Thread nD τ).loc main_arg0) = (up Q : FVec Ideal S16384x1024 .bf16))
    (h1 : m ((c.tc : Thread nD τ).loc main_arg1) = (up KV : FVec Ideal S16384x1024 .bf16))
    (h2 : m ((c.tc : Thread nD τ).loc main_arg2) = (up D : FVec Ideal S16384x512 .f32)) :
    (dats m (ok m) (hyps m) 0 c).arrAt 5 (cfgM m (ok m)).N
      = (up fun r q => gQ Q D KV (Before.CIN Q KV) (q / 256) (r / 256) (r % 256) (q % 256) : FVec Ideal S16384x512 .bf16) := by
  have I := inputs h0 h1 h2
  have emb : ∀ (t : Fin grid0.N) (i q : Fin 256), (((cfgM m (ok m)).win 5).blk t).view.emb (ix2 i q)
      = (ix2 (row t i) (⟨256 * (t.val / 64) + q.val, by have := N_lt t; omega⟩ : Fin 512) : S16384x512.Idx) := fun t i q => by
    refine funext fun a => Fin.ext ?_
    match a with
    | ⟨0, _⟩ => show cc0_transform_6 (grid0.coords t) 0 * 256 + 1 * i.val = 256 * (t.val % 64) + i.val; rw [(idx t).2.2.2.2.2]; show t.val % 64 * 256 + 1 * i.val = _; omega
    | ⟨1, _⟩ => show cc0_transform_6 (grid0.coords t) 1 * 256 + 1 * q.val = 256 * (t.val / 64) + q.val; rw [(idx t).2.2.2.2.2]; show t.val / 64 * 256 + 1 * q.val = _; omega
  refine (dats m (ok m) (hyps m) 0 c).arrAt_eq_of_emb 5 _ (fun t hf y => ?_) fun j => ?_
  · obtain ⟨i, q, rfl⟩ : ∃ i q : Fin 256, y = ix2 i q := (fun y : S256x256.Idx => ⟨y 0, y 1, eq_ix2 y⟩ : ∀ y : S256x256.Idx, ∃ i q : Fin 256, y = ix2 i q) y
    rw [emb t i q]
    refine (congrFun (block_up (hyps m) I t) (ix2 i q)).trans ?_
    have hi := i.isLt
    have hq := q.isLt
    show ((gQ Q D KV (Before.CIN Q KV) (t.val / 64) (t.val % 64) i.val q.val : ℝ) : EReal)
      = ((gQ Q D KV (Before.CIN Q KV) ((256 * (t.val / 64) + q.val) / 256) ((256 * (t.val % 64) + i.val) / 256) ((256 * (t.val % 64) + i.val) % 256)
        ((256 * (t.val / 64) + q.val) % 256) : ℝ) : EReal)
    rw [show (256 * (t.val / 64) + q.val) / 256 = t.val / 64 by omega, show (256 * (t.val % 64) + i.val) / 256 = t.val % 64 by omega,
      show (256 * (t.val % 64) + i.val) % 256 = i.val by omega, show (256 * (t.val / 64) + q.val) % 256 = q.val by omega]
  · obtain ⟨r, q, rfl⟩ : ∃ (r : Fin 16384) (q : Fin 512), j = ix2 r q := (fun y : S16384x512.Idx => ⟨y 0, y 1, eq_ix2 y⟩ : ∀ y : S16384x512.Idx, ∃ (r : Fin 16384) (q : Fin 512), y = ix2 r q) j
    have hr := r.isLt
    have hq := q.isLt
    refine ⟨(⟨64 * (q.val / 256) + r.val / 256, by show _ < 128; omega⟩ : Fin grid0.N), flush0_5 _ _, ?_⟩
    have e := emb ⟨64 * (q.val / 256) + r.val / 256, by show _ < 128; omega⟩ ⟨r.val % 256, by omega⟩ ⟨q.val % 256, by omega⟩
    have e' : (ix2 r q : S16384x512.Idx) = _ := (congrArg₂ ix2 (Fin.ext (by show r.val = 256 * ((64 * (q.val / 256) + r.val / 256) % 64) + r.val % 256; omega))
      (Fin.ext (by show q.val = 256 * ((64 * (q.val / 256) + r.val / 256) / 64) + q.val % 256; omega))).trans e.symm
    rw [e']
    exact View.emb_mem_set _ _

end Cert.Attn.Blocks
end
-- ==== Proof.Attn.Ref.lean ====
/- The reference's results, in the real numbers. -/
module

public import proofs.«01_k».proof.Proof.Attn.Lift3
public import proofs.«01_k».proof.Proof.Attn.Real
public import proofs.«01_k».proof.Proof.Gen.AttentionRefIdeal.Run

@[expose] public section

set_option maxRecDepth 16384

noncomputable section

namespace Cert.Attn.Ref

open Idealize.ShloMosaic Idealize.ShloMosaic.TcCoe Idealize.SL.Sem
open Cert.AttentionRefIdeal Cert.AttentionRefIdeal.Gen
open Finset (range)

section
variable (f g : ℕ → ℕ → ℕ → ℝ) (u : ℕ → ℕ → ℝ)

theorem dot_tt (f g : ℕ → ℕ → ℕ → ℝ) : Host.dotGeneral dot_S8x16384x64_S8x16384x64_S8x16384x16384_2_2_1_1_0_0 none
    (up3 f : FVec Ideal S8x16384x64 .f32) (up3 g : FVec Ideal S8x16384x64 .f32)
      = (up3 fun h r s => ∑ d ∈ range 64, f h r d * g h s d : FVec Ideal S8x16384x16384 .f32) := by
  refine eq_up3 fun h r s => ?_
  pointwise
  simp only [up3_at, coe_sum, EReal.coe_mul]
theorem dot_nn (f g : ℕ → ℕ → ℕ → ℝ) : Host.dotGeneral dot_S8x16384x16384_S8x16384x64_S8x16384x64_2_1_1_2_0_0 none
    (up3 f : FVec Ideal S8x16384x16384 .f32) (up3 g : FVec Ideal S8x16384x64 .f32)
      = (up3 fun h r d => ∑ s ∈ range 16384, f h r s * g h s d : FVec Ideal S8x16384x64 .f32) := by
  refine eq_up3 fun h r s => ?_
  pointwise
  simp only [up3_at, coe_sum, EReal.coe_mul]
theorem dot_tn (f g : ℕ → ℕ → ℕ → ℝ) : Host.dotGeneral dot_S8x16384x16384_S8x16384x64_S8x16384x64_1_1_2_2_0_0 none
    (up3 f : FVec Ideal S8x16384x16384 .f32) (up3 g : FVec Ideal S8x16384x64 .f32)
      = (up3 fun h s d => ∑ r ∈ range 16384, f h r s * g h r d : FVec Ideal S8x16384x64 .f32) := by
  refine eq_up3 fun h r s => ?_
  pointwise
  simp only [up3_at, coe_sum, EReal.coe_mul]
theorem dot_dn (f g : ℕ → ℕ → ℕ → ℝ) : Host.dotGeneral dot_S8x16384x64_S8x16384x16384_S8x64x16384_1_1_2_2_0_0 none
    (up3 f : FVec Ideal S8x16384x64 .f32) (up3 g : FVec Ideal S8x16384x16384 .f32)
      = (up3 fun h d s => ∑ r ∈ range 16384, f h r d * g h r s : FVec Ideal S8x64x16384 .f32) := by
  refine eq_up3 fun h r s => ?_
  pointwise
  simp only [up3_at, coe_sum, EReal.coe_mul]

/-- The rows split into heads, and joined again. -/
theorem heads_up (h1 h2) : transpose S8x16384x64 [1, 0, 2] (shapeCast S16384x8x64 (up u : FVec Ideal S16384x512 .f32) h1 : FVec Ideal S16384x8x64 .f32) h2
    = (up3 fun h r d => u r (64 * h + d) : FVec Ideal S8x16384x64 .f32) := by
  refine eq_up3 fun h r d => ?_
  pointwise
  rw [up_at]
  dsimp only
  rw [show h.val * 64 + d.val = 64 * h.val + d.val by omega]
theorem rows_up (h1 h2) : shapeCast S16384x512 (transpose S16384x8x64 [1, 0, 2] (up3 f : FVec Ideal S8x16384x64 .f32) h1 : FVec Ideal S16384x8x64 .f32) h2
    = (up fun r c => f (c / 64) r (c % 64) : FVec Ideal S16384x512 .f32) := by
  refine eq_up fun r c => ?_
  pointwise
  show ((f _ _ _ : ℝ) : EReal) = _
  congr 2 <;> (try dsimp only) <;> omega
theorem turn_up (h1) : transpose S8x16384x64 [0, 2, 1] (up3 f : FVec Ideal S8x64x16384 .f32) h1
    = (up3 fun h r d => f h d r : FVec Ideal S8x16384x64 .f32) := by
  refine eq_up3 fun h r d => ?_
  pointwise
  rfl
theorem lo_up {φ : FTy} (h) : extractStridedSlice S16384x512 ![0, 0] (up u : FVec Ideal S16384x1024 φ) h = (up u : FVec Ideal S16384x512 φ) := by
  refine eq_up fun r c => ?_
  pointwise
  rfl
theorem hi_up {φ : FTy} (h) : extractStridedSlice S16384x512 ![0, 512] (up u : FVec Ideal S16384x1024 φ) h = (up fun r c => u r (512 + c) : FVec Ideal S16384x512 φ) := by
  refine eq_up fun r c => ?_
  pointwise
  show ((u _ _ : ℝ) : EReal) = _
  congr 2 <;> (try dsimp only) <;> omega
theorem pad_left (v h1 h2) (hv : ∀ j, v j = (0 : EReal)) : pad S16384x1024 ![0, 512] ![0, 0] ![0, 0] (up u : FVec Ideal S16384x512 .f32) (v : FVec Ideal S_ .f32) h1 h2
    = (up fun r c => if c < 512 then 0 else u r (c - 512) : FVec Ideal S16384x1024 .f32) := by
  refine eq_up fun r c => ?_
  pointwise
  by_cases h : c.val < 512
  · rw [dif_neg (by omega), if_pos h, hv]; rfl
  · rw [dif_pos (by omega), if_neg h]; rfl
theorem pad_right (v h1 h2) (hv : ∀ j, v j = (0 : EReal)) : pad S16384x1024 ![0, 0] ![0, 512] ![0, 0] (up u : FVec Ideal S16384x512 .f32) (v : FVec Ideal S_ .f32) h1 h2
    = (up fun r c => if c < 512 then u r c else 0 : FVec Ideal S16384x1024 .f32) := by
  refine eq_up fun r c => ?_
  pointwise
  by_cases h : c.val < 512
  · rw [dif_pos h, if_pos h]; rfl
  · rw [dif_neg h, if_neg h, hv]; rfl
end

/-- The keys to the left of each query. -/
abbrev mask : IVec S8x16384x16384 1 := broadcastInDim S8x16384x16384 ![1, 2] bcast_S16384x16384_S8x16384x16384_1_2
  (cmpi .slt (broadcastInDim S16384x16384 ![0, 1] bcast_S1x16384_S16384x16384_0_1 (broadcastInDim S1x16384 ![1] bcast_S16384_S1x16384_1 (iotaInDim S16384 32 0)))
    (broadcastInDim S16384x16384 ![0, 1] bcast_S16384x1_S16384x16384_0_1 (broadcastInDim S16384x1 ![0] bcast_S16384_S16384x1_0 (iotaInDim S16384 32 0))))

theorem mask_at {α : Type} (a b : S8x16384x16384.Idx → α) (h : Fin 8) (r s : Fin 16384) :
    select mask a b (ix3 h r s) = if s.val < r.val then a (ix3 h r s) else b (ix3 h r s) := by
  have e : mask (ix3 h r s) = if s.val < r.val then 1#1 else 0#1 := by
    pointwise [mask]
    exact Common.cmpi_slt_ofNat _ _ (by omega) (by omega)
  show Scalar.select (mask (ix3 h r s)) _ _ = _
  rw [e]
  by_cases hh : s.val < r.val <;> simp [hh, Scalar.select]

theorem zeros : (broadcastInDim S8x16384x16384 ![] bcast_S_S8x16384x16384 (constant S_ .f32 0x00000000#32 : FVec Ideal S_ .f32)) = (up3 fun _ _ _ => 0 : FVec Ideal S8x16384x16384 .f32) := by
  refine eq_up3 fun h r s => ?_
  show Ideal.ofBits .f32 0x00000000#32 = ((0 : ℝ) : EReal)
  simp
theorem eighths : (broadcastInDim S8x16384x16384 ![] bcast_S_S8x16384x16384 (constant S_ .f32 0x3E000000#32 : FVec Ideal S_ .f32)) = (up3 fun _ _ _ => 1 / 8 : FVec Ideal S8x16384x16384 .f32) := by
  refine eq_up3 fun h r s => ?_
  show Ideal.ofBits .f32 0x3E000000#32 = ((1 / 8 : ℝ) : EReal)
  simp [Ideal.ofBits, Ideal.ieee, -EReal.coe_mul]; norm_num
theorem infs (i) : (broadcastInDim S8x16384x16384 ![] bcast_S_S8x16384x16384 (constant S_ .f32 0x7F800000#32 : FVec Ideal S_ .f32)) i = (⊤ : EReal) := by
  show Ideal.ofBits .f32 0x7F800000#32 = ⊤
  simp [Ideal.ofBits, Ideal.ieee]

theorem mask_up (f g : ℕ → ℕ → ℕ → ℝ) : select mask (up3 f : FVec Ideal S8x16384x16384 .f32) (up3 g)
    = up3 fun h r s => if s < r then f h r s else g h r s := by
  refine eq_up3 fun h r s => ?_
  rw [mask_at]
  split <;> rfl
theorem mask_exp (f : ℕ → ℕ → ℕ → ℝ) : Host.exp (select mask (up3 f : FVec Ideal S8x16384x16384 .f32)
      (broadcastInDim S8x16384x16384 ![] bcast_S_S8x16384x16384 (constant S_ .f32 0xFF800000#32 : FVec Ideal S_ .f32)))
    = up3 fun h r s => if s < r then Real.exp (f h r s) else 0 := by
  refine eq_up3 fun h r s => ?_
  show Ideal.exp (select mask _ _ (ix3 h r s)) = _
  rw [mask_at]
  split
  · rfl
  · show Ideal.exp (Ideal.ofBits .f32 0xFF800000#32) = _
    simp [Ideal.ofBits, Ideal.ieee]

theorem init_zero (j) : (broadcastInDim S_ ![] bcast_S_S_ (constant S_ .f32 0x00000000#32 : FVec Ideal S_ .f32)) j = (0 : EReal) := by
  show Ideal.ofBits .f32 0x00000000#32 = 0
  simp
theorem cst_zero (j) : (constant S_ .f32 0x00000000#32 : FVec Ideal S_ .f32) j = (0 : EReal) := by
  show Ideal.ofBits .f32 0x00000000#32 = 0
  simp
theorem extf_up {n k : ℕ} (u : ℕ → ℕ → ℝ) (h) : extf .f32 (up u : FVec Ideal ⟨2, ![n, k]⟩ .bf16) h = up u := rfl
theorem softplus (x : ℝ) : -(max x 0 + Real.log (1 + Real.exp (-|x|))) = ell x := by simp [ell]
theorem sub_softplus (x : ℝ) : x - (max x 0 + Real.log (1 + Real.exp (-|x|))) = x + ell x := by rw [← softplus, sub_eq_add_neg]

/-! ## The results -/

section
variable (Q KV D : ℕ → ℕ → ℝ) (h r s : ℕ)

/-- The scores, the logarithms, their sums to the right, the weights, and the gradients backwards through them. -/
def z : ℝ := (∑ d ∈ range 64, Q r (64 * h + d) * KV s (64 * h + d)) * (1 / 8)
def R : ℝ := ∑ t ∈ range 16384, if s ≤ t then (if t < r then ell (z Q KV h r t) else 0) else 0
def w : ℝ := if s < r then Real.exp (z Q KV h r s + R Q KV h r s) else 0
def g : ℝ := if s < r then (∑ d ∈ range 64, D r (64 * h + d) * KV s (512 + (64 * h + d))) * w Q KV h r s else 0
def P : ℝ := ∑ t ∈ range 16384, if t ≤ s then g Q KV D h r t else 0
def dz : ℝ := g Q KV D h r s - (if s < r then P Q KV D h r s else 0) * Real.exp (z Q KV h r s + ell (z Q KV h r s))
def dq (r c : ℕ) : ℝ := ∑ s ∈ range 16384, dz Q KV D (c / 64) r s * (1 / 8) * KV s (64 * (c / 64) + c % 64)
def dk (s c : ℕ) : ℝ := ∑ r ∈ range 16384, dz Q KV D (c / 64) r s * (1 / 8) * Q r (64 * (c / 64) + c % 64)
def dv (s c : ℕ) : ℝ := ∑ r ∈ range 16384, D r (64 * (c / 64) + c % 64) * w Q KV (c / 64) r s
end

section
variable (f e l : ℕ → ℕ → ℕ → ℝ) (Q KV D : ℕ → ℕ → ℝ)

abbrev zeroT : FVec Ideal S8x16384x16384 .f32 := broadcastInDim S8x16384x16384 ![] bcast_S_S8x16384x16384 (constant S_ .f32 0x00000000#32 : FVec Ideal S_ .f32)

theorem logadd : select (cmpf .une (subf (up3 f : FVec Ideal S8x16384x16384 .f32) zeroT) (subf (up3 f) zeroT)) (addf (up3 f) zeroT)
      (addf (maximumf (up3 f) zeroT) (Host.log1p (Host.exp (Host.negf (Host.absf (subf (up3 f) zeroT))))))
    = up3 fun h r s => -ell (f h r s) := by
  rw [zeroT, zeros, subf_up3, une_up3, maximumf_up3, absf_up3, negf_up3, exp_up3, log1p_up3, addf_up3]
  refine congrArg up3 (funext fun h => funext fun r => funext fun s => ?_)
  rw [← softplus, neg_neg, sub_zero]

/-- The logarithm of the weight that a key leaves. -/
theorem logs : Host.negf (select (cmpf .une (subf (Host.negf (Host.negf (up3 f : FVec Ideal S8x16384x16384 .f32))) zeroT) (subf (Host.negf (Host.negf (up3 f))) zeroT)) (addf (Host.negf (Host.negf (up3 f))) zeroT)
      (addf (maximumf (Host.negf (Host.negf (up3 f))) zeroT) (Host.log1p (Host.exp (Host.negf (Host.absf (subf (Host.negf (Host.negf (up3 f))) zeroT)))))))
    = up3 fun h r s => ell (f h r s) := by
  rw [negf_up3, negf_up3, logadd, negf_up3]
  simp only [neg_neg]

/-- Its derivative. -/
theorem dlogs (x y : FVec Ideal S8x16384x16384 .f32) : Host.exp (subf (select (cmpf .oeq (Host.negf (Host.negf (up3 f : FVec Ideal S8x16384x16384 .f32)))
        (broadcastInDim S8x16384x16384 ![] bcast_S_S8x16384x16384 (constant S_ .f32 0x7F800000#32 : FVec Ideal S_ .f32))) x (Host.negf (Host.negf (up3 f))))
      (select (cmpf .oeq (select (cmpf .une (subf (Host.negf (Host.negf (up3 f : FVec Ideal S8x16384x16384 .f32))) zeroT) (subf (Host.negf (Host.negf (up3 f))) zeroT)) (addf (Host.negf (Host.negf (up3 f))) zeroT)
      (addf (maximumf (Host.negf (Host.negf (up3 f))) zeroT) (Host.log1p (Host.exp (Host.negf (Host.absf (subf (Host.negf (Host.negf (up3 f))) zeroT)))))))
        (broadcastInDim S8x16384x16384 ![] bcast_S_S8x16384x16384 (constant S_ .f32 0x7F800000#32 : FVec Ideal S_ .f32))) y
      (select (cmpf .une (subf (Host.negf (Host.negf (up3 f : FVec Ideal S8x16384x16384 .f32))) zeroT) (subf (Host.negf (Host.negf (up3 f))) zeroT)) (addf (Host.negf (Host.negf (up3 f))) zeroT)
      (addf (maximumf (Host.negf (Host.negf (up3 f))) zeroT) (Host.log1p (Host.exp (Host.negf (Host.absf (subf (Host.negf (Host.negf (up3 f))) zeroT)))))))))
    = up3 fun h r s => Real.exp (f h r s + ell (f h r s)) := by
  rw [negf_up3, negf_up3, logadd, oeq_up3 _ _ infs, oeq_up3 _ _ infs, subf_up3, exp_up3]
  simp only [neg_neg, sub_neg_eq_add]

/-- The scores. -/
theorem scores : mulf (Host.dotGeneral dot_S8x16384x64_S8x16384x64_S8x16384x16384_2_2_1_1_0_0 none
      (transpose S8x16384x64 [1, 0, 2] (shapeCast S16384x8x64 (extf .f32 (extractStridedSlice S16384x512 ![0, 0] (up Q : FVec Ideal S16384x1024 .bf16) slices_S16384x1024_S16384x512_0_0) bitsLt_bf16_f32) shapeCasts_S16384x512_S16384x8x64) transposes_S16384x8x64_S8x16384x64_1_0_2)
      (transpose S8x16384x64 [1, 0, 2] (shapeCast S16384x8x64 (extractStridedSlice S16384x512 ![0, 0] (extf .f32 (up KV : FVec Ideal S16384x1024 .bf16) bitsLt_bf16_f32) slices_S16384x1024_S16384x512_0_0) shapeCasts_S16384x512_S16384x8x64) transposes_S16384x8x64_S8x16384x64_1_0_2))
      (broadcastInDim S8x16384x16384 ![] bcast_S_S8x16384x16384 (constant S_ .f32 0x3E000000#32 : FVec Ideal S_ .f32))
    = up3 (z Q KV) := by
  rw [extf_up, lo_up, lo_up, extf_up, heads_up, heads_up, dot_tt, eighths, mulf_up3]
  rfl
/-- The weights' gradients. -/
theorem gains : Host.dotGeneral dot_S8x16384x64_S8x16384x64_S8x16384x16384_2_2_1_1_0_0 none
      (transpose S8x16384x64 [1, 0, 2] (shapeCast S16384x8x64 (up D : FVec Ideal S16384x512 .f32) shapeCasts_S16384x512_S16384x8x64) transposes_S16384x8x64_S8x16384x64_1_0_2)
      (transpose S8x16384x64 [1, 0, 2] (shapeCast S16384x8x64 (extractStridedSlice S16384x512 ![0, 512] (extf .f32 (up KV : FVec Ideal S16384x1024 .bf16) bitsLt_bf16_f32) slices_S16384x1024_S16384x512_0_512) shapeCasts_S16384x512_S16384x8x64) transposes_S16384x8x64_S8x16384x64_1_0_2)
    = up3 fun h r s => ∑ d ∈ range 64, D r (64 * h + d) * KV s (512 + (64 * h + d)) := by
  rw [extf_up, hi_up, heads_up, heads_up, dot_tt]
end

variable (m : (ℓ : Loc nD τ sig) → Buf (Elt Ideal) ℓ) (c : Dev nD) {Q KV D : ℕ → ℕ → ℝ}
  (h0 : m ((c.tc : Thread nD τ).loc main_arg0) = (up Q : FVec Ideal S16384x1024 .bf16))
  (h1 : m ((c.tc : Thread nD τ).loc main_arg1) = (up KV : FVec Ideal S16384x1024 .bf16))
  (h2 : m ((c.tc : Thread nD τ).loc main_arg2) = (up D : FVec Ideal S16384x512 .f32))
include h0 h1 h2

theorem dq_eq : Value.res_main_v56 m c = (up (dq Q KV D) : FVec Ideal S16384x512 .bf16) := by
  unfold Value.res_main_v56
  rw [h0, h1, h2]
  simp only [id_eq]
  rw [scores, dlogs, logs, zeros, mask_up, right_up3 _ _ _ init_zero, addf_up3, mask_exp, gains, mulf_up3,
    mask_up, left_up3 _ _ _ init_zero 16383 0 rfl, mask_up, negf_up3, mulf_up3, negf_up3, negf_up3, addf_up3, eighths, mulf_up3, extf_up, lo_up, heads_up, dot_nn]
  show truncf .bf16 (shapeCast S16384x512 _ shapeCasts_S16384x8x64_S16384x512 : FVec Ideal S16384x512 .f32) bitsLt_bf16_f32 = _
  rw [rows_up, truncf_up]
  refine congrArg up (funext fun r => funext fun q => ?_)
  simp only [neg_neg, neg_mul, ← sub_eq_add_neg]
  rfl
theorem dkv_eq : Value.res_main_v53 m c = (up fun r q => (if q < 512 then 0 else dv Q KV D r (q - 512)) + (if q < 512 then dk Q KV D r q else 0) : FVec Ideal S16384x1024 .f32) := by
  unfold Value.res_main_v53
  rw [h0, h1, h2]
  simp only [id_eq]
  rw [scores, dlogs, logs, zeros, mask_up, right_up3 _ _ _ init_zero, addf_up3, mask_exp, gains, mulf_up3,
    mask_up, left_up3 _ _ _ init_zero 16383 0 rfl, mask_up, negf_up3, mulf_up3, negf_up3, negf_up3, addf_up3, eighths, mulf_up3, lo_up, extf_up, heads_up, heads_up, dot_dn, dot_tn, turn_up, rows_up, rows_up,
    pad_left _ _ _ _ cst_zero, pad_right _ _ _ _ cst_zero, addf_up]
  refine congrArg up (funext fun r => funext fun q => ?_)
  simp only [neg_neg, neg_mul, ← sub_eq_add_neg]
  rfl
end Cert.Attn.Ref
end
-- ==== Proof.Attn.Equal.lean ====
/- The kernel's results in the real numbers are the reference's: the sums over 16384 positions, tile by tile. -/
module

public import proofs.«01_k».proof.Proof.Attn.Host
public import proofs.«01_k».proof.Proof.Attn.Ref

@[expose] public section

set_option maxRecDepth 16384

noncomputable section

namespace Cert.Attn.Equal

open Finset (range)
open Cert.Attn.Before (CIN lg sc)

/-! ## Sums by tiles -/

theorem sum_tiles (f : ℕ → ℝ) (k : ℕ) : ∑ t ∈ range (256 * k), f t = ∑ j ∈ range k, ∑ y ∈ range 256, f (256 * j + y) := by
  induction k with
  | zero => simp
  | succ k ih => rw [Finset.sum_range_succ, ← ih, Nat.mul_succ, Finset.sum_range_add]

/-- What stands before tile `j`, in it, and after it. -/
theorem sum_split (f : ℕ → ℝ) {j : ℕ} (hj : j < 64) : ∑ t ∈ range 16384, f t
    = ∑ t ∈ range (256 * j), f t + ∑ t ∈ range 256, f (256 * j + t) + ∑ t ∈ range (256 * (63 - j)), f (256 * (j + 1) + t) := by
  rw [show 16384 = 256 * j + 256 + 256 * (63 - j) by omega, Finset.sum_range_add, Finset.sum_range_add, show 256 * j + 256 = 256 * (j + 1) by omega]

/-- A sum whose terms after tile `n` vanish. -/
theorem sum_upto (f : ℕ → ℝ) {n : ℕ} (hn : n < 64) (h : ∀ t, 256 * (n + 1) ≤ t → f t = 0) : ∑ t ∈ range 16384, f t
    = ∑ j ∈ range n, ∑ y ∈ range 256, f (256 * j + y) + ∑ t ∈ range 256, f (256 * n + t) := by
  rw [sum_split f hn, sum_tiles, Finset.sum_eq_zero (s := range (256 * (63 - n))) fun t _ => h _ (by omega), add_zero]

section
variable (Q KV D : ℕ → ℕ → ℝ) (p n : ℕ)

/-! ## The kernel's operands -/

abbrev kq : ℕ → ℕ → ℝ := fun i d => bQ Q p n i d * (1 / 8)
abbrev kc : ℕ → ℕ → ℕ → ℝ := bC (CIN Q KV) p n
abbrev kK : ℕ → ℕ → ℝ := cols (256 * p) KV
abbrev kV : ℕ → ℕ → ℝ := cols (512 + 256 * p) KV

theorem col (p h d : ℕ) : 256 * p + (64 * h + d) = 64 * (4 * p + h) + d := by omega

theorem bQ_at (h i d : ℕ) : bQ Q p n i (64 * h + d) = Q (256 * n + i) (64 * (4 * p + h) + d) := by
  rw [← col]; rfl

theorem z_eq (j h i s : ℕ) : zed (kq Q p n) (tile j (kK KV p)) h i s = Ref.z Q KV (4 * p + h) (256 * n + i) (256 * j + s) := by
  unfold zed score hd Ref.z
  rw [Finset.sum_mul]
  refine Finset.sum_congr rfl fun d _ => ?_
  show bQ Q p n i (64 * h + d) * (1 / 8) * KV (256 * j + s) (256 * p + (64 * h + d)) = _
  rw [bQ_at, col]
  ring

theorem sc_eq (h r s : ℕ) : sc Q KV h r s = Ref.z Q KV h r s := by
  unfold sc Ref.z
  rw [Finset.sum_mul]
  exact Finset.sum_congr rfl fun d _ => by ring

/-- The gradient of the weights. -/
abbrev da (h r s : ℕ) : ℝ := ∑ d ∈ range 64, D r (64 * h + d) * KV s (512 + (64 * h + d))

theorem da_eq (j h i s : ℕ) : zed (bQ D p n) (tile j (kV KV p)) h i s = da KV D (4 * p + h) (256 * n + i) (256 * j + s) := by
  unfold zed score hd
  refine Finset.sum_congr rfl fun d _ => ?_
  show bQ D p n i (64 * h + d) * KV (256 * j + s) (512 + 256 * p + (64 * h + d)) = _
  rw [bQ_at, Nat.add_assoc 512, col]

/-! ## The sums to the right -/

theorem cin_tail {j : ℕ} (hj : j < 64) (h r : ℕ) :
    CIN Q KV p h r j = ∑ t ∈ range (256 * (63 - j)), lg Q KV (4 * p + h) r (256 * (j + 1) + t) := by
  rw [sum_tiles]
  unfold CIN
  rw [show range 64 = range (j + (63 - j) + 1) by congr 1; omega, Finset.sum_range_succ, Finset.sum_range_add,
    Finset.sum_eq_zero (s := range j) fun t ht => if_neg (by have := Finset.mem_range.mp ht; omega),
    show j + (63 - j) = 63 by omega, if_pos (by omega), if_neg (by omega), zero_add, add_zero]
  refine Finset.sum_congr rfl fun u hu => ?_
  have hu := Finset.mem_range.mp hu
  rw [if_pos (by omega), if_pos (by omega)]
  refine Finset.sum_congr rfl fun y _ => ?_
  rw [show 256 * (j + u + 1) + y = 256 * (j + 1) + (256 * u + y) by omega]

theorem R_split {j s : ℕ} (hj : j < 64) (hs : s < 256) (h r : ℕ) : Ref.R Q KV (4 * p + h) r (256 * j + s)
    = CIN Q KV p h r j + ∑ t ∈ range 256, lg Q KV (4 * p + h) r (256 * j + t) * (if s ≤ t then 1 else 0) := by
  unfold Ref.R
  rw [sum_split _ hj, Finset.sum_eq_zero (s := range (256 * j)) fun t ht => if_neg (by have := Finset.mem_range.mp ht; omega), zero_add, add_comm, cin_tail Q KV p hj]
  congr 1
  · refine Finset.sum_congr rfl fun t _ => ?_
    rw [if_pos (by omega)]
    unfold lg
    rw [sc_eq]
  · refine Finset.sum_congr rfl fun t _ => ?_
    unfold lg
    rw [sc_eq, mul_ite, mul_one, mul_zero]
    by_cases e : s ≤ t
    · rw [if_pos e, if_pos (by omega)]
    · rw [if_neg e, if_neg (by omega)]

/-- Past the diagonal nothing is summed. -/
theorem cin_zero (hn : n < 64) {i : ℕ} (hi : i < 256) (h : ℕ) : CIN Q KV p h (256 * n + i) n = 0 := by
  rw [cin_tail Q KV p hn]
  exact Finset.sum_eq_zero fun t _ => if_neg (by omega)

/-! ## The weights and their gradients -/

section
variable {Q KV D p n} {j i s : ℕ} (hn : n < 64) (hi : i < 256) (hs : s < 256) (h : ℕ)

include hn hi hs in
theorem w_tile (hj : j < n) : tW (kq Q p n) (tile j (kK KV p)) (fun h i => kc Q KV p n h i j) h i s
    = Ref.w Q KV (4 * p + h) (256 * n + i) (256 * j + s) := by
  unfold Ref.w tW tw
  rw [if_pos (by omega), R_split Q KV p (by omega) hs, z_eq]
  refine congrArg Real.exp (congrArg₂ _ rfl (congrArg₂ _ rfl (Finset.sum_congr rfl fun t ht => ?_)))
  have ht := Finset.mem_range.mp ht
  beta_reduce
  unfold lg
  rw [if_pos (show 256 * j + t < 256 * n + i by omega), sc_eq, z_eq]

include hn hi hs in
theorem w_diag : uW (kq Q p n) (tile n (kK KV p)) h i s = Ref.w Q KV (4 * p + h) (256 * n + i) (256 * n + s) := by
  unfold Ref.w uW dw
  by_cases e : s < i
  · rw [if_pos e, if_pos (by omega), R_split Q KV p hn hs, cin_zero Q KV p n hn hi, zero_add, z_eq]
    refine congrArg Real.exp (congrArg₂ _ rfl (Finset.sum_congr rfl fun t ht => ?_))
    beta_reduce
    unfold lg
    rw [sc_eq, z_eq]
    by_cases e : t < i
    · rw [if_pos e, if_pos (show 256 * n + t < 256 * n + i by omega)]
    · rw [if_neg e, if_neg (show ¬256 * n + t < 256 * n + i by omega)]
  · rw [if_neg e, if_neg (by omega)]

include hn hi hs in
theorem g_tile (hj : j < n) : tG (kq Q p n) (bQ D p n) (tile j (kK KV p)) (tile j (kV KV p)) (fun h i => kc Q KV p n h i j) h i s
    = Ref.g Q KV D (4 * p + h) (256 * n + i) (256 * j + s) := by
  unfold Ref.g
  rw [if_pos (by omega), ← w_tile hn hi hs h hj, mul_comm]
  exact congrArg₂ (· * ·) rfl (da_eq KV D p n j h i s)

include hn hi hs in
theorem g_diag : dg (zed (kq Q p n) (tile n (kK KV p)) h) (zed (bQ D p n) (tile n (kV KV p)) h) i s
    = Ref.g Q KV D (4 * p + h) (256 * n + i) (256 * n + s) := by
  unfold Ref.g dg
  rw [da_eq]
  have e := w_diag (Q := Q) (KV := KV) (p := p) hn hi hs h
  by_cases hsi : s < i
  · rw [if_pos (by omega), ← e, mul_comm]; rfl
  · rw [if_neg (by omega), show dw _ i s = 0 from if_neg hsi, zero_mul]

include hn hi in
/-- The sums to the left that a tile begins with. -/
theorem sum_left (hj : j ≤ n) : sC (kq Q p n) (bQ D p n) (kK KV p) (kV KV p) (kc Q KV p n) j h i
    = ∑ t ∈ range (256 * j), Ref.g Q KV D (4 * p + h) (256 * n + i) t := by
  rw [sum_tiles]
  refine Finset.sum_congr rfl fun k hk => ?_
  have hk := Finset.mem_range.mp hk
  unfold tC headSum
  refine Finset.sum_congr rfl fun t ht => ?_
  have ht := Finset.mem_range.mp ht
  rw [if_pos (show t ≤ 255 by omega), mul_one]
  exact g_tile hn hi ht h (by omega)

theorem P_split (hj : j < 64) (hs : s < 256) (r : ℕ) : Ref.P Q KV D h r (256 * j + s)
    = ∑ t ∈ range (256 * j), Ref.g Q KV D h r t + ∑ t ∈ range 256, Ref.g Q KV D h r (256 * j + t) * (if t ≤ s then 1 else 0) := by
  unfold Ref.P
  rw [sum_split _ hj, Finset.sum_eq_zero (s := range (256 * (63 - j))) fun t _ => if_neg (by omega), add_zero]
  congr 1
  · exact Finset.sum_congr rfl fun t ht => if_pos (by have := Finset.mem_range.mp ht; omega)
  · refine Finset.sum_congr rfl fun t _ => ?_
    rw [mul_ite, mul_one, mul_zero]
    by_cases e : t ≤ s
    · rw [if_pos e, if_pos (by omega)]
    · rw [if_neg e, if_neg (by omega)]

include hn hi hs in
theorem z_tile (hj : j < n) : tZ (kq Q p n) (bQ D p n) (tile j (kK KV p)) (tile j (kV KV p)) (fun h i => kc Q KV p n h i j)
      (sC (kq Q p n) (bQ D p n) (kK KV p) (kV KV p) (kc Q KV p n) j) h i s
    = Ref.dz Q KV D (4 * p + h) (256 * n + i) (256 * j + s) := by
  unfold Ref.dz tZ tdz
  rw [if_pos (by omega), P_split _ (by omega) hs, sum_left hn hi h hj.le, z_eq, mul_comm (Real.exp _)]
  refine congrArg₂ (· - ·) (g_tile hn hi hs h hj) (congrArg₂ (· * ·) (congrArg₂ (· + ·) rfl (Finset.sum_congr rfl fun t ht => ?_)) rfl)
  exact congrArg₂ (· * ·) (g_tile hn hi (Finset.mem_range.mp ht) h hj) rfl

theorem dz_zero {r t : ℕ} (e : r ≤ t) : Ref.dz Q KV D h r t = 0 := by
  unfold Ref.dz Ref.g
  rw [if_neg (by omega), if_neg (by omega), zero_mul, sub_zero]

theorem w_zero {r t : ℕ} (e : r ≤ t) : Ref.w Q KV h r t = 0 := if_neg (by omega)

include hn hi hs in
theorem z_diag : uZ (kq Q p n) (bQ D p n) (tile n (kK KV p)) (tile n (kV KV p))
      (sC (kq Q p n) (bQ D p n) (kK KV p) (kV KV p) (kc Q KV p n) n) h i s
    = Ref.dz Q KV D (4 * p + h) (256 * n + i) (256 * n + s) := by
  by_cases e : s < i
  · unfold Ref.dz uZ ddz
    rw [if_pos e, if_pos e, if_pos (by omega), P_split _ hn hs, sum_left hn hi h le_rfl, z_eq, mul_comm (Real.exp _)]
    refine congrArg₂ (· - ·) (g_diag hn hi hs h) (congrArg₂ (· * ·) (congrArg₂ (· + ·) rfl (Finset.sum_congr rfl fun t ht => ?_)) rfl)
    exact congrArg₂ (· * ·) (g_diag hn hi (Finset.mem_range.mp ht) h) rfl
  · rw [dz_zero _ (by omega)]
    exact if_neg e

end

/-! ## The results -/

theorem head_of (p d : ℕ) : (256 * p + d) / 64 = 4 * p + d / 64 ∧ (256 * p + d) % 64 = d % 64 := by omega

variable {Q KV D p n}

theorem dq_real {r c : ℕ} (hr : r < 16384) : gQ Q D KV (CIN Q KV) (c / 256) (r / 256) (r % 256) (c % 256) = Ref.dq Q KV D r c := by
  have hn : r / 256 < 64 := by omega
  have hi : r % 256 < 256 := by omega
  have hh : 4 * (c / 256) + c % 256 / 64 = c / 64 := by omega
  have hc : c % 256 % 64 = c % 64 := by omega
  have er : 256 * (r / 256) + r % 256 = r := by omega
  unfold Ref.dq
  rw [sum_upto _ hn fun t ht => by rw [dz_zero _ (by omega), zero_mul, zero_mul]]
  unfold gQ pQ join
  show (sQ (kq Q (c / 256) (r / 256)) (bQ D (c / 256) (r / 256)) (kK KV (c / 256)) (kV KV (c / 256)) (kc Q KV (c / 256) (r / 256)) (r / 256) (c % 256 / 64) (r % 256) (c % 256 % 64)
    + uQ (kq Q (c / 256) (r / 256)) (bQ D (c / 256) (r / 256)) (tile (r / 256) (kK KV (c / 256))) (tile (r / 256) (kV KV (c / 256)))
      (sC (kq Q (c / 256) (r / 256)) (bQ D (c / 256) (r / 256)) (kK KV (c / 256)) (kV KV (c / 256)) (kc Q KV (c / 256) (r / 256)) (r / 256)) (c % 256 / 64) (r % 256) (c % 256 % 64)) * (1 / 8) = _
  have kk : ∀ j s, hd (c % 256 / 64) (tile j (kK KV (c / 256))) s (c % 256 % 64) = KV (256 * j + s) (64 * (c / 64) + c % 64) := fun j s => by
    show KV (256 * j + s) (256 * (c / 256) + (64 * (c % 256 / 64) + c % 256 % 64)) = _
    rw [col, hh, hc]
  rw [add_mul]
  refine congrArg₂ (· + ·) ?_ ?_
  · unfold sQ tQ
    rw [Finset.sum_mul]
    refine Finset.sum_congr rfl fun j hj => ?_
    rw [Finset.sum_mul]
    refine Finset.sum_congr rfl fun s hs => ?_
    rw [z_tile hn hi (Finset.mem_range.mp hs) _ (Finset.mem_range.mp hj), kk, hh, er]
    ring
  · unfold uQ
    rw [Finset.sum_mul]
    refine Finset.sum_congr rfl fun s hs => ?_
    rw [z_diag hn hi (Finset.mem_range.mp hs), kk, hh, er]
    ring

/-- One tile's share of the keys' gradient. -/
theorem gK_real (hn : n < 64) {r d : ℕ} : gK Q D KV (CIN Q KV) p n r d
    = ∑ i ∈ range 256, Ref.dz Q KV D (4 * p + d / 64) (256 * n + i) r * (Q (256 * n + i) (64 * (4 * p + d / 64) + d % 64) * (1 / 8)) := by
  have hs : r % 256 < 256 := by omega
  have er : 256 * (r / 256) + r % 256 = r := by omega
  have qq : ∀ i, hd (d / 64) (kq Q p n) i (d % 64) = Q (256 * n + i) (64 * (4 * p + d / 64) + d % 64) * (1 / 8) := fun i => by
    show bQ Q p n i (64 * (d / 64) + d % 64) * (1 / 8) = _
    rw [bQ_at]
  unfold gK pK
  by_cases e : r / 256 = n
  · rw [if_pos e]
    unfold join uK
    refine Finset.sum_congr rfl fun i hi => ?_
    rw [qq]
    refine congrArg₂ (· * ·) ((z_diag hn (Finset.mem_range.mp hi) hs _).trans ?_) rfl
    rw [← e, er]
  · rw [if_neg e]
    by_cases e' : r / 256 < n
    · rw [if_pos e']
      unfold sK join tK
      refine Finset.sum_congr rfl fun i hi => ?_
      rw [qq]
      refine congrArg₂ (· * ·) ((z_tile hn (Finset.mem_range.mp hi) hs _ e').trans ?_) rfl
      rw [er]
    · rw [if_neg e']
      exact (Finset.sum_eq_zero fun i hi => by rw [dz_zero _ (by have := Finset.mem_range.mp hi; omega), zero_mul]).symm

theorem gV_real (hn : n < 64) {r d : ℕ} : gV Q D KV (CIN Q KV) p n r d
    = ∑ i ∈ range 256, D (256 * n + i) (64 * (4 * p + d / 64) + d % 64) * Ref.w Q KV (4 * p + d / 64) (256 * n + i) r := by
  have hs : r % 256 < 256 := by omega
  have er : 256 * (r / 256) + r % 256 = r := by omega
  unfold gV pV
  by_cases e : r / 256 = n
  · rw [if_pos e]
    unfold join uV
    refine Finset.sum_congr rfl fun i hi => ?_
    rw [mul_comm (D _ _), ← bQ_at D]
    refine congrArg₂ (· * ·) ((w_diag hn (Finset.mem_range.mp hi) hs _).trans ?_) rfl
    rw [← e, er]
  · rw [if_neg e]
    by_cases e' : r / 256 < n
    · rw [if_pos e']
      unfold sV join tV
      refine Finset.sum_congr rfl fun i hi => ?_
      rw [mul_comm (D _ _), ← bQ_at D]
      refine congrArg₂ (· * ·) ((w_tile hn (Finset.mem_range.mp hi) hs _ e').trans ?_) rfl
      rw [er]
    · rw [if_neg e']
      exact (Finset.sum_eq_zero fun i hi => by rw [w_zero _ (by have := Finset.mem_range.mp hi; omega), mul_zero]).symm

theorem dkv_real {r c : ℕ} (hc : c < 1024) : (if c / 256 < 2 then ∑ i ∈ range 64, gK Q D KV (CIN Q KV) (c / 256) i r (c % 256)
      else ∑ i ∈ range 64, gV Q D KV (CIN Q KV) (c / 256 - 2) i r (c % 256))
    = (if c < 512 then 0 else Ref.dv Q KV D r (c - 512)) + (if c < 512 then Ref.dk Q KV D r c else 0) := by
  by_cases e : c < 512
  · rw [if_pos (by omega), if_pos e, if_pos e, zero_add]
    unfold Ref.dk
    rw [show 16384 = 256 * 64 by rfl, sum_tiles]
    refine Finset.sum_congr rfl fun n hn => ?_
    rw [gK_real (Finset.mem_range.mp hn), show 4 * (c / 256) + c % 256 / 64 = c / 64 by omega, show c % 256 % 64 = c % 64 by omega]
    exact Finset.sum_congr rfl fun i _ => by ring
  · rw [if_neg (by omega), if_neg e, if_neg e, add_zero]
    unfold Ref.dv
    rw [show 16384 = 256 * 64 by rfl, sum_tiles]
    refine Finset.sum_congr rfl fun n hn => ?_
    rw [gV_real (Finset.mem_range.mp hn), show 4 * (c / 256 - 2) + c % 256 / 64 = (c - 512) / 64 by omega, show c % 256 % 64 = (c - 512) % 64 by omega]

end

end Cert.Attn.Equal
end
-- ==== Proof.Attn.Claim.lean ====
/- The two attention programs end with the same results. -/
module

public import proofs.«01_k».proof.Defs
public import proofs.«01_k».proof.Proof.Gen.Pre_attention_finite
public import proofs.«01_k».proof.Proof.Common.Finite
public import proofs.«01_k».proof.Proof.Attn.Equal
public import Idealize.ShloMosaic.Lib.Quiescent

@[expose] public section

set_option maxRecDepth 16384

noncomputable section

namespace Cert.Attn.Claim

open Idealize.ShloMosaic Idealize.ShloMosaic.TcCoe Idealize.SL.Sem Cert.Common

/-- The reference's frame: it has no counters. -/
theorem ref_frame (m : (ℓ : Loc AttentionRefIdeal.nD AttentionRefIdeal.τ AttentionRefIdeal.sig) → Buf (Elt Ideal) ℓ) (g : Dev AttentionRefIdeal.nD → PrngReg) :
    θ_run (AttentionRefIdeal.defs (F := Ideal)) (onTc (τ := AttentionRefIdeal.τ) (AttentionRefIdeal.main (F := Ideal))) ⟨m, fun _ => 0, g⟩
      (fun r => (∀ c : Dev AttentionRefIdeal.nD,
        r.2.mem ((c.tc : Thread AttentionRefIdeal.nD AttentionRefIdeal.τ).loc AttentionRefIdeal.main_arg0) = m ((c.tc : Thread AttentionRefIdeal.nD AttentionRefIdeal.τ).loc AttentionRefIdeal.main_arg0)
        ∧ r.2.mem ((c.tc : Thread AttentionRefIdeal.nD AttentionRefIdeal.τ).loc AttentionRefIdeal.main_arg1) = m ((c.tc : Thread AttentionRefIdeal.nD AttentionRefIdeal.τ).loc AttentionRefIdeal.main_arg1)
        ∧ r.2.mem ((c.tc : Thread AttentionRefIdeal.nD AttentionRefIdeal.τ).loc AttentionRefIdeal.main_arg2) = m ((c.tc : Thread AttentionRefIdeal.nD AttentionRefIdeal.τ).loc AttentionRefIdeal.main_arg2))
        ∧ r.2.sem = fun _ => 0) :=
  (θ_run _ _ _).mono (fun r h => ⟨fun c => (h c).2.2, sem_eq_zero_of_no_sems rfl r.2⟩) (AttentionRefIdeal.Value.run m g)

/-- What the precondition says: the three arguments hold real numbers. -/
theorem reals (x y : FVec Ideal Pre_attention_finite.S16384x1024 .bf16) (z : FVec Ideal Pre_attention_finite.S16384x512 .f32)
    (h : Pre_attention_finite.fn (F := Ideal) x y z = fun _ => 1#1) :
    (∀ i, Real? (x i)) ∧ (∀ i, Real? (y i)) ∧ ∀ i, Real? (z i) := by
  have h' := congrFun h ix0
  dsimp only [Pre_attention_finite.fn] at h'
  obtain ⟨hxy, hz⟩ := andi_one h'
  obtain ⟨hx, hy⟩ := andi_one hxy
  haveI : Subsingleton Pre_attention_finite.S_.Idx := ⟨fun a b => funext fun i => i.elim0⟩
  exact ⟨fun i => real_of_all (extf .f32 x _) _ (fun _ => rfl) _ _ _ _ hx i, fun i => real_of_all (extf .f32 y _) _ (fun _ => rfl) _ _ _ _ hy i,
    fun i => real_of_all z _ (fun _ => rfl) _ _ _ _ hz i⟩

/-- A matrix of real numbers. -/
theorem exists_up {φ : FTy} {n k : ℕ} (A : FVec Ideal ⟨2, ![n, k]⟩ φ) (h : ∀ i, Real? (A i)) : ∃ f : ℕ → ℕ → ℝ, A = up f := by
  choose f hf using h
  refine ⟨fun r q => if hr : r < n then if hq : q < k then f (ix2 ⟨r, hr⟩ ⟨q, hq⟩) else 0 else 0, eq_up fun i q => ?_⟩
  rw [dif_pos i.isLt, dif_pos q.isLt]
  exact hf (ix2 i q)

section
open Cert.AttentionIdeal Cert.AttentionIdeal.Gen

/-- The kernel's run: its results, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42_0) = (dats m (ok m) (hyps m) 0 c).arrAt 5 (cfgM m (ok m)).N
      ∧ r.2.mem ((c.tc : Thread nD τ).loc main_v42_1) = final m (ok m) (hyps m) c main_v42_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h.1.1.toR c).1 5, h.1.1.written c (by decide : main_v42_1 ∈ R0), h.2.1 c⟩)
    (θ_run_and (run_main m ρ (ok m) (hyps m)) (frame m ρ))

variable (m : (ℓ : Loc nD τ sig) → Buf (Elt Ideal) ℓ) (c : Dev nD) {Q KV D : ℕ → ℕ → ℝ}
  (h0 : m ((c.tc : Thread nD τ).loc main_arg0) = (up Q : FVec Ideal S16384x1024 .bf16))
  (h1 : m ((c.tc : Thread nD τ).loc main_arg1) = (up KV : FVec Ideal S16384x1024 .bf16))
  (h2 : m ((c.tc : Thread nD τ).loc main_arg2) = (up D : FVec Ideal S16384x512 .f32))

include h0 h1 h2 in
theorem dq_up : (dats m (ok m) (hyps m) 0 c).arrAt 5 (cfgM m (ok m)).N = (up (Ref.dq Q KV D) : FVec Ideal S16384x512 .bf16) :=
  (Blocks.dq_at m c h0 h1 h2).trans (eq_up fun r q => congrArg Real.toEReal (Equal.dq_real r.isLt))

include h0 h1 h2 in
theorem dkv_up : final m (ok m) (hyps m) c main_v42_1
    = (up fun r q => (if q < 512 then 0 else Ref.dv Q KV D r (q - 512)) + (if q < 512 then Ref.dk Q KV D r q else 0) : FVec Ideal S16384x1024 .f32) :=
  eq_up (φ := .f32) fun r q => (final_up (hyps m) (Blocks.inputs h0 h1 h2) r q).trans (congrArg Real.toEReal (Equal.dkv_real q.isLt))

end

theorem algebraic : algebraic_AttentionIdeal_AttentionRefIdeal_pre_attention_finite := by
  intro m g m' g' hpre hag
  refine ⟨_, _, run m g, (θ_run _ _ _).mono (fun r h c => ?_) (AttentionRefIdeal.Value.run m' g')⟩
  obtain ⟨a0, a1, a2⟩ := hag c
  obtain ⟨hQ, hKV, hD⟩ := reals _ _ _ (hpre c)
  obtain ⟨Q, h0⟩ := exists_up _ hQ
  obtain ⟨KV, h1⟩ := exists_up _ hKV
  obtain ⟨D, h2⟩ := exists_up _ hD
  exact ⟨(h c).1.trans ((Ref.dq_eq m' c (a0.trans h0) (a1.trans h1) (a2.trans h2)).trans (dq_up m c h0 h1 h2).symm),
    (h c).2.1.trans ((Ref.dkv_eq m' c (a0.trans h0) (a1.trans h1) (a2.trans h2)).trans (dkv_up m c h0 h1 h2).symm), (h c).2.2⟩

end Cert.Attn.Claim

end
-- ==== Proof.Gate.Value.lean ====
/- The gradients of the gate of the attention's output: what the kernel writes, and what the reference computes. -/
module

public import proofs.«01_k».proof.Proof.Gen.GateIdeal.Value
public import proofs.«01_k».proof.Proof.Gen.GateRefIdeal.Run
public import proofs.«01_k».proof.Proof.Common.Finite
public import Idealize.ShloMosaic.Lib.Pipeline.ValueKit
public import Idealize.ShloMosaic.Lib.Pointwise

@[expose] public section

set_option maxRecDepth 16384

noncomputable section

namespace Cert.GateV

open Idealize.ShloMosaic Idealize.ShloMosaic.TcCoe Idealize.SL.Sem Cert.Common

/-- The gradient of the gated rows. -/
def dA (dx : FVec Ideal ⟨2, ![16384, 1024]⟩ .f32) (w : FVec Ideal ⟨2, ![512, 1024]⟩ .bf16) (p : Fin 16384) (q : Fin 512) : EReal :=
  ∑ k : Fin 1024, (dx (ix2 p k) : EReal) * w (ix2 q k)

/-- The logistic function. -/
def lgs (g : EReal) : EReal := Ideal.div 1 (1 + Ideal.exp (-g))

/-- The gate's column of the projection. -/
def gcol (q : Fin 512) : Fin 1024 := ⟨512 + q.val, by omega⟩

/-- The two gradients: of the attention's output, and of the gate's columns. -/
def dO (dx : FVec Ideal ⟨2, ![16384, 1024]⟩ .f32) (w : FVec Ideal ⟨2, ![512, 1024]⟩ .bf16) (qg : FVec Ideal ⟨2, ![16384, 1024]⟩ .bf16)
    (p : Fin 16384) (q : Fin 512) : EReal :=
  dA dx w p q * ((qg (ix2 p (gcol q)) : EReal) * lgs (qg (ix2 p (gcol q))))
def dG (dx : FVec Ideal ⟨2, ![16384, 1024]⟩ .f32) (w : FVec Ideal ⟨2, ![512, 1024]⟩ .bf16) (o : FVec Ideal ⟨2, ![16384, 512]⟩ .f32)
    (qg : FVec Ideal ⟨2, ![16384, 1024]⟩ .bf16) (p : Fin 16384) (q : Fin 512) : EReal :=
  dA dx w p q * o (ix2 p q) * (lgs (qg (ix2 p (gcol q))) * (1 + (qg (ix2 p (gcol q)) : EReal) * (1 - lgs (qg (ix2 p (gcol q))))))

/-- The two ways of writing the gate's gradient agree, whatever the gate. -/
theorem grad_eq (x g : EReal) (hx : Real? x) :
    x * (lgs g * (1 + g * (1 - lgs g))) = x * lgs g + g * x * (lgs g * (1 - lgs g)) := by
  obtain ⟨a, rfl⟩ := hx
  induction g with
  | bot =>
    have : lgs ⊥ = 0 := by
      have e : Ideal.exp (-⊥) = ⊤ := by rw [EReal.neg_bot]; rfl
      have e2 : (1 : EReal) + ⊤ = ⊤ := rfl
      have e3 : (⊤ : EReal) ≠ 0 := EReal.top_ne_zero
      rw [lgs, e, e2]
      simp [Ideal.div, e3]
    simp [this]
  | top =>
    have : lgs ⊤ = 1 := by
      have e : Ideal.exp (-⊤) = 0 := by rw [EReal.neg_top]; rfl
      rw [lgs, e]
      simp [Ideal.div]
    have h1 : (1 : EReal) - 1 = 0 := EReal.sub_self (EReal.coe_ne_top 1) (EReal.coe_ne_bot 1)
    simp [this, h1]
  | coe g =>
    obtain ⟨s, hs⟩ : ∃ s : ℝ, lgs (g : EReal) = s := Real?.logistic (Real?.coe g)
    rw [hs]
    norm_cast
    ring

section kernel
open Cert.GateIdeal Cert.GateIdeal.Gen

variable (m : (ℓ : Loc nD τ sig) → Buf (Elt Ideal) ℓ) (c : Dev nD) (t : Fin cfg0.N)

/-- The row of the whole array that row `i` of block `t` is. -/
def row (t : Fin cfg0.N) (i : Fin 512) : Fin 16384 := ⟨t.val * 512 + i.val, by have := t.isLt; have h : cfg0.N = 32 := rfl; omega⟩

abbrev DX : FVec Ideal ⟨2, ![16384, 1024]⟩ .f32 := m ((c : Thread nD τ).loc main_arg0)
abbrev WO : FVec Ideal ⟨2, ![512, 1024]⟩ .bf16 := m ((c : Thread nD τ).loc main_arg1)
abbrev OO : FVec Ideal ⟨2, ![16384, 512]⟩ .f32 := m ((c : Thread nD τ).loc main_arg2)
abbrev QG : FVec Ideal ⟨2, ![16384, 1024]⟩ .bf16 := m ((c : Thread nD τ).loc main_arg3)

/-- Which block of its array each window reads or writes at point `t`. -/
theorem idx : ∀ t : Fin cfg0.N, win0_0.index t = ![t.val, 0] ∧ win0_1.index t = ![0, 0] ∧ win0_2.index t = ![t.val, 0]
    ∧ win0_3.index t = ![t.val, 1] ∧ win0_4.index t = ![t.val, 0] ∧ win0_5.index t = ![t.val, 0] := by decide +kernel

theorem dx_at (i : Fin 512) (k : Fin 1024) : iblk m c 0 t (ix2 i k) = DX m c (ix2 (row t i) k) := by
  blk_point [iblk, V, idx t, row, gcol]
theorem w_at (q : Fin 512) (k : Fin 1024) : iblk m c 1 t (ix2 q k) = WO m c (ix2 q k) := by
  blk_point [iblk, V, idx t, row, gcol]
theorem o_at (i q : Fin 512) : iblk m c 2 t (ix2 i q) = OO m c (ix2 (row t i) q) := by
  blk_point [iblk, V, idx t, row, gcol]
theorem g_at (i q : Fin 512) : iblk m c 3 t (ix2 i q) = QG m c (ix2 (row t i) (gcol q)) := by
  blk_point [iblk, V, idx t, row, gcol]

theorem pay1_at (i q : Fin 512) : k0_pay1 (iblk m c 0 t) (iblk m c 1 t) (ix2 i q) = dA (DX m c) (WO m c) (row t i) q := by
  pointwise [k0_pay1]
  exact Finset.sum_congr rfl fun k _ => Ideal.mul_congr (dx_at m c t i k) (w_at m c t q k)

theorem pay3_at (v : Vec Ideal S512x512 .bf16) (i q : Fin 512) : k0_pay3 v (ix2 i q) = lgs (v (ix2 i q)) := by
  pointwise [k0_pay3, k0_pay2]
  simp [lgs]

theorem pay4_at (i q : Fin 512) : k0_pay4 (iblk m c 0 t) (iblk m c 1 t) (iblk m c 3 t) (ix2 i q)
    = dO (DX m c) (WO m c) (QG m c) (row t i) q := by
  refine Ideal.mul_congr (pay1_at m c t i q) (Ideal.mul_congr (g_at m c t i q) ?_)
  rw [pay3_at, g_at]

theorem pay5_at (i q : Fin 512) : k0_pay5 (iblk m c 0 t) (iblk m c 1 t) (iblk m c 3 t) (iblk m c 2 t) (ix2 i q)
    = dG (DX m c) (WO m c) (OO m c) (QG m c) (row t i) q := by
  pointwise [k0_pay5, k0_pay2]
  rw [pay3_at, pay1_at, g_at, o_at]
  rfl

theorem result4 (c : Dev nD) : (dats m 0 c).arrAt 4 (cfgs 0).N
    = fun j : S16384x512.Idx => dO (DX m c) (WO m c) (QG m c) (j 0) (j 1) := by
  refine (dats m 0 c).arrAt_eq_of_covers 4 _ (by decide +kernel) fun t hf y => ?_
  blk_simp
  rw [after0_4]
  obtain ⟨i, q, rfl⟩ : ∃ (i q : Fin 512), y = ix2 i q := ⟨y 0, y 1, by blk_ext⟩
  have e0 : (win0_4.blk t).view.emb (ix2 i q) 0 = row t i := Fin.ext (by blk_simp [idx t]; simp [row])
  have e1 : (win0_4.blk t).view.emb (ix2 i q) 1 = q := Fin.ext (by blk_simp [idx t])
  rw [e0, e1]
  refine Eq.trans ?_ (pay4_at m c t i q)
  unfold out0_4
  frame_out

theorem result5 (c : Dev nD) : (dats m 0 c).arrAt 5 (cfgs 0).N
    = fun j : S16384x512.Idx => dG (DX m c) (WO m c) (OO m c) (QG m c) (j 0) (j 1) := by
  refine (dats m 0 c).arrAt_eq_of_covers 5 _ (by decide +kernel) fun t hf y => ?_
  blk_simp
  rw [after0_5]
  obtain ⟨i, q, rfl⟩ : ∃ (i q : Fin 512), y = ix2 i q := ⟨y 0, y 1, by blk_ext⟩
  have e0 : (win0_5.blk t).view.emb (ix2 i q) 0 = row t i := Fin.ext (by blk_simp [idx t]; simp [row])
  have e1 : (win0_5.blk t).view.emb (ix2 i q) 1 = q := Fin.ext (by blk_simp [idx t])
  rw [e0, e1]
  refine Eq.trans ?_ (pay5_at m c t i q)
  unfold out0_5
  frame_out

end kernel

section reference
open Cert.GateRefIdeal Cert.GateRefIdeal.Gen

variable (m : (ℓ : Loc nD τ sig) → Buf (Elt Ideal) ℓ) (g : Dev nD → PrngReg)

abbrev RX (c : Dev nD) : FVec Ideal ⟨2, ![16384, 1024]⟩ .f32 := m ((c : Thread nD τ).loc main_arg0)
abbrev RW (c : Dev nD) : FVec Ideal ⟨2, ![512, 1024]⟩ .bf16 := m ((c : Thread nD τ).loc main_arg1)
abbrev RO (c : Dev nD) : FVec Ideal ⟨2, ![16384, 512]⟩ .f32 := m ((c : Thread nD τ).loc main_arg2)
abbrev RG (c : Dev nD) : FVec Ideal ⟨2, ![16384, 1024]⟩ .bf16 := m ((c : Thread nD τ).loc main_arg3)

theorem reference (h0 : ∀ c i, Real? (RX m c i)) (h1 : ∀ c i, Real? (RW m c i)) (h2 : ∀ c i, Real? (RO m c i)) :
    θ_run defs (onTc (τ := τ) (main (F := Ideal))) ⟨m, fun _ => 0, g⟩ fun r => ∀ c : Dev nD,
      r.2.mem ((c.tc : Thread nD τ).loc main_v8) = (fun j : S16384x512.Idx => dO (RX m c) (RW m c) (RG m c) (j 0) (j 1))
      ∧ r.2.mem ((c.tc : Thread nD τ).loc main_v10) = (fun j : S16384x512.Idx => dG (RX m c) (RW m c) (RO m c) (RG m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2⟩) (Cert.GateRefIdeal.Value.run m g)
  · funext j
    obtain ⟨p, q, rfl⟩ : ∃ p q, j = ix2 p q := ⟨j 0, j 1, eq_ix2 j⟩
    pointwise
    rfl
  · funext j
    obtain ⟨p, q, rfl⟩ : ∃ p q, j = ix2 p q := ⟨j 0, j 1, eq_ix2 j⟩
    have hx : Real? (dA (RX m c) (RW m c) p q * RO m c (ix2 p q)) := (Real?.sum _ _ fun k _ => (h0 c _).mul (h1 c _)).mul (h2 c _)
    refine Eq.trans ?_ (grad_eq _ (RG m c (ix2 p (gcol q))) hx).symm
    rw [mul_comm (dA _ _ _ _)]
    pointwise
    rfl

end reference

end Cert.GateV

end
-- ==== Proof.Gate.Claim.lean ====
/- The two programs end with the same gradients of the gate. -/
module

public import proofs.«01_k».proof.Defs
public import proofs.«01_k».proof.Proof.Gen.Pre_gate_finite
public import proofs.«01_k».proof.Proof.Gen.Gate.Frame
public import proofs.«01_k».proof.Proof.Gate.Value

@[expose] public section

set_option maxRecDepth 16384

noncomputable section

namespace Cert.GateV

open Idealize.ShloMosaic Idealize.ShloMosaic.TcCoe Idealize.SL.Sem Cert.Common

/-- What the precondition says: three arguments hold real numbers. -/
theorem reals (x : FVec Ideal Pre_gate_finite.S16384x1024 .f32) (y : FVec Ideal Pre_gate_finite.S512x1024 .bf16)
    (z : FVec Ideal Pre_gate_finite.S16384x512 .f32) (w : FVec Ideal Pre_gate_finite.S16384x1024 .bf16)
    (h : Pre_gate_finite.fn (F := Ideal) x y z w = fun _ => 1#1) :
    (∀ i, Real? (x i)) ∧ (∀ i, Real? (y i)) ∧ ∀ i, Real? (z i) := by
  have h' := congrFun h ix0
  dsimp only [Pre_gate_finite.fn] at h'
  obtain ⟨hxy, hz⟩ := andi_one h'
  obtain ⟨hx, hy⟩ := andi_one hxy
  haveI : Subsingleton Pre_gate_finite.S_.Idx := ⟨fun a b => funext fun i => i.elim0⟩
  exact ⟨fun i => real_of_all x _ (fun _ => rfl) _ _ _ _ hx i, fun i => real_of_all (extf .f32 y _) _ (fun _ => rfl) _ _ _ _ hy i,
    fun i => real_of_all z _ (fun _ => rfl) _ _ _ _ hz i⟩

theorem algebraic : algebraic_GateIdeal_GateRefIdeal_pre_gate_finite := by
  intro m g m' g' hpre hag
  have e0 : ∀ c, RX m' c = DX m c := fun c => (hag c).1
  have e1 : ∀ c, RW m' c = WO m c := fun c => (hag c).2.1
  have e2 : ∀ c, RO m' c = OO m c := fun c => (hag c).2.2.1
  have e3 : ∀ c, RG m' c = QG m c := fun c => (hag c).2.2.2
  have hr := fun c => reals _ _ _ _ (hpre c)
  refine ⟨fun c => (GateIdeal.Gen.dats m 0 c).arrAt 4 (GateIdeal.cfgs 0).N, fun c => (GateIdeal.Gen.dats m 0 c).arrAt 5 (GateIdeal.cfgs 0).N,
    GateIdeal.Value.run_blocks m g, (θ_run _ _ _).mono (fun r h c => ⟨(h c).1.trans ?_, (h c).2.1.trans ?_, (h c).2.2⟩)
      (reference m' g' (fun c i => by rw [e0]; exact (hr c).1 i) (fun c i => by rw [e1]; exact (hr c).2.1 i)
        (fun c i => by rw [e2]; exact (hr c).2.2 i))⟩
  · rw [e0, e1, e3]
    exact (result4 m c).symm
  · rw [e0, e1, e2, e3]
    exact (result5 m c).symm

end Cert.GateV

end
-- ==== Proof.Common.Norm.lean ====
/- The gradient of a row's normalization: the two ways the programs write it, and their equality over real numbers. -/
module

public import proofs.«01_k».proof.Proof.Common.Finite

@[expose] public section

set_option maxRecDepth 16384

noncomputable section

namespace Cert.Common

open Idealize.ShloMosaic

/-- The literals of the programs. -/
theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_inv_1024 : Ideal.ofBits .f32 0x3A800000#32 = ((1 / 1024 : ℝ) : EReal) := by
  simp [Ideal.ofBits, Ideal.ieee, -EReal.coe_mul]; norm_num
theorem lit_inv_2048 : Ideal.ofBits .f32 0x3A000000#32 = ((1 / 2048 : ℝ) : EReal) := by
  simp [Ideal.ofBits, Ideal.ieee, -EReal.coe_mul]; norm_num
theorem lit_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem coe_sum_fin {n : ℕ} (f : Fin n → ℝ) : ((∑ k, f k : ℝ) : EReal) = ∑ k, (f k : EReal) :=
  map_sum (⟨⟨((↑) : ℝ → EReal), rfl⟩, EReal.coe_add⟩ : ℝ →+ EReal) _ _

theorem exists_coe {ι : Type} {x : ι → EReal} (h : ∀ k, Real? (x k)) : ∃ f : ι → ℝ, x = fun k => (f k : EReal) :=
  ⟨fun k => (h k).choose, funext fun k => (h k).choose_spec⟩

/-- A row's mean square with the constant added, the reciprocal of its root, and the gradient of the normalized row against `d`. -/
def ms (x : Fin 1024 → EReal) : EReal :=
  Ideal.div (∑ k, x k * x k) (Ideal.ofBits .f32 0x44800000#32) + Ideal.ofBits .f32 0x358637BD#32
def rstd (x : Fin 1024 → EReal) : EReal := Ideal.rsqrt (ms x)
def back (x d : Fin 1024 → EReal) (q : Fin 1024) : EReal :=
  rstd x * (d q - x q * rstd x * Ideal.div (∑ k, d k * (x k * rstd x)) (Ideal.ofBits .f32 0x44800000#32))
/-- The gradient of the mean square, as the reference writes it. -/
def part (x d : Fin 1024 → EReal) : EReal :=
  ∑ _ : Fin 1, Ideal.div ((∑ k, x k * d k) * (Ideal.ofBits .f32 0xBF000000#32 * Ideal.div (rstd x) (ms x))) (Ideal.ofBits .f32 0x44800000#32)

/-- A real factor over a sum with a real term, and a nonnegative real factor over any sum. -/
theorem mul_add_real (x b : ℝ) (a : EReal) : (a + (b : EReal)) * (x : EReal) = a * (x : EReal) + (b : EReal) * (x : EReal) := by
  induction a with
  | coe a =>
    norm_cast
    ring
  | top =>
    rw [EReal.top_add_coe]
    rcases lt_trichotomy x 0 with h | rfl | h
    · rw [EReal.top_mul_coe_of_neg h, ← EReal.coe_mul, EReal.bot_add]
    · simp
    · rw [EReal.top_mul_coe_of_pos h, ← EReal.coe_mul, EReal.top_add_coe]
  | bot =>
    rw [EReal.bot_add]
    rcases lt_trichotomy x 0 with h | rfl | h
    · rw [EReal.bot_mul_coe_of_neg h, ← EReal.coe_mul, EReal.top_add_coe]
    · simp
    · rw [EReal.bot_mul_coe_of_pos h, EReal.bot_add]
theorem add_mul_real {r : ℝ} (hr : 0 ≤ r) (a b : EReal) : (a + b) * (r : EReal) = a * (r : EReal) + b * (r : EReal) :=
  EReal.right_distrib_of_nonneg_of_ne_top (by exact_mod_cast hr) (EReal.coe_ne_top r) a b
theorem sum_mul_real {ι : Type} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih => rw [Finset.sum_insert ha, Finset.sum_insert ha, add_mul_real hr, ih]
theorem twice_neg (z : EReal) {c k : ℝ} (hk : 0 < k) (h : c = -(k / 2)) : z * (c : EReal) + z * (c : EReal) = -(z * (k : EReal)) := by
  have hc : c < 0 := by rw [h]; linarith
  induction z with
  | coe z =>
    norm_cast
    rw [h]
    ring
  | top => rw [EReal.top_mul_coe_of_neg hc, EReal.top_mul_coe_of_pos hk, EReal.bot_add, EReal.neg_top]
  | bot => rw [EReal.bot_mul_coe_of_neg hc, EReal.bot_mul_coe_of_pos hk, EReal.top_add_top, EReal.neg_bot]

theorem norm_coe (x : Fin 1024 → ℝ) : ∃ v r : ℝ, 0 < v ∧ 0 < r ∧ r * r = 1 / v ∧ ms (fun k => (x k : EReal)) = (v : EReal)
    ∧ rstd (fun k => (x k : EReal)) = (r : EReal) := by
  obtain ⟨e, he, hl⟩ := lit_eps
  have hv : 0 < (∑ k, x k * x k) * (1 / 1024) + e := by
    have : 0 ≤ ∑ k, x k * x k := Finset.sum_nonneg fun k _ => mul_self_nonneg _
    positivity
  have hm : ms (fun k => (x k : EReal)) = (((∑ k, x k * x k) * (1 / 1024) + e : ℝ) : EReal) := by
    rw [ms, hl, lit_1024, Ideal.div_coe (by norm_num), EReal.coe_add, EReal.coe_mul, coe_sum_fin]
    simp only [EReal.coe_mul]
  refine ⟨_, (Real.sqrt ((∑ k, x k * x k) * (1 / 1024) + e))⁻¹, hv, inv_pos.mpr (Real.sqrt_pos.mpr hv), ?_, hm, ?_⟩
  · exact (mul_inv _ _).symm.trans ((congrArg _ (Real.mul_self_sqrt hv.le)).trans (one_div _).symm)
  · rw [rstd, hm, Ideal.rsqrt_coe, if_neg (not_lt.mpr hv.le), if_neg hv.ne']

/-- A row with an infinite entry has an infinite mean square, so its normalized entries and its gradient are zero. -/
theorem ms_top {x : Fin 1024 → EReal} (h : ¬∀ k, Real? (x k)) : ms x = ⊤ := by
  obtain ⟨e, he, hl⟩ := lit_eps
  rw [not_forall] at h
  obtain ⟨k, hk⟩ := h
  have hxk : x k * x k = ⊤ := by
    generalize x k = y at hk ⊢
    induction y with
    | coe y => exact absurd ⟨y, rfl⟩ hk
    | top => rfl
    | bot => rfl
  have h0 : ∀ y : EReal, 0 ≤ y * y := fun y => by
    induction y with
    | coe y => exact_mod_cast mul_self_nonneg y
    | top => exact le_top
    | bot => exact le_top
  have hs : ∑ k, x k * x k = ⊤ :=
    top_le_iff.mp (hxk ▸ Finset.single_le_sum (f := fun k => x k * x k) (fun k _ => h0 _) (Finset.mem_univ k))
  rw [ms, hs, hl, lit_1024, Ideal.div_coe (by norm_num), EReal.top_mul_coe_of_pos (by norm_num), EReal.top_add_coe]
theorem rstd_zero {x : Fin 1024 → EReal} (h : ¬∀ k, Real? (x k)) : rstd x = 0 := by
  rw [rstd, ms_top h, Ideal.rsqrt_top]
theorem part_zero {x : Fin 1024 → EReal} (h : ¬∀ k, Real? (x k)) (d : Fin 1024 → EReal) : part x d = 0 := by
  have e : Ideal.div 0 ⊤ = 0 := by
    rw [Ideal.div, if_neg EReal.top_ne_zero, zero_mul]
  rw [part, rstd_zero h, ms_top h, e, lit_1024, Ideal.div_coe (by norm_num), mul_zero, mul_zero, zero_mul]
  simp
theorem back_zero {x : Fin 1024 → EReal} (h : ¬∀ k, Real? (x k)) (d : Fin 1024 → EReal) (q : Fin 1024) : back x d q = 0 := by
  rw [back, rstd_zero h, zero_mul]

theorem part_coe (x : Fin 1024 → ℝ) (d : Fin 1024 → EReal) (v r : ℝ) (hv : 0 < v) (hm : ms (fun k => (x k : EReal)) = (v : EReal))
    (hr : rstd (fun k => (x k : EReal)) = (r : EReal)) :
    part (fun k => (x k : EReal)) d = (∑ k, d k * (x k : EReal)) * ((-1 / 2 * (r * (1 / v)) * (1 / 1024) : ℝ) : EReal) := by
  rw [part, hm, hr, lit_neg_half, lit_1024, Ideal.div_coe hv.ne', Ideal.div_coe (by norm_num)]
  simp only [← EReal.coe_mul, Finset.univ_unique, Finset.sum_singleton, mul_assoc]
  simp only [mul_comm]

/-- One gradient through the normalization. -/
theorem back_one (x d : Fin 1024 → EReal) (q : Fin 1024) : d q * rstd x + x q * part x d + part x d * x q = back x d q := by
  by_cases hx : ∀ k, Real? (x k)
  swap
  · rw [back_zero hx, part_zero hx, rstd_zero hx]
    simp
  obtain ⟨x, rfl⟩ := exists_coe hx
  obtain ⟨v, r, hv, hr0, hrr, hm, hr⟩ := norm_coe x
  rw [part_coe x d v r hv hm hr, back, hr, lit_1024, Ideal.div_coe (by norm_num)]
  have hs : (∑ k, d k * ((x k : EReal) * (r : EReal))) = (∑ k, d k * (x k : EReal)) * (r : EReal) := by
    rw [sum_mul_real _ _ hr0.le]
    exact Finset.sum_congr rfl fun k _ => (mul_assoc _ _ _).symm
  rw [hs]
  generalize (∑ k, d k * (x k : EReal)) = T
  generalize d q = y
  have e1 : (x q : EReal) * (T * ((-1 / 2 * (r * (1 / v)) * (1 / 1024) : ℝ) : EReal))
      = (x q : EReal) * T * ((-1 / 2 * (r * (1 / v)) * (1 / 1024) : ℝ) : EReal) := (mul_assoc _ _ _).symm
  rw [add_assoc, mul_comm (T * _) (x q : EReal), e1,
    twice_neg ((x q : EReal) * T) (k := r * r * r * (1 / 1024)) (by positivity) (by rw [← hrr]; ring)]
  rw [mul_comm (r : EReal) (y - _), sub_eq_add_neg, add_mul_real hr0.le, EReal.neg_mul]
  congr 2
  push_cast
  ac_rfl

/-- Two gradients through one normalization, on top of a third. -/
theorem back_two (x a b : Fin 1024 → EReal) (e : EReal) (hb : ∀ k, Real? (b k)) (q : Fin 1024) :
    e + b q * rstd x + x q * part x b + part x b * x q + a q * rstd x + x q * part x a + part x a * x q
      = e + back x (fun k => a k + b k) q := by
  by_cases hx : ∀ k, Real? (x k)
  swap
  · rw [back_zero hx, part_zero hx, part_zero hx, rstd_zero hx]
    simp
  rw [← back_one]
  obtain ⟨x, rfl⟩ := exists_coe hx
  obtain ⟨b, rfl⟩ := exists_coe hb
  obtain ⟨v, r, hv, hr0, hrr, hm, hr⟩ := norm_coe x
  have hp : ∀ c : ℝ, (∑ k, (b k : EReal) * (x k : EReal)) * (c : EReal) = (((∑ k, b k * x k) * c : ℝ) : EReal) := fun c => by
    rw [EReal.coe_mul, coe_sum_fin]
    simp only [EReal.coe_mul]
  have hs : (∑ k, (a k + (b k : EReal)) * (x k : EReal)) = (∑ k, a k * (x k : EReal)) + (((∑ k, b k * x k : ℝ)) : EReal) := by
    rw [coe_sum_fin, ← Finset.sum_add_distrib]
    exact Finset.sum_congr rfl fun k _ => (mul_add_real _ _ _).trans (congrArg _ (EReal.coe_mul _ _).symm)
  rw [part_coe x _ v r hv hm hr, part_coe x _ v r hv hm hr, part_coe x _ v r hv hm hr, hr, hs, hp]
  beta_reduce
  simp only [mul_add_real, ← EReal.coe_mul]
  generalize (∑ k, a k * (x k : EReal)) * _ = A
  generalize (∑ k, b k * x k) * _ = B
  rw [mul_comm (x q : EReal) (A + (B : EReal)), mul_add_real, mul_comm (x q : EReal) A, mul_comm (x q) B]
  simp only [EReal.coe_mul]
  abel

end Cert.Common

end
-- ==== Proof.Loss.Value.lean ====
/- The last layer's projection with its loss, forward and backward: what the kernel writes, and what the reference computes. -/
module

public import proofs.«01_k».proof.Proof.Gen.LossIdeal.Value
public import proofs.«01_k».proof.Proof.Gen.LossRefIdeal.Run
public import proofs.«01_k».proof.Proof.Common.Norm
public import proofs.«01_k».proof.Proof.Gate.Value

@[expose] public section

set_option maxRecDepth 16384

noncomputable section

namespace Cert.LossV

open Idealize.ShloMosaic Idealize.ShloMosaic.TcCoe Idealize.SL.Sem Cert.Common
open Cert.GateV (lgs gcol)

section spec
variable (o : FVec Ideal ⟨2, ![16384, 512]⟩ .f32) (qg : FVec Ideal ⟨2, ![16384, 1024]⟩ .bf16) (w : FVec Ideal ⟨2, ![512, 1024]⟩ .bf16)
  (x : FVec Ideal ⟨2, ![16384, 1024]⟩ .f32) (n : FVec Ideal ⟨2, ![1, 1024]⟩ .f32) (y : FVec Ideal ⟨2, ![16384, 1024]⟩ .f32)

/-- The gated rows, the rows after the projection, their distance from the target, and the loss's gradient at the network's output. -/
def gated (p : Fin 16384) (q : Fin 512) : EReal := (o (ix2 p q) : EReal) * ((qg (ix2 p (gcol q)) : EReal) * lgs (qg (ix2 p (gcol q))))
def rows (p : Fin 16384) (k : Fin 1024) : EReal := (x (ix2 p k) : EReal) + ∑ l : Fin 512, gated o qg p l * w (ix2 l k)
def err (p : Fin 16384) (k : Fin 1024) : EReal := rows o qg w x p k * rstd (rows o qg w x p) * n (ix2 0 k) - y (ix2 p k)
def dY (p : Fin 16384) (k : Fin 1024) : EReal := err o qg w x n y p k * Ideal.ofBits .f32 0x3A800000#32

/-- The gradient of the rows, a column's share of the loss, and the gradient of the gain. -/
def dX (p : Fin 16384) (q : Fin 1024) : EReal := back (rows o qg w x p) (fun k => dY o qg w x n y p k * n (ix2 0 k)) q
def loss (q : Fin 1024) : EReal :=
  ∑ p : Fin 16384, err o qg w x n y p q * err o qg w x n y p q * Ideal.ofBits .f32 0x3A000000#32
def dGain (q : Fin 1024) : EReal := ∑ p : Fin 16384, dY o qg w x n y p q * (rows o qg w x p q * rstd (rows o qg w x p))

end spec

/-- The reference's two scales of the loss. -/
theorem scale_one (z : EReal) :
    (∑ _ : Fin 1, Ideal.ofBits .f32 0x3F000000#32 * Ideal.div 1 (Ideal.ofBits .f32 0x44800000#32)) * (Ideal.ofBits .f32 0x40000000#32 * z)
      = z * Ideal.ofBits .f32 0x3A800000#32 := by
  rw [Fin.sum_univ_one, lit_half, lit_1024, lit_two, lit_inv_1024, Ideal.div_coe (by norm_num), one_mul, ← mul_assoc, mul_comm z, ← EReal.coe_mul,
    ← EReal.coe_mul]
  congr 2
  norm_num
theorem scale_two {ι : Type} [Fintype ι] (f : ι → EReal) :
    Ideal.div (Ideal.ofBits .f32 0x3F000000#32 * ∑ k, f k) (Ideal.ofBits .f32 0x44800000#32) = ∑ k, f k * Ideal.ofBits .f32 0x3A000000#32 := by
  rw [lit_half, lit_1024, lit_inv_2048, Ideal.div_coe (by norm_num), ← sum_mul_real _ _ (by norm_num), mul_comm (_ : EReal) (∑ k, f k), mul_assoc,
    ← EReal.coe_mul]
  congr 2
  norm_num

section kernel
open Cert.LossIdeal Cert.LossIdeal.Gen

variable (m : (ℓ : Loc nD τ sig) → Buf (Elt Ideal) ℓ) (c : Dev nD) (t : Fin cfg0.N)

theorem N_eq : cfg0.N = 32 := rfl

/-- The row of the whole array that row `i` of block `t` is. -/
def row (t : Fin cfg0.N) (i : Fin 512) : Fin 16384 := ⟨t.val * 512 + i.val, by have := t.isLt; have h : cfg0.N = 32 := rfl; omega⟩

abbrev O : FVec Ideal ⟨2, ![16384, 512]⟩ .f32 := m ((c : Thread nD τ).loc main_arg0)
abbrev QG : FVec Ideal ⟨2, ![16384, 1024]⟩ .bf16 := m ((c : Thread nD τ).loc main_arg1)
abbrev W : FVec Ideal ⟨2, ![512, 1024]⟩ .bf16 := m ((c : Thread nD τ).loc main_arg2)
abbrev X : FVec Ideal ⟨2, ![16384, 1024]⟩ .f32 := m ((c : Thread nD τ).loc main_arg3)
abbrev N : FVec Ideal ⟨2, ![1, 1024]⟩ .f32 := m ((c : Thread nD τ).loc main_arg4)
abbrev Y : FVec Ideal ⟨2, ![16384, 1024]⟩ .f32 := m ((c : Thread nD τ).loc main_arg5)

/-- Which block of its array each window reads or writes at point `t`. -/
theorem idx : ∀ t : Fin cfg0.N, win0_0.index t = ![t.val, 0] ∧ win0_1.index t = ![t.val, 1] ∧ win0_2.index t = ![0, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] ∧ win0_9.index t = ![0, 0] := by decide +kernel

theorem o_at (i q : Fin 512) : iblk m c 0 t (ix2 i q) = O m c (ix2 (row t i) q) := by
  blk_point [iblk, V, idx t, row]
theorem g_at (i q : Fin 512) : iblk m c 1 t (ix2 i q) = QG m c (ix2 (row t i) (gcol q)) := by
  blk_point [iblk, V, idx t, row, gcol]
theorem w_at (q : Fin 512) (k : Fin 1024) : iblk m c 2 t (ix2 q k) = W m c (ix2 q k) := by
  blk_point [iblk, V, idx t]
theorem x_at (i : Fin 512) (k : Fin 1024) : iblk m c 3 t (ix2 i k) = X m c (ix2 (row t i) k) := by
  blk_point [iblk, V, idx t, row]
theorem n_at (k : Fin 1024) : iblk m c 4 t (ix2 0 k) = N m c (ix2 0 k) := by
  blk_point [iblk, V, idx t]
theorem y_at (i : Fin 512) (k : Fin 1024) : iblk m c 5 t (ix2 i k) = Y m c (ix2 (row t i) k) := by
  blk_point [iblk, V, idx t, row]

/-- The kernel's values at block `t`, over its arguments. -/
abbrev kGated := gated (O m c) (QG m c)
abbrev kRows := rows (O m c) (QG m c) (W m c) (X m c)
abbrev kErr := err (O m c) (QG m c) (W m c) (X m c) (N m c) (Y m c)
abbrev kDY := dY (O m c) (QG m c) (W m c) (X m c) (N m c) (Y m c)

theorem pay8_at (i q : Fin 512) : k0_pay8 (iblk m c 1 t) (iblk m c 0 t) (ix2 i q) = kGated m c (row t i) q := by
  pointwise [k0_pay8]
  rw [o_at, g_at]
  simp [gated, lgs]
theorem pay9_at (i : Fin 512) (k : Fin 1024) : k0_pay9 (iblk m c 1 t) (iblk m c 0 t) (iblk m c 3 t) (iblk m c 2 t) (ix2 i k)
    = kRows m c (row t i) k := by
  pointwise [k0_pay9]
  exact Ideal.add_congr (x_at m c t i k) (Finset.sum_congr rfl fun l _ => Ideal.mul_congr (pay8_at m c t i l) (w_at m c t l k))
theorem pay10_at (i : Fin 512) : k0_pay10 (iblk m c 1 t) (iblk m c 0 t) (iblk m c 3 t) (iblk m c 2 t) (ix2 i 0)
    = rstd (kRows m c (row t i)) := by
  pointwise [k0_pay10]
  simp only [pay9_at]
  rfl
theorem pay11_at (i : Fin 512) (k : Fin 1024) : k0_pay11 (iblk m c 1 t) (iblk m c 0 t) (iblk m c 3 t) (iblk m c 2 t) (ix2 i k)
    = kRows m c (row t i) k * rstd (kRows m c (row t i)) := by
  pointwise [k0_pay11]
  exact Ideal.mul_congr (pay9_at m c t i k) (pay10_at m c t i)
theorem pay12_at (i : Fin 512) (k : Fin 1024) :
    k0_pay12 (iblk m c 1 t) (iblk m c 0 t) (iblk m c 3 t) (iblk m c 2 t) (iblk m c 4 t) (ix2 i k)
    = kRows m c (row t i) k * rstd (kRows m c (row t i)) * N m c (ix2 0 k) := by
  pointwise [k0_pay12]
  exact Ideal.mul_congr (pay11_at m c t i k) (n_at m c t k)

/-- The kernel's output rows at block `t`. -/
abbrev out (t : Fin cfg0.N) : FVec Ideal S512x1024 .f32 :=
  k0_pay12 (iblk m c 1 t) (iblk m c 0 t) (iblk m c 3 t) (iblk m c 2 t) (iblk m c 4 t)
abbrev xn (t : Fin cfg0.N) : FVec Ideal S512x1024 .f32 :=
  k0_pay11 (iblk m c 1 t) (iblk m c 0 t) (iblk m c 3 t) (iblk m c 2 t)

theorem pay1_at (i : Fin 512) (k : Fin 1024) : k0_pay1 (out m c t) (iblk m c 5 t) (ix2 i k) = kErr m c (row t i) k := by
  pointwise [k0_pay1]
  rw [show out m c t (ix2 i k) = _ from pay12_at m c t i k, y_at]
  rfl
theorem pay3_at (i : Fin 512) (k : Fin 1024) : k0_pay3 (out m c t) (iblk m c 5 t) (ix2 i k) = kDY m c (row t i) k := by
  pointwise [k0_pay3]
  rw [pay1_at]
  rfl
theorem pay5_at (i : Fin 512) (q : Fin 1024) :
    k0_pay5 (k0_pay10 (iblk m c 1 t) (iblk m c 0 t) (iblk m c 3 t) (iblk m c 2 t)) (xn m c t) (iblk m c 4 t) (out m c t) (iblk m c 5 t) (ix2 i q)
      = dX (O m c) (QG m c) (W m c) (X m c) (N m c) (Y m c) (row t i) q := by
  pointwise [k0_pay5]
  simp only [pay10_at, pay11_at, pay3_at, n_at]
  rfl

/-- A block's shares of the loss and of the gain's gradient. -/
def share8 (q : Fin 1024) : EReal := ∑ i : Fin 512, kErr m c (row t i) q * kErr m c (row t i) q * Ideal.ofBits .f32 0x3A000000#32
def share9 (q : Fin 1024) : EReal := ∑ i : Fin 512, kDY m c (row t i) q * (kRows m c (row t i) q * rstd (kRows m c (row t i)))

theorem pay2_at (v : Vec Ideal S1x1024 .f32) (q : Fin 1024) : k0_pay2 (out m c t) (iblk m c 5 t) v (ix2 0 q)
    = (v (ix2 0 q) : EReal) + share8 m c t q := by
  pointwise [k0_pay2]
  simp only [pay1_at]
  refine congrArg ((v (ix2 0 q) : EReal) + ·) ?_
  rw [share8, lit_inv_2048]
  exact sum_mul_real _ _ (by norm_num)
theorem pay4_at (v : Vec Ideal S1x1024 .f32) (q : Fin 1024) : k0_pay4 (xn m c t) (out m c t) (iblk m c 5 t) v (ix2 0 q)
    = (v (ix2 0 q) : EReal) + share9 m c t q := by
  pointwise [k0_pay4]
  simp only [pay3_at, pay11_at]
  rfl

theorem block6 (i q : Fin 512) : (outsAt0 m c t.val t.isLt).1 (ix2 i q) = kGated m c (row t i) q := by
  by_cases ht : t.val % 32 = 0
  on_goal 1 => rw [outsAt0_A m c t ht]
  on_goal 2 => rw [outsAt0_B m c t ht]
  all_goals
    frame_out
    exact pay8_at m c t i q
theorem block7 (i : Fin 512) (q : Fin 1024) : (outsAt0 m c t.val t.isLt).2.1 (ix2 i q)
    = dX (O m c) (QG m c) (W m c) (X m c) (N m c) (Y m c) (row t i) q := by
  by_cases ht : t.val % 32 = 0
  on_goal 1 => rw [outsAt0_A m c t ht]
  on_goal 2 => rw [outsAt0_B m c t ht]
  all_goals
    frame_out
    exact pay5_at m c t i q

theorem zero_at (q : Fin 1024) : (k0_pay6 (F := Ideal) (ix2 0 q) : EReal) = 0 := by pointwise [k0_pay6]
theorem zero_at' (q : Fin 1024) : (k0_pay7 (F := Ideal) (ix2 0 q) : EReal) = 0 := by pointwise [k0_pay7]

theorem first8 (h : t.val % 32 = 0) (j : S1x1024.Idx) : (outsAt0 m c t.val t.isLt).2.2.1 j = (0 : EReal) + share8 m c t (j 1) := by
  obtain ⟨i, q, rfl⟩ : ∃ (i : Fin 1) (q : Fin 1024), j = ix2 i q := ⟨j 0, j 1, by blk_ext⟩
  obtain rfl : i = 0 := Subsingleton.elim _ _
  rw [outsAt0_A m c t h]
  frame_out
  exact (pay2_at m c t _ q).trans (Ideal.add_congr (zero_at q) rfl)
theorem next8 (h : ¬t.val % 32 = 0) (j : S1x1024.Idx) : (outsAt0 m c t.val t.isLt).2.2.1 j
    = (show EReal from (outsAt0 m c (t.val - 1) (by have := t.isLt; omega)).2.2.1 j) + share8 m c t (j 1) := by
  obtain ⟨i, q, rfl⟩ : ∃ (i : Fin 1) (q : Fin 1024), j = ix2 i q := ⟨j 0, j 1, by blk_ext⟩
  obtain rfl : i = 0 := Subsingleton.elim _ _
  rw [outsAt0_B m c t h]
  frame_out
  exact pay2_at m c t _ q
theorem first9 (h : t.val % 32 = 0) (j : S1x1024.Idx) : (outsAt0 m c t.val t.isLt).2.2.2 j = (0 : EReal) + share9 m c t (j 1) := by
  obtain ⟨i, q, rfl⟩ : ∃ (i : Fin 1) (q : Fin 1024), j = ix2 i q := ⟨j 0, j 1, by blk_ext⟩
  obtain rfl : i = 0 := Subsingleton.elim _ _
  rw [outsAt0_A m c t h]
  frame_out
  exact (pay4_at m c t _ q).trans (Ideal.add_congr (zero_at' q) rfl)
theorem next9 (h : ¬t.val % 32 = 0) (j : S1x1024.Idx) : (outsAt0 m c t.val t.isLt).2.2.2 j
    = (show EReal from (outsAt0 m c (t.val - 1) (by have := t.isLt; omega)).2.2.2 j) + share9 m c t (j 1) := by
  obtain ⟨i, q, rfl⟩ : ∃ (i : Fin 1) (q : Fin 1024), j = ix2 i q := ⟨j 0, j 1, by blk_ext⟩
  obtain rfl : i = 0 := Subsingleton.elim _ _
  rw [outsAt0_B m c t h]
  frame_out
  exact pay4_at m c t _ q

theorem sum_share8 (p : Fin 32 → Fin cfg0.N) (hp : ∀ s, (p s).val = s.val) (q : Fin 1024) :
    ∑ s : Fin 32, share8 m c (p s) q = loss (O m c) (QG m c) (W m c) (X m c) (N m c) (Y m c) q := by
  unfold share8 loss
  refine Fin.sum_mul_add_congr fun s i hl => ?_
  simp only [row, hp]
theorem sum_share9 (p : Fin 32 → Fin cfg0.N) (hp : ∀ s, (p s).val = s.val) (q : Fin 1024) :
    ∑ s : Fin 32, share9 m c (p s) q = dGain (O m c) (QG m c) (W m c) (X m c) (N m c) (Y m c) q := by
  unfold share9 dGain
  refine Fin.sum_mul_add_congr fun s i hl => ?_
  simp only [row, hp]

theorem result6 (c : Dev nD) : (dats m 0 c).arrAt 6 (cfgs 0).N = fun j : S16384x512.Idx => kGated m c (j 0) (j 1) := by
  refine (dats m 0 c).arrAt_eq_of_covers 6 _ (by decide +kernel) fun t hf y => ?_
  blk_simp
  rw [after0_6]
  obtain ⟨i, q, rfl⟩ : ∃ (i : Fin 512) (q : Fin 512), y = ix2 i q := ⟨y 0, y 1, by blk_ext⟩
  have e0 : (win0_6.blk t).view.emb (ix2 i q) 0 = row t i := Fin.ext (by blk_simp [idx t]; simp [row])
  have e1 : (win0_6.blk t).view.emb (ix2 i q) 1 = q := Fin.ext (by blk_simp [idx t])
  rw [e0, e1]
  exact block6 m c t i q

theorem result7 (c : Dev nD) : (dats m 0 c).arrAt 7 (cfgs 0).N
    = fun j : S16384x1024.Idx => dX (O m c) (QG m c) (W m c) (X m c) (N m c) (Y m c) (j 0) (j 1) := by
  refine (dats m 0 c).arrAt_eq_of_covers 7 _ (by decide +kernel) fun t hf y => ?_
  blk_simp
  rw [after0_7]
  obtain ⟨i, q, rfl⟩ : ∃ (i : Fin 512) (q : Fin 1024), y = ix2 i q := ⟨y 0, y 1, by blk_ext⟩
  have e0 : (win0_7.blk t).view.emb (ix2 i q) 0 = row t i := Fin.ext (by blk_simp [idx t]; simp [row])
  have e1 : (win0_7.blk t).view.emb (ix2 i q) 1 = q := Fin.ext (by blk_simp [idx t])
  rw [e0, e1]
  exact block7 m c t i q

theorem result8 (c : Dev nD) : (dats m 0 c).arrAt 8 (cfgs 0).N
    = fun j : S1x1024.Idx => loss (O m c) (QG m c) (W m c) (X m c) (N m c) (Y m c) (j 1) := by
  refine (dats m 0 c).arrAt_eq_of_covers 8 _ (by decide +kernel) fun t hf y => ?_
  blk_simp
  rw [after0_8, Pipeline.eq_sum_fin_of_reset_step_apply_of_flush (fun n h => (outsAt0 m c n h).2.2.1) 32 (fun _ => (0 : EReal))
    (fun t j => share8 m c t (j 1)) (fun t h j => first8 m c t h j) (fun t h j => next8 m c t h j) t ((flush0_8 t).mp hf) _]
  have ht := t.isLt
  have hN := N_eq
  have hN' : cfg0.grid.N = 32 := N_eq
  rw [zero_add]
  refine (sum_share8 m c (fun s => ⟨32 * (t.val / 32) + s.val, _⟩) (fun s => ?_) (y 1)).trans ?_
  · show 32 * (t.val / 32) + s.val = s.val
    omega
  · have e1 : (win0_8.blk t).view.emb y 1 = y 1 := Fin.ext (by blk_simp [idx t])
    rw [e1]

theorem result9 (c : Dev nD) : (dats m 0 c).arrAt 9 (cfgs 0).N
    = fun j : S1x1024.Idx => dGain (O m c) (QG m c) (W m c) (X m c) (N m c) (Y m c) (j 1) := by
  refine (dats m 0 c).arrAt_eq_of_covers 9 _ (by decide +kernel) fun t hf y => ?_
  blk_simp
  rw [after0_9, Pipeline.eq_sum_fin_of_reset_step_apply_of_flush (fun n h => (outsAt0 m c n h).2.2.2) 32 (fun _ => (0 : EReal))
    (fun t j => share9 m c t (j 1)) (fun t h j => first9 m c t h j) (fun t h j => next9 m c t h j) t ((flush0_9 t).mp hf) _]
  have ht := t.isLt
  have hN := N_eq
  have hN' : cfg0.grid.N = 32 := N_eq
  rw [zero_add]
  refine (sum_share9 m c (fun s => ⟨32 * (t.val / 32) + s.val, _⟩) (fun s => ?_) (y 1)).trans ?_
  · show 32 * (t.val / 32) + s.val = s.val
    omega
  · have e1 : (win0_9.blk t).view.emb y 1 = y 1 := Fin.ext (by blk_simp [idx t])
    rw [e1]

end kernel

section reference
open Cert.LossRefIdeal Cert.LossRefIdeal.Gen

variable (m : (ℓ : Loc nD τ sig) → Buf (Elt Ideal) ℓ) (g : Dev nD → PrngReg) (c : Dev nD)

abbrev RO : FVec Ideal ⟨2, ![16384, 512]⟩ .f32 := m ((c : Thread nD τ).loc main_arg0)
abbrev RQG : FVec Ideal ⟨2, ![16384, 1024]⟩ .bf16 := m ((c : Thread nD τ).loc main_arg1)
abbrev RW : FVec Ideal ⟨2, ![512, 1024]⟩ .bf16 := m ((c : Thread nD τ).loc main_arg2)
abbrev RX : FVec Ideal ⟨2, ![16384, 1024]⟩ .f32 := m ((c : Thread nD τ).loc main_arg3)
abbrev RN : FVec Ideal ⟨2, ![1, 1024]⟩ .f32 := m ((c : Thread nD τ).loc main_arg4)
abbrev RY : FVec Ideal ⟨2, ![16384, 1024]⟩ .f32 := m ((c : Thread nD τ).loc main_arg5)

abbrev rRows := rows (RO m c) (RQG m c) (RW m c) (RX m c)
abbrev rErr := err (RO m c) (RQG m c) (RW m c) (RX m c) (RN m c) (RY m c)

/-- The gradient at the network's output, as the reference scales it. -/
def rDY (p : Fin 16384) (k : Fin 1024) : EReal :=
  (∑ _ : Fin 1, Ideal.ofBits .f32 0x3F000000#32 * Ideal.div 1 (Ideal.ofBits .f32 0x44800000#32)) * (Ideal.ofBits .f32 0x40000000#32 * rErr m c p k)
theorem rDY_eq (p : Fin 16384) (k : Fin 1024) : rDY m c p k = dY (RO m c) (RQG m c) (RW m c) (RX m c) (RN m c) (RY m c) p k := scale_one _

theorem ref7 (p : Fin 16384) (q : Fin 1024) : Cert.LossRefIdeal.Value.res_main_v58 m c (ix2 p q)
    = dX (RO m c) (RQG m c) (RW m c) (RX m c) (RN m c) (RY m c) p q := by
  unfold dX
  simp only [← rDY_eq]
  refine Eq.trans ?_ (back_one (rRows m c p) (fun k => rDY m c p k * RN m c (ix2 0 k)) q)
  pointwise [Cert.LossRefIdeal.Value.res_main_v58]
  rfl
theorem ref8 (q : Fin 1024) : Cert.LossRefIdeal.Value.res_main_v31 m c (ix2 0 q)
    = loss (RO m c) (RQG m c) (RW m c) (RX m c) (RN m c) (RY m c) q := by
  refine Eq.trans ?_ (scale_two fun p => rErr m c p q * rErr m c p q)
  pointwise [Cert.LossRefIdeal.Value.res_main_v31]
  rfl
theorem ref9 (q : Fin 1024) : Cert.LossRefIdeal.Value.res_main_v42 m c (ix2 0 q)
    = dGain (RO m c) (RQG m c) (RW m c) (RX m c) (RN m c) (RY m c) q := by
  unfold dGain
  simp only [← rDY_eq]
  have e : ∑ p : Fin 16384, rRows m c p q * rstd (rRows m c p) * rDY m c p q
      = ∑ p : Fin 16384, rDY m c p q * (rRows m c p q * rstd (rRows m c p)) := Finset.sum_congr rfl fun p _ => mul_comm _ _
  refine Eq.trans ?_ e
  pointwise [Cert.LossRefIdeal.Value.res_main_v42]
  rfl

theorem reference :
    θ_run defs (onTc (τ := τ) (main (F := Ideal))) ⟨m, fun _ => 0, g⟩ fun r => ∀ c : Dev nD,
      r.2.mem ((c.tc : Thread nD τ).loc main_v59) = (fun j : S16384x512.Idx => gated (RO m c) (RQG m c) (j 0) (j 1))
      ∧ r.2.mem ((c.tc : Thread nD τ).loc main_v58) = (fun j : S16384x1024.Idx => dX (RO m c) (RQG m c) (RW m c) (RX m c) (RN m c) (RY m c) (j 0) (j 1))
      ∧ r.2.mem ((c.tc : Thread nD τ).loc main_v31) = (fun j : S1x1024.Idx => loss (RO m c) (RQG m c) (RW m c) (RX m c) (RN m c) (RY m c) (j 1))
      ∧ r.2.mem ((c.tc : Thread nD τ).loc main_v42) = (fun j : S1x1024.Idx => dGain (RO m c) (RQG m c) (RW m c) (RX m c) (RN m c) (RY m c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans ?_, (h c).2.1.trans ?_, (h c).2.2.1.trans ?_, (h c).2.2.2.1.trans ?_, (h c).2.2.2.2⟩)
    (Cert.LossRefIdeal.Value.run m g)
  · funext j
    obtain ⟨p, q, rfl⟩ : ∃ p q, j = ix2 p q := ⟨j 0, j 1, eq_ix2 j⟩
    pointwise
    rfl
  · funext j
    obtain ⟨p, q, rfl⟩ : ∃ p q, j = ix2 p q := ⟨j 0, j 1, eq_ix2 j⟩
    exact ref7 m c p q
  · funext j
    obtain ⟨i, q, rfl⟩ : ∃ (i : Fin 1) (q : Fin 1024), j = ix2 i q := ⟨j 0, j 1, eq_ix2 j⟩
    obtain rfl : i = 0 := Subsingleton.elim _ _
    exact ref8 m c q
  · funext j
    obtain ⟨i, q, rfl⟩ : ∃ (i : Fin 1) (q : Fin 1024), j = ix2 i q := ⟨j 0, j 1, eq_ix2 j⟩
    obtain rfl : i = 0 := Subsingleton.elim _ _
    exact ref9 m c q

end reference

end Cert.LossV

end
-- ==== Proof.Loss.Claim.lean ====
/- The two programs end with the same gated rows, loss and gradients. -/
module

public import proofs.«01_k».proof.Defs
public import proofs.«01_k».proof.Proof.Gen.Loss.Frame
public import proofs.«01_k».proof.Proof.Loss.Value

@[expose] public section

set_option maxRecDepth 16384

noncomputable section

namespace Cert.LossV

open Idealize.ShloMosaic Idealize.ShloMosaic.TcCoe Idealize.SL.Sem Cert.Common

theorem algebraic : algebraic_LossIdeal_LossRefIdeal := by
  intro m g m' g' hpre hag
  have e0 : ∀ c, RO m' c = O m c := fun c => (hag c).1
  have e1 : ∀ c, RQG m' c = QG m c := fun c => (hag c).2.1
  have e2 : ∀ c, RW m' c = W m c := fun c => (hag c).2.2.1
  have e3 : ∀ c, RX m' c = X m c := fun c => (hag c).2.2.2.1
  have e4 : ∀ c, RN m' c = N m c := fun c => (hag c).2.2.2.2.1
  have e5 : ∀ c, RY m' c = Y m c := fun c => (hag c).2.2.2.2.2
  refine ⟨fun c => (LossIdeal.Gen.dats m 0 c).arrAt 6 (LossIdeal.cfgs 0).N, fun c => (LossIdeal.Gen.dats m 0 c).arrAt 7 (LossIdeal.cfgs 0).N,
    fun c => (LossIdeal.Gen.dats m 0 c).arrAt 8 (LossIdeal.cfgs 0).N, fun c => (LossIdeal.Gen.dats m 0 c).arrAt 9 (LossIdeal.cfgs 0).N,
    LossIdeal.Value.run_blocks m g,
    (θ_run _ _ _).mono (fun r h c => ⟨(h c).1.trans ?_, (h c).2.1.trans ?_, (h c).2.2.1.trans ?_, (h c).2.2.2.1.trans ?_, (h c).2.2.2.2⟩)
      (reference m' g')⟩
  · rw [e0, e1]
    exact (result6 m c).symm
  · rw [e0, e1, e2, e3, e4, e5]
    exact (result7 m c).symm
  · rw [e0, e1, e2, e3, e4, e5]
    exact (result8 m c).symm
  · rw [e0, e1, e2, e3, e4, e5]
    exact (result9 m c).symm

end Cert.LossV

end
-- ==== Proof.Norms.Value.lean ====
/- The gradients through the two normalizations of the attention's input: what the kernel writes, and what the reference computes. -/
module

public import proofs.«01_k».proof.Proof.Gen.NormsIdeal.Value
public import proofs.«01_k».proof.Proof.Gen.NormsRefIdeal.Run
public import proofs.«01_k».proof.Proof.Common.Norm
public import Idealize.ShloMosaic.Lib.Pipeline.ValueKit
public import Idealize.ShloMosaic.Lib.Pointwise

@[expose] public section

set_option maxRecDepth 16384

noncomputable section

namespace Cert.NormsV

open Idealize.ShloMosaic Idealize.ShloMosaic.TcCoe Idealize.SL.Sem Cert.Common

/-- A cotangent's rows against the rows of the weights: the gradient of the normalized rows. -/
def dH {φ ψ : FTy} (g : FVec Ideal ⟨2, ![16384, 1024]⟩ φ) (w : FVec Ideal ⟨2, ![1024, 1024]⟩ ψ) (p : Fin 16384) (q : Fin 1024) : EReal :=
  ∑ k : Fin 1024, (g (ix2 p k) : EReal) * w (ix2 q k)
/-- A row of a matrix. -/
def rowOf (x : FVec Ideal ⟨2, ![16384, 1024]⟩ .f32) (p : Fin 16384) (k : Fin 1024) : EReal := x (ix2 p k)
/-- The gradient of a gain. -/
def dGain {φ ψ : FTy} (x : FVec Ideal ⟨2, ![16384, 1024]⟩ .f32) (g : FVec Ideal ⟨2, ![16384, 1024]⟩ φ) (w : FVec Ideal ⟨2, ![1024, 1024]⟩ ψ)
    (q : Fin 1024) : EReal :=
  ∑ p : Fin 16384, dH g w p q * (rowOf x p q * rstd (rowOf x p))
/-- The gradient of the rows. -/
def dX (x : FVec Ideal ⟨2, ![16384, 1024]⟩ .f32) (g1 : FVec Ideal ⟨2, ![16384, 1024]⟩ .bf16) (g2 : FVec Ideal ⟨2, ![16384, 1024]⟩ .f32)
    (w1 w2 : FVec Ideal ⟨2, ![1024, 1024]⟩ .bf16) (n1 n2 : FVec Ideal ⟨2, ![1, 1024]⟩ .f32) (e : FVec Ideal ⟨2, ![16384, 1024]⟩ .f32)
    (p : Fin 16384) (q : Fin 1024) : EReal :=
  e (ix2 p q) + back (rowOf x p) (fun k => dH g1 w1 p k * n1 (ix2 0 k) + dH g2 w2 p k * n2 (ix2 0 k)) q

section kernel
open Cert.NormsIdeal Cert.NormsIdeal.Gen

variable (m : (ℓ : Loc nD τ sig) → Buf (Elt Ideal) ℓ) (c : Dev nD) (t : Fin cfg0.N)

theorem N_eq : cfg0.N = 32 := rfl

/-- The row of the whole array that row `i` of block `t` is. -/
def row (t : Fin cfg0.N) (i : Fin 512) : Fin 16384 := ⟨t.val * 512 + i.val, by have := t.isLt; have h : cfg0.N = 32 := rfl; omega⟩

abbrev X : FVec Ideal ⟨2, ![16384, 1024]⟩ .f32 := m ((c : Thread nD τ).loc main_arg0)
abbrev G1 : FVec Ideal ⟨2, ![16384, 1024]⟩ .bf16 := m ((c : Thread nD τ).loc main_arg1)
abbrev G2 : FVec Ideal ⟨2, ![16384, 1024]⟩ .f32 := m ((c : Thread nD τ).loc main_arg2)
abbrev W1 : FVec Ideal ⟨2, ![1024, 1024]⟩ .bf16 := m ((c : Thread nD τ).loc main_arg3)
abbrev W2 : FVec Ideal ⟨2, ![1024, 1024]⟩ .bf16 := m ((c : Thread nD τ).loc main_arg4)
abbrev N1 : FVec Ideal ⟨2, ![1, 1024]⟩ .f32 := m ((c : Thread nD τ).loc main_arg5)
abbrev N2 : FVec Ideal ⟨2, ![1, 1024]⟩ .f32 := m ((c : Thread nD τ).loc main_arg6)
abbrev E : FVec Ideal ⟨2, ![16384, 1024]⟩ .f32 := m ((c : Thread nD τ).loc main_arg7)

/-- Which block of its array each window reads or writes at point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![0, 0] ∧ win0_10.index t = ![0, 0] := by decide +kernel

theorem x_at (i : Fin 512) (k : Fin 1024) : iblk m c 0 t (ix2 i k) = rowOf (X m c) (row t i) k := by
  show _ = X m c (ix2 (row t i) k)
  blk_point [iblk, V, idx t, row]
theorem g1_at (i : Fin 512) (k : Fin 1024) : iblk m c 1 t (ix2 i k) = G1 m c (ix2 (row t i) k) := by
  blk_point [iblk, V, idx t, row]
theorem g2_at (i : Fin 512) (k : Fin 1024) : iblk m c 2 t (ix2 i k) = G2 m c (ix2 (row t i) k) := by
  blk_point [iblk, V, idx t, row]
theorem w1_at (q k : Fin 1024) : iblk m c 3 t (ix2 q k) = W1 m c (ix2 q k) := by
  blk_point [iblk, V, idx t]
theorem w2_at (q k : Fin 1024) : iblk m c 4 t (ix2 q k) = W2 m c (ix2 q k) := by
  blk_point [iblk, V, idx t]
theorem n1_at (k : Fin 1024) : iblk m c 5 t (ix2 0 k) = N1 m c (ix2 0 k) := by
  blk_point [iblk, V, idx t]
theorem n2_at (k : Fin 1024) : iblk m c 6 t (ix2 0 k) = N2 m c (ix2 0 k) := by
  blk_point [iblk, V, idx t]
theorem e_at (i : Fin 512) (k : Fin 1024) : iblk m c 7 t (ix2 i k) = E m c (ix2 (row t i) k) := by
  blk_point [iblk, V, idx t, row]

theorem pay5_at (i : Fin 512) : k0_pay5 (iblk m c 0 t) (ix2 i 0) = rstd (rowOf (X m c) (row t i)) := by
  pointwise [k0_pay5]
  simp only [x_at]
  rfl
theorem pay6_at (i : Fin 512) (q : Fin 1024) : k0_pay6 (iblk m c 0 t) (ix2 i q)
    = rowOf (X m c) (row t i) q * rstd (rowOf (X m c) (row t i)) := by
  pointwise [k0_pay6]
  exact Ideal.mul_congr (x_at m c t i q) (pay5_at m c t i)
theorem pay7_at (i : Fin 512) (q : Fin 1024) : k0_pay7 (iblk m c 1 t) (iblk m c 3 t) (ix2 i q) = dH (G1 m c) (W1 m c) (row t i) q := by
  pointwise [k0_pay7]
  exact Finset.sum_congr rfl fun k _ => Ideal.mul_congr (g1_at m c t i k) (w1_at m c t q k)
theorem pay10_at (i : Fin 512) (q : Fin 1024) : k0_pay10 (iblk m c 2 t) (iblk m c 4 t) (ix2 i q) = dH (G2 m c) (W2 m c) (row t i) q := by
  pointwise [k0_pay10]
  exact Finset.sum_congr rfl fun k _ => Ideal.mul_congr (g2_at m c t i k) (w2_at m c t q k)
theorem pay9_at (i : Fin 512) (q : Fin 1024) : k0_pay9 (iblk m c 1 t) (iblk m c 3 t) (iblk m c 5 t) (ix2 i q)
    = dH (G1 m c) (W1 m c) (row t i) q * N1 m c (ix2 0 q) := by
  pointwise [k0_pay9]
  exact Ideal.mul_congr (pay7_at m c t i q) (n1_at m c t q)

/-- A block's rows of the first result. -/
theorem rows_at (i : Fin 512) (q : Fin 1024) :
    k0_pay2 (k0_pay5 (iblk m c 0 t)) (k0_pay6 (iblk m c 0 t)) (k0_pay9 (iblk m c 1 t) (iblk m c 3 t) (iblk m c 5 t))
        (k0_pay10 (iblk m c 2 t) (iblk m c 4 t)) (iblk m c 6 t) (iblk m c 7 t) (ix2 i q)
      = dX (X m c) (G1 m c) (G2 m c) (W1 m c) (W2 m c) (N1 m c) (N2 m c) (E m c) (row t i) q := by
  pointwise [k0_pay2]
  simp only [pay5_at, pay6_at, pay9_at, pay10_at, n2_at, e_at]
  rfl

/-- A block's shares of the gains' gradients. -/
def share1 (q : Fin 1024) : EReal := ∑ i : Fin 512, dH (G1 m c) (W1 m c) (row t i) q * (rowOf (X m c) (row t i) q * rstd (rowOf (X m c) (row t i)))
def share2 (q : Fin 1024) : EReal := ∑ i : Fin 512, dH (G2 m c) (W2 m c) (row t i) q * (rowOf (X m c) (row t i) q * rstd (rowOf (X m c) (row t i)))

theorem pay8_at (v : Vec Ideal S1x1024 .f32) (q : Fin 1024) : k0_pay8 (iblk m c 0 t) (iblk m c 1 t) (iblk m c 3 t) v (ix2 0 q)
    = (v (ix2 0 q) : EReal) + share1 m c t q := by
  pointwise [k0_pay8]
  simp only [pay6_at, pay7_at]
  rfl
theorem pay1_at (v : Vec Ideal S1x1024 .f32) (q : Fin 1024) :
    k0_pay1 (k0_pay6 (iblk m c 0 t)) (k0_pay10 (iblk m c 2 t) (iblk m c 4 t)) v (ix2 0 q) = (v (ix2 0 q) : EReal) + share2 m c t q := by
  pointwise [k0_pay1]
  simp only [pay6_at, pay10_at]
  rfl

theorem block (i : Fin 512) (q : Fin 1024) : (outsAt0 m c t.val t.isLt).1 (ix2 i q)
    = dX (X m c) (G1 m c) (G2 m c) (W1 m c) (W2 m c) (N1 m c) (N2 m c) (E m c) (row t i) q := by
  by_cases ht : t.val % 32 = 0
  on_goal 1 => rw [outsAt0_A m c t ht]
  on_goal 2 => rw [outsAt0_B m c t ht]
  all_goals
    frame_out
    exact rows_at m c t i q

theorem zero_at (q : Fin 1024) : (k0_pay3 (F := Ideal) (ix2 0 q) : EReal) = 0 := by pointwise [k0_pay3]
theorem zero_at' (q : Fin 1024) : (k0_pay4 (F := Ideal) (ix2 0 q) : EReal) = 0 := by pointwise [k0_pay4]

theorem first1 (h : t.val % 32 = 0) (j : S1x1024.Idx) : (outsAt0 m c t.val t.isLt).2.1 j = (0 : EReal) + share1 m c t (j 1) := by
  obtain ⟨i, q, rfl⟩ : ∃ (i : Fin 1) (q : Fin 1024), j = ix2 i q := ⟨j 0, j 1, by blk_ext⟩
  obtain rfl : i = 0 := Subsingleton.elim _ _
  rw [outsAt0_A m c t h]
  frame_out
  exact (pay8_at m c t _ q).trans (Ideal.add_congr (zero_at q) rfl)
theorem next1 (h : ¬t.val % 32 = 0) (j : S1x1024.Idx) : (outsAt0 m c t.val t.isLt).2.1 j
    = (show EReal from (outsAt0 m c (t.val - 1) (by have := t.isLt; omega)).2.1 j) + share1 m c t (j 1) := by
  obtain ⟨i, q, rfl⟩ : ∃ (i : Fin 1) (q : Fin 1024), j = ix2 i q := ⟨j 0, j 1, by blk_ext⟩
  obtain rfl : i = 0 := Subsingleton.elim _ _
  rw [outsAt0_B m c t h]
  frame_out
  exact pay8_at m c t _ q
theorem first2 (h : t.val % 32 = 0) (j : S1x1024.Idx) : (outsAt0 m c t.val t.isLt).2.2 j = (0 : EReal) + share2 m c t (j 1) := by
  obtain ⟨i, q, rfl⟩ : ∃ (i : Fin 1) (q : Fin 1024), j = ix2 i q := ⟨j 0, j 1, by blk_ext⟩
  obtain rfl : i = 0 := Subsingleton.elim _ _
  rw [outsAt0_A m c t h]
  frame_out
  exact (pay1_at m c t _ q).trans (Ideal.add_congr (zero_at' q) rfl)
theorem next2 (h : ¬t.val % 32 = 0) (j : S1x1024.Idx) : (outsAt0 m c t.val t.isLt).2.2 j
    = (show EReal from (outsAt0 m c (t.val - 1) (by have := t.isLt; omega)).2.2 j) + share2 m c t (j 1) := by
  obtain ⟨i, q, rfl⟩ : ∃ (i : Fin 1) (q : Fin 1024), j = ix2 i q := ⟨j 0, j 1, by blk_ext⟩
  obtain rfl : i = 0 := Subsingleton.elim _ _
  rw [outsAt0_B m c t h]
  frame_out
  exact pay1_at m c t _ q

theorem sum_share1 (p : Fin 32 → Fin cfg0.N) (hp : ∀ s, (p s).val = s.val) (q : Fin 1024) :
    ∑ s : Fin 32, share1 m c (p s) q = dGain (X m c) (G1 m c) (W1 m c) q := by
  unfold share1 dGain
  refine Fin.sum_mul_add_congr fun s i hl => ?_
  simp only [row, hp]
theorem sum_share2 (p : Fin 32 → Fin cfg0.N) (hp : ∀ s, (p s).val = s.val) (q : Fin 1024) :
    ∑ s : Fin 32, share2 m c (p s) q = dGain (X m c) (G2 m c) (W2 m c) q := by
  unfold share2 dGain
  refine Fin.sum_mul_add_congr fun s i hl => ?_
  simp only [row, hp]

theorem result8 (c : Dev nD) : (dats m 0 c).arrAt 8 (cfgs 0).N
    = fun j : S16384x1024.Idx => dX (X m c) (G1 m c) (G2 m c) (W1 m c) (W2 m c) (N1 m c) (N2 m c) (E m c) (j 0) (j 1) := by
  refine (dats m 0 c).arrAt_eq_of_covers 8 _ (by decide +kernel) fun t hf y => ?_
  blk_simp
  rw [after0_8]
  obtain ⟨i, q, rfl⟩ : ∃ (i : Fin 512) (q : Fin 1024), y = ix2 i q := ⟨y 0, y 1, by blk_ext⟩
  have e0 : (win0_8.blk t).view.emb (ix2 i q) 0 = row t i := Fin.ext (by blk_simp [idx t]; simp [row])
  have e1 : (win0_8.blk t).view.emb (ix2 i q) 1 = q := Fin.ext (by blk_simp [idx t])
  rw [e0, e1]
  exact block m c t i q

theorem result9 (c : Dev nD) : (dats m 0 c).arrAt 9 (cfgs 0).N
    = fun j : S1x1024.Idx => dGain (X m c) (G1 m c) (W1 m c) (j 1) := by
  refine (dats m 0 c).arrAt_eq_of_covers 9 _ (by decide +kernel) fun t hf y => ?_
  blk_simp
  rw [after0_9, Pipeline.eq_sum_fin_of_reset_step_apply_of_flush (fun n h => (outsAt0 m c n h).2.1) 32 (fun _ => (0 : EReal))
    (fun t j => share1 m c t (j 1)) (fun t h j => first1 m c t h j) (fun t h j => next1 m c t h j) t ((flush0_9 t).mp hf) _]
  have ht := t.isLt
  have hN := N_eq
  have hN' : cfg0.grid.N = 32 := N_eq
  rw [zero_add]
  refine (sum_share1 m c (fun s => ⟨32 * (t.val / 32) + s.val, _⟩) (fun s => ?_) (y 1)).trans ?_
  · show 32 * (t.val / 32) + s.val = s.val
    omega
  · have e1 : (win0_9.blk t).view.emb y 1 = y 1 := Fin.ext (by blk_simp [idx t])
    rw [e1]

theorem result10 (c : Dev nD) : (dats m 0 c).arrAt 10 (cfgs 0).N
    = fun j : S1x1024.Idx => dGain (X m c) (G2 m c) (W2 m c) (j 1) := by
  refine (dats m 0 c).arrAt_eq_of_covers 10 _ (by decide +kernel) fun t hf y => ?_
  blk_simp
  rw [after0_10, Pipeline.eq_sum_fin_of_reset_step_apply_of_flush (fun n h => (outsAt0 m c n h).2.2) 32 (fun _ => (0 : EReal))
    (fun t j => share2 m c t (j 1)) (fun t h j => first2 m c t h j) (fun t h j => next2 m c t h j) t ((flush0_10 t).mp hf) _]
  have ht := t.isLt
  have hN := N_eq
  have hN' : cfg0.grid.N = 32 := N_eq
  rw [zero_add]
  refine (sum_share2 m c (fun s => ⟨32 * (t.val / 32) + s.val, _⟩) (fun s => ?_) (y 1)).trans ?_
  · show 32 * (t.val / 32) + s.val = s.val
    omega
  · have e1 : (win0_10.blk t).view.emb y 1 = y 1 := Fin.ext (by blk_simp [idx t])
    rw [e1]

end kernel

section reference
open Cert.NormsRefIdeal Cert.NormsRefIdeal.Gen

variable (m : (ℓ : Loc nD τ sig) → Buf (Elt Ideal) ℓ) (g : Dev nD → PrngReg)

abbrev RX (c : Dev nD) : FVec Ideal ⟨2, ![16384, 1024]⟩ .f32 := m ((c : Thread nD τ).loc main_arg0)
abbrev RG1 (c : Dev nD) : FVec Ideal ⟨2, ![16384, 1024]⟩ .bf16 := m ((c : Thread nD τ).loc main_arg1)
abbrev RG2 (c : Dev nD) : FVec Ideal ⟨2, ![16384, 1024]⟩ .f32 := m ((c : Thread nD τ).loc main_arg2)
abbrev RW1 (c : Dev nD) : FVec Ideal ⟨2, ![1024, 1024]⟩ .bf16 := m ((c : Thread nD τ).loc main_arg3)
abbrev RW2 (c : Dev nD) : FVec Ideal ⟨2, ![1024, 1024]⟩ .bf16 := m ((c : Thread nD τ).loc main_arg4)
abbrev RN1 (c : Dev nD) : FVec Ideal ⟨2, ![1, 1024]⟩ .f32 := m ((c : Thread nD τ).loc main_arg5)
abbrev RN2 (c : Dev nD) : FVec Ideal ⟨2, ![1, 1024]⟩ .f32 := m ((c : Thread nD τ).loc main_arg6)
abbrev RE (c : Dev nD) : FVec Ideal ⟨2, ![16384, 1024]⟩ .f32 := m ((c : Thread nD τ).loc main_arg7)

theorem ref_row (c : Dev nD) (h2 : ∀ i, Real? (RG2 m c i)) (h4 : ∀ i, Real? (RW2 m c i)) (h6 : ∀ i, Real? (RN2 m c i))
    (p : Fin 16384) (q : Fin 1024) : Cert.NormsRefIdeal.Value.res_main_v76 m c (ix2 p q)
      = dX (RX m c) (RG1 m c) (RG2 m c) (RW1 m c) (RW2 m c) (RN1 m c) (RN2 m c) (RE m c) p q := by
  refine Eq.trans ?_ (back_two (rowOf (RX m c) p) (fun k => dH (RG1 m c) (RW1 m c) p k * RN1 m c (ix2 0 k))
    (fun k => dH (RG2 m c) (RW2 m c) p k * RN2 m c (ix2 0 k)) (RE m c (ix2 p q))
    (fun k => (Real?.sum _ _ fun _ _ => (h2 _).mul (h4 _)).mul (h6 _)) q)
  pointwise [Cert.NormsRefIdeal.Value.res_main_v76]
  rfl

theorem reference (h2 : ∀ c i, Real? (RG2 m c i)) (h4 : ∀ c i, Real? (RW2 m c i)) (h6 : ∀ c i, Real? (RN2 m c i)) :
    θ_run defs (onTc (τ := τ) (main (F := Ideal))) ⟨m, fun _ => 0, g⟩ fun r => ∀ c : Dev nD,
      r.2.mem ((c.tc : Thread nD τ).loc main_v76) = (fun j : S16384x1024.Idx => dX (RX m c) (RG1 m c) (RG2 m c) (RW1 m c) (RW2 m c) (RN1 m c) (RN2 m c) (RE m c) (j 0) (j 1))
      ∧ r.2.mem ((c.tc : Thread nD τ).loc main_v59) = (fun j : S1x1024.Idx => dGain (RX m c) (RG1 m c) (RW1 m c) (j 1))
      ∧ r.2.mem ((c.tc : Thread nD τ).loc main_v38) = (fun j : S1x1024.Idx => dGain (RX m c) (RG2 m c) (RW2 m c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ⟨(h c).1.trans ?_, (h c).2.1.trans ?_, (h c).2.2.1.trans ?_, (h c).2.2.2⟩) (Cert.NormsRefIdeal.Value.run m g)
  · funext j
    obtain ⟨p, q, rfl⟩ : ∃ p q, j = ix2 p q := ⟨j 0, j 1, eq_ix2 j⟩
    exact ref_row m c (h2 c) (h4 c) (h6 c) p q
  · funext j
    obtain ⟨i, q, rfl⟩ : ∃ (i : Fin 1) (q : Fin 1024), j = ix2 i q := ⟨j 0, j 1, eq_ix2 j⟩
    obtain rfl : i = 0 := Subsingleton.elim _ _
    refine Eq.trans ?_ (Finset.sum_congr rfl fun p _ => mul_comm (rowOf (RX m c) p q * rstd (rowOf (RX m c) p)) (dH (RG1 m c) (RW1 m c) p q))
    pointwise
    rfl
  · funext j
    obtain ⟨i, q, rfl⟩ : ∃ (i : Fin 1) (q : Fin 1024), j = ix2 i q := ⟨j 0, j 1, eq_ix2 j⟩
    obtain rfl : i = 0 := Subsingleton.elim _ _
    refine Eq.trans ?_ (Finset.sum_congr rfl fun p _ => mul_comm (rowOf (RX m c) p q * rstd (rowOf (RX m c) p)) (dH (RG2 m c) (RW2 m c) p q))
    pointwise
    rfl

end reference

end Cert.NormsV

end
-- ==== Proof.Norms.Claim.lean ====
/- The two programs end with the same gradients of the rows and of the two gains. -/
module

public import proofs.«01_k».proof.Defs
public import proofs.«01_k».proof.Proof.Gen.Pre_norms_finite
public import proofs.«01_k».proof.Proof.Gen.Norms.Frame
public import proofs.«01_k».proof.Proof.Norms.Value

@[expose] public section

set_option maxRecDepth 16384

noncomputable section

namespace Cert.NormsV

open Idealize.ShloMosaic Idealize.ShloMosaic.TcCoe Idealize.SL.Sem Cert.Common

/-- What the precondition says: one cotangent, its weights and its gain hold real numbers. -/
theorem reals (a b c d e f g h) (hf : Pre_norms_finite.fn (F := Ideal) a b c d e f g h = fun _ => 1#1) :
    (∀ i, Real? (c i)) ∧ (∀ i, Real? (e i)) ∧ ∀ i, Real? (g i) := by
  have h' := congrFun hf ix0
  dsimp only [Pre_norms_finite.fn] at h'
  obtain ⟨hxy, hz⟩ := andi_one h'
  obtain ⟨hx, hy⟩ := andi_one hxy
  haveI : Subsingleton Pre_norms_finite.S_.Idx := ⟨fun a b => funext fun i => i.elim0⟩
  exact ⟨fun i => real_of_all c _ (fun _ => rfl) _ _ _ _ hx i, fun i => real_of_all (extf .f32 e _) _ (fun _ => rfl) _ _ _ _ hy i,
    fun i => real_of_all g _ (fun _ => rfl) _ _ _ _ hz i⟩

theorem algebraic : algebraic_NormsIdeal_NormsRefIdeal_pre_norms_finite := by
  intro m g m' g' hpre hag
  have e0 : ∀ c, RX m' c = X m c := fun c => (hag c).1
  have e1 : ∀ c, RG1 m' c = G1 m c := fun c => (hag c).2.1
  have e2 : ∀ c, RG2 m' c = G2 m c := fun c => (hag c).2.2.1
  have e3 : ∀ c, RW1 m' c = W1 m c := fun c => (hag c).2.2.2.1
  have e4 : ∀ c, RW2 m' c = W2 m c := fun c => (hag c).2.2.2.2.1
  have e5 : ∀ c, RN1 m' c = N1 m c := fun c => (hag c).2.2.2.2.2.1
  have e6 : ∀ c, RN2 m' c = N2 m c := fun c => (hag c).2.2.2.2.2.2.1
  have e7 : ∀ c, RE m' c = E m c := fun c => (hag c).2.2.2.2.2.2.2
  have hr := fun c => reals _ _ _ _ _ _ _ _ (hpre c)
  refine ⟨fun c => (NormsIdeal.Gen.dats m 0 c).arrAt 8 (NormsIdeal.cfgs 0).N, fun c => (NormsIdeal.Gen.dats m 0 c).arrAt 9 (NormsIdeal.cfgs 0).N,
    fun c => (NormsIdeal.Gen.dats m 0 c).arrAt 10 (NormsIdeal.cfgs 0).N, NormsIdeal.Value.run_blocks m g,
    (θ_run _ _ _).mono (fun r h c => ⟨(h c).1.trans ?_, (h c).2.1.trans ?_, (h c).2.2.1.trans ?_, (h c).2.2.2⟩)
      (reference m' g' (fun c i => by rw [e2]; exact (hr c).1 i) (fun c i => by rw [e4]; exact (hr c).2.1 i)
        (fun c i => by rw [e6]; exact (hr c).2.2 i))⟩
  · rw [e0, e1, e2, e3, e4, e5, e6, e7]
    exact (result8 m c).symm
  · rw [e0, e1, e3]
    exact (result9 m c).symm
  · rw [e0, e2, e4]
    exact (result10 m c).symm

end Cert.NormsV

end
-- ==== Proof.Weight.Value.lean ====
/- The mixer's input weight's gradient, over the rows normalized again: what the kernel writes, and what the reference computes. -/
module

public import proofs.«01_k».proof.Proof.Gen.WeightIdeal.Value
public import proofs.«01_k».proof.Proof.Gen.WeightRefIdeal.Run
public import proofs.«01_k».proof.Proof.Common.Norm
public import Idealize.ShloMosaic.Lib.Pipeline.ValueKit
public import Idealize.ShloMosaic.Lib.Pointwise

@[expose] public section

set_option maxRecDepth 16384

noncomputable section

namespace Cert.WeightV

open Idealize.ShloMosaic Idealize.ShloMosaic.TcCoe Idealize.SL.Sem Cert.Common

/-- The normalized rows under the gain. -/
def hn (x : FVec Ideal ⟨2, ![16384, 1024]⟩ .f32) (n : FVec Ideal ⟨2, ![1, 1024]⟩ .f32) (p : Fin 16384) (k : Fin 1024) : EReal :=
  (x (ix2 p k) : EReal) * rstd (fun k => (x (ix2 p k) : EReal)) * n (ix2 0 k)
/-- Column `q` of group `b` of the projection. -/
def col (b : Fin 4) (q : Fin 1024) : Fin 4096 := ⟨b.val * 1024 + q.val, by omega⟩
/-- The weight's gradient. -/
def dW (x : FVec Ideal ⟨2, ![16384, 1024]⟩ .f32) (u : FVec Ideal ⟨2, ![16384, 4096]⟩ .bf16) (n : FVec Ideal ⟨2, ![1, 1024]⟩ .f32)
    (i : Fin 1024) (j : Fin 4096) : EReal :=
  ∑ p : Fin 16384, hn x n p i * u (ix2 p j)

section kernel
open Cert.WeightIdeal Cert.WeightIdeal.Gen

variable (m : (ℓ : Loc nD τ sig) → Buf (Elt Ideal) ℓ) (c : Dev nD) (t : Fin cfg0.N)

theorem N_eq : cfg0.N = 64 := rfl

/-- The row and the column of the whole arrays that row `i` and column `j` of point `t`'s blocks are. -/
def row (t : Fin cfg0.N) (i : Fin 512) : Fin 16384 := ⟨t.val % 32 * 512 + i.val, by omega⟩
def ucol (t : Fin cfg0.N) (j : Fin 2048) : Fin 4096 := ⟨t.val / 32 * 2048 + j.val, by have := t.isLt; have h : cfg0.N = 64 := rfl; omega⟩

abbrev X : FVec Ideal ⟨2, ![16384, 1024]⟩ .f32 := m ((c : Thread nD τ).loc main_arg0)
abbrev U : FVec Ideal ⟨2, ![16384, 4096]⟩ .bf16 := m ((c : Thread nD τ).loc main_arg1)
abbrev N : FVec Ideal ⟨2, ![1, 1024]⟩ .f32 := m ((c : Thread nD τ).loc main_arg2)

/-- Which block of its array each window reads or writes at point `t`. -/
theorem idx : ∀ t : Fin cfg0.N, win0_0.index t = ![t.val % 32, 0] ∧ win0_1.index t = ![0, 0] ∧ win0_2.index t = ![t.val % 32, t.val / 32]
    ∧ win0_3.index t = ![t.val / 32, 0, 0] := by decide +kernel

theorem x_at (i : Fin 512) (k : Fin 1024) : iblk m c 0 t (ix2 i k) = X m c (ix2 (row t i) k) := by
  blk_point [iblk, V, idx t, row]
theorem n_at (k : Fin 1024) : iblk m c 1 t (ix2 0 k) = N m c (ix2 0 k) := by
  blk_point [iblk, V, idx t]
theorem u_at (i : Fin 512) (j : Fin 2048) : iblk m c 2 t (ix2 i j) = U m c (ix2 (row t i) (ucol t j)) := by
  blk_point [iblk, V, idx t, row, ucol]

/-- A point's share of the gradient. -/
def share (i : Fin 1024) (j : Fin 2048) : EReal := ∑ r : Fin 512, hn (X m c) (N m c) (row t r) i * U m c (ix2 (row t r) (ucol t j))

theorem pay2_at (v : Vec Ideal S1024x2048 .f32) (i : Fin 1024) (j : Fin 2048) :
    k0_pay2 (iblk m c 0 t) (iblk m c 1 t) v (iblk m c 2 t) (ix2 i j) = (v (ix2 i j) : EReal) + share m c t i j := by
  pointwise [k0_pay2]
  simp only [x_at, n_at, u_at]
  rfl
theorem zero_at (i : Fin 1024) (j : Fin 2048) : (k0_pay1 (F := Ideal) (ix2 i j) : EReal) = 0 := by pointwise [k0_pay1]

theorem first (h : t.val % 32 = 0) (j : S1024x2048.Idx) : (outsAt0 m c t.val t.isLt).2 j = (0 : EReal) + share m c t (j 0) (j 1) := by
  obtain ⟨i, q, rfl⟩ : ∃ (i : Fin 1024) (q : Fin 2048), j = ix2 i q := ⟨j 0, j 1, by blk_ext⟩
  rw [outsAt0_A m c t h (by omega)]
  frame_out
  exact (pay2_at m c t _ i q).trans (Ideal.add_congr (zero_at i q) rfl)
theorem next (h : ¬t.val % 32 = 0) (j : S1024x2048.Idx) : (outsAt0 m c t.val t.isLt).2 j
    = (show EReal from (outsAt0 m c (t.val - 1) (by have := t.isLt; omega)).2 j) + share m c t (j 0) (j 1) := by
  obtain ⟨i, q, rfl⟩ : ∃ (i : Fin 1024) (q : Fin 2048), j = ix2 i q := ⟨j 0, j 1, by blk_ext⟩
  by_cases h1 : t.val % 32 = 31
  on_goal 1 => rw [outsAt0_C m c t h h1]
  on_goal 2 => rw [outsAt0_B m c t h h1]
  all_goals
    frame_out
    exact (pay2_at m c t _ i q).trans (Ideal.add_congr (congrFun (Memref.IsWhole.read_unread _ _) _) rfl)

/-- The column of the accumulator that column `q` of half `b` is. -/
def acol (b : Fin 2) (q : Fin 1024) : Fin 2048 := ⟨b.val * 1024 + q.val, by omega⟩

/-- Half the accumulator, read back whole. -/
theorem half (w : Vec Ideal S1024x2048 .f32) (o : ℕ) (inb inb') (i q : Fin 1024) (hq : o + q.val < 2048) :
    (View.whole cc0_scratch0).readCov (Val := Elt Ideal) [⟨Rect.unit (s := S1024x2048) ![0, 0] ![1024, 2048] inb, w⟩]
      (Rect.unit (s := S1024x2048) ![0, o] ![1024, 1024] inb').toLoadRect (ix2 i q) = w (ix2 i ⟨o + q.val, hq⟩) := by
  rw [View.readCov_eq_canon']
  refine (congrFun (View.canon_cons_unit_lit' (S := S1024x2048) inb w [] (by decide)) _).trans (congrArg w ?_)
  funext a
  apply Fin.ext
  fin_cases a
  · show 0 + 1 * i.val = i.val
    omega
  · show o + 1 * q.val = o + q.val
    omega

theorem pay3_at (v : Vec Ideal S1024x1024 .f32) (i q : Fin 1024) : k0_pay3 v (ix3 0 i q) = v (ix2 i q) := by
  pointwise [k0_pay3]
theorem pay4_at (v : Vec Ideal S1024x1024 .f32) (i q : Fin 1024) : k0_pay4 v (ix3 0 i q) = v (ix2 i q) := by
  pointwise [k0_pay4]

/-- Where a store of half `b` puts its entries. -/
theorem half_emb (b : Fin 2) (inb) (i q : Fin 1024) :
    (Rect.unit (s := S2x1024x1024) ![b.val, 0, 0] ![1, 1024, 1024] inb).emb (ix3 0 i q) = ix3 b i q := by
  funext a
  apply Fin.ext
  fin_cases a
  · show b.val + 1 * 0 = b.val
    omega
  · show 0 + 1 * i.val = i.val
    omega
  · show 0 + 1 * q.val = q.val
    omega

/-- The last point of a run writes the accumulator out, one half after the other. -/
theorem last (h : t.val % 32 = 31) (b : Fin 2) (i q : Fin 1024) :
    (outsAt0 m c t.val t.isLt).1 (ix3 b i q) = (outsAt0 m c t.val t.isLt).2 (ix2 i (acol b q)) := by
  rw [outsAt0_C m c t (by omega) h]
  obtain rfl | rfl : b = 0 ∨ b = 1 := by omega
  · frame_out
    refine (View.canon_cons_of_not_mem _ _ fun hm => ?_).trans ?_
    · obtain ⟨x, hx⟩ := (Rect.unit (s := S2x1024x1024) ![1, 0, 0] ![1, 1024, 1024] inb_S2x1024x1024_S1x1024x1024_1_0_0).exists_idx_of_mem hm
      have h0 := congrArg (fun j : S2x1024x1024.Idx => (j 0).val) hx
      have h1 : 1 + 1 * (x 0).val = 0 := h0
      omega
    · rw [← half_emb 0 inb_S2x1024x1024_S1x1024x1024_0_0_0 i q]
      refine (View.canon_cons_emb _ _ _ _).trans ((pay3_at _ i q).trans ((half _ 0 _ _ i q (by omega)).trans (congrArg (fun j : Fin 2048 => k0_pay2 _ _ _ _ (ix2 i j)) (Fin.ext (by
        show 0 + q.val = 0 * 1024 + q.val
        omega)))))
  · frame_out
    rw [← half_emb 1 inb_S2x1024x1024_S1x1024x1024_1_0_0 i q]
    refine (View.canon_cons_emb _ _ _ _).trans ((pay4_at _ i q).trans ((half _ 1024 _ _ i q (by omega)).trans (congrArg (fun j : Fin 2048 => k0_pay2 _ _ _ _ (ix2 i j)) (Fin.ext (by
      show 1024 + q.val = 1 * 1024 + q.val
      omega)))))

/-- The run's shares together. -/
theorem sum_share (t : Fin cfg0.N) (p : Fin 32 → Fin cfg0.N) (hp : ∀ s, (p s).val = 32 * (t.val / 32) + s.val) (i : Fin 1024) (j : Fin 2048) :
    ∑ s : Fin 32, share m c (p s) i j = dW (X m c) (U m c) (N m c) i (ucol t j) := by
  unfold share dW
  refine Fin.sum_mul_add_congr fun s r hl => ?_
  have e0 : row (p s) r = ⟨s.val * 512 + r.val, hl⟩ := Fin.ext (by show (p s).val % 32 * 512 + r.val = _; rw [hp]; have := s.isLt; simp only; omega)
  have e1 : ucol (p s) j = ucol t j := Fin.ext (by show (p s).val / 32 * 2048 + j.val = t.val / 32 * 2048 + j.val; rw [hp]; have := s.isLt; omega)
  rw [e0, e1]

theorem result (c : Dev nD) : (dats m 0 c).arrAt 3 (cfgs 0).N
    = fun j : S4x1024x1024.Idx => dW (X m c) (U m c) (N m c) (j 1) (col (j 0) (j 2)) := by
  refine (dats m 0 c).arrAt_eq_of_covers 3 _ (by decide +kernel) fun t hf y => ?_
  have h31 : t.val % 32 = 31 := (flush0_3 t).mp hf
  blk_simp
  rw [after0_3]
  obtain ⟨b, i, q, rfl⟩ : ∃ (b : Fin 2) (i q : Fin 1024), y = ix3 b i q := ⟨y 0, y 1, y 2, by blk_ext⟩
  have ht := t.isLt
  have hN := N_eq
  have hN' : cfg0.grid.N = 64 := N_eq
  have e0 : ((win0_3.blk t).view.emb (ix3 b i q) 0).val = t.val / 32 * 2 + b.val := by blk_simp [idx t]
  have e1 : (win0_3.blk t).view.emb (ix3 b i q) 1 = i := Fin.ext (by blk_simp [idx t])
  have e2 : (win0_3.blk t).view.emb (ix3 b i q) 2 = q := Fin.ext (by blk_simp [idx t])
  refine (last m c t h31 b i q).trans ?_
  rw [Pipeline.eq_sum_fin_of_reset_step_apply_of_flush (fun n h => (outsAt0 m c n h).2) 32 (fun _ => (0 : EReal))
    (fun t j => share m c t (j 0) (j 1)) (fun t h j => first m c t h j) (fun t h j => next m c t h j) t h31 _, zero_add]
  refine (sum_share m c t (fun s => ⟨32 * (t.val / 32) + s.val, _⟩) (fun s => rfl) i (acol b q)).trans ?_
  rw [e1, e2]
  refine congrArg _ (Fin.ext ?_)
  show t.val / 32 * 2048 + (b.val * 1024 + q.val) = ((win0_3.blk t).view.emb (ix3 b i q) 0).val * 1024 + q.val
  rw [e0]
  ring

end kernel

section reference
open Cert.WeightRefIdeal Cert.WeightRefIdeal.Gen

variable (m : (ℓ : Loc nD τ sig) → Buf (Elt Ideal) ℓ) (g : Dev nD → PrngReg)

abbrev RX (c : Dev nD) : FVec Ideal ⟨2, ![16384, 1024]⟩ .f32 := m ((c : Thread nD τ).loc main_arg0)
abbrev RU (c : Dev nD) : FVec Ideal ⟨2, ![16384, 4096]⟩ .bf16 := m ((c : Thread nD τ).loc main_arg1)
abbrev RN (c : Dev nD) : FVec Ideal ⟨2, ![1, 1024]⟩ .f32 := m ((c : Thread nD τ).loc main_arg2)

theorem reference : θ_run defs (onTc (τ := τ) (main (F := Ideal))) ⟨m, fun _ => 0, g⟩ fun r => ∀ c : Dev nD,
      r.2.mem ((c.tc : Thread nD τ).loc main_v19) = (fun j : S4x1024x1024.Idx => dW (RX m c) (RU m c) (RN m c) (j 1) (col (j 0) (j 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.WeightRefIdeal.Value.run m g)
  funext j
  obtain ⟨b, i, q, rfl⟩ : ∃ b i q, j = ix3 b i q := ⟨j 0, j 1, j 2, eq_ix3 j⟩
  refine Eq.trans ?_ (Finset.sum_congr rfl fun p _ => mul_comm (RU m c (ix2 p (col b q)) : EReal) (hn (RX m c) (RN m c) p i))
  pointwise
  rfl

end reference

end Cert.WeightV

end
-- ==== Proof.Weight.Claim.lean ====
/- The two programs end with the same gradient of the weight. -/
module

public import proofs.«01_k».proof.Defs
public import proofs.«01_k».proof.Proof.Gen.Weight.Frame
public import proofs.«01_k».proof.Proof.Weight.Value

@[expose] public section

set_option maxRecDepth 16384

noncomputable section

namespace Cert.WeightV

open Idealize.ShloMosaic Idealize.ShloMosaic.TcCoe Idealize.SL.Sem Cert.Common

theorem algebraic : algebraic_WeightIdeal_WeightRefIdeal := by
  intro m g m' g' hpre hag
  have e0 : ∀ c, RX m' c = X m c := fun c => (hag c).1
  have e1 : ∀ c, RU m' c = U m c := fun c => (hag c).2.1
  have e2 : ∀ c, RN m' c = N m c := fun c => (hag c).2.2
  refine ⟨fun c => (WeightIdeal.Gen.dats m 0 c).arrAt 3 (WeightIdeal.cfgs 0).N, WeightIdeal.Value.run_blocks m g,
    (θ_run _ _ _).mono (fun r h c => ⟨(h c).1.trans ?_, (h c).2⟩) (reference m' g')⟩
  rw [e0, e1, e2]
  exact (result m c).symm

end Cert.WeightV

end
-- ==== Proof.FirstNorm.Value.lean ====
/- The gradient through the first normalization: what the kernel writes, and what the reference computes. -/
module

public import proofs.«01_k».proof.Proof.Gen.FirstNormIdeal.Value
public import proofs.«01_k».proof.Proof.Gen.FirstNormRefIdeal.Run
public import proofs.«01_k».proof.Proof.Common.Norm
public import Idealize.ShloMosaic.Lib.Pipeline.ValueKit
public import Idealize.ShloMosaic.Lib.Pointwise

@[expose] public section

set_option maxRecDepth 16384

noncomputable section

namespace Cert.FirstNormV

open Idealize.ShloMosaic Idealize.ShloMosaic.TcCoe Idealize.SL.Sem Cert.Common

/-- The cotangent's rows against the rows of the weights: the gradient of the normalized rows. -/
def dH (g : FVec Ideal ⟨2, ![16384, 4096]⟩ .bf16) (w : FVec Ideal ⟨2, ![1024, 4096]⟩ .bf16) (p : Fin 16384) (q : Fin 1024) : EReal :=
  ∑ k : Fin 4096, (g (ix2 p k) : EReal) * w (ix2 q k)
/-- A row of a matrix. -/
def rowOf (x : FVec Ideal ⟨2, ![16384, 1024]⟩ .f32) (p : Fin 16384) (k : Fin 1024) : EReal := x (ix2 p k)
/-- The gradient of the gain. -/
def dGain (g : FVec Ideal ⟨2, ![16384, 4096]⟩ .bf16) (w : FVec Ideal ⟨2, ![1024, 4096]⟩ .bf16) (x : FVec Ideal ⟨2, ![16384, 1024]⟩ .f32)
    (q : Fin 1024) : EReal :=
  ∑ p : Fin 16384, dH g w p q * (rowOf x p q * rstd (rowOf x p))
/-- The gradient of the rows, on top of the one that arrives beside the norm. -/
def dX (g : FVec Ideal ⟨2, ![16384, 4096]⟩ .bf16) (w : FVec Ideal ⟨2, ![1024, 4096]⟩ .bf16) (x e : FVec Ideal ⟨2, ![16384, 1024]⟩ .f32)
    (n : FVec Ideal ⟨2, ![1, 1024]⟩ .f32) (p : Fin 16384) (q : Fin 1024) : EReal :=
  e (ix2 p q) + back (rowOf x p) (fun k => dH g w p k * n (ix2 0 k)) q

section kernel
open Cert.FirstNormIdeal Cert.FirstNormIdeal.Gen

variable (m : (ℓ : Loc nD τ sig) → Buf (Elt Ideal) ℓ) (c : Dev nD) (t : Fin cfg0.N)

theorem N_eq : cfg0.N = 32 := rfl

/-- The row of the whole array that row `i` of block `t` is. -/
def row (t : Fin cfg0.N) (i : Fin 512) : Fin 16384 := ⟨t.val * 512 + i.val, by have := t.isLt; have h : cfg0.N = 32 := rfl; omega⟩

abbrev G : FVec Ideal ⟨2, ![16384, 4096]⟩ .bf16 := m ((c : Thread nD τ).loc main_arg0)
abbrev W : FVec Ideal ⟨2, ![1024, 4096]⟩ .bf16 := m ((c : Thread nD τ).loc main_arg1)
abbrev X : FVec Ideal ⟨2, ![16384, 1024]⟩ .f32 := m ((c : Thread nD τ).loc main_arg2)
abbrev E : FVec Ideal ⟨2, ![16384, 1024]⟩ .f32 := m ((c : Thread nD τ).loc main_arg3)
abbrev N : FVec Ideal ⟨2, ![1, 1024]⟩ .f32 := m ((c : Thread nD τ).loc main_arg4)

/-- Which block of its array each window reads or writes at point `t`. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] := by decide +kernel

theorem g_at (i : Fin 512) (k : Fin 4096) : iblk m c 0 t (ix2 i k) = G m c (ix2 (row t i) k) := by
  blk_point [iblk, V, idx t, row]
theorem w_at (q : Fin 1024) (k : Fin 4096) : iblk m c 1 t (ix2 q k) = W m c (ix2 q k) := by
  blk_point [iblk, V, idx t]
theorem x_at (i : Fin 512) (k : Fin 1024) : iblk m c 2 t (ix2 i k) = rowOf (X m c) (row t i) k := by
  show _ = X m c (ix2 (row t i) k)
  blk_point [iblk, V, idx t, row]
theorem e_at (i : Fin 512) (k : Fin 1024) : iblk m c 3 t (ix2 i k) = E m c (ix2 (row t i) k) := by
  blk_point [iblk, V, idx t, row]
theorem n_at (k : Fin 1024) : iblk m c 4 t (ix2 0 k) = N m c (ix2 0 k) := by
  blk_point [iblk, V, idx t]

theorem pay3_at (i : Fin 512) (q : Fin 1024) : k0_pay3 (iblk m c 0 t) (iblk m c 1 t) (ix2 i q) = dH (G m c) (W m c) (row t i) q := by
  pointwise [k0_pay3]
  exact Finset.sum_congr rfl fun k _ => Ideal.mul_congr (g_at m c t i k) (w_at m c t q k)
theorem pay4_at (i : Fin 512) : k0_pay4 (iblk m c 2 t) (ix2 i 0) = rstd (rowOf (X m c) (row t i)) := by
  pointwise [k0_pay4]
  simp only [x_at]
  rfl
theorem pay5_at (i : Fin 512) (q : Fin 1024) : k0_pay5 (iblk m c 2 t) (ix2 i q)
    = rowOf (X m c) (row t i) q * rstd (rowOf (X m c) (row t i)) := by
  pointwise [k0_pay5]
  exact Ideal.mul_congr (x_at m c t i q) (pay4_at m c t i)
theorem pay7_at (i : Fin 512) (q : Fin 1024) : k0_pay7 (iblk m c 0 t) (iblk m c 1 t) (iblk m c 4 t) (ix2 i q)
    = dH (G m c) (W m c) (row t i) q * N m c (ix2 0 q) := by
  pointwise [k0_pay7]
  exact Ideal.mul_congr (pay3_at m c t i q) (n_at m c t q)

/-- A block's rows of the first result. -/
theorem rows_at (i : Fin 512) (q : Fin 1024) :
    k0_pay1 (k0_pay4 (iblk m c 2 t)) (k0_pay5 (iblk m c 2 t)) (k0_pay7 (iblk m c 0 t) (iblk m c 1 t) (iblk m c 4 t)) (iblk m c 3 t)
        (k0_pay8 (iblk m c 0 t) (iblk m c 1 t) (iblk m c 2 t) (iblk m c 4 t)) (ix2 i q)
      = dX (G m c) (W m c) (X m c) (E m c) (N m c) (row t i) q := by
  pointwise [k0_pay1, k0_pay8]
  simp only [pay4_at, pay5_at, pay7_at, e_at]
  rfl

/-- A block's share of the gain's gradient. -/
def share (q : Fin 1024) : EReal := ∑ i : Fin 512, dH (G m c) (W m c) (row t i) q * (rowOf (X m c) (row t i) q * rstd (rowOf (X m c) (row t i)))

theorem pay6_at (v : Vec Ideal S1x1024 .f32) (q : Fin 1024) : k0_pay6 (iblk m c 0 t) (iblk m c 1 t) (iblk m c 2 t) v (ix2 0 q)
    = (v (ix2 0 q) : EReal) + share m c t q := by
  pointwise [k0_pay6]
  simp only [pay3_at, pay5_at]
  rfl

theorem block (i : Fin 512) (q : Fin 1024) : (outsAt0 m c t.val t.isLt).1 (ix2 i q)
    = dX (G m c) (W m c) (X m c) (E m c) (N m c) (row t i) q := by
  by_cases ht : t.val % 32 = 0
  on_goal 1 => rw [outsAt0_A m c t ht]
  on_goal 2 => rw [outsAt0_B m c t ht]
  all_goals
    frame_out
    exact rows_at m c t i q

theorem zero_at (q : Fin 1024) : (k0_pay2 (F := Ideal) (ix2 0 q) : EReal) = 0 := by pointwise [k0_pay2]

theorem first (h : t.val % 32 = 0) (j : S1x1024.Idx) : (outsAt0 m c t.val t.isLt).2 j = (0 : EReal) + share m c t (j 1) := by
  obtain ⟨i, q, rfl⟩ : ∃ (i : Fin 1) (q : Fin 1024), j = ix2 i q := ⟨j 0, j 1, by blk_ext⟩
  obtain rfl : i = 0 := Subsingleton.elim _ _
  rw [outsAt0_A m c t h]
  frame_out
  exact (pay6_at m c t _ q).trans (Ideal.add_congr (zero_at q) rfl)
theorem next (h : ¬t.val % 32 = 0) (j : S1x1024.Idx) : (outsAt0 m c t.val t.isLt).2 j
    = (show EReal from (outsAt0 m c (t.val - 1) (by have := t.isLt; omega)).2 j) + share m c t (j 1) := by
  obtain ⟨i, q, rfl⟩ : ∃ (i : Fin 1) (q : Fin 1024), j = ix2 i q := ⟨j 0, j 1, by blk_ext⟩
  obtain rfl : i = 0 := Subsingleton.elim _ _
  rw [outsAt0_B m c t h]
  frame_out
  exact pay6_at m c t _ q

theorem sum_share (p : Fin 32 → Fin cfg0.N) (hp : ∀ s, (p s).val = s.val) (q : Fin 1024) :
    ∑ s : Fin 32, share m c (p s) q = dGain (G m c) (W m c) (X m c) q := by
  unfold share dGain
  refine Fin.sum_mul_add_congr fun s i hl => ?_
  simp only [row, hp]

theorem result5 (c : Dev nD) : (dats m 0 c).arrAt 5 (cfgs 0).N
    = fun j : S16384x1024.Idx => dX (G m c) (W m c) (X m c) (E m c) (N m c) (j 0) (j 1) := by
  refine (dats m 0 c).arrAt_eq_of_covers 5 _ (by decide +kernel) fun t hf y => ?_
  blk_simp
  rw [after0_5]
  obtain ⟨i, q, rfl⟩ : ∃ (i : Fin 512) (q : Fin 1024), y = ix2 i q := ⟨y 0, y 1, by blk_ext⟩
  have e0 : (win0_5.blk t).view.emb (ix2 i q) 0 = row t i := Fin.ext (by blk_simp [idx t]; simp [row])
  have e1 : (win0_5.blk t).view.emb (ix2 i q) 1 = q := Fin.ext (by blk_simp [idx t])
  rw [e0, e1]
  exact block m c t i q

theorem result6 (c : Dev nD) : (dats m 0 c).arrAt 6 (cfgs 0).N
    = fun j : S1x1024.Idx => dGain (G m c) (W m c) (X m c) (j 1) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => (0 : EReal))
    (fun t j => share m c t (j 1)) (fun t h j => first m c t h j) (fun t h j => next m c t h j) t ((flush0_6 t).mp hf) _]
  have ht := t.isLt
  have hN := N_eq
  have hN' : cfg0.grid.N = 32 := N_eq
  rw [zero_add]
  refine (sum_share m c (fun s => ⟨32 * (t.val / 32) + s.val, _⟩) (fun s => ?_) (y 1)).trans ?_
  · show 32 * (t.val / 32) + s.val = s.val
    omega
  · have e1 : (win0_6.blk t).view.emb y 1 = y 1 := Fin.ext (by blk_simp [idx t])
    rw [e1]

end kernel

section reference
open Cert.FirstNormRefIdeal Cert.FirstNormRefIdeal.Gen

variable (m : (ℓ : Loc nD τ sig) → Buf (Elt Ideal) ℓ) (g : Dev nD → PrngReg)

abbrev RG (c : Dev nD) : FVec Ideal ⟨2, ![16384, 4096]⟩ .bf16 := m ((c : Thread nD τ).loc main_arg0)
abbrev RW (c : Dev nD) : FVec Ideal ⟨2, ![1024, 4096]⟩ .bf16 := m ((c : Thread nD τ).loc main_arg1)
abbrev RX (c : Dev nD) : FVec Ideal ⟨2, ![16384, 1024]⟩ .f32 := m ((c : Thread nD τ).loc main_arg2)
abbrev RE (c : Dev nD) : FVec Ideal ⟨2, ![16384, 1024]⟩ .f32 := m ((c : Thread nD τ).loc main_arg3)
abbrev RN (c : Dev nD) : FVec Ideal ⟨2, ![1, 1024]⟩ .f32 := m ((c : Thread nD τ).loc main_arg4)

theorem ref_row (c : Dev nD) (p : Fin 16384) (q : Fin 1024) : Cert.FirstNormRefIdeal.Value.res_main_v38 m c (ix2 p q)
      = dX (RG m c) (RW m c) (RX m c) (RE m c) (RN m c) p q := by
  have e := back_one (rowOf (RX m c) p) (fun k => dH (RG m c) (RW m c) p k * RN m c (ix2 0 k)) q
  unfold dX
  rw [← e, ← add_assoc, ← add_assoc]
  pointwise [Cert.FirstNormRefIdeal.Value.res_main_v38]
  rfl

theorem reference :
    θ_run defs (onTc (τ := τ) (main (F := Ideal))) ⟨m, fun _ => 0, g⟩ fun r => ∀ c : Dev nD,
      r.2.mem ((c.tc : Thread nD τ).loc main_v38) = (fun j : S16384x1024.Idx => dX (RG m c) (RW m c) (RX m c) (RE m c) (RN m c) (j 0) (j 1))
      ∧ r.2.mem ((c.tc : Thread nD τ).loc main_v21) = (fun j : S1x1024.Idx => dGain (RG m c) (RW m c) (RX m c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2⟩) (Cert.FirstNormRefIdeal.Value.run m g)
  · funext j
    obtain ⟨p, q, rfl⟩ : ∃ p q, j = ix2 p q := ⟨j 0, j 1, eq_ix2 j⟩
    exact ref_row m c p q
  · funext j
    obtain ⟨i, q, rfl⟩ : ∃ (i : Fin 1) (q : Fin 1024), j = ix2 i q := ⟨j 0, j 1, eq_ix2 j⟩
    obtain rfl : i = 0 := Subsingleton.elim _ _
    refine Eq.trans ?_ (Finset.sum_congr rfl fun p _ => mul_comm (rowOf (RX m c) p q * rstd (rowOf (RX m c) p)) (dH (RG m c) (RW m c) p q))
    pointwise
    rfl

end reference

end Cert.FirstNormV

end
-- ==== Proof.FirstNorm.Claim.lean ====
/- The two programs end with the same gradients of the rows and of the gain. -/
module

public import proofs.«01_k».proof.Defs
public import proofs.«01_k».proof.Proof.Gen.FirstNorm.Frame
public import proofs.«01_k».proof.Proof.FirstNorm.Value

@[expose] public section

set_option maxRecDepth 16384

noncomputable section

namespace Cert.FirstNormV

open Idealize.ShloMosaic Idealize.ShloMosaic.TcCoe Idealize.SL.Sem Cert.Common

theorem algebraic : algebraic_FirstNormIdeal_FirstNormRefIdeal := by
  intro m g m' g' hpre hag
  have e0 : ∀ c, RG m' c = G m c := fun c => (hag c).1
  have e1 : ∀ c, RW m' c = W m c := fun c => (hag c).2.1
  have e2 : ∀ c, RX m' c = X m c := fun c => (hag c).2.2.1
  have e3 : ∀ c, RE m' c = E m c := fun c => (hag c).2.2.2.1
  have e4 : ∀ c, RN m' c = N m c := fun c => (hag c).2.2.2.2
  refine ⟨fun c => (FirstNormIdeal.Gen.dats m 0 c).arrAt 5 (FirstNormIdeal.cfgs 0).N, fun c => (FirstNormIdeal.Gen.dats m 0 c).arrAt 6 (FirstNormIdeal.cfgs 0).N,
    FirstNormIdeal.Value.run_blocks m g,
    (θ_run _ _ _).mono (fun r h c => ⟨(h c).1.trans ?_, (h c).2.1.trans ?_, (h c).2.2⟩) (reference m' g')⟩
  · rw [e0, e1, e2, e3, e4]
    exact (result5 m c).symm
  · rw [e0, e1, e2]
    exact (result6 m c).symm

end Cert.FirstNormV

end
-- ==== Proof.Forward.Value.lean ====
/- The gated short convolution's forward pass: what the kernel writes, and what the reference computes. -/
module

public import proofs.«01_k».proof.Proof.Gen.MixerForwardIdeal.Value
public import proofs.«01_k».proof.Proof.Gen.MixerForwardRefIdeal.Run
public import proofs.«01_k».proof.Proof.Mixer.Block
public import proofs.«01_k».proof.Proof.Mixer.Ref

@[expose] public section

set_option maxRecDepth 16384

noncomputable section

namespace Cert.ForwardV

open Idealize.ShloMosaic Idealize.ShloMosaic.TcCoe Idealize.SL.Sem Cert.Common Cert.Mixer

/-- The convolution's output between its two gates. -/
def mixed (U : FVec Ideal Spec.Us .bf16) (W : FVec Ideal Spec.Ws .f32) (p : Fin 16384) (q : Fin 1024) : EReal :=
  Spec.gateB U p q * Spec.conv_out U W p q * (Spec.actG U p q * Spec.sig (Spec.actG U p q))

section kernel
open Cert.MixerForwardIdeal Cert.MixerForwardIdeal.Gen

variable (m : (ℓ : Loc nD τ sig) → Buf (Elt Ideal) ℓ) (c : Dev nD) (t : Fin cfg0.N)

theorem N_eq : cfg0.N = 32 := rfl
theorem coord_eq : ∀ t : Fin cfg0.N, ((grid0.coords t) 0).val = t.val := (by decide +kernel : ∀ t : Fin grid0.N, _)

/-- Row `i` of block `t`, and of the sixteen rows before it. -/
def row (t : Fin cfg0.N) (i : Fin 512) : Fin 16384 := ⟨t.val * 512 + i.val, by have := t.isLt; have := N_eq; omega⟩
def prow (t : Fin cfg0.N) (h : 0 < t.val) (i : Fin 16) : Fin 16384 :=
  ⟨t.val * 512 - 16 + i.val, by have := t.isLt; have := N_eq; omega⟩

abbrev U : FVec Ideal Spec.Us .bf16 := m ((c : Thread nD τ).loc main_arg0)
abbrev W : FVec Ideal Spec.Ws .f32 := m ((c : Thread nD τ).loc main_arg1)

/-- Which block of its array each window reads or writes at point `t`. -/
theorem idx : ∀ t : Fin cfg0.N, win0_0.index t = ![t.val, 0] ∧ win0_1.index t = ![t.val, 1] ∧ win0_2.index t = ![t.val, 2]
    ∧ win0_3.index t = ![t.val, 3] ∧ win0_4.index t = ![t.val * 32 - 1, 1] ∧ win0_5.index t = ![t.val * 32 - 1, 2]
    ∧ win0_6.index t = ![0, 0] ∧ win0_7.index t = ![t.val, 0] := (by decide +kernel : ∀ t : Fin grid0.N, _)

theorem b_at (i : Fin 512) (q : Fin 1024) : iblk m c 0 t (ix2 i q) = Spec.gateB (U m c) (row t i) q := by
  unfold Spec.gateB
  blk_point [iblk, V, idx t, row]
theorem c_at (i : Fin 512) (q : Fin 1024) : iblk m c 1 t (ix2 i q) = Spec.gateC (U m c) (row t i) q := by
  unfold Spec.gateC
  blk_point [iblk, V, idx t, row]
theorem x_at (i : Fin 512) (q : Fin 1024) : iblk m c 2 t (ix2 i q) = Spec.inX (U m c) (row t i) q := by
  unfold Spec.inX
  blk_point [iblk, V, idx t, row]
theorem g_at (i : Fin 512) (q : Fin 1024) : iblk m c 3 t (ix2 i q) = Spec.actG (U m c) (row t i) q := by
  unfold Spec.actG
  blk_point [iblk, V, idx t, row]
theorem pc_at (h : 0 < t.val) (i : Fin 16) (q : Fin 1024) : iblk m c 4 t (ix2 i q) = Spec.gateC (U m c) (prow t h i) q := by
  unfold Spec.gateC
  blk_point [iblk, V, idx t, prow]
theorem px_at (h : 0 < t.val) (i : Fin 16) (q : Fin 1024) : iblk m c 5 t (ix2 i q) = Spec.inX (U m c) (prow t h i) q := by
  unfold Spec.inX
  blk_point [iblk, V, idx t, prow]
theorem w_at (k : Fin 3) (q : Fin 1024) : iblk m c 6 t (ix2 k q) = W m c (ix2 k q) := by
  blk_point [iblk, V, idx t]

theorem in_at (i : Fin 512) (q : Fin 1024) : k0_pay2 (iblk m c 1 t) (iblk m c 2 t) (ix2 i q) = Spec.conv_in (U m c) q (row t i) := by
  pointwise [k0_pay2]
  exact Ideal.mul_congr (c_at m c t i q) (x_at m c t i q)

/-- The halo: the rows before the block, zero before the first block. -/
theorem halo_at (i : Fin 16) (q : Fin 1024) (k : ℕ) (j : Fin 512) (h : 512 + j.val = i.val + 496 + k) (hj : j.val < k) :
    k0_pay3 (grid0.coords t) (iblk m c 4 t) (iblk m c 5 t) (ix2 i q) = Spec.before (Spec.conv_in (U m c) q) k (row t j) := by
  have hr : (row t j).val = t.val * 512 + j.val := rfl
  pointwise [k0_pay3]
  refine (select_ofNat _ 0 (lt_trans ((grid0.coords t) 0).isLt (by decide)) (by decide) _ _).trans ?_
  rw [coord_eq]
  by_cases ht : t.val = 0
  · rw [if_pos ht, Block.before_none _ _ _ (by omega)]
  · rw [if_neg ht]
    refine (Ideal.mul_congr (pc_at m c t (by omega) i q) (px_at m c t (by omega) i q)).trans ?_
    exact (Block.before_of (Spec.conv_in (U m c) q) k _ (prow t (by omega) i)
      (by show t.val * 512 - 16 + i.val + k = (row t j).val; omega)).symm

theorem shift1_at (i : Fin 512) (q : Fin 1024) :
    (if i.val = 0 then k0_pay3 (grid0.coords t) (iblk m c 4 t) (iblk m c 5 t) (ix2 15 q)
      else k0_pay2 (iblk m c 1 t) (iblk m c 2 t) (ix2 ⟨(i.val + 512 - 1) % 512, by omega⟩ q) : EReal)
      = Spec.before (Spec.conv_in (U m c) q) 1 (row t i) := by
  by_cases h : i.val = 0
  · rw [if_pos h]
    exact halo_at m c t 15 q 1 i (by show 512 + i.val = 15 + 496 + 1; omega) (by omega)
  · rw [if_neg h]
    refine (in_at m c t _ q).trans ?_
    refine (Block.before_of _ 1 _ _ ?_).symm
    show t.val * 512 + (i.val + 512 - 1) % 512 + 1 = t.val * 512 + i.val
    omega

theorem shift2_at (i : Fin 512) (q : Fin 1024) :
    (if i.val = 1 then k0_pay3 (grid0.coords t) (iblk m c 4 t) (iblk m c 5 t) (ix2 15 q)
      else if i.val = 0 then k0_pay3 (grid0.coords t) (iblk m c 4 t) (iblk m c 5 t) (ix2 14 q)
      else k0_pay2 (iblk m c 1 t) (iblk m c 2 t) (ix2 ⟨(i.val + 512 - 2) % 512, by omega⟩ q) : EReal)
      = Spec.before (Spec.conv_in (U m c) q) 2 (row t i) := by
  by_cases h1 : i.val = 1
  · rw [if_pos h1]
    exact halo_at m c t 15 q 2 i (by show 512 + i.val = 15 + 496 + 2; omega) (by omega)
  rw [if_neg h1]
  by_cases h : i.val = 0
  · rw [if_pos h]
    exact halo_at m c t 14 q 2 i (by show 512 + i.val = 14 + 496 + 2; omega) (by omega)
  · rw [if_neg h]
    refine (in_at m c t _ q).trans ?_
    refine (Block.before_of _ 2 _ _ ?_).symm
    show t.val * 512 + (i.val + 512 - 2) % 512 + 2 = t.val * 512 + i.val
    omega

theorem pay4_at (i : Fin 512) (q : Fin 1024) :
    k0_pay4 (grid0.coords t) (iblk m c 1 t) (iblk m c 2 t) (iblk m c 4 t) (iblk m c 5 t) (iblk m c 6 t) (ix2 i q)
      = W m c (ix2 2 q) * Spec.conv_in (U m c) q (row t i) + W m c (ix2 1 q) * Spec.before (Spec.conv_in (U m c) q) 1 (row t i) := by
  pointwise [k0_pay4]
  exact Ideal.add_congr (Ideal.mul_congr (w_at m c t 2 q) (in_at m c t i q))
    (Ideal.mul_congr (w_at m c t 1 q) ((select_ofNat _ 0 (by omega) (by decide) _ _).trans (shift1_at m c t i q)))

/-- A block's rows. -/
theorem rows_at (i : Fin 512) (q : Fin 1024) :
    k0_pay1 (k0_pay4 (grid0.coords t) (iblk m c 1 t) (iblk m c 2 t) (iblk m c 4 t) (iblk m c 5 t) (iblk m c 6 t)) (k0_pay5 (iblk m c 6 t))
        (k0_pay6 (grid0.coords t) (iblk m c 1 t) (iblk m c 2 t) (iblk m c 4 t) (iblk m c 5 t)) k0_pay7
        (k0_pay8 (grid0.coords t) (iblk m c 4 t) (iblk m c 5 t)) (iblk m c 3 t) (iblk m c 0 t) (ix2 i q)
      = mixed (U m c) (W m c) (row t i) q := by
  have e : ∀ a b d : EReal, Scalar.select (IntOp.cmpi .eq (BitVec.ofNat 32 i.val) 1#32) a (Scalar.select (IntOp.cmpi .eq (BitVec.ofNat 32 i.val) 0#32) b d)
      = if i.val = 1 then a else if i.val = 0 then b else d := fun a b d =>
    (select_ofNat _ 1 (by omega) (by decide) _ _).trans (by rw [select_ofNat _ 0 (by omega) (by decide) _ _])
  pointwise [k0_pay1, k0_pay5, k0_pay6, k0_pay7, k0_pay8]
  unfold mixed Spec.sig
  rw [zero_sub]
  refine Ideal.mul_congr (Ideal.mul_congr (b_at m c t i q) (Ideal.add_congr (pay4_at m c t i q)
    (Ideal.mul_congr (w_at m c t 0 q) ((e _ _ _).trans (shift2_at m c t i q))))) ?_
  rw [g_at]

theorem result (c : Dev nD) : (dats m 0 c).arrAt 7 (cfgs 0).N
    = fun j : S16384x1024.Idx => mixed (U m c) (W m c) (j 0) (j 1) := by
  refine (dats m 0 c).arrAt_eq_of_covers 7 _ (by decide +kernel) fun t hf y => ?_
  blk_simp
  rw [after0_7]
  obtain ⟨i, q, rfl⟩ : ∃ (i : Fin 512) (q : Fin 1024), y = ix2 i q := ⟨y 0, y 1, by blk_ext⟩
  have e0 : (win0_7.blk t).view.emb (ix2 i q) 0 = row t i := Fin.ext (by blk_simp [idx t]; simp [row])
  have e1 : (win0_7.blk t).view.emb (ix2 i q) 1 = q := Fin.ext (by blk_simp [idx t])
  rw [e0, e1]
  refine Eq.trans ?_ (rows_at m c t i q)
  unfold out0_7
  frame_out

end kernel

section reference
open Cert.MixerForwardRefIdeal Cert.MixerForwardRefIdeal.Gen

variable (m : (ℓ : Loc nD τ sig) → Buf (Elt Ideal) ℓ) (g : Dev nD → PrngReg)

abbrev RU (c : Dev nD) : FVec Ideal Spec.Us .bf16 := m ((c : Thread nD τ).loc main_arg0)
abbrev RW (c : Dev nD) : FVec Ideal Spec.Ws .f32 := m ((c : Thread nD τ).loc main_arg1)

theorem reference :
    θ_run defs (onTc (τ := τ) (main (F := Ideal))) ⟨m, fun _ => 0, g⟩ fun r => ∀ c : Dev nD,
      r.2.mem ((c.tc : Thread nD τ).loc main_v25) = (fun j : S16384x1024.Idx => mixed (RU m c) (RW m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.MixerForwardRefIdeal.Value.run m g)
  funext j
  obtain ⟨p, q, rfl⟩ : ∃ p q, j = ix2 p q := ⟨j 0, j 1, eq_ix2 j⟩
  pointwise
  simp only [mixed, Ref.conv_out_eq, Spec.conv_in, Spec.gateB, Spec.gateC, Spec.inX, Spec.actG, Spec.sig]

end reference

end Cert.ForwardV

end
-- ==== Proof.Forward.Claim.lean ====
/- The two programs end with the same rows. -/
module

public import proofs.«01_k».proof.Defs
public import proofs.«01_k».proof.Proof.Gen.MixerForward.Frame
public import proofs.«01_k».proof.Proof.Forward.Value

@[expose] public section

set_option maxRecDepth 16384

noncomputable section

namespace Cert.ForwardV

open Idealize.ShloMosaic Idealize.ShloMosaic.TcCoe Idealize.SL.Sem Cert.Common

theorem algebraic : algebraic_MixerForwardIdeal_MixerForwardRefIdeal := by
  intro m g m' g' hpre hag
  have e0 : ∀ c, RU m' c = U m c := fun c => (hag c).1
  have e1 : ∀ c, RW m' c = W m c := fun c => (hag c).2
  refine ⟨fun c => (MixerForwardIdeal.Gen.dats m 0 c).arrAt 7 (MixerForwardIdeal.cfgs 0).N, MixerForwardIdeal.Value.run_blocks m g,
    (θ_run _ _ _).mono (fun r h c => ⟨(h c).1.trans ?_, (h c).2⟩) (reference m' g')⟩
  rw [e0, e1]
  exact (result m c).symm

end Cert.ForwardV

end
-- ==== Proof.Proj.Value.lean ====
/- The two projections of the normalized rows: what the kernel writes, and what the reference computes. -/
module

public import proofs.«01_k».proof.Proof.Gen.ProjectionsIdeal.Value
public import proofs.«01_k».proof.Proof.Gen.ProjectionsRefIdeal.Run
public import proofs.«01_k».proof.Proof.Common.Norm
public import Idealize.ShloMosaic.Lib.Pipeline.ValueKit
public import Idealize.ShloMosaic.Lib.Pointwise

@[expose] public section

set_option maxRecDepth 16384

noncomputable section

namespace Cert.ProjV

open Idealize.ShloMosaic Idealize.ShloMosaic.TcCoe Idealize.SL.Sem Cert.Common

/-- A normalized row, times the gain, against a column of the weights. -/
def proj (x : FVec Ideal ⟨2, ![16384, 1024]⟩ .f32) (n : FVec Ideal ⟨2, ![1, 1024]⟩ .f32) (w : FVec Ideal ⟨2, ![1024, 1024]⟩ .bf16)
    (p : Fin 16384) (q : Fin 1024) : EReal :=
  ∑ k : Fin 1024, (x (ix2 p k) * rstd (fun l => x (ix2 p l)) * n (ix2 0 k)) * w (ix2 k q)

section kernel
open Cert.ProjectionsIdeal Cert.ProjectionsIdeal.Gen

variable (m : (ℓ : Loc nD τ sig) → Buf (Elt Ideal) ℓ) (c : Dev nD) (t : Fin cfg0.N)

/-- The row of the whole array that row `i` of block `t` is. -/
def row (t : Fin cfg0.N) (i : Fin 512) : Fin 16384 := ⟨t.val * 512 + i.val, by have := t.isLt; have h : cfg0.N = 32 := rfl; omega⟩

abbrev X : FVec Ideal ⟨2, ![16384, 1024]⟩ .f32 := m ((c : Thread nD τ).loc main_arg0)
abbrev N1 : FVec Ideal ⟨2, ![1, 1024]⟩ .f32 := m ((c : Thread nD τ).loc main_arg1)
abbrev N2 : FVec Ideal ⟨2, ![1, 1024]⟩ .f32 := m ((c : Thread nD τ).loc main_arg2)
abbrev W1 : FVec Ideal ⟨2, ![1024, 1024]⟩ .bf16 := m ((c : Thread nD τ).loc main_arg3)
abbrev W2 : FVec Ideal ⟨2, ![1024, 1024]⟩ .bf16 := m ((c : Thread nD τ).loc main_arg4)

/-- Which block of its array each window reads or writes at point `t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0] := by decide +kernel

theorem x_at (i : Fin 512) (k : Fin 1024) : iblk m c 0 t (ix2 i k) = X m c (ix2 (row t i) k) := by
  blk_point [iblk, V, idx t, row]
theorem n1_at (k : Fin 1024) : iblk m c 1 t (ix2 0 k) = N1 m c (ix2 0 k) := by
  blk_point [iblk, V, idx t]
theorem n2_at (k : Fin 1024) : iblk m c 2 t (ix2 0 k) = N2 m c (ix2 0 k) := by
  blk_point [iblk, V, idx t]
theorem w1_at (k q : Fin 1024) : iblk m c 3 t (ix2 k q) = W1 m c (ix2 k q) := by
  blk_point [iblk, V, idx t]
theorem w2_at (k q : Fin 1024) : iblk m c 4 t (ix2 k q) = W2 m c (ix2 k q) := by
  blk_point [iblk, V, idx t]

theorem pay1_at (i : Fin 512) (k : Fin 1024) : k0_pay1 (iblk m c 0 t) (ix2 i k)
    = (X m c (ix2 (row t i) k) : EReal) * rstd (fun l => X m c (ix2 (row t i) l)) := by
  pointwise [k0_pay1]
  simp only [x_at]
  rfl
theorem pay2_at (i : Fin 512) (q : Fin 1024) : k0_pay2 (iblk m c 0 t) (iblk m c 1 t) (iblk m c 3 t) (ix2 i q)
    = proj (X m c) (N1 m c) (W1 m c) (row t i) q := by
  pointwise [k0_pay2]
  exact Finset.sum_congr rfl fun k _ => Ideal.mul_congr (Ideal.mul_congr (pay1_at m c t i k) (n1_at m c t k)) (w1_at m c t k q)
theorem pay3_at (i : Fin 512) (q : Fin 1024) : k0_pay3 (iblk m c 0 t) (iblk m c 2 t) (iblk m c 4 t) (ix2 i q)
    = proj (X m c) (N2 m c) (W2 m c) (row t i) q := by
  pointwise [k0_pay3]
  exact Finset.sum_congr rfl fun k _ => Ideal.mul_congr (Ideal.mul_congr (pay1_at m c t i k) (n2_at m c t k)) (w2_at m c t k q)

theorem result5 (c : Dev nD) : (dats m 0 c).arrAt 5 (cfgs 0).N
    = fun j : S16384x1024.Idx => proj (X m c) (N1 m c) (W1 m c) (j 0) (j 1) := by
  refine (dats m 0 c).arrAt_eq_of_covers 5 _ (by decide +kernel) fun t hf y => ?_
  blk_simp
  rw [after0_5]
  obtain ⟨i, q, rfl⟩ : ∃ (i : Fin 512) (q : Fin 1024), y = ix2 i q := ⟨y 0, y 1, by blk_ext⟩
  have e0 : (win0_5.blk t).view.emb (ix2 i q) 0 = row t i := Fin.ext (by blk_simp [idx t]; simp [row])
  have e1 : (win0_5.blk t).view.emb (ix2 i q) 1 = q := Fin.ext (by blk_simp [idx t])
  rw [e0, e1]
  refine Eq.trans ?_ (pay2_at m c t i q)
  unfold out0_5
  frame_out

theorem result6 (c : Dev nD) : (dats m 0 c).arrAt 6 (cfgs 0).N
    = fun j : S16384x1024.Idx => proj (X m c) (N2 m c) (W2 m c) (j 0) (j 1) := by
  refine (dats m 0 c).arrAt_eq_of_covers 6 _ (by decide +kernel) fun t hf y => ?_
  blk_simp
  rw [after0_6]
  obtain ⟨i, q, rfl⟩ : ∃ (i : Fin 512) (q : Fin 1024), y = ix2 i q := ⟨y 0, y 1, by blk_ext⟩
  have e0 : (win0_6.blk t).view.emb (ix2 i q) 0 = row t i := Fin.ext (by blk_simp [idx t]; simp [row])
  have e1 : (win0_6.blk t).view.emb (ix2 i q) 1 = q := Fin.ext (by blk_simp [idx t])
  rw [e0, e1]
  refine Eq.trans ?_ (pay3_at m c t i q)
  unfold out0_6
  frame_out

end kernel

section reference
open Cert.ProjectionsRefIdeal Cert.ProjectionsRefIdeal.Gen

variable (m : (ℓ : Loc nD τ sig) → Buf (Elt Ideal) ℓ) (g : Dev nD → PrngReg)

abbrev RX (c : Dev nD) : FVec Ideal ⟨2, ![16384, 1024]⟩ .f32 := m ((c : Thread nD τ).loc main_arg0)
abbrev RN1 (c : Dev nD) : FVec Ideal ⟨2, ![1, 1024]⟩ .f32 := m ((c : Thread nD τ).loc main_arg1)
abbrev RN2 (c : Dev nD) : FVec Ideal ⟨2, ![1, 1024]⟩ .f32 := m ((c : Thread nD τ).loc main_arg2)
abbrev RW1 (c : Dev nD) : FVec Ideal ⟨2, ![1024, 1024]⟩ .bf16 := m ((c : Thread nD τ).loc main_arg3)
abbrev RW2 (c : Dev nD) : FVec Ideal ⟨2, ![1024, 1024]⟩ .bf16 := m ((c : Thread nD τ).loc main_arg4)

theorem reference :
    θ_run defs (onTc (τ := τ) (main (F := Ideal))) ⟨m, fun _ => 0, g⟩ fun r => ∀ c : Dev nD,
      r.2.mem ((c.tc : Thread nD τ).loc main_v14) = (fun j : S16384x1024.Idx => proj (RX m c) (RN1 m c) (RW1 m c) (j 0) (j 1))
      ∧ r.2.mem ((c.tc : Thread nD τ).loc main_v29) = (fun j : S16384x1024.Idx => proj (RX m c) (RN2 m c) (RW2 m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2.1.trans ?_, (h c).2.2⟩) (Cert.ProjectionsRefIdeal.Value.run m g)
  all_goals
    funext j
    obtain ⟨p, q, rfl⟩ : ∃ p q, j = ix2 p q := ⟨j 0, j 1, eq_ix2 j⟩
    pointwise
    rfl

end reference

end Cert.ProjV

end
-- ==== Proof.Proj.Claim.lean ====
/- The two programs end with the same projections. -/
module

public import proofs.«01_k».proof.Defs
public import proofs.«01_k».proof.Proof.Gen.Projections.Frame
public import proofs.«01_k».proof.Proof.Proj.Value

@[expose] public section

set_option maxRecDepth 16384

noncomputable section

namespace Cert.ProjV

open Idealize.ShloMosaic Idealize.ShloMosaic.TcCoe Idealize.SL.Sem Cert.Common

theorem algebraic : algebraic_ProjectionsIdeal_ProjectionsRefIdeal := by
  intro m g m' g' hpre hag
  have e0 : ∀ c, RX m' c = X m c := fun c => (hag c).1
  have e1 : ∀ c, RN1 m' c = N1 m c := fun c => (hag c).2.1
  have e2 : ∀ c, RN2 m' c = N2 m c := fun c => (hag c).2.2.1
  have e3 : ∀ c, RW1 m' c = W1 m c := fun c => (hag c).2.2.2.1
  have e4 : ∀ c, RW2 m' c = W2 m c := fun c => (hag c).2.2.2.2
  refine ⟨fun c => (ProjectionsIdeal.Gen.dats m 0 c).arrAt 5 (ProjectionsIdeal.cfgs 0).N,
    fun c => (ProjectionsIdeal.Gen.dats m 0 c).arrAt 6 (ProjectionsIdeal.cfgs 0).N, ProjectionsIdeal.Value.run_blocks m g,
    (θ_run _ _ _).mono (fun r h c => ⟨(h c).1.trans ?_, (h c).2.1.trans ?_, (h c).2.2⟩) (reference m' g')⟩
  · rw [e0, e1, e3]
    exact (result5 m c).symm
  · rw [e0, e2, e4]
    exact (result6 m c).symm

end Cert.ProjV

end
-- ==== Proof.AttnF.Word.lean ====
/- The forward attention's run on the device's words. Its loop is a record of the program's own, so that the two programs
   are not one text; of the run only the memory is followed here, and the values are left unnamed. -/
module

public import proofs.«01_k».proof.Proof.Gen.AttentionForward.Launch
public import proofs.«01_k».proof.Proof.Gen.AttentionForward.Points
public import proofs.«01_k».proof.Proof.Gen.AttentionForward.Skeleton
public import Idealize.ShloMosaic.Lib.Pipeline.FrameValue
public import Idealize.ShloMosaic.Lib.Pipeline.FrameBody
public import Idealize.ShloMosaic.Lib.Tactic

@[expose] public section

set_option maxRecDepth 16384

noncomputable section

namespace Cert.AttnF.Word

open Cert.AttentionForward Cert.AttentionForward.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

/-- The buffers that the loop uses. -/
def Held (c : Dev nD) (km : Memref sig .tc .smem S512 .f32) (k v : Memref sig .tc .vmem S16384x256 .bf16)
    (cin : Memref sig .tc .vmem S1x4x256x64 .f32) : sProp 𝕄 :=
  iprop((∃ d, owns (c : Thread nD τ) km fullShare d) ∗ (∃ d, owns (c : Thread nD τ) k fullShare d)
    ∗ (∃ d, owns (c : Thread nD τ) v fullShare d) ∗ (∃ d, owns (c : Thread nD τ) cin fullShare d))

theorem chk_all : ∀ t : Fin grid0.N, ∀ j < 64, k0_chk1 (grid0.coords t) (BitVec.ofNat 32 j) ∨ j = 0 := by
  decide +kernel

theorem test_succ : ∀ j < 64, Scalar.cmpi .sgt (BitVec.ofNat 32 (j + 1)) 0#32 = 1#1 := by decide
theorem sub_one : ∀ j < 64, Scalar.subi (BitVec.ofNat 32 (j + 1)) 1#32 = BitVec.ofNat 32 j := by decide

section
variable (c : Dev nD) (t : Fin grid0.N)
  (km : Memref sig .tc .smem S512 .f32) (hkm : km.IsWhole) (k v : Memref sig .tc .vmem S16384x256 .bf16) (hk : k.IsWhole) (hv : v.IsWhole)
  (cin : Memref sig .tc .vmem S1x4x256x64 .f32) (hcin : cin.IsWhole)

/-- What the loop asks and returns. -/
def spec : sWPT 𝕄 (BitVec 32 × BitVec 1 × FVec F S256x1 .f32 × FVec F S256x64 .f32 × FVec F S256x1 .f32 × FVec F S256x64 .f32
    × FVec F S256x1 .f32 × FVec F S256x64 .f32 × FVec F S256x1 .f32 × FVec F S256x64 .f32) := do
  sWPT.consume (Held c km k v cin)
  let r ← sWPT.arbitrary
  sWPT.produce (Held c km k v cin)
  pure r

theorem spec_apply (K) : spec (F := F) c km k v cin K = iprop(Held c km k v cin ∗ ∀ r, (Held c km k v cin -∗ K r)) := rfl

set_option maxHeartbeats 4000000 in
theorem spec_le (E : Set ℕ) (q0 q1 q2 q3 : FVec F S256x64 .bf16) (one : FVec F S256x256 .bf16) (lane : IVec S256x64 32) (n0 n1 n2 n3 : FVec F S256x1 .f32) :
    ∀ j < 64, ∀ (b : BitVec 1) (r0 : FVec F S256x1 .f32) (s0 : FVec F S256x64 .f32) (r1 : FVec F S256x1 .f32) (s1 : FVec F S256x64 .f32)
      (r2 : FVec F S256x1 .f32) (s2 : FVec F S256x64 .f32) (r3 : FVec F S256x1 .f32) (s3 : FVec F S256x64 .f32) (K), spec c km k v cin K
      ⊢ wp frame (wpE (defs₀ (F := F)) Variants.nat (c : Thread nD τ) (some j)) E
        (defs₀ (F := F) .tc 1 ⟨grid0.coords t, k, hk, v, hv, q0, q1, q2, q3, one, lane, cin, hcin, km, hkm, n0, n1, n2, n3, BitVec.ofNat 32 j, b,
          r0, s0, r1, s1, r2, s2, r3, s3⟩) K := by
  intro j
  induction j with
  | zero =>
    intro _ b r0 s0 r1 s1 r2 s2 r3 s3 K
    rw [spec_apply]
    show _ ⊢ wp frame (wpE (defs₀ (F := F)) Variants.nat (c : Thread nD τ) (some 0)) E
      (cc0_while1 (grid0.coords t) k hk v hv q0 q1 q2 q3 one lane cin hcin km hkm n0 n1 n2 n3 (BitVec.ofNat 32 0) b r0 s0 r1 s1 r2 s2 r3 s3) K
    simp only [cc0_while1_eq_skeleton]; unfold cc0_while1_skel
    have ht : ¬Scalar.andi (Scalar.cmpi .sgt (BitVec.ofNat 32 0) 0#32) b = 1#1 := by revert b; decide
    simp only [ht, ↓reduceIte, Prog.pure_eq_ret]
    iintro ⟨H, Hk⟩
    rw [wp_ret]; imodintro
    iapply Hk
    iexact H
  | succ j ih =>
    intro hj b r0 s0 r1 s1 r2 s2 r3 s3 K
    rw [spec_apply]
    show _ ⊢ wp frame (wpE (defs₀ (F := F)) Variants.nat (c : Thread nD τ) (some (j + 1))) E
      (cc0_while1 (grid0.coords t) k hk v hv q0 q1 q2 q3 one lane cin hcin km hkm n0 n1 n2 n3 (BitVec.ofNat 32 (j + 1)) b r0 s0 r1 s1 r2 s2 r3 s3) K
    simp only [cc0_while1_eq_skeleton]; unfold cc0_while1_skel
    have hw : k0_chk1 (grid0.coords t) (BitVec.ofNat 32 (j + 1)) := (chk_all t (j + 1) hj).resolve_right (Nat.succ_ne_zero j)
    by_cases hb : b = 1#1
    · have ht : Scalar.andi (Scalar.cmpi .sgt (BitVec.ofNat 32 (j + 1)) 0#32) b = 1#1 := by
        rw [test_succ j (Nat.lt_of_succ_lt hj), hb]; decide
      simp only [ht, ↓reduceIte]
      simp only [k0_part8_eq_skeleton, k0_part9_eq_skeleton, k0_part10_eq_skeleton, k0_part11_eq_skeleton, k0_part12_eq_skeleton]
      unfold Held owns
      iintro ⟨⟨⟨%d0, %f0, -, H0⟩, ⟨%d1, %f1, -, H1⟩, ⟨%d2, %f2, -, H2⟩, ⟨%d3, %f3, -, H3⟩⟩, Hk⟩
      sl_exec (disch := first | sl_exact hw)
      rw [show spec_le.sl.v289 j = BitVec.ofNat 32 j from sub_one j (Nat.lt_of_succ_lt hj)]
      iapply (wp_call_spec Variants.nat (c : Thread nD τ) (some (j + 1)) E
        (spec c km k v cin) j (fun w hw => by cases hw; exact Nat.lt_succ_self j) (ih (Nat.lt_of_succ_lt hj) _ _ _ _ _ _ _ _ _))
      rw [spec_apply]; unfold Held owns
      isplitl [H0 H1 H2 H3]
      · isplitl [H0]; · iexists _; iexists _; isplitr; swap; · iexact H0
                        ipureintro; rfl
        isplitl [H1]; · iexists _; iexists _; isplitr; swap; · iexact H1
                        ipureintro; rfl
        isplitl [H2]; · iexists _; iexists _; isplitr; swap; · iexact H2
                        ipureintro; rfl
        iexists _; iexists _; isplitr; swap; · iexact H3
        ipureintro; rfl
      iintro %r H
      rw [wp_ret]; imodintro
      iapply Hk
      iexact H
    · have ht : ¬Scalar.andi (Scalar.cmpi .sgt (BitVec.ofNat 32 (j + 1)) 0#32) b = 1#1 := by
        rw [test_succ j (Nat.lt_of_succ_lt hj)]; revert b; decide
      simp only [ht, ↓reduceIte, Prog.pure_eq_ret]
      iintro ⟨H, Hk⟩
      rw [wp_ret]; imodintro
      iapply Hk
      iexact H

variable (q : Memref sig .tc .vmem S256x256 .bf16) (hq : q.IsWhole) (one : Memref sig .tc .vmem S256x256 .bf16) (hone : one.IsWhole)
  (o : Memref sig .tc .vmem S256x256 .f32) (ho : o.IsWhole) (fst : Memref sig .tc .smem S128 .i32) (hfst : fst.IsWhole)

set_option maxHeartbeats 4000000 in
theorem run_body (W : Waits sig Unit) (K : PUnit → sProp 𝕄) :
    iprop(Held c km k v cin ∗ (∃ d, owns (c : Thread nD τ) q fullShare d) ∗ (∃ d, owns (c : Thread nD τ) one fullShare d)
        ∗ (∃ d, owns (c : Thread nD τ) o fullShare d) ∗ (∃ d, owns (c : Thread nD τ) fst fullShare d) ∗ owes (c : Thread nD τ) 0 W
        ∗ (iprop(Held c km k v cin ∗ (∃ d, owns (c : Thread nD τ) q fullShare d) ∗ (∃ d, owns (c : Thread nD τ) one fullShare d)
            ∗ (∃ d, owns (c : Thread nD τ) o fullShare d) ∗ (∃ d, owns (c : Thread nD τ) fst fullShare d)
            ∗ (∃ W', owes (c : Thread nD τ) 0 W')) -∗ K ⟨⟩))
      ⊢ wp frame (wpE (defs₀ (F := F)) Variants.nat (c : Thread nD τ) none) Set.univ
        (cc0_attention_fwd (F := F) (grid0.coords t) km hkm q hq k hk v hv one hone o ho cin hcin fst hfst) K := by
  simp only [cc0_attention_fwd_eq_skeleton]; unfold cc0_attention_fwd_skel
  simp only [k0_part1_eq_skeleton, k0_part2_eq_skeleton, k0_part3_eq_skeleton, k0_part4_eq_skeleton, k0_part5_eq_skeleton,
    k0_part6_eq_skeleton, k0_part7_eq_skeleton]
  unfold Held owns
  iintro ⟨⟨⟨%d0, %f0, -, H0⟩, ⟨%d1, %f1, -, H1⟩, ⟨%d2, %f2, -, H2⟩, ⟨%d3, %f3, -, H3⟩⟩, ⟨%d4, %f4, -, H4⟩, ⟨%d5, %f5, -, H5⟩, ⟨%d6, %f6, -, H6⟩, ⟨%d7, %f7, -, H7⟩, HW, Hk⟩
  sl_exec
  iapply (wp_call_spec Variants.nat (c : Thread nD τ) none Set.univ (spec c km k v cin)
    (grid0.coords t 1).val (fun w hw => nomatch hw)
    (spec_le c t km hkm k v hk hv cin hcin Set.univ _ _ _ _ _ _ _ _ _ _ (grid0.coords t 1).val (grid0.coords t 1).isLt _ _ _ _ _ _ _ _ _))
  rw [spec_apply]; unfold Held owns
  isplitl [H0 H1 H2 H3]
  · isplitl [H0]; · iexists _; iexists _; isplitr; swap; · iexact H0
                    ipureintro; rfl
    isplitl [H1]; · iexists _; iexists _; isplitr; swap; · iexact H1
                    ipureintro; rfl
    isplitl [H2]; · iexists _; iexists _; isplitr; swap; · iexact H2
                    ipureintro; rfl
    iexists _; iexists _; isplitr; swap; · iexact H3
    ipureintro; rfl
  iintro %r H
  obtain ⟨r0, r1, r2, r3, r4, r5, r6, r7, r8, r9⟩ := r
  sl_exec
  sl_step
  iapply Hk
  isplitl [H]; · iexact H
  isplitl [H4]; · iexists _; iexists _; isplitr; swap; · iexact H4
                  ipureintro; rfl
  isplitl [H5]; · iexists _; iexists _; isplitr; swap; · iexact H5
                  ipureintro; rfl
  isplitl [H6]; · iexists _; iexists _; isplitr; swap; · iexact H6
                  ipureintro; rfl
  isplitl [H7]; · iexists _; iexists _; isplitr; swap; · iexact H7
                  ipureintro; rfl
  iexists _; iexact HW

end

/-! ## The launch -/

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_arg (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-- No window's contents are named. -/
def fgt : Fin (cfg0 (F := F)).W → Bool := fun _ => true

/-- The pipeline's proof data. -/
def dats (_ : Fin 1) (c : Dev nD) : Dat τ (Elt F) Unit ℕ (UR sig nD τ) ℕ (cfg0 (F := F)) c where
  A w := V m c (Pipeline.arrRef spec0 w)
  after w t := fun _ => Classical.ofNonempty
  Φ _ := Pipeline.ΦA spec0 c
  q w := Pipeline.shareOf spec0 w
  owed _ := 0

set_option maxHeartbeats 2000000 in
theorem sound (c : Dev nD) (t : Fin (cfg0 (F := F)).N) :
    iprop((dats m 0 c).Φ t.castSucc ∗ (dats m 0 c).owesAt () t.castSucc
        ∗ (∃ X, owns (c : Thread nD τ) (st0_0 (F := F) t) fullShare X) ∗ (∃ X, owns (c : Thread nD τ) (st0_1 (F := F) t) fullShare X)
        ∗ (∃ X, owns (c : Thread nD τ) (st0_2 (F := F) t) fullShare X) ∗ (∃ X, owns (c : Thread nD τ) (st0_3 (F := F) t) fullShare X)
        ∗ (∃ X, owns (c : Thread nD τ) (st0_4 (F := F) t) fullShare X) ∗ (∃ X, owns (c : Thread nD τ) (st0_5 (F := F) t) fullShare X)
        ∗ (∃ X, owns (c : Thread nD τ) (st0_6 (F := F) t) fullShare X) ∗ (∃ X, owns (c : Thread nD τ) (st0_7 (F := F) t) fullShare X))
      ⊢ wp frame (wpE (defs₀ (F := F)) Variants.nat c none) Set.univ (bodyAt0 (F := F) t) (fun _ =>
        iprop((dats m 0 c).Φ t.succ ∗ (dats m 0 c).owesAt () t.succ
        ∗ (∃ X, owns (c : Thread nD τ) (st0_0 (F := F) t) fullShare X) ∗ (∃ X, owns (c : Thread nD τ) (st0_1 (F := F) t) fullShare X)
        ∗ (∃ X, owns (c : Thread nD τ) (st0_2 (F := F) t) fullShare X) ∗ (∃ X, owns (c : Thread nD τ) (st0_3 (F := F) t) fullShare X)
        ∗ (∃ X, owns (c : Thread nD τ) (st0_4 (F := F) t) fullShare X) ∗ (∃ X, owns (c : Thread nD τ) (st0_5 (F := F) t) fullShare X)
        ∗ (∃ X, owns (c : Thread nD τ) (st0_6 (F := F) t) fullShare X) ∗ (∃ X, owns (c : Thread nD τ) (st0_7 (F := F) t) fullShare X))) := by
  rw [show (dats m 0 c).Φ t.succ = (dats m 0 c).Φ t.castSucc from rfl]
  unfold Dat.owesAt Pipeline.owesWithin
  rw [show (dats m 0 c).owed t.castSucc = 0 from rfl, show (dats m 0 c).owed t.succ = 0 from rfl]
  iintro ⟨HΦ, ⟨%W, -, HW⟩, H0, H1, H2, H3, H4, H5, H6, H7⟩
  iapply (run_body c t (st0_0 (F := F) t) (hstage0_0 (((cfg0 (F := F)).slots t 0).cast nbuf0_0)) (st0_2 (F := F) t) (st0_3 (F := F) t)
    (hstage0_2 (((cfg0 (F := F)).slots t 2).cast nbuf0_2)) (hstage0_3 (((cfg0 (F := F)).slots t 3).cast nbuf0_3))
    (st0_6 (F := F) t) (hstage0_6 (((cfg0 (F := F)).slots t 6).cast nbuf0_6)) (st0_1 (F := F) t) (hstage0_1 (((cfg0 (F := F)).slots t 1).cast nbuf0_1))
    (st0_4 (F := F) t) (hstage0_4 (((cfg0 (F := F)).slots t 4).cast nbuf0_4)) (st0_5 (F := F) t) (hstage0_5 (((cfg0 (F := F)).slots t 5).cast nbuf0_5))
    (st0_7 (F := F) t) (hstage0_7 (((cfg0 (F := F)).slots t 7).cast nbuf0_7)) W _)
  unfold Held
  isplitl [H0 H2 H3 H6]
  · isplitl [H0]; · iexact H0
    isplitl [H2]; · iexact H2
    isplitl [H3]; · iexact H3
    iexact H6
  isplitl [H1]; · iexact H1
  isplitl [H4]; · iexact H4
  isplitl [H5]; · iexact H5
  isplitl [H7]; · iexact H7
  isplitl [HW]; · iexact HW
  iintro ⟨⟨H0, H2, H3, H6⟩, H1, H4, H5, H7, ⟨%W', HW⟩⟩
  isplitl [HΦ]; · iexact HΦ
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem row (t : Fin (cfg0 (F := F)).N) :
    defs₀ (F := F) .tc (cfg0 (F := F)).body ((cfg0 (F := F)).bodyArgs t ((cfg0 (F := F)).slots t)) = bodyAt0 (F := F) t := by
  unfold defs₀; rw [Defs.onTc_tc]

theorem obligation (c : Dev nD) : BodyObligationLoose (dats (F := F) m 0 c) (defs₀ (F := F)) Variants.nat () Set.univ (fgt (F := F)) := fun t => by
  rw [bigSep_W0, bigSep_W0, row]
  exact triple_restated (sound m c t) rfl .rfl fun _ => .rfl

set_option backward.isDefEq.respectTransparency.types false in
theorem run_main : θ_run defs (onTc (τ := τ) (main (F := F))) (s₀ m ρ) (fun r =>
    RDat.FramePost (cfg0 (F := F)) (fun c => (dats m 0 c).toRForget (fgt (F := F))) (V m) r ∧ r.2.sem = fun _ => 0) :=
  Pipeline.θ_run_frame_forget_shared (Q' := _) cfgs (dats m) (0 : Fin 1) launch₀0 defs₀ Variants.nat (fgt (F := F)) m ρ main
    (hbody := obligation m) (hq := fun _ _ _ => rfl) (howed := fun _ _ => rfl) (V := V m) (hmain := hmain m Variants.nat)
    (hA := fun _ _ => rfl) (hΦ := fun _ _ => rfl)

/-- The run: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 1 rfl).trans (V_arg m c main_arg0 (by decide)), (h.1.arr_in c 2 rfl).trans (V_arg m c main_arg1 (by decide)),
      (h.1.arr_in c 0 rfl).trans (V_arg m c main_arg2 (by decide))⟩, h.2⟩) (run_main m ρ)

end Cert.AttnF.Word

end
-- ==== Proof.AttnF.Body.lean ====
/- The forward attention kernel's loop over the key blocks, over any float values: what a trip makes of the eight sums
   that it carries, and what the loop returns. -/
module

public import proofs.«01_k».proof.Proof.Gen.AttentionForwardIdeal.Launch
public import proofs.«01_k».proof.Proof.Gen.AttentionForwardIdeal.Points
public import proofs.«01_k».proof.Proof.Gen.AttentionForwardIdeal.Skeleton
public import Idealize.ShloMosaic.Lib.Pipeline.FrameValue
public import Idealize.ShloMosaic.Lib.Tactic

@[expose] public section

set_option maxRecDepth 16384

noncomputable section

namespace Cert.AttnF

open Cert.AttentionForwardIdeal Cert.AttentionForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The eight staging buffers of a point: the bounds of the keys, the queries, the keys, the values, the triangle of ones,
    the result, and the two that the backward pass reads. -/
structure Stage where
  km : Memref sig .tc .smem S512 .f32
  hkm : km.IsWhole
  q : Memref sig .tc .vmem S256x256 .bf16
  hq : q.IsWhole
  k : Memref sig .tc .vmem S16384x256 .bf16
  hk : k.IsWhole
  v : Memref sig .tc .vmem S16384x256 .bf16
  hv : v.IsWhole
  one : Memref sig .tc .vmem S256x256 .bf16
  hone : one.IsWhole
  o : Memref sig .tc .vmem S256x256 .f32
  ho : o.IsWhole
  cin : Memref sig .tc .vmem S1x4x256x64 .f32
  hcin : cin.IsWhole
  fst : Memref sig .tc .smem S128 .i32
  hfst : fst.IsWhole

/-- What the body finds in the five buffers that it only reads. -/
structure Ins (F : FTy → Type) [FloatOps F] where
  km : Vec F S512 .f32
  q : Vec F S256x256 .bf16
  k : Vec F S16384x256 .bf16
  v : Vec F S16384x256 .bf16
  one : Vec F S256x256 .bf16

/-- What the loop finds made of them: the triangle, the four heads' queries and their norms, the lanes. -/
structure Ctx (F : FTy → Type) [FloatOps F] where
  one : FVec F S256x256 .bf16
  q0 : FVec F S256x64 .bf16
  q1 : FVec F S256x64 .bf16
  q2 : FVec F S256x64 .bf16
  q3 : FVec F S256x64 .bf16
  n0 : FVec F S256x1 .f32
  n1 : FVec F S256x1 .f32
  n2 : FVec F S256x1 .f32
  n3 : FVec F S256x1 .f32
  lane : IVec S256x64 32

/-- The four heads' running sums and results. -/
abbrev St (F : FTy → Type) [FloatOps F] : Type :=
  FVec F S256x1 .f32 × FVec F S256x64 .f32 × FVec F S256x1 .f32 × FVec F S256x64 .f32
    × FVec F S256x1 .f32 × FVec F S256x64 .f32 × FVec F S256x1 .f32 × FVec F S256x64 .f32

section
variable (i : grid0.Coords) (a : Stage) (x : Ins F) (u : Ctx F)

/-- The block of the keys that a trip reads, of the values, and the bound of a head's keys. -/
abbrev kt (w : BitVec 32) (h : k0_chk1 i w) : Vec F S256x256 .bf16 :=
  a.k.view.readAt (Elt F) (Rect.unit (s := S16384x256) (k0_off3 w) S256x256.size (k0_off3_inb i w h)).toLoadRect (a.hk.unread x.k)
abbrev vt (w : BitVec 32) (h : k0_chk1 i w) : Vec F S256x256 .bf16 :=
  a.v.view.readAt (Elt F) (Rect.unit (s := S16384x256) (k0_off3 w) S256x256.size (k0_off3_inb i w h)).toLoadRect (a.hv.unread x.v)
abbrev bound (w : BitVec 32) (h : k0_chk1 i w) (r : Fin 4) : Elt F .f32 :=
  a.km.view.readAt (Elt F) (Rect.unit (s := S512) (k0_off4 i w (BitVec.ofNat 32 r.val)) S1.size (k0_off4_inb i w h r)).toLoadRect (a.hkm.unread x.km)
    (Shape.Idx.first (numel1_S1.symm ▸ Nat.one_pos))

/-- What a trip makes of the sums. -/
def step (w : BitVec 32) (h : k0_chk1 i w) (s : St F) : St F :=
  (k0_pay82 s.1 (k0_pay72 u.one (k0_pay70 u.q0 (kt i a x w h))),
    k0_pay81 s.2.1 (k0_pay62 (vt i a x w h)) (k0_pay78 u.one s.1 (k0_pay66 u.q0 (kt i a x w h)) (k0_pay70 u.q0 (kt i a x w h))),
    k0_pay85 s.2.2.1 (k0_pay73 u.one (k0_pay71 u.q1 (kt i a x w h))),
    k0_pay84 s.2.2.2.1 (k0_pay63 (vt i a x w h)) (k0_pay79 u.one s.2.2.1 (k0_pay67 u.q1 (kt i a x w h)) (k0_pay71 u.q1 (kt i a x w h))),
    k0_pay89 s.2.2.2.2.1 (k0_pay88 (k0_pay74 u.one (k0_pay68 u.q2 (kt i a x w h)))),
    k0_pay87 s.2.2.2.2.2.1 (k0_pay64 (vt i a x w h)) (k0_pay76 u.one s.2.2.2.2.1 (k0_pay68 u.q2 (kt i a x w h))),
    k0_pay92 s.2.2.2.2.2.2.1 (k0_pay75 u.one (k0_pay69 u.q3 (kt i a x w h))),
    k0_pay91 s.2.2.2.2.2.2.2 (k0_pay65 (vt i a x w h)) (k0_pay80 (k0_pay77 u.one s.2.2.2.2.2.2.1 (k0_pay69 u.q3 (kt i a x w h)))))

/-- Whether another trip follows it, as the sums that it leaves decide. -/
def flag (w : BitVec 32) (h : k0_chk1 i w) (s : St F) : BitVec 1 :=
  Scalar.cmpf .ogt (k0_pay1 s.2.2.2.2.2.2.1
      (k0_pay94 u.n0 u.n1 u.n2 s.1 s.2.2.1 s.2.2.2.2.1 (bound i a x w h 0) (bound i a x w h 1) (bound i a x w h 2))
      (k0_pay95 u.n3 (bound i a x w h 3)))
    (Named.named κ "exit" 0xC2D00000#32)

/-- The loop from `j` blocks to go. -/
def loop : ℕ → BitVec 1 → St F → St F
  | 0, _, s => s
  | j + 1, b, s =>
    if h : k0_chk1 i (BitVec.ofNat 32 (j + 1)) then
      if b = 1#1 then loop j (flag i a x u _ h (step i a x u _ h s)) (step i a x u _ h s) else s
    else s

end

/-- The buffers that the loop reads, and the one that it writes sums of no use to the result into. -/
def Held (c : Dev nD) (a : Stage) (x : Ins F) : sProp 𝕄 :=
  iprop(owns (c : Thread nD τ) a.km fullShare x.km ∗ owns (c : Thread nD τ) a.k fullShare x.k
    ∗ owns (c : Thread nD τ) a.v fullShare x.v ∗ (∃ d, owns (c : Thread nD τ) a.cin fullShare d))

/-- The loop's record. -/
abbrev trip (i : grid0.Coords) (a : Stage) (u : Ctx F) (w : BitVec 32) (b : BitVec 1) (s : St F) :=
  defs₀ (F := F) .tc 1 ⟨i, a.k, a.hk, a.v, a.hv, u.q0, u.q1, u.q2, u.q3, u.one, u.lane, a.cin, a.hcin, a.km, a.hkm,
    u.n0, u.n1, u.n2, u.n3, w, b, s.1, s.2.1, s.2.2.1, s.2.2.2.1, s.2.2.2.2.1, s.2.2.2.2.2.1, s.2.2.2.2.2.2.1, s.2.2.2.2.2.2.2⟩

theorem chk_all : ∀ t : Fin grid0.N, ∀ j < 64, k0_chk1 (grid0.coords t) (BitVec.ofNat 32 j) ∨ j = 0 := by
  decide +kernel

theorem test_succ : ∀ j < 64, Scalar.cmpi .sgt (BitVec.ofNat 32 (j + 1)) 0#32 = 1#1 := by decide
theorem sub_one : ∀ j < 64, Scalar.subi (BitVec.ofNat 32 (j + 1)) 1#32 = BitVec.ofNat 32 j := by decide

section
variable (c : Dev nD) (t : Fin grid0.N) (a : Stage) (x : Ins F) (u : Ctx F)

/-- What the loop asks and returns. -/
def spec (j : ℕ) (b : BitVec 1) (s : St F) : sWPT 𝕄 (BitVec 32 × BitVec 1 × St F) := do
  sWPT.consume (Held c a x)
  let r ← sWPT.arbitrary
  sWPT.assume (r.2.2 = loop (grid0.coords t) a x u j b s)
  sWPT.produce (Held c a x)
  pure r

theorem spec_apply (j : ℕ) (b : BitVec 1) (s : St F) (K : BitVec 32 × BitVec 1 × St F → sProp 𝕄) :
    spec c t a x u j b s K
      = iprop(Held c a x ∗ ∀ r : BitVec 32 × BitVec 1 × St F, ⌜r.2.2 = loop (grid0.coords t) a x u j b s⌝ -∗ (Held c a x -∗ K r)) := rfl

set_option maxHeartbeats 4000000 in
theorem spec_le (E : Set ℕ) :
    ∀ j < 64, ∀ (b : BitVec 1) (s : St F) (K : BitVec 32 × BitVec 1 × St F → sProp 𝕄), spec c t a x u j b s K
      ⊢ wp frame (wpE (defs₀ (F := F)) Variants.nat (c : Thread nD τ) (some j)) E (trip (grid0.coords t) a u (BitVec.ofNat 32 j) b s) K := by
  intro j
  induction j with
  | zero =>
    intro _ b s K
    rw [spec_apply]
    show _ ⊢ wp frame (wpE (defs₀ (F := F)) Variants.nat (c : Thread nD τ) (some 0)) E
      (cc0_while1 (grid0.coords t) a.k a.hk a.v a.hv u.q0 u.q1 u.q2 u.q3 u.one u.lane a.cin a.hcin a.km a.hkm
        u.n0 u.n1 u.n2 u.n3 (BitVec.ofNat 32 0) b s.1 s.2.1 s.2.2.1 s.2.2.2.1 s.2.2.2.2.1 s.2.2.2.2.2.1 s.2.2.2.2.2.2.1 s.2.2.2.2.2.2.2) K
    simp only [cc0_while1_eq_skeleton]; unfold cc0_while1_skel
    have ht : ¬Scalar.andi (Scalar.cmpi .sgt (BitVec.ofNat 32 0) 0#32) b = 1#1 := by revert b; decide
    simp only [ht, ↓reduceIte, Prog.pure_eq_ret]
    iintro ⟨H, Hk⟩
    rw [wp_ret]; imodintro
    iapply Hk
    · ipureintro; rfl
    · iexact H
  | succ j ih =>
    intro hj b s K
    rw [spec_apply]
    show _ ⊢ wp frame (wpE (defs₀ (F := F)) Variants.nat (c : Thread nD τ) (some (j + 1))) E
      (cc0_while1 (grid0.coords t) a.k a.hk a.v a.hv u.q0 u.q1 u.q2 u.q3 u.one u.lane a.cin a.hcin a.km a.hkm
        u.n0 u.n1 u.n2 u.n3 (BitVec.ofNat 32 (j + 1)) b s.1 s.2.1 s.2.2.1 s.2.2.2.1 s.2.2.2.2.1 s.2.2.2.2.2.1 s.2.2.2.2.2.2.1 s.2.2.2.2.2.2.2) K
    simp only [cc0_while1_eq_skeleton]; unfold cc0_while1_skel
    have hw : k0_chk1 (grid0.coords t) (BitVec.ofNat 32 (j + 1)) := (chk_all t (j + 1) hj).resolve_right (Nat.succ_ne_zero j)
    rw [loop, dif_pos hw]
    by_cases hb : b = 1#1
    · have ht : Scalar.andi (Scalar.cmpi .sgt (BitVec.ofNat 32 (j + 1)) 0#32) b = 1#1 := by
        rw [test_succ j (by omega), hb]; decide
      rw [if_pos hb]
      simp only [ht, ↓reduceIte]
      simp only [k0_part8_eq_skeleton, k0_part9_eq_skeleton, k0_part10_eq_skeleton, k0_part11_eq_skeleton, k0_part12_eq_skeleton]
      unfold Held owns
      iintro ⟨⟨⟨%f0, %hf0, H0⟩, ⟨%f1, %hf1, H1⟩, ⟨%f2, %hf2, H2⟩, ⟨%d3, %f3, -, H3⟩⟩, Hk⟩
      obtain rfl := a.hkm.eq_unread hf0; obtain rfl := a.hk.eq_unread hf1; obtain rfl := a.hv.eq_unread hf2
      sl_exec (disch := first | sl_exact hw)
      rw [show spec_le.sl.v289 j = BitVec.ofNat 32 j from sub_one j (by omega)]
      iapply (wp_call_spec Variants.nat (c : Thread nD τ) (some (j + 1)) E
        (spec c t a x u j (flag (grid0.coords t) a x u _ hw (step (grid0.coords t) a x u _ hw s)) (step (grid0.coords t) a x u _ hw s)) j
        (fun w hw => by cases hw; exact Nat.lt_succ_self j) (ih (by omega) _ _))
      rw [spec_apply]; unfold Held owns
      isplitl [H0 H1 H2 H3]
      · isplitl [H0]; · iexists _; isplitr; · ipureintro; exact hf0
                        iexact H0
        isplitl [H1]; · iexists _; isplitr; · ipureintro; exact hf1
                        iexact H1
        isplitl [H2]; · iexists _; isplitr; · ipureintro; exact hf2
                        iexact H2
        iexists _; iexists _; isplitr; swap
        · iexact H3
        ipureintro; rfl
      iintro %r %hr H
      rw [wp_ret]; imodintro
      iapply Hk
      · ipureintro; exact hr
      · iexact H
    · have ht : ¬Scalar.andi (Scalar.cmpi .sgt (BitVec.ofNat 32 (j + 1)) 0#32) b = 1#1 := by
        rw [test_succ j (by omega)]; revert b; decide
      rw [if_neg hb]
      simp only [ht, ↓reduceIte, Prog.pure_eq_ret]
      iintro ⟨H, Hk⟩
      rw [wp_ret]; imodintro
      iapply Hk
      · ipureintro; rfl
      · iexact H

end

/-! ## The body -/

section
variable (i : grid0.Coords) (a : Stage) (x : Ins F)

abbrev qt : Vec F S256x256 .bf16 :=
  a.q.view.readAt (Elt F) (Rect.unit (s := S256x256) ![0, 0] S256x256.size inb_S256x256_S256x256_0_0).toLoadRect (a.hq.unread x.q)
abbrev onet : Vec F S256x256 .bf16 :=
  a.one.view.readAt (Elt F) (Rect.unit (s := S256x256) ![0, 0] S256x256.size inb_S256x256_S256x256_0_0).toLoadRect (a.hone.unread x.one)
abbrev kd : Vec F S256x256 .bf16 :=
  a.k.view.readAt (Elt F) (Rect.unit (s := S16384x256) (k0_off1 i) S256x256.size (k0_off1_inb i)).toLoadRect (a.hk.unread x.k)
abbrev vd : Vec F S256x256 .bf16 :=
  a.v.view.readAt (Elt F) (Rect.unit (s := S16384x256) (k0_off1 i) S256x256.size (k0_off1_inb i)).toLoadRect (a.hv.unread x.v)
abbrev bound0 (r : Fin 4) : Elt F .f32 :=
  a.km.view.readAt (Elt F) (Rect.unit (s := S512) (k0_off2 i (BitVec.ofNat 32 r.val)) S1.size (k0_off2_inb i r)).toLoadRect (a.hkm.unread x.km)
    (Shape.Idx.first (numel1_S1.symm ▸ Nat.one_pos))

/-- What the loop finds made of the point's blocks. -/
def ctx : Ctx F :=
  ⟨k0_pay2 (onet a x), k0_pay5 (qt a x), k0_pay6 (qt a x), k0_pay7 (qt a x), k0_pay8 (qt a x), k0_pay9 (qt a x), k0_pay10 (qt a x),
    k0_pay11 (qt a x), k0_pay12 (qt a x), iota .tc S256x64 32 [1] iota_S256x64_d1_w32⟩

/-- What the point's own block of keys makes of the sums. -/
def start : St F :=
  let u := ctx a x
  let kt := kd i a x
  let vt := vd i a x
  let w0 : FVec F S256x256 .f32 := k0_pay36 k0_pay13 (k0_pay32 u.q0 kt) (k0_pay33 u.q0 kt)
  let w1 : FVec F S256x256 .f32 := k0_pay37 k0_pay13 (k0_pay29 u.q1 kt)
  let w2 : FVec F S256x256 .f32 := k0_pay34 (k0_pay30 u.q2 kt)
  let w3 : FVec F S256x256 .f32 := k0_pay35 (k0_pay31 u.q3 kt)
  (k0_pay46 u.one k0_pay16 w0, k0_pay45 u.one k0_pay13 k0_pay16 k0_pay17 (k0_pay24 vt) (k0_pay28 u.q0 kt) w0,
    k0_pay50 k0_pay18 (k0_pay39 u.one w1), k0_pay49 k0_pay19 (k0_pay25 vt) (k0_pay42 u.one k0_pay13 k0_pay18 (k0_pay29 u.q1 kt) w1),
    k0_pay53 k0_pay20 (k0_pay40 u.one k0_pay13 w2 (Scalar.ofBits .f32 0x00000000#32)),
    k0_pay52 k0_pay21 (k0_pay26 vt) (k0_pay43 u.one k0_pay13 k0_pay20 (k0_pay30 u.q2 kt) w2 (Scalar.ofBits .f32 0x00000000#32)),
    k0_pay57 k0_pay22 (k0_pay41 u.one k0_pay13 w3), k0_pay56 k0_pay23 (k0_pay27 vt) (k0_pay44 u.one k0_pay13 k0_pay22 (k0_pay31 u.q3 kt) w3))

/-- Whether a trip follows. -/
def flag0 (u : Ctx F) (s : St F) : BitVec 1 :=
  Scalar.cmpf .ogt (k0_pay60 u.n1 u.n2 u.n3 s.2.2.1 s.2.2.2.2.1 s.2.2.2.2.2.2.1
      (k0_pay59 u.n0 s.1 (bound0 i a x 0)) (bound0 i a x 1) (bound0 i a x 2) (bound0 i a x 3))
    (Named.named κ "exit" 0xC2D00000#32)

/-- What the point stores into its result. -/
def result : FVec F S256x256 .f32 :=
  let s := loop i a x (ctx a x) (i 1).val (flag0 i a x (ctx a x) (start i a x)) (start i a x)
  k0_pay61 s.2.1 s.2.2.2.1 s.2.2.2.2.2.1 s.2.2.2.2.2.2.2

end

/-- The kernel's body at a point. -/
abbrev body (i : grid0.Coords) (a : Stage) :=
  cc0_attention_fwd (F := F) i a.km a.hkm a.q a.hq a.k a.hk a.v a.hv a.one a.hone a.o a.ho a.cin a.hcin a.fst a.hfst

section
variable (c : Dev nD) (t : Fin grid0.N) (a : Stage) (x : Ins F)

set_option maxHeartbeats 4000000 in
theorem run_body (W : Waits sig Unit) (K : PUnit → sProp 𝕄) :
    iprop(Held c a x ∗ owns (c : Thread nD τ) a.q fullShare x.q ∗ owns (c : Thread nD τ) a.one fullShare x.one
        ∗ (∃ d, owns (c : Thread nD τ) a.o fullShare d) ∗ (∃ d, owns (c : Thread nD τ) a.fst fullShare d) ∗ owes (c : Thread nD τ) 0 W
        ∗ (iprop(Held c a x ∗ owns (c : Thread nD τ) a.q fullShare x.q ∗ owns (c : Thread nD τ) a.one fullShare x.one
            ∗ (∃ f, a.o.view.loc (c : Thread nD τ) ↦[a.o.view.set]{fullShare} a.o.view.writes (Elt F) f
              [⟨Rect.unit (s := S256x256) ![0, 0] S256x256.size inb_S256x256_S256x256_0_0, result (grid0.coords t) a x⟩])
            ∗ (∃ d, owns (c : Thread nD τ) a.fst fullShare d) ∗ (∃ W', owes (c : Thread nD τ) 0 W')) -∗ K ⟨⟩))
      ⊢ wp frame (wpE (defs₀ (F := F)) Variants.nat (c : Thread nD τ) none) Set.univ (body (grid0.coords t) a) K := by
  unfold body
  simp only [cc0_attention_fwd_eq_skeleton]; unfold cc0_attention_fwd_skel
  simp only [k0_part1_eq_skeleton, k0_part2_eq_skeleton, k0_part3_eq_skeleton, k0_part4_eq_skeleton, k0_part5_eq_skeleton,
    k0_part6_eq_skeleton, k0_part7_eq_skeleton]
  unfold Held owns
  iintro ⟨⟨⟨%f0, %hf0, H0⟩, ⟨%f1, %hf1, H1⟩, ⟨%f2, %hf2, H2⟩, ⟨%d3, %f3, -, H3⟩⟩, ⟨%f4, %hf4, H4⟩, ⟨%f5, %hf5, H5⟩, ⟨%d6, %f6, -, H6⟩, ⟨%d7, %f7, -, H7⟩, HW, Hk⟩
  obtain rfl := a.hkm.eq_unread hf0; obtain rfl := a.hk.eq_unread hf1; obtain rfl := a.hv.eq_unread hf2
  obtain rfl := a.hq.eq_unread hf4; obtain rfl := a.hone.eq_unread hf5
  sl_exec
  iapply (wp_call_spec Variants.nat (c : Thread nD τ) none Set.univ
    (spec c t a x (ctx a x) (grid0.coords t 1).val (flag0 (grid0.coords t) a x (ctx a x) (start (grid0.coords t) a x)) (start (grid0.coords t) a x))
    (grid0.coords t 1).val (fun w hw => nomatch hw)
    (spec_le c t a x (ctx a x) Set.univ (grid0.coords t 1).val (grid0.coords t 1).isLt _ _))
  rw [spec_apply]; unfold Held owns
  isplitl [H0 H1 H2 H3]
  · isplitl [H0]; · iexists _; isplitr; · ipureintro; exact hf0
                    iexact H0
    isplitl [H1]; · iexists _; isplitr; · ipureintro; exact hf1
                    iexact H1
    isplitl [H2]; · iexists _; isplitr; · ipureintro; exact hf2
                    iexact H2
    iexists _; iexists _; isplitr; swap
    · iexact H3
    ipureintro; rfl
  iintro %r %hr H
  obtain ⟨r0, r1, s⟩ := r
  obtain rfl : s = _ := hr
  sl_exec
  sl_step
  iapply Hk
  isplitl [H]; · iexact H
  isplitl [H4]; · iexists _; isplitr; · ipureintro; exact hf4
                  iexact H4
  isplitl [H5]; · iexists _; isplitr; · ipureintro; exact hf5
                  iexact H5
  isplitl [H6]; · iexists _; iexact H6
  isplitl [H7]
  · iexists _; iexists _; isplitr; swap
    · iexact H7
    ipureintro; rfl
  iexists _; iexact HW

end

end Cert.AttnF

end
-- ==== Proof.AttnF.Run.lean ====
/- The forward attention kernel's launch over any float values: what each point leaves in the result, and the final memory
   of the program, the two results that the backward pass reads left unnamed. -/
module

public import proofs.«01_k».proof.Proof.AttnF.Body
public import Idealize.ShloMosaic.Lib.Pipeline.FrameBody

@[expose] public section

set_option maxRecDepth 16384

noncomputable section

namespace Cert.AttnF

open Cert.AttentionForwardIdeal Cert.AttentionForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the region is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_arg (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-- A window's block at a point. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- An input window's buffer holds its block at every point. -/
theorem before_of {c : Dev nD} (dat : Dat τ (Elt F) Unit ℕ (UR sig nD τ) ℕ (cfg0 (F := F)) c) (hA : ∀ w, dat.A w = V m c (Pipeline.arrRef spec0 w))
    (h0 : ∀ t, dat.after 0 t = iblk m c 0 t) (h1 : ∀ t, dat.after 1 t = iblk m c 1 t) (h2 : ∀ t, dat.after 2 t = iblk m c 2 t)
    (h3 : ∀ t, dat.after 3 t = iblk m c 3 t) (h4 : ∀ t, dat.after 4 t = iblk m c 4 t) (t : Fin (cfg0 (F := F)).N) :
    (∀ d, dat.before 0 t d = iblk m c 0 t) ∧ (∀ d, dat.before 1 t d = iblk m c 1 t) ∧ (∀ d, dat.before 2 t d = iblk m c 2 t)
      ∧ (∀ d, dat.before 3 t d = iblk m c 3 t) ∧ (∀ d, dat.before 4 t d = iblk m c 4 t) := by
  refine ⟨fun d => ?_, fun d => ?_, fun d => ?_, fun d => ?_, fun d => ?_⟩
  · exact (dat.before_in_eq_fetched 0 rfl (fun _ => rfl) (fun _ _ _ => rfl) (fun t => by rw [h0]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [h1]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [h2]; unfold Dat.blockOf iblk; rw [hA]; try rfl) t d).trans
      (by unfold Dat.fetched Dat.blockOf iblk; rw [hA]; try rfl)
  · exact (dat.before_in_eq_fetched 3 rfl (fun _ => rfl) (fun _ _ _ => rfl) (fun t => by rw [h3]; unfold Dat.blockOf iblk; rw [hA]; try rfl) t d).trans
      (by unfold Dat.fetched Dat.blockOf iblk; rw [hA]; try rfl)
  · exact (dat.before_in_eq_fetched 4 rfl (fun _ => rfl) (fun _ _ _ => rfl) (fun t => by rw [h4]; unfold Dat.blockOf iblk; rw [hA]; try rfl) t d).trans
      (by unfold Dat.fetched Dat.blockOf iblk; rw [hA]; try rfl)

/-- The staging buffers of a point, and what they hold. -/
abbrev stage (t : Fin (cfg0 (F := F)).N) : Stage :=
  ⟨st0_0 (F := F) t, hstage0_0 (((cfg0 (F := F)).slots t 0).cast nbuf0_0), st0_1 (F := F) t, hstage0_1 (((cfg0 (F := F)).slots t 1).cast nbuf0_1),
    st0_2 (F := F) t, hstage0_2 (((cfg0 (F := F)).slots t 2).cast nbuf0_2), st0_3 (F := F) t, hstage0_3 (((cfg0 (F := F)).slots t 3).cast nbuf0_3),
    st0_4 (F := F) t, hstage0_4 (((cfg0 (F := F)).slots t 4).cast nbuf0_4), st0_5 (F := F) t, hstage0_5 (((cfg0 (F := F)).slots t 5).cast nbuf0_5),
    st0_6 (F := F) t, hstage0_6 (((cfg0 (F := F)).slots t 6).cast nbuf0_6), st0_7 (F := F) t, hstage0_7 (((cfg0 (F := F)).slots t 7).cast nbuf0_7)⟩
abbrev ins (c : Dev nD) (t : Fin (cfg0 (F := F)).N) : Ins F := ⟨iblk m c 0 t, iblk m c 1 t, iblk m c 2 t, iblk m c 3 t, iblk m c 4 t⟩

/-- What a point stores into its result. -/
abbrev out (c : Dev nD) (t : Fin (cfg0 (F := F)).N) : FVec F S256x256 .f32 := result (grid0.coords t) (stage (F := F) t) (ins m c t)

abbrev pieces (p : FVec F S256x256 .f32) : List (View.Piece (Elt F) S256x256 .f32) :=
  [⟨Rect.unit (s := S256x256) ![0, 0] S256x256.size inb_S256x256_S256x256_0_0, p⟩]

theorem cover (p : FVec F S256x256 .f32) (y : S256x256.Idx) : ∃ pc ∈ pieces p, y ∈ pc.1.set :=
  View.cover_of_tiled (pieces p) S256x256.size (by rfl) y

/-- The windows whose contents are not named. -/
def fgt : Fin (cfg0 (F := F)).W → Bool := fun | 6 => true | 7 => true | _ => false

/-- The pipeline's proof data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (pieces (out m c t))
    | ⟨6, _⟩ => fun _ => Classical.ofNonempty
    | ⟨7, _⟩ => fun _ => Classical.ofNonempty
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

set_option maxHeartbeats 2000000 in
/-- The triple of the body at a point, in the pipeline's terms. -/
theorem sound (c : Dev nD) (t : Fin (cfg0 (F := F)).N) :
    iprop((dats m 0 c).Φ t.castSucc ∗ (dats m 0 c).owesAt () t.castSucc
        ∗ (∃ d, owns (c : Thread nD τ) (st0_0 (F := F) t) fullShare ((dats m 0 c).before 0 t d))
        ∗ (∃ d, owns (c : Thread nD τ) (st0_1 (F := F) t) fullShare ((dats m 0 c).before 1 t d))
        ∗ (∃ d, owns (c : Thread nD τ) (st0_2 (F := F) t) fullShare ((dats m 0 c).before 2 t d))
        ∗ (∃ d, owns (c : Thread nD τ) (st0_3 (F := F) t) fullShare ((dats m 0 c).before 3 t d))
        ∗ (∃ d, owns (c : Thread nD τ) (st0_4 (F := F) t) fullShare ((dats m 0 c).before 4 t d))
        ∗ (∃ d, owns (c : Thread nD τ) (st0_5 (F := F) t) fullShare ((dats m 0 c).before 5 t d))
        ∗ (∃ X, owns (c : Thread nD τ) (st0_6 (F := F) t) fullShare X)
        ∗ (∃ X, owns (c : Thread nD τ) (st0_7 (F := F) t) fullShare X))
      ⊢ wp frame (wpE (defs₀ (F := F)) Variants.nat c none) Set.univ (bodyAt0 (F := F) t) (fun _ =>
        iprop((dats m 0 c).Φ t.succ ∗ (dats m 0 c).owesAt () t.succ
          ∗ owns (c : Thread nD τ) (st0_0 (F := F) t) fullShare ((dats m 0 c).after 0 t)
          ∗ owns (c : Thread nD τ) (st0_1 (F := F) t) fullShare ((dats m 0 c).after 1 t)
          ∗ owns (c : Thread nD τ) (st0_2 (F := F) t) fullShare ((dats m 0 c).after 2 t)
          ∗ owns (c : Thread nD τ) (st0_3 (F := F) t) fullShare ((dats m 0 c).after 3 t)
          ∗ owns (c : Thread nD τ) (st0_4 (F := F) t) fullShare ((dats m 0 c).after 4 t)
          ∗ owns (c : Thread nD τ) (st0_5 (F := F) t) fullShare ((dats m 0 c).after 5 t)
          ∗ (∃ X, owns (c : Thread nD τ) (st0_6 (F := F) t) fullShare X)
          ∗ (∃ X, owns (c : Thread nD τ) (st0_7 (F := F) t) fullShare X))) := by
  obtain ⟨b0, b1, b2, b3, b4⟩ := before_of m (dats m 0 c) (A_eq m c) (fun _ => by dsimp only [dats]; rfl) (fun _ => by dsimp only [dats]; rfl)
    (fun _ => by dsimp only [dats]; rfl) (fun _ => by dsimp only [dats]; rfl) (fun _ => by dsimp only [dats]; rfl) t
  simp only [b0, b1, b2, b3, b4]
  rw [show (dats m 0 c).Φ t.succ = (dats m 0 c).Φ t.castSucc from rfl,
    show (dats m 0 c).after 5 t = View.canon (pieces (out m c t)) from by dsimp only [dats]; rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩, ⟨%d5, H5⟩, H6, H7⟩
  iapply (run_body c t (stage (F := F) t) (ins m c t) W _)
  unfold Held
  isplitl [H0 H2 H3 H6]
  · isplitl [H0]; · iexact H0
    isplitl [H2]; · iexact H2
    isplitl [H3]; · iexact H3
    iexact H6
  isplitl [H1]; · iexact H1
  isplitl [H4]; · iexact H4
  isplitl [H5]; · iexists _; iexact H5
  isplitl [H7]; · iexact H7
  isplitl [HW]; · iexact HW
  iintro ⟨⟨H0, H2, H3, H6⟩, H1, H4, ⟨%f, H5⟩, H7, ⟨%W', HW⟩⟩
  isplitl [HΦ]; · iexact HΦ
  isplitl [HW]
  · iexists W'; isplitr
    · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]
  · unfold owns
    iexists _; isplitr; swap
    · iexact H5
    ipureintro
    exact View.read_writes_eq_canon _ _ _ (cover _)
  isplitl [H6]; · iexact H6
  iexact H7

theorem row (t : Fin (cfg0 (F := F)).N) :
    defs₀ (F := F) .tc (cfg0 (F := F)).body ((cfg0 (F := F)).bodyArgs t ((cfg0 (F := F)).slots t)) = bodyAt0 (F := F) t := by
  unfold defs₀; rw [Defs.onTc_tc]

theorem obligation (c : Dev nD) : BodyObligationLoose (dats (F := F) m 0 c) (defs₀ (F := F)) Variants.nat () Set.univ (fgt (F := F)) := fun t => by
  rw [bigSep_W0, bigSep_W0, row]
  exact triple_restated (sound m c t) rfl .rfl fun _ => .rfl

set_option backward.isDefEq.respectTransparency.types false in
/-- The launch. -/
theorem run_main : θ_run defs (onTc (τ := τ) (main (F := F))) (s₀ m ρ) (fun r =>
    RDat.FramePost (cfg0 (F := F)) (fun c => (dats m 0 c).toRForget (fgt (F := F))) (V m) r ∧ r.2.sem = fun _ => 0) :=
  Pipeline.θ_run_frame_forget_shared (Q' := _) cfgs (dats m) (0 : Fin 1) launch₀0 defs₀ Variants.nat (fgt (F := F)) m ρ main
    (hbody := obligation m) (hq := fun _ _ _ => rfl) (howed := fun _ _ => rfl) (V := V m) (hmain := hmain m Variants.nat)
    (hA := A_eq m) (hΦ := fun _ _ => rfl)

/-- The run: the arguments unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1.arr_in c 1 rfl).trans ((A_eq m c 1).trans (V_arg m c main_arg0 (by decide))),
      (h.1.arr_in c 2 rfl).trans ((A_eq m c 2).trans (V_arg m c main_arg1 (by decide))),
      (h.1.arr_in c 0 rfl).trans ((A_eq m c 0).trans (V_arg m c main_arg2 (by decide)))⟩, h.2⟩) (run_main m ρ)

/-- And the result at what the points leave. -/
theorem final : θ_run defs (onTc (τ := τ) (main (F := F))) ⟨m, fun _ => 0, ρ⟩ (fun r => (∀ c : Dev nD,
      r.2.mem ((c.tc : Thread nD τ).loc main_v4_0) = (dats m 0 c).arrAt 5 (cfg0 (F := F)).N)) :=
  (θ_run defs _ _).mono (fun r h c => ((dats m 0 c).toRForget_arrAt_iff (w := 5) (fgt := fgt (F := F)) rfl _ _).mp ((h.1 c).1 5)) (run_main m ρ)

end Cert.AttnF

end
-- ==== Proof.AttnF.Value.lean ====
/- The forward attention's point in the real numbers: a trip of its loop, its own block of keys, and the exit, which −∞ never
   takes. -/
module

public import proofs.«01_k».proof.Proof.AttnF.Body
public import proofs.«01_k».proof.Proof.Attn.Equal
public import proofs.«01_k».proof.Proof.Common.Finite

@[expose] public section

set_option maxRecDepth 16384

noncomputable section

namespace Cert.AttnF

open Idealize.ShloMosaic Idealize.ShloMosaic.TcCoe Idealize.SL.Sem
open Cert.AttentionForwardIdeal Cert.AttentionForwardIdeal.Gen
open Cert.Common (Real?)
open Cert.Attn
open Finset (range)

section
variable (f g : ℕ → ℕ → ℝ)

theorem mm_up : matmul dot_S256x64_S256x64_S256x256_1_1_0_0_n_n none (up f : FVec Ideal S256x64 .bf16) (up g : FVec Ideal S256x64 .bf16)
    (constant S256x256 .f32 0x00000000#32) = up fun i q => ∑ d ∈ range 64, f i d * g q d := Cert.Attn.mm_up f g
theorem mm_tri_up : matmul dot_S256x256_S256x256_S256x256_1_0_0_1_n_n none (up f : FVec Ideal S256x256 .bf16) (up g : FVec Ideal S256x256 .bf16)
    (constant S256x256 .f32 0x00000000#32) = up fun i q => ∑ d ∈ range 256, f i d * g d q := Cert.Attn.mm_tri_up f g
theorem mm_row_up : matmul dot_S256x256_S256x64_S256x64_1_0_0_1_n_n none (up f : FVec Ideal S256x256 .bf16) (up g : FVec Ideal S256x64 .bf16)
    (constant S256x64 .f32 0x00000000#32) = up fun i q => ∑ d ∈ range 256, f i d * g d q := Cert.Attn.mm_row_up f g

theorem extf_up {n k : ℕ} (h) : extf .f32 (up f : FVec Ideal ⟨2, ![n, k]⟩ .bf16) h = up f := rfl

/-- The first column. -/
theorem first_up {φ : FTy} (h) : extractStridedSlice S256x1 ![0, 0] (up f : FVec Ideal S256x256 φ) h = up fun i _ => f i 0 := by
  refine eq_up fun i q => ?_
  pointwise
  rfl

theorem pay24_up : k0_pay24 (up (φ := .bf16) (n := 256) (k := 256) f) = up (hd 0 f) := slice0_up f slices_S256x256_o0_0_S256x64
theorem pay25_up : k0_pay25 (up (φ := .bf16) (n := 256) (k := 256) f) = up (hd 1 f) := slice1_up f slices_S256x256_o0_64_S256x64
theorem pay26_up : k0_pay26 (up (φ := .bf16) (n := 256) (k := 256) f) = up (hd 2 f) := slice2_up f slices_S256x256_o0_128_S256x64
theorem pay27_up : k0_pay27 (up (φ := .bf16) (n := 256) (k := 256) f) = up (hd 3 f) := slice3_up f slices_S256x256_o0_192_S256x64
theorem pay62_up : k0_pay62 (up (φ := .bf16) (n := 256) (k := 256) f) = up (hd 0 f) := slice0_up f slices_S256x256_o0_0_S256x64
theorem pay63_up : k0_pay63 (up (φ := .bf16) (n := 256) (k := 256) f) = up (hd 1 f) := slice1_up f slices_S256x256_o0_64_S256x64
theorem pay64_up : k0_pay64 (up (φ := .bf16) (n := 256) (k := 256) f) = up (hd 2 f) := slice2_up f slices_S256x256_o0_128_S256x64
theorem pay65_up : k0_pay65 (up (φ := .bf16) (n := 256) (k := 256) f) = up (hd 3 f) := slice3_up f slices_S256x256_o0_192_S256x64
theorem pay28_up : k0_pay28 (up g) (up (φ := .bf16) (n := 256) (k := 256) f) = up (score g (hd 0 f)) := by
  unfold k0_pay28; dsimp only; exact (congrArg (fun x => matmul _ none _ x _) (slice0_up f _)).trans (mm_up _ _)
theorem pay29_up : k0_pay29 (up g) (up (φ := .bf16) (n := 256) (k := 256) f) = up (score g (hd 1 f)) := by
  unfold k0_pay29; dsimp only; exact (congrArg (fun x => matmul _ none _ x _) (slice1_up f _)).trans (mm_up _ _)
theorem pay30_up : k0_pay30 (up g) (up (φ := .bf16) (n := 256) (k := 256) f) = up (score g (hd 2 f)) := by
  unfold k0_pay30; dsimp only; exact (congrArg (fun x => matmul _ none _ x _) (slice2_up f _)).trans (mm_up _ _)
theorem pay31_up : k0_pay31 (up g) (up (φ := .bf16) (n := 256) (k := 256) f) = up (score g (hd 3 f)) := by
  unfold k0_pay31; dsimp only; exact (congrArg (fun x => matmul _ none _ x _) (slice3_up f _)).trans (mm_up _ _)
theorem pay66_up : k0_pay66 (up g) (up (φ := .bf16) (n := 256) (k := 256) f) = up (score g (hd 0 f)) := by
  unfold k0_pay66; dsimp only; exact (congrArg (fun x => matmul _ none _ x _) (slice0_up f _)).trans (mm_up _ _)
theorem pay67_up : k0_pay67 (up g) (up (φ := .bf16) (n := 256) (k := 256) f) = up (score g (hd 1 f)) := by
  unfold k0_pay67; dsimp only; exact (congrArg (fun x => matmul _ none _ x _) (slice1_up f _)).trans (mm_up _ _)
theorem pay68_up : k0_pay68 (up g) (up (φ := .bf16) (n := 256) (k := 256) f) = up (score g (hd 2 f)) := by
  unfold k0_pay68; dsimp only; exact (congrArg (fun x => matmul _ none _ x _) (slice2_up f _)).trans (mm_up _ _)
theorem pay69_up : k0_pay69 (up g) (up (φ := .bf16) (n := 256) (k := 256) f) = up (score g (hd 3 f)) := by
  unfold k0_pay69; dsimp only; exact (congrArg (fun x => matmul _ none _ x _) (slice3_up f _)).trans (mm_up _ _)

theorem causal_at {α : Type} (a b : S256x256.Idx → α) (i q : Fin 256) :
    select k0_pay13 a b (ix2 i q) = if q.val < i.val then a (ix2 i q) else b (ix2 i q) := by
  have h : k0_pay13 (ix2 i q) = if q.val < i.val then 1#1 else 0#1 := by
    pointwise [k0_pay13]
    refine (congrArg (Scalar.cmpi .slt _) (BitVec.add_zero _)).trans ?_
    exact Common.cmpi_slt_ofNat _ _ (by omega) (by omega)
  show Scalar.select (k0_pay13 (ix2 i q)) _ _ = _
  rw [h]
  by_cases hh : q.val < i.val <;> simp [hh, Scalar.select]

theorem causal_up {φ : FTy} : select k0_pay13 (up f : FVec Ideal S256x256 φ) (up g) = up fun i q => if q < i then f i q else g i q := by
  refine eq_up fun i q => ?_
  rw [causal_at]
  split <;> rfl

theorem causal_exp_up : exp (select k0_pay13 (up f : FVec Ideal S256x256 .f32) (broadcast S256x256 (Scalar.ofBits .f32 0xFF800000#32)))
    = up fun i q => if q < i then Real.exp (f i q) else 0 := by
  refine eq_up fun i q => ?_
  show Ideal.exp (select k0_pay13 _ _ (ix2 i q)) = _
  rw [causal_at]
  split
  · rfl
  · show Ideal.exp (Ideal.ofBits .f32 0xFF800000#32) = _
    simp [Ideal.ofBits, Ideal.ieee]
end

/-! ## A trip -/

/-- What the loop finds where the point's blocks hold real numbers. -/
structure Fine (u : Ctx Ideal) (Q : ℕ → ℕ → ℝ) : Prop where
  one : u.one = up below
  q0 : u.q0 = up (hd 0 Q)
  q1 : u.q1 = up (hd 1 Q)
  q2 : u.q2 = up (hd 2 Q)
  q3 : u.q3 = up (hd 3 Q)
  n3 : ∀ y, Real? (u.n3 y)

theorem realAcc_congr {C C' : ℕ → ℕ → ℝ} {A A' : ℕ → ℕ → ℕ → ℝ} (hC : ∀ h i, h < 4 → i < 256 → C h i = C' h i)
    (hA : ∀ h i d, h < 4 → i < 256 → d < 64 → A h i d = A' h i d) : realAcc C A = realAcc C' A' := by
  have c : ∀ h, h < 4 → (up fun i _ => C h i : FVec Ideal S256x1 .f32) = up fun i _ => C' h i := fun h hh => up_congr fun i _ hi _ => hC h i hh hi
  have a : ∀ h, h < 4 → (up (A h) : FVec Ideal S256x64 .f32) = up (A' h) := fun h hh => up_congr fun i d hi hd => hA h i d hh hi hd
  unfold realAcc
  rw [c 0 (by omega), c 1 (by omega), c 2 (by omega), c 3 (by omega), a 0 (by omega), a 1 (by omega), a 2 (by omega), a 3 (by omega)]

section
variable (Q K V : ℕ → ℕ → ℝ) (C : ℕ → ℕ → ℝ) (A : ℕ → ℕ → ℕ → ℝ) {i : grid0.Coords} {a : Stage} {x : Ins Ideal} {u : Ctx Ideal}

theorem step_up (hu : Fine u Q) {w : BitVec 32} {h : k0_chk1 i w} (hk : kt i a x w h = up (φ := .bf16) (n := 256) (k := 256) K) (hv : vt i a x w h = up (φ := .bf16) (n := 256) (k := 256) V) :
    step i a x u w h (realAcc C A) = realAcc (fun h i => C h i + tailSum (fun i s => ell (zed Q K h i s)) i 0)
      (fun h i d => A h i d + ∑ s ∈ range 256, tW Q K C h i s * hd h V s d) := by
  unfold step
  rw [hk, hv, hu.one, hu.q0, hu.q1, hu.q2, hu.q3]
  simp only [realAcc, pay62_up, pay63_up, pay64_up, pay65_up, pay66_up, pay67_up, pay68_up, pay69_up, k0_pay70, k0_pay71, k0_pay72, k0_pay73, k0_pay74, k0_pay75,
    k0_pay76, k0_pay77, k0_pay78, k0_pay79, k0_pay80, k0_pay81, k0_pay82, k0_pay84, k0_pay85, k0_pay87, k0_pay88, k0_pay89, k0_pay91, k0_pay92,
    mm_up, zero_up, one_up, maximumf_up, absf_up, subf_up, exp_up, addf_up, log_up, truncf_up, mm_tri_up, mm_row_up,
    first_up, col_up]
  rfl

theorem start_up (hu : Fine (ctx a x) Q) (hk : kd i a x = up (φ := .bf16) (n := 256) (k := 256) K) (hv : vd i a x = up (φ := .bf16) (n := 256) (k := 256) V) :
    start i a x = realAcc (fun h i => tailSum (fun i s => if s < i then ell (zed Q K h i s) else 0) i 0)
      (fun h i d => ∑ s ∈ range 256, uW Q K h i s * hd h V s d) := by
  unfold start
  dsimp only
  rw [hk, hv, hu.one, hu.q0, hu.q1, hu.q2, hu.q3]
  simp only [realAcc, k0_pay16, k0_pay17, k0_pay18, k0_pay19, k0_pay20, k0_pay21, k0_pay22, k0_pay23, pay24_up, pay25_up, pay26_up, pay27_up, pay28_up,
    pay29_up, pay30_up, pay31_up, k0_pay32, k0_pay33, k0_pay34, k0_pay35, k0_pay36, k0_pay37, k0_pay38, k0_pay39, k0_pay40, k0_pay41, k0_pay42, k0_pay43, k0_pay44,
    k0_pay45, k0_pay46, k0_pay49, k0_pay50, k0_pay52, k0_pay53, k0_pay56, k0_pay57,
    mm_up, zero_up, one_up, maximumf_up, absf_up, subf_up, exp_up, addf_up, log_up, truncf_up, mm_tri_up, mm_row_up,
    first_up, col_up, causal_exp_up, causal_up, zero_add]
  rfl
end

/-! ## The exit -/

theorem fold_max {α : Type} (g : α → EReal) (hg : ∀ n, ⊥ < g n) (l : List α) : ∀ init : EReal, ⊥ < init ∨ l ≠ [] → ⊥ < l.foldl (fun r n => max r (g n)) init := by
  induction l with
  | nil => exact fun init h => h.resolve_right (fun h => h rfl)
  | cons n l ih => exact fun init _ => ih _ (Or.inl (lt_max_of_lt_right (hg n)))

theorem real_gt {x : EReal} (h : Real? x) : ⊥ < x := by
  obtain ⟨r, rfl⟩ := h
  exact EReal.bot_lt_coe r

/-- The largest of real numbers is above −∞. -/
theorem top_gt (v : FVec Ideal S256x1 .f32) (hv : ∀ y, Real? (v y)) (h1 h2 h3) :
    ⊥ < (extractAt ![0, 0, 0] (shapeCast S1x1x1 (multiReduction .maximumf [1, 2] S1 (shapeCast S1x256x1 v shapeCasts_S256x1_S1x256x1) 0xFF800000#32 reduces_S1x256x1_S1 h1 h2 : FVec Ideal S1 .f32)
      shapeCasts_S1_S1x1x1) h3 : EReal) := by
  show ⊥ < (multiReduction .maximumf [1, 2] S1 (shapeCast S1x256x1 v shapeCasts_S256x1_S1x256x1) 0xFF800000#32 reduces_S1x256x1_S1 h1 h2 : FVec Ideal S1 .f32) _
  refine fold_max (fun n => v _) (fun n => real_gt (hv _)) _ _ (Or.inr ?_)
  refine List.ne_nil_of_mem (a := ⟨0, by decide⟩) (List.mem_filter.mpr ⟨List.mem_finRange _, ?_⟩)
  simp only [decide_eq_true_eq]
  funext b
  match b with
  | ⟨0, _⟩ => exact Subsingleton.elim (α := Fin 1) _ _

theorem above_exit (x y : EReal) (h : ⊥ < y) :
    Scalar.cmpf (F := Ideal) (φ := .f32) .ogt (Scalar.maximumf (F := Ideal) (φ := .f32) x y) (Named.named κ "exit" 0xC2D00000#32) = 1#1 := by
  show BitVec.ofBool (decide ((⊥ : EReal) < max x y)) = 1#1
  rw [decide_eq_true (lt_max_of_lt_right h)]
  rfl

section
variable {Q : ℕ → ℕ → ℝ} {i : grid0.Coords} {a : Stage} {x : Ins Ideal} {u : Ctx Ideal} (hkm : ∀ y, Real? (x.km y)) (hu : Fine u Q)
  {s : St Ideal} (hs : ∀ y, Real? (s.2.2.2.2.2.2.1 y))
include hkm hu hs

theorem flag_one (w : BitVec 32) (h : k0_chk1 i w) : flag i a x u w h s = 1#1 := by
  have hb : Real? (bound i a x w h 3) := by
    unfold bound
    rw [View.readAt_eq_ld, Memref.IsWhole.read_unread]
    exact hkm _
  unfold flag k0_pay1 k0_pay95
  exact above_exit _ _ (top_gt _ (fun y => (hs y).add ((hu.n3 y).mul hb)) _ _ _)

theorem flag0_one : flag0 i a x u s = 1#1 := by
  have hb : Real? (bound0 i a x 3) := by
    unfold bound0
    rw [View.readAt_eq_ld, Memref.IsWhole.read_unread]
    exact hkm _
  unfold flag0 k0_pay60
  exact above_exit _ _ (top_gt _ (fun y => (hs y).add ((hu.n3 y).mul hb)) _ _ _)
end

/-! ## The blocks that a point finds -/

theorem read_tile (v : View sig .tc .vmem S16384x256 .bf16) (f) (G : ℕ → ℕ → ℝ)
    (h : v.read (Elt Ideal) f = (up G : FVec Ideal S16384x256 .bf16)) (o) (inb) (j : ℕ) (ho : o = ![j * 256, 0]) :
    v.readAt (Elt Ideal) (Rect.unit (s := S16384x256) o S256x256.size inb).toLoadRect f = up (φ := .bf16) (n := 256) (k := 256) (tile j G) := by
  subst ho
  rw [View.readAt_eq_ld, h]
  funext x
  show ((G _ _ : ℝ) : EReal) = ((G _ _ : ℝ) : EReal)
  congr 2
  · show j * 256 + 1 * (x 0).val = _; omega
  · show 0 + 1 * (x 1).val = _; omega

theorem read_all (v : View sig .tc .vmem S256x256 .bf16) (f) (G : ℕ → ℕ → ℝ)
    (h : v.read (Elt Ideal) f = (up G : FVec Ideal S256x256 .bf16)) (inb) :
    v.readAt (Elt Ideal) (Rect.unit (s := S256x256) ![0, 0] S256x256.size inb).toLoadRect f = up (φ := .bf16) (n := 256) (k := 256) G := by
  rw [View.readAt_eq_ld, h]
  funext x
  show ((G _ _ : ℝ) : EReal) = ((G _ _ : ℝ) : EReal)
  congr 2
  · show 0 + 1 * (x 0).val = _; omega
  · show 0 + 1 * (x 1).val = _; omega

/-- A head's norm is a real number. -/
theorem norm_real (Q : ℕ → ℕ → ℝ) (y) : Real? (k0_pay12 (F := Ideal) (up (φ := .bf16) (n := 256) (k := 256) Q) y) := by
  obtain ⟨i, q, rfl⟩ : ∃ (i : Fin 256) (q : Fin 1), y = ix2 i q := ⟨y 0, y 1, eq_ix2 y⟩
  have e : k0_pay4 (F := Ideal) (up (φ := .bf16) (n := 256) (k := 256) Q) = up fun i q => (Q i q * (1 / 8)) * (Q i q * (1 / 8)) := by
    simp only [k0_pay4, k0_pay3, eighth_up', mulf_up, extf_up]
  unfold k0_pay12
  dsimp only
  rw [e, slice3_up]
  refine Real?.mul ?_ ⟨_, rfl⟩
  pointwise
  have e (x : Fin 64) : (up (hd 3 fun i q => Q i q * (1 / 8) * (Q i q * (1 / 8))) : FVec Ideal S256x64 .f32) (ix2 i x)
      = (((Q i.val (64 * 3 + x.val) * (1 / 8)) * (Q i.val (64 * 3 + x.val) * (1 / 8)) : ℝ) : EReal) := rfl
  rw [Finset.sum_congr rfl fun x _ => e x, ← coe_sum fun d => (Q i.val (64 * 3 + d) * (1 / 8)) * (Q i.val (64 * 3 + d) * (1 / 8)), Ideal.sqrt_coe,
    if_neg (not_lt.mpr (Finset.sum_nonneg fun d _ => mul_self_nonneg _))]
  exact ⟨_, rfl⟩

/-- The context of a point whose blocks hold real numbers. -/
theorem ctx_fine {Q : ℕ → ℕ → ℝ} {a : Stage} {x : Ins Ideal} (hq : x.q = (up Q : FVec Ideal S256x256 .bf16)) (ho : x.one = (up below : FVec Ideal S256x256 .bf16)) :
    Fine (ctx a x) fun i d => Q i d * (1 / 8) := by
  have eq : qt a x = up (φ := .bf16) (n := 256) (k := 256) Q := read_all _ _ Q ((Memref.IsWhole.read_unread a.hq x.q).trans hq) _
  have eo : onet a x = up (φ := .bf16) (n := 256) (k := 256) below := read_all _ _ below ((Memref.IsWhole.read_unread a.hone x.one).trans ho) _
  have e3 : k0_pay3 (F := Ideal) (up (φ := .bf16) (n := 256) (k := 256) Q) = up fun i q => Q i q * (1 / 8) := by
    simp only [k0_pay3, eighth_up', mulf_up]
  refine ⟨?_, ?_, ?_, ?_, ?_, fun y => ?_⟩
  · show k0_pay2 (onet a x) = _
    rw [eo]; exact cast_up _ _
  · show k0_pay5 (qt a x) = _
    rw [eq]; unfold k0_pay5; dsimp only; rw [e3, slice0_up]
  · show k0_pay6 (qt a x) = _
    rw [eq]; unfold k0_pay6; dsimp only; rw [e3, slice1_up]
  · show k0_pay7 (qt a x) = _
    rw [eq]; unfold k0_pay7; dsimp only; rw [e3, slice2_up]
  · show k0_pay8 (qt a x) = _
    rw [eq]; unfold k0_pay8; dsimp only; rw [e3, slice3_up]
  · show Real? (k0_pay12 (qt a x) y)
    rw [eq]; exact norm_real Q y

end Cert.AttnF

end
-- ==== Proof.AttnF.Ref.lean ====
/- The reference of the forward attention over the real numbers: the weights' products with the values. -/
module

public import proofs.«01_k».proof.Proof.Attn.Ref
public import proofs.«01_k».proof.Proof.Gen.AttentionForwardRefIdeal.Run

@[expose] public section

set_option maxRecDepth 16384

noncomputable section

namespace Cert.AttnF.Ref

open Cert.AttentionForwardRefIdeal Cert.AttentionForwardRefIdeal.Gen
open Idealize.ShloMosaic Idealize.ShloMosaic.TcCoe Idealize.SL.Sem
open Finset (range)

open Cert.Attn Cert.Attn.Ref

section
variable (Q KV : ℕ → ℕ → ℝ) (f g : ℕ → ℕ → ℕ → ℝ)

theorem scored : mulf (Host.dotGeneral dot_S8x16384x64_S8x16384x64_S8x16384x16384_2_2_1_1_0_0 none
      (transpose S8x16384x64 [1, 0, 2] (shapeCast S16384x8x64 (extf .f32 (extractStridedSlice S16384x512 ![0, 0] (up Q : FVec Ideal S16384x1024 .bf16) slices_S16384x1024_S16384x512_0_0) bitsLt_bf16_f32) shapeCasts_S16384x512_S16384x8x64) transposes_S16384x8x64_S8x16384x64_1_0_2)
      (transpose S8x16384x64 [1, 0, 2] (shapeCast S16384x8x64 (extractStridedSlice S16384x512 ![0, 0] (extf .f32 (up KV : FVec Ideal S16384x1024 .bf16) bitsLt_bf16_f32) slices_S16384x1024_S16384x512_0_0) shapeCasts_S16384x512_S16384x8x64) transposes_S16384x8x64_S8x16384x64_1_0_2))
      (broadcastInDim S8x16384x16384 ![] bcast_S_S8x16384x16384 (constant S_ .f32 0x3E000000#32 : FVec Ideal S_ .f32))
    = up3 (z Q KV) := Cert.Attn.Ref.scores Q KV
theorem rows : Host.dotGeneral dot_S8x16384x16384_S8x16384x64_S8x16384x64_2_1_1_2_0_0 none
      (up3 f : FVec Ideal S8x16384x16384 .f32) (up3 g : FVec Ideal S8x16384x64 .f32)
    = (up3 fun h r d => ∑ s ∈ range 16384, f h r s * g h s d : FVec Ideal S8x16384x64 .f32) := Cert.Attn.Ref.dot_nn f g
end

/-- A row of the result: the values by their weights. -/
def o (Q KV : ℕ → ℕ → ℝ) (r c : ℕ) : ℝ := ∑ s ∈ range 16384, w Q KV (c / 64) r s * KV s (512 + (64 * (c / 64) + c % 64))

variable (m : (ℓ : Loc nD τ sig) → Buf (Elt Ideal) ℓ) (c : Dev nD) {Q KV : ℕ → ℕ → ℝ}
  (h0 : m ((c.tc : Thread nD τ).loc main_arg0) = (up Q : FVec Ideal S16384x1024 .bf16))
  (h1 : m ((c.tc : Thread nD τ).loc main_arg1) = (up KV : FVec Ideal S16384x1024 .bf16))
include h0 h1

theorem o_eq : Value.res_main_v30 m c = (up (o Q KV) : FVec Ideal S16384x512 .f32) := by
  unfold Value.res_main_v30
  rw [h0, h1]
  simp only [id_eq]
  rw [scored, logs, zeros, mask_up, right_up3 _ _ _ init_zero, addf_up3, mask_exp, extf_up, hi_up, heads_up, rows]
  show (shapeCast S16384x512 _ shapeCasts_S16384x8x64_S16384x512 : FVec Ideal S16384x512 .f32) = _
  rw [rows_up]
  rfl

end Cert.AttnF.Ref

end
-- ==== Proof.AttnF.Whole.lean ====
/- The forward attention's result: the loop over the blocks of keys, and the points put together. -/
module

public import proofs.«01_k».proof.Proof.AttnF.Run
public import proofs.«01_k».proof.Proof.AttnF.Value
public import proofs.«01_k».proof.Proof.AttnF.Ref

@[expose] public section

set_option maxRecDepth 16384

noncomputable section

namespace Cert.AttnF

open Idealize.ShloMosaic Idealize.ShloMosaic.TcCoe Idealize.SL.Sem
open Cert.AttentionForwardIdeal Cert.AttentionForwardIdeal.Gen
open Cert.Common (Real?)
open Cert.Attn Cert.Attn.Equal
open Cert.Attn.Before (CIN lg sc)
open Finset (range Ico)

section
variable (Q KV : ℕ → ℕ → ℝ) (p n : ℕ)

/-- The sum of the logarithms from block `j` on, and the values by their weights from block `j` on. -/
def XX (j h i : ℕ) : ℝ := ∑ t ∈ range (256 * (64 - j)), lg Q KV (4 * p + h) (256 * n + i) (256 * j + t)
def TT (j h i d : ℕ) : ℝ := ∑ s ∈ range 256, Cert.Attn.Ref.w Q KV (4 * p + h) (256 * n + i) (256 * j + s) * KV (256 * j + s) (512 + (64 * (4 * p + h) + d))
def AA (j h i d : ℕ) : ℝ := TT Q KV p n n h i d + ∑ j' ∈ Ico j n, TT Q KV p n j' h i d

variable {Q KV p n}

theorem XX_cin {j : ℕ} (hj : j < 64) : XX Q KV p n (j + 1) = fun h i => kc Q KV p n h i j := by
  funext h i
  show _ = CIN Q KV p h (256 * n + i) j
  rw [cin_tail Q KV p hj]
  unfold XX
  rw [show 64 - (j + 1) = 63 - j by omega]

theorem XX_succ {j : ℕ} (hj : j < 64) (h i : ℕ) :
    XX Q KV p n j h i = XX Q KV p n (j + 1) h i + ∑ t ∈ range 256, lg Q KV (4 * p + h) (256 * n + i) (256 * j + t) := by
  unfold XX
  rw [show 256 * (64 - j) = 256 + 256 * (64 - (j + 1)) by omega, Finset.sum_range_add, add_comm]
  refine congrArg₂ _ (Finset.sum_congr rfl fun t _ => ?_) rfl
  rw [show 256 * j + (256 + t) = 256 * (j + 1) + t by omega]

theorem sum_tile {j h i : ℕ} (hn : n < 64) (hj : j < n) :
    tailSum (fun i s => ell (zed (kq Q p n) (tile j (kK KV p)) h i s)) i 0 = ∑ t ∈ range 256, lg Q KV (4 * p + h) (256 * n + i) (256 * j + t) := by
  refine Finset.sum_congr rfl fun t ht => ?_
  have ht := Finset.mem_range.mp ht
  beta_reduce
  unfold lg
  rw [if_pos (Nat.zero_le t), mul_one, if_pos (show 256 * j + t < 256 * n + i by omega), sc_eq, z_eq]

theorem sum_diag (hn : n < 64) {h i : ℕ} (hi : i < 256) :
    tailSum (fun i s => if s < i then ell (zed (kq Q p n) (tile n (kK KV p)) h i s) else 0) i 0 = XX Q KV p n n h i := by
  rw [XX_succ hn, XX_cin hn]
  show _ = CIN Q KV p h (256 * n + i) n + _
  rw [cin_zero Q KV p n hn hi, zero_add]
  refine Finset.sum_congr rfl fun t ht => ?_
  beta_reduce
  unfold lg
  rw [if_pos (Nat.zero_le t), mul_one, sc_eq, z_eq]
  by_cases e : t < i
  · rw [if_pos e, if_pos (show 256 * n + t < 256 * n + i by omega)]
  · rw [if_neg e, if_neg (show ¬256 * n + t < 256 * n + i by omega)]

theorem v_eq (j h s d : ℕ) : hd h (tile j (kV KV p)) s d = KV (256 * j + s) (512 + (64 * (4 * p + h) + d)) := by
  show KV (256 * j + s) (512 + 256 * p + (64 * h + d)) = _
  rw [Nat.add_assoc, col]

theorem val_tile {j h i d : ℕ} (hn : n < 64) (hj : j < n) (hi : i < 256) :
    ∑ s ∈ range 256, tW (kq Q p n) (tile j (kK KV p)) (XX Q KV p n (j + 1)) h i s * hd h (tile j (kV KV p)) s d = TT Q KV p n j h i d := by
  rw [XX_cin (by omega)]
  refine Finset.sum_congr rfl fun s hs => ?_
  rw [w_tile hn hi (Finset.mem_range.mp hs) h hj, v_eq]

theorem val_diag {h i d : ℕ} (hn : n < 64) (hi : i < 256) :
    ∑ s ∈ range 256, uW (kq Q p n) (tile n (kK KV p)) h i s * hd h (tile n (kV KV p)) s d = TT Q KV p n n h i d :=
  Finset.sum_congr rfl fun s hs => by rw [w_diag hn hi (Finset.mem_range.mp hs) h, v_eq]

/-! ## The loop -/

theorem off_trip : ∀ j < 64, k0_off3 (BitVec.ofNat 32 (j + 1)) = ![j * 256, 0] := by decide +kernel
theorem off_own : ∀ t : Fin grid0.N, k0_off1 (grid0.coords t) = ![(grid0.coords t 1).val * 256, 0] := by decide +kernel

variable {t : Fin grid0.N} {a : Stage} {x : Ins Ideal} (hq : x.q = (up (bQ Q p n) : FVec Ideal S256x256 .bf16)) (hk : x.k = (up (kK KV p) : FVec Ideal S16384x256 .bf16))
  (hv : x.v = (up (kV KV p) : FVec Ideal S16384x256 .bf16)) (ho : x.one = (up below : FVec Ideal S256x256 .bf16)) (hkm : ∀ y, Real? (x.km y))
  (hn : n < 64)
include hk hv hkm hn

theorem loop_up {u : Ctx Ideal} (hu : Fine u (kq Q p n)) : ∀ j ≤ n, loop (grid0.coords t) a x u j 1#1 (realAcc (XX Q KV p n j) (AA Q KV p n j))
    = realAcc (XX Q KV p n 0) (AA Q KV p n 0) := by
  intro j
  induction j with
  | zero => exact fun _ => rfl
  | succ j ih =>
    intro hj
    have hw : k0_chk1 (grid0.coords t) (BitVec.ofNat 32 (j + 1)) := (chk_all t (j + 1) (by omega)).resolve_right (Nat.succ_ne_zero j)
    rw [loop, dif_pos hw, if_pos rfl,
      step_up (kq Q p n) (tile j (kK KV p)) (tile j (kV KV p)) _ _ hu (read_tile a.k.view _ _ ((Memref.IsWhole.read_unread a.hk x.k).trans hk) _ _ j (off_trip j (by omega)))
        (read_tile a.v.view _ _ ((Memref.IsWhole.read_unread a.hv x.v).trans hv) _ _ j (off_trip j (by omega))),
      realAcc_congr (C' := XX Q KV p n j) (A' := AA Q KV p n j)
        (fun h i _ hi => by rw [sum_tile hn (by omega)]; exact (XX_succ (by omega) h i).symm)
        (fun h i d _ hi _ => by
          rw [val_tile hn (by omega) hi]
          unfold AA
          rw [Finset.sum_eq_sum_Ico_succ_bot (show j < n by omega)]
          ring)]
    rw [flag_one hkm hu (fun y => ⟨_, rfl⟩)]
    exact ih (by omega)

include hq ho
theorem result_up (ht : (grid0.coords t 1).val = n) : result (grid0.coords t) a x = (up (join (AA Q KV p n 0)) : FVec Ideal S256x256 .f32) := by
  have hu : Fine (ctx a x) (kq Q p n) := ctx_fine hq ho
  have hs : start (grid0.coords t) a x = realAcc (XX Q KV p n n) (AA Q KV p n n) := by
    refine (start_up (kq Q p n) (tile n (kK KV p)) (tile n (kV KV p)) hu
      (read_tile a.k.view _ _ ((Memref.IsWhole.read_unread a.hk x.k).trans hk) _ _ n ((off_own t).trans (by rw [ht])))
      (read_tile a.v.view _ _ ((Memref.IsWhole.read_unread a.hv x.v).trans hv) _ _ n ((off_own t).trans (by rw [ht])))).trans
      (realAcc_congr (fun h i _ hi => sum_diag hn hi) fun h i d _ hi _ => ?_)
    rw [val_diag hn hi]
    unfold AA
    rw [Finset.Ico_self, Finset.sum_empty, add_zero]
  unfold result
  dsimp only
  rw [hs, flag0_one hkm hu (fun y => ⟨_, rfl⟩), ht, loop_up hk hv hkm hn hu n le_rfl]
  unfold k0_pay61
  dsimp only [realAcc]
  exact join_up _ _

end

/-! ## The points -/

variable (m : (ℓ : Loc nD τ sig) → Buf (Elt Ideal) ℓ) (c : Dev nD)

theorem N_lt (t : Fin grid0.N) : t.val < 128 := t.isLt

theorem coord : ∀ t : Fin grid0.N, (grid0.coords t 1).val = t.val % 64 := by decide +kernel

theorem idx : ∀ t : Fin grid0.N, cc0_transform_1 (grid0.coords t) = ![t.val % 64, t.val / 64] ∧ cc0_transform_2 (grid0.coords t) = ![0, t.val / 64]
    ∧ cc0_transform_3 (grid0.coords t) = ![0, 2 + t.val / 64] ∧ cc0_transform_4 (grid0.coords t) = ![0, 0]
    ∧ cc0_transform_5 (grid0.coords t) = ![t.val % 64, t.val / 64] := by
  decide +kernel

abbrev rowOf (t : Fin grid0.N) (i : Fin 256) : Fin 16384 := ⟨256 * (t.val % 64) + i.val, by omega⟩

theorem q_at (t : Fin grid0.N) (i q : Fin 256) :
    iblk m c 1 t (ix2 i q) = V m c main_arg0 (ix2 (rowOf t i) ⟨256 * (t.val / 64) + q.val, by have := N_lt t; omega⟩) := by
  unfold iblk
  refine congrArg (V m c main_arg0) (funext fun a => Fin.ext ?_)
  match a with
  | ⟨0, _⟩ => show cc0_transform_1 (grid0.coords t) 0 * 256 + 1 * i.val = 256 * (t.val % 64) + i.val; rw [(idx t).1]; show t.val % 64 * 256 + 1 * i.val = _; omega
  | ⟨1, _⟩ => show cc0_transform_1 (grid0.coords t) 1 * 256 + 1 * q.val = 256 * (t.val / 64) + q.val; rw [(idx t).1]; show t.val / 64 * 256 + 1 * q.val = _; omega

theorem k_at (t : Fin grid0.N) (i : Fin 16384) (q : Fin 256) :
    iblk m c 2 t (ix2 i q) = V m c main_arg1 (ix2 i ⟨256 * (t.val / 64) + q.val, by have := N_lt t; omega⟩) := by
  unfold iblk
  refine congrArg (V m c main_arg1) (funext fun a => Fin.ext ?_)
  match a with
  | ⟨0, _⟩ => show cc0_transform_2 (grid0.coords t) 0 * 16384 + 1 * i.val = i.val; rw [(idx t).2.1]; show 0 * 16384 + 1 * i.val = _; omega
  | ⟨1, _⟩ => show cc0_transform_2 (grid0.coords t) 1 * 256 + 1 * q.val = 256 * (t.val / 64) + q.val; rw [(idx t).2.1]; show t.val / 64 * 256 + 1 * q.val = _; omega

theorem v_at (t : Fin grid0.N) (i : Fin 16384) (q : Fin 256) :
    iblk m c 3 t (ix2 i q) = V m c main_arg1 (ix2 i ⟨512 + 256 * (t.val / 64) + q.val, by have := N_lt t; omega⟩) := by
  unfold iblk
  refine congrArg (V m c main_arg1) (funext fun a => Fin.ext ?_)
  match a with
  | ⟨0, _⟩ => show cc0_transform_3 (grid0.coords t) 0 * 16384 + 1 * i.val = i.val; rw [(idx t).2.2.1]; show 0 * 16384 + 1 * i.val = _; omega
  | ⟨1, _⟩ => show cc0_transform_3 (grid0.coords t) 1 * 256 + 1 * q.val = 512 + 256 * (t.val / 64) + q.val; rw [(idx t).2.2.1]; show (2 + t.val / 64) * 256 + 1 * q.val = _; omega

theorem one_at (t : Fin grid0.N) (i q : Fin 256) : iblk m c 4 t (ix2 i q) = V m c main_v3 (ix2 i q) := by
  unfold iblk
  refine congrArg (V m c main_v3) (funext fun a => Fin.ext ?_)
  match a with
  | ⟨0, _⟩ => show cc0_transform_4 (grid0.coords t) 0 * 256 + 1 * i.val = i.val; rw [(idx t).2.2.2.1]; show 0 * 256 + 1 * i.val = _; omega
  | ⟨1, _⟩ => show cc0_transform_4 (grid0.coords t) 1 * 256 + 1 * q.val = q.val; rw [(idx t).2.2.2.1]; show 0 * 256 + 1 * q.val = _; omega

theorem one_eq : V m c main_v3 = (up below : FVec Ideal S256x256 .bf16) := by
  simp only [V, hostOps0, StableHlo.after_cons, StableHlo.after_nil]
  after_results_simp
  refine eq_up fun i q => ?_
  pointwise
  exact Cert.Attn.Before.bit_at i q

variable {m c} {Q KV : ℕ → ℕ → ℝ} (h0 : m ((c.tc : Thread nD τ).loc main_arg0) = (up Q : FVec Ideal S16384x1024 .bf16))
  (h1 : m ((c.tc : Thread nD τ).loc main_arg1) = (up KV : FVec Ideal S16384x1024 .bf16))
  (h2 : ∀ y, Real? ((m ((c.tc : Thread nD τ).loc main_arg2) : FVec Ideal S512 .f32) y))
include h0 h1 h2

theorem out_up (t : Fin grid0.N) : out m c t = (up (join (AA Q KV (t.val / 64) (t.val % 64) 0)) : FVec Ideal S256x256 .f32) := by
  refine result_up (Q := Q) (KV := KV) (p := t.val / 64) (n := t.val % 64) ?_ ?_ ?_ ?_ ?_ (by omega) (coord t)
  · exact eq_up fun i q => (q_at m c t i q).trans (congrFun ((V_arg m c main_arg0 (by decide)).trans h0) _)
  · exact eq_up fun i q => (k_at m c t i q).trans (congrFun ((V_arg m c main_arg1 (by decide)).trans h1) _)
  · exact eq_up fun i q => (v_at m c t i q).trans (congrFun ((V_arg m c main_arg1 (by decide)).trans h1) _)
  · exact eq_up fun i q => (one_at m c t i q).trans (congrFun (one_eq m c) _)
  · have e : ∀ y, Real? ((V m c main_arg2 : FVec Ideal S512 .f32) y) := by rw [V_arg m c main_arg2 (by decide)]; exact h2
    exact fun y => e _

omit h0 h1 h2 in
/-- A point's block, as the plain formulation has it. -/
theorem block_eq {p n i q : ℕ} (hn : n < 64) (hi : i < 256) (hq : q < 256) : join (AA Q KV p n 0) i q = Ref.o Q KV (256 * n + i) (256 * p + q) := by
  unfold Ref.o
  rw [(head_of p q).1, (head_of p q).2, sum_upto _ hn fun s hs => by rw [w_zero (4 * p + q / 64) (show 256 * n + i ≤ s by omega), zero_mul]]
  show AA Q KV p n 0 (q / 64) i (q % 64) = _
  unfold AA TT
  rw [Nat.Ico_zero_eq_range, add_comm]

theorem o_at : (dats m 0 c).arrAt 5 (cfg0 (F := Ideal)).N = (up (Ref.o Q KV) : FVec Ideal S16384x512 .f32) := by
  have emb : ∀ (t : Fin grid0.N) (i q : Fin 256), ((cfg0 (F := Ideal)).win 5 |>.blk t).view.emb (ix2 i q)
      = (ix2 (rowOf t i) (⟨256 * (t.val / 64) + q.val, by have := N_lt t; omega⟩ : Fin 512) : S16384x512.Idx) := fun t i q => by
    refine funext fun a => Fin.ext ?_
    match a with
    | ⟨0, _⟩ => show cc0_transform_5 (grid0.coords t) 0 * 256 + 1 * i.val = 256 * (t.val % 64) + i.val; rw [(idx t).2.2.2.2]; show t.val % 64 * 256 + 1 * i.val = _; omega
    | ⟨1, _⟩ => show cc0_transform_5 (grid0.coords t) 1 * 256 + 1 * q.val = 256 * (t.val / 64) + q.val; rw [(idx t).2.2.2.2]; show t.val / 64 * 256 + 1 * q.val = _; omega
  refine (dats m 0 c).arrAt_eq_of_emb 5 _ (fun t hf y => ?_) fun j => ?_
  · obtain ⟨i, q, rfl⟩ : ∃ i q : Fin 256, y = ix2 i q := (fun y : S256x256.Idx => ⟨y 0, y 1, eq_ix2 y⟩ : ∀ y : S256x256.Idx, ∃ i q : Fin 256, y = ix2 i q) y
    rw [emb t i q]
    have e : (dats m 0 c).after 5 t = (up (join (AA Q KV (t.val / 64) (t.val % 64) 0)) : FVec Ideal S256x256 .f32) :=
      (show (dats m 0 c).after 5 t = View.canon (pieces (out m c t)) from by dsimp only [dats]).trans
        ((View.canon_cons_unit_lit _ _ _ (fun a => by fin_cases a <;> rfl)).trans (out_up h0 h1 h2 t))
    refine (congrFun e (ix2 i q)).trans ?_
    exact congrArg ((↑) : ℝ → EReal) (block_eq (by omega) i.isLt q.isLt)
  · obtain ⟨r, q, rfl⟩ : ∃ (r : Fin 16384) (q : Fin 512), j = ix2 r q := (fun y : S16384x512.Idx => ⟨y 0, y 1, eq_ix2 y⟩ : ∀ y : S16384x512.Idx, ∃ (r : Fin 16384) (q : Fin 512), y = ix2 r q) j
    have hr := r.isLt
    have hq := q.isLt
    refine ⟨(⟨64 * (q.val / 256) + r.val / 256, by show _ < 128; omega⟩ : Fin grid0.N), flush0_5 _, ?_⟩
    have e := emb ⟨64 * (q.val / 256) + r.val / 256, by show _ < 128; omega⟩ ⟨r.val % 256, by omega⟩ ⟨q.val % 256, by omega⟩
    have e' : (ix2 r q : S16384x512.Idx) = _ := (congrArg₂ ix2 (Fin.ext (by show r.val = 256 * ((64 * (q.val / 256) + r.val / 256) % 64) + r.val % 256; omega))
      (Fin.ext (by show q.val = 256 * ((64 * (q.val / 256) + r.val / 256) / 64) + q.val % 256; omega))).trans e.symm
    rw [e']
    exact View.emb_mem_set _ _

end Cert.AttnF

end
-- ==== Proof.AttnF.Claim.lean ====
/- The two programs of the attention's forward pass end with the same result. -/
module

public import proofs.«01_k».proof.Defs
public import proofs.«01_k».proof.Proof.Gen.Pre_attention_forward_finite
public import proofs.«01_k».proof.Proof.Common.Finite
public import proofs.«01_k».proof.Proof.AttnF.Whole
public import Idealize.ShloMosaic.Lib.Quiescent

@[expose] public section

set_option maxRecDepth 16384

noncomputable section

namespace Cert.AttnF.Claim

open Idealize.ShloMosaic Idealize.ShloMosaic.TcCoe Idealize.SL.Sem Cert.Common
open Cert.Attn (up eq_up)

/-- The reference's frame: it has no counters. -/
theorem ref_frame (m : (ℓ : Loc AttentionForwardRefIdeal.nD AttentionForwardRefIdeal.τ AttentionForwardRefIdeal.sig) → Buf (Elt Ideal) ℓ) (g : Dev AttentionForwardRefIdeal.nD → PrngReg) :
    θ_run (AttentionForwardRefIdeal.defs (F := Ideal)) (onTc (τ := AttentionForwardRefIdeal.τ) (AttentionForwardRefIdeal.main (F := Ideal))) ⟨m, fun _ => 0, g⟩
      (fun r => (∀ c : Dev AttentionForwardRefIdeal.nD,
        r.2.mem ((c.tc : Thread AttentionForwardRefIdeal.nD AttentionForwardRefIdeal.τ).loc AttentionForwardRefIdeal.main_arg0) = m ((c.tc : Thread AttentionForwardRefIdeal.nD AttentionForwardRefIdeal.τ).loc AttentionForwardRefIdeal.main_arg0)
        ∧ r.2.mem ((c.tc : Thread AttentionForwardRefIdeal.nD AttentionForwardRefIdeal.τ).loc AttentionForwardRefIdeal.main_arg1) = m ((c.tc : Thread AttentionForwardRefIdeal.nD AttentionForwardRefIdeal.τ).loc AttentionForwardRefIdeal.main_arg1)
        ∧ r.2.mem ((c.tc : Thread AttentionForwardRefIdeal.nD AttentionForwardRefIdeal.τ).loc AttentionForwardRefIdeal.main_arg2) = m ((c.tc : Thread AttentionForwardRefIdeal.nD AttentionForwardRefIdeal.τ).loc AttentionForwardRefIdeal.main_arg2))
        ∧ r.2.sem = fun _ => 0) :=
  (θ_run _ _ _).mono (fun r h => ⟨fun c => (h c).2, sem_eq_zero_of_no_sems rfl r.2⟩) (AttentionForwardRefIdeal.Value.run m g)

/-- What the precondition says: the three arguments hold real numbers. -/
theorem reals (x y : FVec Ideal Pre_attention_forward_finite.S16384x1024 .bf16) (z : FVec Ideal Pre_attention_forward_finite.S512 .f32)
    (h : Pre_attention_forward_finite.fn (F := Ideal) x y z = fun _ => 1#1) :
    (∀ i, Real? (x i)) ∧ (∀ i, Real? (y i)) ∧ ∀ i, Real? (z i) := by
  have h' := congrFun h ix0
  dsimp only [Pre_attention_forward_finite.fn] at h'
  obtain ⟨hxy, hz⟩ := andi_one h'
  obtain ⟨hx, hy⟩ := andi_one hxy
  haveI : Subsingleton Pre_attention_forward_finite.S_.Idx := ⟨fun a b => funext fun i => i.elim0⟩
  exact ⟨fun i => real_of_all (extf .f32 x _) _ (fun _ => rfl) _ _ _ _ hx i, fun i => real_of_all (extf .f32 y _) _ (fun _ => rfl) _ _ _ _ hy i,
    fun i => real_of_all z _ (fun _ => rfl) _ _ _ _ hz i⟩

/-- A matrix of real numbers. -/
theorem matrix {φ : FTy} {n k : ℕ} (A : FVec Ideal ⟨2, ![n, k]⟩ φ) (h : ∀ i, Real? (A i)) : ∃ f : ℕ → ℕ → ℝ, A = up f := by
  choose f hf using h
  refine ⟨fun r q => if hr : r < n then if hq : q < k then f (ix2 ⟨r, hr⟩ ⟨q, hq⟩) else 0 else 0, eq_up fun i q => ?_⟩
  rw [dif_pos i.isLt, dif_pos q.isLt]
  exact hf (ix2 i q)

section
open Cert.AttentionForwardIdeal Cert.AttentionForwardIdeal.Gen

/-- The kernel's run: its result, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4_0) = (dats m 0 c).arrAt 5 (cfg0 (F := Ideal)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h.1 c, h.2.1 c⟩) (θ_run_and (final m ρ) (frame m ρ))
end

theorem algebraic : algebraic_AttentionForwardIdeal_AttentionForwardRefIdeal_pre_attention_forward_finite := by
  intro m g m' g' hpre hag
  refine ⟨_, run m g, (θ_run _ _ _).mono (fun r h c => ?_) (AttentionForwardRefIdeal.Value.run m' g')⟩
  obtain ⟨a0, a1, a2⟩ := hag c
  obtain ⟨hQ, hKV, hK⟩ := reals _ _ _ (hpre c)
  obtain ⟨Q, h0⟩ := matrix _ hQ
  obtain ⟨KV, h1⟩ := matrix _ hKV
  exact ⟨(h c).1.trans ((Ref.o_eq m' c (a0.trans h0) (a1.trans h1)).trans (o_at h0 h1 hK).symm), (h c).2⟩

end Cert.AttnF.Claim

end
-- ==== Proof.lean ====
module

public import proofs.«01_k».proof.Proof.Mixer.Claim
public import proofs.«01_k».proof.Proof.Attn.Claim
public import proofs.«01_k».proof.Proof.Gen.Attention
public import proofs.«01_k».proof.Proof.Gate.Claim
public import proofs.«01_k».proof.Proof.Loss.Claim
public import proofs.«01_k».proof.Proof.Norms.Claim
public import proofs.«01_k».proof.Proof.Weight.Claim
public import proofs.«01_k».proof.Proof.FirstNorm.Claim
public import proofs.«01_k».proof.Proof.Forward.Claim
public import proofs.«01_k».proof.Proof.Proj.Claim
public import proofs.«01_k».proof.Proof.AttnF.Word
public import proofs.«01_k».proof.Proof.AttnF.Claim

@[expose] public section

namespace Cert.Proof

open Idealize.ShloMosaic

theorem claim : Cert.Claim :=
  ⟨Cert.Mixer.Gen.facts, Cert.MixerIdeal.Gen.facts, Cert.MixerRefIdeal.Gen.facts,
    Cert.Attention.Gen.facts, Cert.AttentionIdeal.Gen.facts, Cert.AttentionRefIdeal.Gen.facts,
    Cert.Gate.Gen.facts, Cert.GateIdeal.Gen.facts, Cert.GateRefIdeal.Gen.facts,
    Cert.Loss.Gen.facts, Cert.LossIdeal.Gen.facts, Cert.LossRefIdeal.Gen.facts,
    Cert.Norms.Gen.facts, Cert.NormsIdeal.Gen.facts, Cert.NormsRefIdeal.Gen.facts,
    Cert.Weight.Gen.facts, Cert.WeightIdeal.Gen.facts, Cert.WeightRefIdeal.Gen.facts,
    Cert.FirstNorm.Gen.facts, Cert.FirstNormIdeal.Gen.facts, Cert.FirstNormRefIdeal.Gen.facts,
    Cert.MixerForward.Gen.facts, Cert.MixerForwardIdeal.Gen.facts, Cert.MixerForwardRefIdeal.Gen.facts,
    Cert.Projections.Gen.facts, Cert.ProjectionsIdeal.Gen.facts, Cert.ProjectionsRefIdeal.Gen.facts,
    Cert.AttentionForward.Gen.facts, Cert.AttentionForwardIdeal.Gen.facts, Cert.AttentionForwardRefIdeal.Gen.facts,
    Cert.Pre_mixer_finite.Gen.facts, Cert.Pre_attention_finite.Gen.facts, Cert.Pre_gate_finite.Gen.facts, Cert.Pre_norms_finite.Gen.facts,
    Cert.Pre_attention_forward_finite.Gen.facts,
    fun m g _ => Cert.Mixer.Gen.frame m g,
    fun m g _ => Cert.MixerIdeal.Gen.frame m g,
    fun m g _ => Cert.MixerIdeal.Gen.frame m g,
    fun m g _ => Cert.Mixer.Claim.ref_frame m g,
    fun m g _ => Cert.Mixer.Claim.ref_frame m g,
    fun m g _ => Cert.Attn.frame_device m g,
    fun m g _ => Cert.Attn.frame m g,
    fun m g _ => Cert.Attn.frame m g,
    fun m g _ => Cert.Attn.Claim.ref_frame m g,
    fun m g _ => Cert.Attn.Claim.ref_frame m g,
    fun m g _ => Cert.Gate.Gen.frame m g,
    fun m g _ => Cert.GateIdeal.Gen.frame m g,
    fun m g _ => Cert.GateIdeal.Gen.frame m g,
    fun m g _ => (θ_run _ _ _).mono (fun r h => ⟨fun c => (h c).2.2, sem_eq_zero_of_no_sems rfl r.2⟩) (Cert.GateRefIdeal.Value.run m g),
    fun m g _ => (θ_run _ _ _).mono (fun r h => ⟨fun c => (h c).2.2, sem_eq_zero_of_no_sems rfl r.2⟩) (Cert.GateRefIdeal.Value.run m g),
    fun m g _ => Cert.Loss.Gen.frame m g,
    fun m g _ => Cert.LossIdeal.Gen.frame m g,
    fun m g _ => (θ_run _ _ _).mono (fun r h => ⟨fun c => (h c).2.2.2.2, sem_eq_zero_of_no_sems rfl r.2⟩) (Cert.LossRefIdeal.Value.run m g),
    fun m g _ => Cert.Norms.Gen.frame m g,
    fun m g _ => Cert.NormsIdeal.Gen.frame m g,
    fun m g _ => Cert.NormsIdeal.Gen.frame m g,
    fun m g _ => (θ_run _ _ _).mono (fun r h => ⟨fun c => (h c).2.2.2, sem_eq_zero_of_no_sems rfl r.2⟩) (Cert.NormsRefIdeal.Value.run m g),
    fun m g _ => (θ_run _ _ _).mono (fun r h => ⟨fun c => (h c).2.2.2, sem_eq_zero_of_no_sems rfl r.2⟩) (Cert.NormsRefIdeal.Value.run m g),
    fun m g _ => Cert.Weight.Gen.frame m g,
    fun m g _ => Cert.WeightIdeal.Gen.frame m g,
    fun m g _ => (θ_run _ _ _).mono (fun r h => ⟨fun c => (h c).2, sem_eq_zero_of_no_sems rfl r.2⟩) (Cert.WeightRefIdeal.Value.run m g),
    fun m g _ => Cert.FirstNorm.Gen.frame m g,
    fun m g _ => Cert.FirstNormIdeal.Gen.frame m g,
    fun m g _ => (θ_run _ _ _).mono (fun r h => ⟨fun c => (h c).2.2, sem_eq_zero_of_no_sems rfl r.2⟩) (Cert.FirstNormRefIdeal.Value.run m g),
    fun m g _ => Cert.MixerForward.Gen.frame m g,
    fun m g _ => Cert.MixerForwardIdeal.Gen.frame m g,
    fun m g _ => (θ_run _ _ _).mono (fun r h => ⟨fun c => (h c).2, sem_eq_zero_of_no_sems rfl r.2⟩) (Cert.MixerForwardRefIdeal.Value.run m g),
    fun m g _ => Cert.Projections.Gen.frame m g,
    fun m g _ => Cert.ProjectionsIdeal.Gen.frame m g,
    fun m g _ => (θ_run _ _ _).mono (fun r h => ⟨fun c => (h c).2.2, sem_eq_zero_of_no_sems rfl r.2⟩) (Cert.ProjectionsRefIdeal.Value.run m g),
    fun m g _ => Cert.AttnF.Word.frame m g,
    fun m g _ => Cert.AttnF.frame m g,
    fun m g _ => Cert.AttnF.frame m g,
    fun m g _ => Cert.AttnF.Claim.ref_frame m g,
    fun m g _ => Cert.AttnF.Claim.ref_frame m g,
    trivial, Cert.Mixer.Claim.algebraic, trivial, Cert.Attn.Claim.algebraic,
    trivial, Cert.GateV.algebraic, trivial, Cert.LossV.algebraic, trivial, Cert.NormsV.algebraic, trivial, Cert.WeightV.algebraic,
    trivial, Cert.FirstNormV.algebraic, trivial, Cert.ForwardV.algebraic, trivial, Cert.ProjV.algebraic,
    IdealRules.named_const.statement Cert.AttentionForwardIdeal.κ "exit" .f32 0xC2D00000#32 ⊥ rfl, Cert.AttnF.Claim.algebraic⟩

end Cert.Proof

end
